-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_KernelAttn (m : (ℓ : Loc Cert.KernelAttn.nD Cert.KernelAttn.τ Cert.KernelAttn.sig) → Buf (Elt Bits) ℓ) : Prop :=
  True

def Pre_KernelAttnIdeal (m : (ℓ : Loc Cert.KernelAttnIdeal.nD Cert.KernelAttnIdeal.τ Cert.KernelAttnIdeal.sig) → Buf (Elt Ideal) ℓ) : Prop :=
  True

def Pre_KernelAttnIdeal_finite_attn [hPre_finite_attn : Cert.Pre_finite_attn.Facts] (m : (ℓ : Loc Cert.KernelAttnIdeal.nD Cert.KernelAttnIdeal.τ Cert.KernelAttnIdeal.sig) → Buf (Elt Ideal) ℓ) : Prop :=
  ∀ c : Dev Cert.KernelAttnIdeal.nD,
    (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.2.1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.2.2.1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.2.2.2.1 = (fun _ => 1#1)
    ∧ (Cert.Pre_finite_attn.fn (F := Ideal) (m ((c.tc : Thread Cert.KernelAttnIdeal.nD Cert.KernelAttnIdeal.τ).loc Cert.KernelAttnIdeal.main_arg0)) (m ((c.tc : Thread Cert.KernelAttnIdeal.nD Cert.KernelAttnIdeal.τ).loc Cert.KernelAttnIdeal.main_arg1)) (m ((c.tc : Thread Cert.KernelAttnIdeal.nD Cert.KernelAttnIdeal.τ).loc Cert.KernelAttnIdeal.main_arg2)) (m ((c.tc : Thread Cert.KernelAttnIdeal.nD Cert.KernelAttnIdeal.τ).loc Cert.KernelAttnIdeal.main_arg3)) (m ((c.tc : Thread Cert.KernelAttnIdeal.nD Cert.KernelAttnIdeal.τ).loc Cert.KernelAttnIdeal.main_arg4)) (m ((c.tc : Thread Cert.KernelAttnIdeal.nD Cert.KernelAttnIdeal.τ).loc Cert.KernelAttnIdeal.main_arg5))).2.2.2.2.2 = (fun _ => 1#1)

def Pre_ReferenceAttnIdeal (m : (ℓ : Loc Cert.ReferenceAttnIdeal.nD Cert.ReferenceAttnIdeal.τ Cert.ReferenceAttnIdeal.sig) → Buf (Elt Ideal) ℓ) : Prop :=
  True

def Pre_ReferenceAttnIdeal_finite_attn [hPre_finite_attn : Cert.Pre_finite_attn.Facts] (m : (ℓ : Loc Cert.ReferenceAttnIdeal.nD Cert.ReferenceAttnIdeal.τ Cert.ReferenceAttnIdeal.sig) → Buf (Elt Ideal) ℓ) : Prop :=
  ∀ c : Dev Cert.ReferenceAttnIdeal.nD,
    (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.2.1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.2.2.1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.2.2.2.1 = (fun _ => 1#1)
    ∧ (Cert.Pre_finite_attn.fn (F := Ideal) (m ((c.tc : Thread Cert.ReferenceAttnIdeal.nD Cert.ReferenceAttnIdeal.τ).loc Cert.ReferenceAttnIdeal.main_arg0)) (m ((c.tc : Thread Cert.ReferenceAttnIdeal.nD Cert.ReferenceAttnIdeal.τ).loc Cert.ReferenceAttnIdeal.main_arg1)) (m ((c.tc : Thread Cert.ReferenceAttnIdeal.nD Cert.ReferenceAttnIdeal.τ).loc Cert.ReferenceAttnIdeal.main_arg2)) (m ((c.tc : Thread Cert.ReferenceAttnIdeal.nD Cert.ReferenceAttnIdeal.τ).loc Cert.ReferenceAttnIdeal.main_arg3)) (m ((c.tc : Thread Cert.ReferenceAttnIdeal.nD Cert.ReferenceAttnIdeal.τ).loc Cert.ReferenceAttnIdeal.main_arg4)) (m ((c.tc : Thread Cert.ReferenceAttnIdeal.nD Cert.ReferenceAttnIdeal.τ).loc Cert.ReferenceAttnIdeal.main_arg5))).2.2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelQ (m : (ℓ : Loc Cert.KernelQ.nD Cert.KernelQ.τ Cert.KernelQ.sig) → Buf (Elt Bits) ℓ) : Prop :=
  True

def Pre_KernelQIdeal (m : (ℓ : Loc Cert.KernelQIdeal.nD Cert.KernelQIdeal.τ Cert.KernelQIdeal.sig) → Buf (Elt Ideal) ℓ) : Prop :=
  True

def Pre_ReferenceQIdeal (m : (ℓ : Loc Cert.ReferenceQIdeal.nD Cert.ReferenceQIdeal.τ Cert.ReferenceQIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4))).1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4))).2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4))).2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4))).2.2.2.1 = (fun _ => 1#1)
    ∧ (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4))).2.2.2.2 = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4))).1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4))).2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4))).2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4))).2.2.2.1 = (fun _ => 1#1)
    ∧ (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4))).2.2.2.2 = (fun _ => 1#1)

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7))).1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7))).2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7))).2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7))).2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7))).2.2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7))).2.2.2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7))).2.2.2.2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6)) (m ((c.tc : Thread Cert.KernelFwdIdeal.nD Cert.KernelFwdIdeal.τ).loc Cert.KernelFwdIdeal.main_arg7))).2.2.2.2.2.2.2 = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7))).1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7))).2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7))).2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7))).2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7))).2.2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7))).2.2.2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7))).2.2.2.2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6)) (m ((c.tc : Thread Cert.ReferenceFwdIdeal.nD Cert.ReferenceFwdIdeal.τ).loc Cert.ReferenceFwdIdeal.main_arg7))).2.2.2.2.2.2.2 = (fun _ => 1#1)

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelJoin (m : (ℓ : Loc Cert.KernelJoin.nD Cert.KernelJoin.τ Cert.KernelJoin.sig) → Buf (Elt Bits) ℓ) : Prop :=
  True

def Pre_KernelJoinIdeal (m : (ℓ : Loc Cert.KernelJoinIdeal.nD Cert.KernelJoinIdeal.τ Cert.KernelJoinIdeal.sig) → Buf (Elt Ideal) ℓ) : Prop :=
  True

def Pre_ReferenceJoinIdeal (m : (ℓ : Loc Cert.ReferenceJoinIdeal.nD Cert.ReferenceJoinIdeal.τ Cert.ReferenceJoinIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelAttn [hKernelAttn : Cert.KernelAttn.Facts] : Prop :=
  ∀ (m : (ℓ : Loc Cert.KernelAttn.nD Cert.KernelAttn.τ Cert.KernelAttn.sig) → Buf (Elt Bits) ℓ) (g : Dev Cert.KernelAttn.nD → PrngReg), Pre_KernelAttn m →
    θ_run (Cert.KernelAttn.defs (F := Bits)) (onTc (τ := Cert.KernelAttn.τ) (Cert.KernelAttn.main (F := Bits))) ⟨m, fun _ => 0, g⟩ (fun r => (∀ c : Dev Cert.KernelAttn.nD,
      r.2.mem ((c.tc : Thread Cert.KernelAttn.nD Cert.KernelAttn.τ).loc Cert.KernelAttn.main_arg0) = m ((c.tc : Thread Cert.KernelAttn.nD Cert.KernelAttn.τ).loc Cert.KernelAttn.main_arg0)
      ∧ r.2.mem ((c.tc : Thread Cert.KernelAttn.nD Cert.KernelAttn.τ).loc Cert.KernelAttn.main_arg1) = m ((c.tc : Thread Cert.KernelAttn.nD Cert.KernelAttn.τ).loc Cert.KernelAttn.main_arg1)
      ∧ r.2.mem ((c.tc : Thread Cert.KernelAttn.nD Cert.KernelAttn.τ).loc Cert.KernelAttn.main_arg2) = m ((c.tc : Thread Cert.KernelAttn.nD Cert.KernelAttn.τ).loc Cert.KernelAttn.main_arg2)
      ∧ r.2.mem ((c.tc : Thread Cert.KernelAttn.nD Cert.KernelAttn.τ).loc Cert.KernelAttn.main_arg3) = m ((c.tc : Thread Cert.KernelAttn.nD Cert.KernelAttn.τ).loc Cert.KernelAttn.main_arg3)
      ∧ r.2.mem ((c.tc : Thread Cert.KernelAttn.nD Cert.KernelAttn.τ).loc Cert.KernelAttn.main_arg4) = m ((c.tc : Thread Cert.KernelAttn.nD Cert.KernelAttn.τ).loc Cert.KernelAttn.main_arg4)
      ∧ r.2.mem ((c.tc : Thread Cert.KernelAttn.nD Cert.KernelAttn.τ).loc Cert.KernelAttn.main_arg5) = m ((c.tc : Thread Cert.KernelAttn.nD Cert.KernelAttn.τ).loc Cert.KernelAttn.main_arg5))
      ∧ r.2.sem = fun _ => 0)

def quiescent_KernelAttnIdeal [hKernelAttnIdeal : Cert.KernelAttnIdeal.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
      ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ r.2.sem = fun _ => 0)

def quiescent_KernelAttnIdeal_pre_finite_attn [hKernelAttnIdeal : Cert.KernelAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg), Pre_KernelAttnIdeal_finite_attn m →
    θ_run (Cert.KernelAttnIdeal.defs (F := Ideal)) (onTc (τ := Cert.KernelAttnIdeal.τ) (Cert.KernelAttnIdeal.main (F := Ideal))) ⟨m, fun _ => 0, g⟩ (fun r => (∀ c : Dev Cert.KernelAttnIdeal.nD,
      r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
      ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
      ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
      ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
      ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
      ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ r.2.sem = fun _ => 0)

def quiescent_ReferenceAttnIdeal [hReferenceAttnIdeal : Cert.ReferenceAttnIdeal.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4)
      ∧ r.2.mem ((c.tc : Thread Cert.ReferenceAttnIdeal.nD Cert.ReferenceAttnIdeal.τ).loc Cert.ReferenceAttnIdeal.main_arg5) = m ((c.tc : Thread Cert.ReferenceAttnIdeal.nD Cert.ReferenceAttnIdeal.τ).loc Cert.ReferenceAttnIdeal.main_arg5))
      ∧ r.2.sem = fun _ => 0)

def quiescent_ReferenceAttnIdeal_pre_finite_attn [hReferenceAttnIdeal : Cert.ReferenceAttnIdeal.Facts] [hPre_finite_attn : Cert.Pre_finite_attn.Facts] : Prop :=
  ∀ (m : (ℓ : Loc Cert.ReferenceAttnIdeal.nD Cert.ReferenceAttnIdeal.τ Cert.ReferenceAttnIdeal.sig) → Buf (Elt Ideal) ℓ) (g : Dev Cert.ReferenceAttnIdeal.nD → PrngReg), Pre_ReferenceAttnIdeal_finite_attn m →
    θ_run (Cert.ReferenceAttnIdeal.defs (F := Ideal)) (onTc (τ := Cert.ReferenceAttnIdeal.τ) (Cert.ReferenceAttnIdeal.main (F := Ideal))) ⟨m, fun _ => 0, g⟩ (fun r => (∀ c : Dev Cert.ReferenceAttnIdeal.nD,
      r.2.mem ((c.tc : Thread Cert.ReferenceAttnIdeal.nD Cert.ReferenceAttnIdeal.τ).loc Cert.ReferenceAttnIdeal.main_arg0) = m ((c.tc : Thread Cert.ReferenceAttnIdeal.nD Cert.ReferenceAttnIdeal.τ).loc Cert.ReferenceAttnIdeal.main_arg0)
      ∧ r.2.mem ((c.tc : Thread Cert.ReferenceAttnIdeal.nD Cert.ReferenceAttnIdeal.τ).loc Cert.ReferenceAttnIdeal.main_arg1) = m ((c.tc : Thread Cert.ReferenceAttnIdeal.nD Cert.ReferenceAttnIdeal.τ).loc Cert.ReferenceAttnIdeal.main_arg1)
      ∧ r.2.mem ((c.tc : Thread Cert.ReferenceAttnIdeal.nD Cert.ReferenceAttnIdeal.τ).loc Cert.ReferenceAttnIdeal.main_arg2) = m ((c.tc : Thread Cert.ReferenceAttnIdeal.nD Cert.ReferenceAttnIdeal.τ).loc Cert.ReferenceAttnIdeal.main_arg2)
      ∧ r.2.mem ((c.tc : Thread Cert.ReferenceAttnIdeal.nD Cert.ReferenceAttnIdeal.τ).loc Cert.ReferenceAttnIdeal.main_arg3) = m ((c.tc : Thread Cert.ReferenceAttnIdeal.nD Cert.ReferenceAttnIdeal.τ).loc Cert.ReferenceAttnIdeal.main_arg3)
      ∧ r.2.mem ((c.tc : Thread Cert.ReferenceAttnIdeal.nD Cert.ReferenceAttnIdeal.τ).loc Cert.ReferenceAttnIdeal.main_arg4) = m ((c.tc : Thread Cert.ReferenceAttnIdeal.nD Cert.ReferenceAttnIdeal.τ).loc Cert.ReferenceAttnIdeal.main_arg4)
      ∧ r.2.mem ((c.tc : Thread Cert.ReferenceAttnIdeal.nD Cert.ReferenceAttnIdeal.τ).loc Cert.ReferenceAttnIdeal.main_arg5) = m ((c.tc : Thread Cert.ReferenceAttnIdeal.nD Cert.ReferenceAttnIdeal.τ).loc Cert.ReferenceAttnIdeal.main_arg5))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelQ [hKernelQ : Cert.KernelQ.Facts] : Prop :=
  ∀ (m : (ℓ : Loc Cert.KernelQ.nD Cert.KernelQ.τ Cert.KernelQ.sig) → Buf (Elt Bits) ℓ) (g : Dev Cert.KernelQ.nD → PrngReg), Pre_KernelQ m →
    θ_run (Cert.KernelQ.defs (F := Bits)) (onTc (τ := Cert.KernelQ.τ) (Cert.KernelQ.main (F := Bits))) ⟨m, fun _ => 0, g⟩ (fun r => (∀ c : Dev Cert.KernelQ.nD,
      r.2.mem ((c.tc : Thread Cert.KernelQ.nD Cert.KernelQ.τ).loc Cert.KernelQ.main_arg0) = m ((c.tc : Thread Cert.KernelQ.nD Cert.KernelQ.τ).loc Cert.KernelQ.main_arg0)
      ∧ r.2.mem ((c.tc : Thread Cert.KernelQ.nD Cert.KernelQ.τ).loc Cert.KernelQ.main_arg1) = m ((c.tc : Thread Cert.KernelQ.nD Cert.KernelQ.τ).loc Cert.KernelQ.main_arg1))
      ∧ r.2.sem = fun _ => 0)

def quiescent_KernelQIdeal [hKernelQIdeal : Cert.KernelQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg), Pre_KernelQIdeal m →
    θ_run (Cert.KernelQIdeal.defs (F := Ideal)) (onTc (τ := Cert.KernelQIdeal.τ) (Cert.KernelQIdeal.main (F := Ideal))) ⟨m, fun _ => 0, g⟩ (fun r => (∀ c : Dev Cert.KernelQIdeal.nD,
      r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
      ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ r.2.sem = fun _ => 0)

def quiescent_ReferenceQIdeal [hReferenceQIdeal : Cert.ReferenceQIdeal.Facts] : Prop :=
  ∀ (m : (ℓ : Loc Cert.ReferenceQIdeal.nD Cert.ReferenceQIdeal.τ Cert.ReferenceQIdeal.sig) → Buf (Elt Ideal) ℓ) (g : Dev Cert.ReferenceQIdeal.nD → PrngReg), Pre_ReferenceQIdeal m →
    θ_run (Cert.ReferenceQIdeal.defs (F := Ideal)) (onTc (τ := Cert.ReferenceQIdeal.τ) (Cert.ReferenceQIdeal.main (F := Ideal))) ⟨m, fun _ => 0, g⟩ (fun r => (∀ c : Dev Cert.ReferenceQIdeal.nD,
      r.2.mem ((c.tc : Thread Cert.ReferenceQIdeal.nD Cert.ReferenceQIdeal.τ).loc Cert.ReferenceQIdeal.main_arg0) = m ((c.tc : Thread Cert.ReferenceQIdeal.nD Cert.ReferenceQIdeal.τ).loc Cert.ReferenceQIdeal.main_arg0)
      ∧ r.2.mem ((c.tc : Thread Cert.ReferenceQIdeal.nD Cert.ReferenceQIdeal.τ).loc Cert.ReferenceQIdeal.main_arg1) = m ((c.tc : Thread Cert.ReferenceQIdeal.nD Cert.ReferenceQIdeal.τ).loc Cert.ReferenceQIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1)
      ∧ r.2.mem ((c.tc : Thread Cert.KernelKv.nD Cert.KernelKv.τ).loc Cert.KernelKv.main_arg2) = m ((c.tc : Thread Cert.KernelKv.nD Cert.KernelKv.τ).loc Cert.KernelKv.main_arg2)
      ∧ r.2.mem ((c.tc : Thread Cert.KernelKv.nD Cert.KernelKv.τ).loc Cert.KernelKv.main_arg3) = m ((c.tc : Thread Cert.KernelKv.nD Cert.KernelKv.τ).loc Cert.KernelKv.main_arg3))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
      ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
      ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1)
      ∧ r.2.mem ((c.tc : Thread Cert.ReferenceKvIdeal.nD Cert.ReferenceKvIdeal.τ).loc Cert.ReferenceKvIdeal.main_arg2) = m ((c.tc : Thread Cert.ReferenceKvIdeal.nD Cert.ReferenceKvIdeal.τ).loc Cert.ReferenceKvIdeal.main_arg2)
      ∧ r.2.mem ((c.tc : Thread Cert.ReferenceKvIdeal.nD Cert.ReferenceKvIdeal.τ).loc Cert.ReferenceKvIdeal.main_arg3) = m ((c.tc : Thread Cert.ReferenceKvIdeal.nD Cert.ReferenceKvIdeal.τ).loc Cert.ReferenceKvIdeal.main_arg3))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6)
      ∧ r.2.mem ((c.tc : Thread Cert.KernelFwd.nD Cert.KernelFwd.τ).loc Cert.KernelFwd.main_arg7) = m ((c.tc : Thread Cert.KernelFwd.nD Cert.KernelFwd.τ).loc Cert.KernelFwd.main_arg7))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
      ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6)
      ∧ r.2.mem ((c.tc : Thread Cert.ReferenceFwdIdeal.nD Cert.ReferenceFwdIdeal.τ).loc Cert.ReferenceFwdIdeal.main_arg7) = m ((c.tc : Thread Cert.ReferenceFwdIdeal.nD Cert.ReferenceFwdIdeal.τ).loc Cert.ReferenceFwdIdeal.main_arg7))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelJoin [hKernelJoin : Cert.KernelJoin.Facts] : Prop :=
  ∀ (m : (ℓ : Loc Cert.KernelJoin.nD Cert.KernelJoin.τ Cert.KernelJoin.sig) → Buf (Elt Bits) ℓ) (g : Dev Cert.KernelJoin.nD → PrngReg), Pre_KernelJoin m →
    θ_run (Cert.KernelJoin.defs (F := Bits)) (onTc (τ := Cert.KernelJoin.τ) (Cert.KernelJoin.main (F := Bits))) ⟨m, fun _ => 0, g⟩ (fun r => (∀ c : Dev Cert.KernelJoin.nD,
      r.2.mem ((c.tc : Thread Cert.KernelJoin.nD Cert.KernelJoin.τ).loc Cert.KernelJoin.main_arg0) = m ((c.tc : Thread Cert.KernelJoin.nD Cert.KernelJoin.τ).loc Cert.KernelJoin.main_arg0)
      ∧ r.2.mem ((c.tc : Thread Cert.KernelJoin.nD Cert.KernelJoin.τ).loc Cert.KernelJoin.main_arg1) = m ((c.tc : Thread Cert.KernelJoin.nD Cert.KernelJoin.τ).loc Cert.KernelJoin.main_arg1)
      ∧ r.2.mem ((c.tc : Thread Cert.KernelJoin.nD Cert.KernelJoin.τ).loc Cert.KernelJoin.main_arg2) = m ((c.tc : Thread Cert.KernelJoin.nD Cert.KernelJoin.τ).loc Cert.KernelJoin.main_arg2)
      ∧ r.2.mem ((c.tc : Thread Cert.KernelJoin.nD Cert.KernelJoin.τ).loc Cert.KernelJoin.main_arg3) = m ((c.tc : Thread Cert.KernelJoin.nD Cert.KernelJoin.τ).loc Cert.KernelJoin.main_arg3)
      ∧ r.2.mem ((c.tc : Thread Cert.KernelJoin.nD Cert.KernelJoin.τ).loc Cert.KernelJoin.main_arg4) = m ((c.tc : Thread Cert.KernelJoin.nD Cert.KernelJoin.τ).loc Cert.KernelJoin.main_arg4)
      ∧ r.2.mem ((c.tc : Thread Cert.KernelJoin.nD Cert.KernelJoin.τ).loc Cert.KernelJoin.main_arg5) = m ((c.tc : Thread Cert.KernelJoin.nD Cert.KernelJoin.τ).loc Cert.KernelJoin.main_arg5))
      ∧ r.2.sem = fun _ => 0)

def quiescent_KernelJoinIdeal [hKernelJoinIdeal : Cert.KernelJoinIdeal.Facts] : Prop :=
  ∀ (m : (ℓ : Loc Cert.KernelJoinIdeal.nD Cert.KernelJoinIdeal.τ Cert.KernelJoinIdeal.sig) → Buf (Elt Ideal) ℓ) (g : Dev Cert.KernelJoinIdeal.nD → PrngReg), Pre_KernelJoinIdeal m →
    θ_run (Cert.KernelJoinIdeal.defs (F := Ideal)) (onTc (τ := Cert.KernelJoinIdeal.τ) (Cert.KernelJoinIdeal.main (F := Ideal))) ⟨m, fun _ => 0, g⟩ (fun r => (∀ c : Dev Cert.KernelJoinIdeal.nD,
      r.2.mem ((c.tc : Thread Cert.KernelJoinIdeal.nD Cert.KernelJoinIdeal.τ).loc Cert.KernelJoinIdeal.main_arg0) = m ((c.tc : Thread Cert.KernelJoinIdeal.nD Cert.KernelJoinIdeal.τ).loc Cert.KernelJoinIdeal.main_arg0)
      ∧ r.2.mem ((c.tc : Thread Cert.KernelJoinIdeal.nD Cert.KernelJoinIdeal.τ).loc Cert.KernelJoinIdeal.main_arg1) = m ((c.tc : Thread Cert.KernelJoinIdeal.nD Cert.KernelJoinIdeal.τ).loc Cert.KernelJoinIdeal.main_arg1)
      ∧ r.2.mem ((c.tc : Thread Cert.KernelJoinIdeal.nD Cert.KernelJoinIdeal.τ).loc Cert.KernelJoinIdeal.main_arg2) = m ((c.tc : Thread Cert.KernelJoinIdeal.nD Cert.KernelJoinIdeal.τ).loc Cert.KernelJoinIdeal.main_arg2)
      ∧ r.2.mem ((c.tc : Thread Cert.KernelJoinIdeal.nD Cert.KernelJoinIdeal.τ).loc Cert.KernelJoinIdeal.main_arg3) = m ((c.tc : Thread Cert.KernelJoinIdeal.nD Cert.KernelJoinIdeal.τ).loc Cert.KernelJoinIdeal.main_arg3)
      ∧ r.2.mem ((c.tc : Thread Cert.KernelJoinIdeal.nD Cert.KernelJoinIdeal.τ).loc Cert.KernelJoinIdeal.main_arg4) = m ((c.tc : Thread Cert.KernelJoinIdeal.nD Cert.KernelJoinIdeal.τ).loc Cert.KernelJoinIdeal.main_arg4)
      ∧ r.2.mem ((c.tc : Thread Cert.KernelJoinIdeal.nD Cert.KernelJoinIdeal.τ).loc Cert.KernelJoinIdeal.main_arg5) = m ((c.tc : Thread Cert.KernelJoinIdeal.nD Cert.KernelJoinIdeal.τ).loc Cert.KernelJoinIdeal.main_arg5))
      ∧ r.2.sem = fun _ => 0)

def quiescent_ReferenceJoinIdeal [hReferenceJoinIdeal : Cert.ReferenceJoinIdeal.Facts] : Prop :=
  ∀ (m : (ℓ : Loc Cert.ReferenceJoinIdeal.nD Cert.ReferenceJoinIdeal.τ Cert.ReferenceJoinIdeal.sig) → Buf (Elt Ideal) ℓ) (g : Dev Cert.ReferenceJoinIdeal.nD → PrngReg), Pre_ReferenceJoinIdeal m →
    θ_run (Cert.ReferenceJoinIdeal.defs (F := Ideal)) (onTc (τ := Cert.ReferenceJoinIdeal.τ) (Cert.ReferenceJoinIdeal.main (F := Ideal))) ⟨m, fun _ => 0, g⟩ (fun r => (∀ c : Dev Cert.ReferenceJoinIdeal.nD,
      r.2.mem ((c.tc : Thread Cert.ReferenceJoinIdeal.nD Cert.ReferenceJoinIdeal.τ).loc Cert.ReferenceJoinIdeal.main_arg0) = m ((c.tc : Thread Cert.ReferenceJoinIdeal.nD Cert.ReferenceJoinIdeal.τ).loc Cert.ReferenceJoinIdeal.main_arg0)
      ∧ r.2.mem ((c.tc : Thread Cert.ReferenceJoinIdeal.nD Cert.ReferenceJoinIdeal.τ).loc Cert.ReferenceJoinIdeal.main_arg1) = m ((c.tc : Thread Cert.ReferenceJoinIdeal.nD Cert.ReferenceJoinIdeal.τ).loc Cert.ReferenceJoinIdeal.main_arg1)
      ∧ r.2.mem ((c.tc : Thread Cert.ReferenceJoinIdeal.nD Cert.ReferenceJoinIdeal.τ).loc Cert.ReferenceJoinIdeal.main_arg2) = m ((c.tc : Thread Cert.ReferenceJoinIdeal.nD Cert.ReferenceJoinIdeal.τ).loc Cert.ReferenceJoinIdeal.main_arg2)
      ∧ r.2.mem ((c.tc : Thread Cert.ReferenceJoinIdeal.nD Cert.ReferenceJoinIdeal.τ).loc Cert.ReferenceJoinIdeal.main_arg3) = m ((c.tc : Thread Cert.ReferenceJoinIdeal.nD Cert.ReferenceJoinIdeal.τ).loc Cert.ReferenceJoinIdeal.main_arg3)
      ∧ r.2.mem ((c.tc : Thread Cert.ReferenceJoinIdeal.nD Cert.ReferenceJoinIdeal.τ).loc Cert.ReferenceJoinIdeal.main_arg4) = m ((c.tc : Thread Cert.ReferenceJoinIdeal.nD Cert.ReferenceJoinIdeal.τ).loc Cert.ReferenceJoinIdeal.main_arg4)
      ∧ r.2.mem ((c.tc : Thread Cert.ReferenceJoinIdeal.nD Cert.ReferenceJoinIdeal.τ).loc Cert.ReferenceJoinIdeal.main_arg5) = m ((c.tc : Thread Cert.ReferenceJoinIdeal.nD Cert.ReferenceJoinIdeal.τ).loc Cert.ReferenceJoinIdeal.main_arg5))
      ∧ r.2.sem = fun _ => 0)

def preserves_Kernel_KernelIdeal : Prop :=
  IdealRules.named_const.Statement Cert.KernelIdeal.κ "gelu_ck" .f32 0x3D122279#32 ((80338380498831 / 2251799813685248 : ℝ) : EReal)
  ∧ IdealRules.named_const.Statement Cert.KernelIdeal.κ "gelu_3ck" .f32 0x3DDB33B6#32 ((241015141496493 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v22_2)) (v3 : (c : Dev Cert.KernelIdeal.nD) → Buf (Elt Ideal) ((c.tc : Thread Cert.KernelIdeal.nD Cert.KernelIdeal.τ).loc Cert.KernelIdeal.main_v22_3)) (v4 : (c : Dev Cert.KernelIdeal.nD) → Buf (Elt Ideal) ((c.tc : Thread Cert.KernelIdeal.nD Cert.KernelIdeal.τ).loc Cert.KernelIdeal.main_v22_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v22_2) = v2 c
          ∧ r.2.mem ((c.tc : Thread Cert.KernelIdeal.nD Cert.KernelIdeal.τ).loc Cert.KernelIdeal.main_v22_3) = v3 c
          ∧ r.2.mem ((c.tc : Thread Cert.KernelIdeal.nD Cert.KernelIdeal.τ).loc Cert.KernelIdeal.main_v22_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v108) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v76) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelAttn_KernelAttnIdeal : Prop :=
  True

def algebraic_KernelAttnIdeal_ReferenceAttnIdeal_pre_finite_attn [hKernelAttnIdeal : Cert.KernelAttnIdeal.Facts] [hReferenceAttnIdeal : Cert.ReferenceAttnIdeal.Facts] [hPre_finite_attn : Cert.Pre_finite_attn.Facts] : Prop :=
  ∀ (m : (ℓ : Loc Cert.KernelAttnIdeal.nD Cert.KernelAttnIdeal.τ Cert.KernelAttnIdeal.sig) → Buf (Elt Ideal) ℓ) (g : Dev Cert.KernelAttnIdeal.nD → PrngReg)
    (m' : (ℓ : Loc Cert.ReferenceAttnIdeal.nD Cert.ReferenceAttnIdeal.τ Cert.ReferenceAttnIdeal.sig) → Buf (Elt Ideal) ℓ) (g' : Dev Cert.ReferenceAttnIdeal.nD → PrngReg), Pre_KernelAttnIdeal_finite_attn m →
    (∀ c : Dev Cert.KernelAttnIdeal.nD,
      m' ((c.tc : Thread Cert.ReferenceAttnIdeal.nD Cert.ReferenceAttnIdeal.τ).loc Cert.ReferenceAttnIdeal.main_arg0) = m ((c.tc : Thread Cert.KernelAttnIdeal.nD Cert.KernelAttnIdeal.τ).loc Cert.KernelAttnIdeal.main_arg0)
      ∧ m' ((c.tc : Thread Cert.ReferenceAttnIdeal.nD Cert.ReferenceAttnIdeal.τ).loc Cert.ReferenceAttnIdeal.main_arg1) = m ((c.tc : Thread Cert.KernelAttnIdeal.nD Cert.KernelAttnIdeal.τ).loc Cert.KernelAttnIdeal.main_arg1)
      ∧ m' ((c.tc : Thread Cert.ReferenceAttnIdeal.nD Cert.ReferenceAttnIdeal.τ).loc Cert.ReferenceAttnIdeal.main_arg2) = m ((c.tc : Thread Cert.KernelAttnIdeal.nD Cert.KernelAttnIdeal.τ).loc Cert.KernelAttnIdeal.main_arg2)
      ∧ m' ((c.tc : Thread Cert.ReferenceAttnIdeal.nD Cert.ReferenceAttnIdeal.τ).loc Cert.ReferenceAttnIdeal.main_arg3) = m ((c.tc : Thread Cert.KernelAttnIdeal.nD Cert.KernelAttnIdeal.τ).loc Cert.KernelAttnIdeal.main_arg3)
      ∧ m' ((c.tc : Thread Cert.ReferenceAttnIdeal.nD Cert.ReferenceAttnIdeal.τ).loc Cert.ReferenceAttnIdeal.main_arg4) = m ((c.tc : Thread Cert.KernelAttnIdeal.nD Cert.KernelAttnIdeal.τ).loc Cert.KernelAttnIdeal.main_arg4)
      ∧ m' ((c.tc : Thread Cert.ReferenceAttnIdeal.nD Cert.ReferenceAttnIdeal.τ).loc Cert.ReferenceAttnIdeal.main_arg5) = m ((c.tc : Thread Cert.KernelAttnIdeal.nD Cert.KernelAttnIdeal.τ).loc Cert.KernelAttnIdeal.main_arg5)) →
    ∃ (v0 : (c : Dev Cert.KernelAttnIdeal.nD) → Buf (Elt Ideal) ((c.tc : Thread Cert.KernelAttnIdeal.nD Cert.KernelAttnIdeal.τ).loc Cert.KernelAttnIdeal.main_v17_0)) (v1 : (c : Dev Cert.KernelAttnIdeal.nD) → Buf (Elt Ideal) ((c.tc : Thread Cert.KernelAttnIdeal.nD Cert.KernelAttnIdeal.τ).loc Cert.KernelAttnIdeal.main_v17_1)) (v2 : (c : Dev Cert.KernelAttnIdeal.nD) → Buf (Elt Ideal) ((c.tc : Thread Cert.KernelAttnIdeal.nD Cert.KernelAttnIdeal.τ).loc Cert.KernelAttnIdeal.main_v17_2)) (v3 : (c : Dev Cert.KernelAttnIdeal.nD) → Buf (Elt Ideal) ((c.tc : Thread Cert.KernelAttnIdeal.nD Cert.KernelAttnIdeal.τ).loc Cert.KernelAttnIdeal.main_v17_3)),
      θ_run (Cert.KernelAttnIdeal.defs (F := Ideal)) (onTc (τ := Cert.KernelAttnIdeal.τ) (Cert.KernelAttnIdeal.main (F := Ideal))) ⟨m, fun _ => 0, g⟩ (fun r => ∀ c : Dev Cert.KernelAttnIdeal.nD,
          r.2.mem ((c.tc : Thread Cert.KernelAttnIdeal.nD Cert.KernelAttnIdeal.τ).loc Cert.KernelAttnIdeal.main_v17_0) = v0 c
          ∧ r.2.mem ((c.tc : Thread Cert.KernelAttnIdeal.nD Cert.KernelAttnIdeal.τ).loc Cert.KernelAttnIdeal.main_v17_1) = v1 c
          ∧ r.2.mem ((c.tc : Thread Cert.KernelAttnIdeal.nD Cert.KernelAttnIdeal.τ).loc Cert.KernelAttnIdeal.main_v17_2) = v2 c
          ∧ r.2.mem ((c.tc : Thread Cert.KernelAttnIdeal.nD Cert.KernelAttnIdeal.τ).loc Cert.KernelAttnIdeal.main_v17_3) = v3 c
          ∧ r.2.mem ((c.tc : Thread Cert.KernelAttnIdeal.nD Cert.KernelAttnIdeal.τ).loc Cert.KernelAttnIdeal.main_arg0) = m ((c.tc : Thread Cert.KernelAttnIdeal.nD Cert.KernelAttnIdeal.τ).loc Cert.KernelAttnIdeal.main_arg0)
          ∧ r.2.mem ((c.tc : Thread Cert.KernelAttnIdeal.nD Cert.KernelAttnIdeal.τ).loc Cert.KernelAttnIdeal.main_arg1) = m ((c.tc : Thread Cert.KernelAttnIdeal.nD Cert.KernelAttnIdeal.τ).loc Cert.KernelAttnIdeal.main_arg1)
          ∧ r.2.mem ((c.tc : Thread Cert.KernelAttnIdeal.nD Cert.KernelAttnIdeal.τ).loc Cert.KernelAttnIdeal.main_arg2) = m ((c.tc : Thread Cert.KernelAttnIdeal.nD Cert.KernelAttnIdeal.τ).loc Cert.KernelAttnIdeal.main_arg2)
          ∧ r.2.mem ((c.tc : Thread Cert.KernelAttnIdeal.nD Cert.KernelAttnIdeal.τ).loc Cert.KernelAttnIdeal.main_arg3) = m ((c.tc : Thread Cert.KernelAttnIdeal.nD Cert.KernelAttnIdeal.τ).loc Cert.KernelAttnIdeal.main_arg3)
          ∧ r.2.mem ((c.tc : Thread Cert.KernelAttnIdeal.nD Cert.KernelAttnIdeal.τ).loc Cert.KernelAttnIdeal.main_arg4) = m ((c.tc : Thread Cert.KernelAttnIdeal.nD Cert.KernelAttnIdeal.τ).loc Cert.KernelAttnIdeal.main_arg4)
          ∧ r.2.mem ((c.tc : Thread Cert.KernelAttnIdeal.nD Cert.KernelAttnIdeal.τ).loc Cert.KernelAttnIdeal.main_arg5) = m ((c.tc : Thread Cert.KernelAttnIdeal.nD Cert.KernelAttnIdeal.τ).loc Cert.KernelAttnIdeal.main_arg5))
      ∧ θ_run (Cert.ReferenceAttnIdeal.defs (F := Ideal)) (onTc (τ := Cert.ReferenceAttnIdeal.τ) (Cert.ReferenceAttnIdeal.main (F := Ideal))) ⟨m', fun _ => 0, g'⟩ (fun r => ∀ c : Dev Cert.ReferenceAttnIdeal.nD,
          r.2.mem ((c.tc : Thread Cert.ReferenceAttnIdeal.nD Cert.ReferenceAttnIdeal.τ).loc Cert.ReferenceAttnIdeal.main_v104) = v0 c
          ∧ r.2.mem ((c.tc : Thread Cert.ReferenceAttnIdeal.nD Cert.ReferenceAttnIdeal.τ).loc Cert.ReferenceAttnIdeal.main_v105) = v1 c
          ∧ r.2.mem ((c.tc : Thread Cert.ReferenceAttnIdeal.nD Cert.ReferenceAttnIdeal.τ).loc Cert.ReferenceAttnIdeal.main_v82) = v2 c
          ∧ r.2.mem ((c.tc : Thread Cert.ReferenceAttnIdeal.nD Cert.ReferenceAttnIdeal.τ).loc Cert.ReferenceAttnIdeal.main_v87) = v3 c
          ∧ r.2.mem ((c.tc : Thread Cert.ReferenceAttnIdeal.nD Cert.ReferenceAttnIdeal.τ).loc Cert.ReferenceAttnIdeal.main_arg0) = m' ((c.tc : Thread Cert.ReferenceAttnIdeal.nD Cert.ReferenceAttnIdeal.τ).loc Cert.ReferenceAttnIdeal.main_arg0)
          ∧ r.2.mem ((c.tc : Thread Cert.ReferenceAttnIdeal.nD Cert.ReferenceAttnIdeal.τ).loc Cert.ReferenceAttnIdeal.main_arg1) = m' ((c.tc : Thread Cert.ReferenceAttnIdeal.nD Cert.ReferenceAttnIdeal.τ).loc Cert.ReferenceAttnIdeal.main_arg1)
          ∧ r.2.mem ((c.tc : Thread Cert.ReferenceAttnIdeal.nD Cert.ReferenceAttnIdeal.τ).loc Cert.ReferenceAttnIdeal.main_arg2) = m' ((c.tc : Thread Cert.ReferenceAttnIdeal.nD Cert.ReferenceAttnIdeal.τ).loc Cert.ReferenceAttnIdeal.main_arg2)
          ∧ r.2.mem ((c.tc : Thread Cert.ReferenceAttnIdeal.nD Cert.ReferenceAttnIdeal.τ).loc Cert.ReferenceAttnIdeal.main_arg3) = m' ((c.tc : Thread Cert.ReferenceAttnIdeal.nD Cert.ReferenceAttnIdeal.τ).loc Cert.ReferenceAttnIdeal.main_arg3)
          ∧ r.2.mem ((c.tc : Thread Cert.ReferenceAttnIdeal.nD Cert.ReferenceAttnIdeal.τ).loc Cert.ReferenceAttnIdeal.main_arg4) = m' ((c.tc : Thread Cert.ReferenceAttnIdeal.nD Cert.ReferenceAttnIdeal.τ).loc Cert.ReferenceAttnIdeal.main_arg4)
          ∧ r.2.mem ((c.tc : Thread Cert.ReferenceAttnIdeal.nD Cert.ReferenceAttnIdeal.τ).loc Cert.ReferenceAttnIdeal.main_arg5) = m' ((c.tc : Thread Cert.ReferenceAttnIdeal.nD Cert.ReferenceAttnIdeal.τ).loc Cert.ReferenceAttnIdeal.main_arg5))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v5)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v6) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v5)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v5) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v6) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v3)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v3) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v5) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelQ_KernelQIdeal : Prop :=
  True

def algebraic_KernelQIdeal_ReferenceQIdeal [hKernelQIdeal : Cert.KernelQIdeal.Facts] [hReferenceQIdeal : Cert.ReferenceQIdeal.Facts] : Prop :=
  ∀ (m : (ℓ : Loc Cert.KernelQIdeal.nD Cert.KernelQIdeal.τ Cert.KernelQIdeal.sig) → Buf (Elt Ideal) ℓ) (g : Dev Cert.KernelQIdeal.nD → PrngReg)
    (m' : (ℓ : Loc Cert.ReferenceQIdeal.nD Cert.ReferenceQIdeal.τ Cert.ReferenceQIdeal.sig) → Buf (Elt Ideal) ℓ) (g' : Dev Cert.ReferenceQIdeal.nD → PrngReg), Pre_KernelQIdeal m →
    (∀ c : Dev Cert.KernelQIdeal.nD,
      m' ((c.tc : Thread Cert.ReferenceQIdeal.nD Cert.ReferenceQIdeal.τ).loc Cert.ReferenceQIdeal.main_arg0) = m ((c.tc : Thread Cert.KernelQIdeal.nD Cert.KernelQIdeal.τ).loc Cert.KernelQIdeal.main_arg0)
      ∧ m' ((c.tc : Thread Cert.ReferenceQIdeal.nD Cert.ReferenceQIdeal.τ).loc Cert.ReferenceQIdeal.main_arg1) = m ((c.tc : Thread Cert.KernelQIdeal.nD Cert.KernelQIdeal.τ).loc Cert.KernelQIdeal.main_arg1)) →
    ∃ (v0 : (c : Dev Cert.KernelQIdeal.nD) → Buf (Elt Ideal) ((c.tc : Thread Cert.KernelQIdeal.nD Cert.KernelQIdeal.τ).loc Cert.KernelQIdeal.main_v4)),
      θ_run (Cert.KernelQIdeal.defs (F := Ideal)) (onTc (τ := Cert.KernelQIdeal.τ) (Cert.KernelQIdeal.main (F := Ideal))) ⟨m, fun _ => 0, g⟩ (fun r => ∀ c : Dev Cert.KernelQIdeal.nD,
          r.2.mem ((c.tc : Thread Cert.KernelQIdeal.nD Cert.KernelQIdeal.τ).loc Cert.KernelQIdeal.main_v4) = v0 c
          ∧ r.2.mem ((c.tc : Thread Cert.KernelQIdeal.nD Cert.KernelQIdeal.τ).loc Cert.KernelQIdeal.main_arg0) = m ((c.tc : Thread Cert.KernelQIdeal.nD Cert.KernelQIdeal.τ).loc Cert.KernelQIdeal.main_arg0)
          ∧ r.2.mem ((c.tc : Thread Cert.KernelQIdeal.nD Cert.KernelQIdeal.τ).loc Cert.KernelQIdeal.main_arg1) = m ((c.tc : Thread Cert.KernelQIdeal.nD Cert.KernelQIdeal.τ).loc Cert.KernelQIdeal.main_arg1))
      ∧ θ_run (Cert.ReferenceQIdeal.defs (F := Ideal)) (onTc (τ := Cert.ReferenceQIdeal.τ) (Cert.ReferenceQIdeal.main (F := Ideal))) ⟨m', fun _ => 0, g'⟩ (fun r => ∀ c : Dev Cert.ReferenceQIdeal.nD,
          r.2.mem ((c.tc : Thread Cert.ReferenceQIdeal.nD Cert.ReferenceQIdeal.τ).loc Cert.ReferenceQIdeal.main_v5) = v0 c
          ∧ r.2.mem ((c.tc : Thread Cert.ReferenceQIdeal.nD Cert.ReferenceQIdeal.τ).loc Cert.ReferenceQIdeal.main_arg0) = m' ((c.tc : Thread Cert.ReferenceQIdeal.nD Cert.ReferenceQIdeal.τ).loc Cert.ReferenceQIdeal.main_arg0)
          ∧ r.2.mem ((c.tc : Thread Cert.ReferenceQIdeal.nD Cert.ReferenceQIdeal.τ).loc Cert.ReferenceQIdeal.main_arg1) = m' ((c.tc : Thread Cert.ReferenceQIdeal.nD Cert.ReferenceQIdeal.τ).loc Cert.ReferenceQIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v3)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v3) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v6_0)) (v1 : (c : Dev Cert.KernelMixIdeal.nD) → Buf (Elt Ideal) ((c.tc : Thread Cert.KernelMixIdeal.nD Cert.KernelMixIdeal.τ).loc Cert.KernelMixIdeal.main_v6_1)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v6_0) = v0 c
          ∧ r.2.mem ((c.tc : Thread Cert.KernelMixIdeal.nD Cert.KernelMixIdeal.τ).loc Cert.KernelMixIdeal.main_v6_1) = v1 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v36) = v0 c
          ∧ r.2.mem ((c.tc : Thread Cert.ReferenceMixIdeal.nD Cert.ReferenceMixIdeal.τ).loc Cert.ReferenceMixIdeal.main_v19) = v1 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)
      ∧ m' ((c.tc : Thread Cert.ReferenceKvIdeal.nD Cert.ReferenceKvIdeal.τ).loc Cert.ReferenceKvIdeal.main_arg2) = m ((c.tc : Thread Cert.KernelKvIdeal.nD Cert.KernelKvIdeal.τ).loc Cert.KernelKvIdeal.main_arg2)
      ∧ m' ((c.tc : Thread Cert.ReferenceKvIdeal.nD Cert.ReferenceKvIdeal.τ).loc Cert.ReferenceKvIdeal.main_arg3) = m ((c.tc : Thread Cert.KernelKvIdeal.nD Cert.KernelKvIdeal.τ).loc Cert.KernelKvIdeal.main_arg3)) →
    ∃ (v0 : (c : Dev Cert.KernelKvIdeal.nD) → Buf (Elt Ideal) ((c.tc : Thread Cert.KernelKvIdeal.nD Cert.KernelKvIdeal.τ).loc Cert.KernelKvIdeal.main_v16_0)) (v1 : (c : Dev Cert.KernelKvIdeal.nD) → Buf (Elt Ideal) ((c.tc : Thread Cert.KernelKvIdeal.nD Cert.KernelKvIdeal.τ).loc Cert.KernelKvIdeal.main_v16_1)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v16_0) = v0 c
          ∧ r.2.mem ((c.tc : Thread Cert.KernelKvIdeal.nD Cert.KernelKvIdeal.τ).loc Cert.KernelKvIdeal.main_v16_1) = v1 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1)
          ∧ r.2.mem ((c.tc : Thread Cert.KernelKvIdeal.nD Cert.KernelKvIdeal.τ).loc Cert.KernelKvIdeal.main_arg2) = m ((c.tc : Thread Cert.KernelKvIdeal.nD Cert.KernelKvIdeal.τ).loc Cert.KernelKvIdeal.main_arg2)
          ∧ r.2.mem ((c.tc : Thread Cert.KernelKvIdeal.nD Cert.KernelKvIdeal.τ).loc Cert.KernelKvIdeal.main_arg3) = m ((c.tc : Thread Cert.KernelKvIdeal.nD Cert.KernelKvIdeal.τ).loc Cert.KernelKvIdeal.main_arg3))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v21) = v0 c
          ∧ r.2.mem ((c.tc : Thread Cert.ReferenceKvIdeal.nD Cert.ReferenceKvIdeal.τ).loc Cert.ReferenceKvIdeal.main_v18) = v1 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1)
          ∧ r.2.mem ((c.tc : Thread Cert.ReferenceKvIdeal.nD Cert.ReferenceKvIdeal.τ).loc Cert.ReferenceKvIdeal.main_arg2) = m' ((c.tc : Thread Cert.ReferenceKvIdeal.nD Cert.ReferenceKvIdeal.τ).loc Cert.ReferenceKvIdeal.main_arg2)
          ∧ r.2.mem ((c.tc : Thread Cert.ReferenceKvIdeal.nD Cert.ReferenceKvIdeal.τ).loc Cert.ReferenceKvIdeal.main_arg3) = m' ((c.tc : Thread Cert.ReferenceKvIdeal.nD Cert.ReferenceKvIdeal.τ).loc Cert.ReferenceKvIdeal.main_arg3))

def preserves_KernelFwd_KernelFwdIdeal : Prop :=
  IdealRules.named_const.Statement Cert.KernelFwdIdeal.κ "gelu_ck" .f32 0x3D122279#32 ((80338380498831 / 2251799813685248 : ℝ) : EReal)

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)
      ∧ m' ((c.tc : Thread Cert.ReferenceFwdIdeal.nD Cert.ReferenceFwdIdeal.τ).loc Cert.ReferenceFwdIdeal.main_arg7) = m ((c.tc : Thread Cert.KernelFwdIdeal.nD Cert.KernelFwdIdeal.τ).loc Cert.KernelFwdIdeal.main_arg7)) →
    ∃ (v0 : (c : Dev Cert.KernelFwdIdeal.nD) → Buf (Elt Ideal) ((c.tc : Thread Cert.KernelFwdIdeal.nD Cert.KernelFwdIdeal.τ).loc Cert.KernelFwdIdeal.main_v19_0)) (v1 : (c : Dev Cert.KernelFwdIdeal.nD) → Buf (Elt Ideal) ((c.tc : Thread Cert.KernelFwdIdeal.nD Cert.KernelFwdIdeal.τ).loc Cert.KernelFwdIdeal.main_v19_1)) (v2 : (c : Dev Cert.KernelFwdIdeal.nD) → Buf (Elt Ideal) ((c.tc : Thread Cert.KernelFwdIdeal.nD Cert.KernelFwdIdeal.τ).loc Cert.KernelFwdIdeal.main_v19_2)) (v3 : (c : Dev Cert.KernelFwdIdeal.nD) → Buf (Elt Ideal) ((c.tc : Thread Cert.KernelFwdIdeal.nD Cert.KernelFwdIdeal.τ).loc Cert.KernelFwdIdeal.main_v19_3)) (v4 : (c : Dev Cert.KernelFwdIdeal.nD) → Buf (Elt Ideal) ((c.tc : Thread Cert.KernelFwdIdeal.nD Cert.KernelFwdIdeal.τ).loc Cert.KernelFwdIdeal.main_v19_4)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v19_0) = v0 c
          ∧ r.2.mem ((c.tc : Thread Cert.KernelFwdIdeal.nD Cert.KernelFwdIdeal.τ).loc Cert.KernelFwdIdeal.main_v19_1) = v1 c
          ∧ r.2.mem ((c.tc : Thread Cert.KernelFwdIdeal.nD Cert.KernelFwdIdeal.τ).loc Cert.KernelFwdIdeal.main_v19_2) = v2 c
          ∧ r.2.mem ((c.tc : Thread Cert.KernelFwdIdeal.nD Cert.KernelFwdIdeal.τ).loc Cert.KernelFwdIdeal.main_v19_3) = v3 c
          ∧ r.2.mem ((c.tc : Thread Cert.KernelFwdIdeal.nD Cert.KernelFwdIdeal.τ).loc Cert.KernelFwdIdeal.main_v19_4) = v4 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6)
          ∧ r.2.mem ((c.tc : Thread Cert.KernelFwdIdeal.nD Cert.KernelFwdIdeal.τ).loc Cert.KernelFwdIdeal.main_arg7) = m ((c.tc : Thread Cert.KernelFwdIdeal.nD Cert.KernelFwdIdeal.τ).loc Cert.KernelFwdIdeal.main_arg7))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v102) = v0 c
          ∧ r.2.mem ((c.tc : Thread Cert.ReferenceFwdIdeal.nD Cert.ReferenceFwdIdeal.τ).loc Cert.ReferenceFwdIdeal.main_v105) = v1 c
          ∧ r.2.mem ((c.tc : Thread Cert.ReferenceFwdIdeal.nD Cert.ReferenceFwdIdeal.τ).loc Cert.ReferenceFwdIdeal.main_v100) = v2 c
          ∧ r.2.mem ((c.tc : Thread Cert.ReferenceFwdIdeal.nD Cert.ReferenceFwdIdeal.τ).loc Cert.ReferenceFwdIdeal.main_v71) = v3 c
          ∧ r.2.mem ((c.tc : Thread Cert.ReferenceFwdIdeal.nD Cert.ReferenceFwdIdeal.τ).loc Cert.ReferenceFwdIdeal.main_v84) = v4 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6)
          ∧ r.2.mem ((c.tc : Thread Cert.ReferenceFwdIdeal.nD Cert.ReferenceFwdIdeal.τ).loc Cert.ReferenceFwdIdeal.main_arg7) = m' ((c.tc : Thread Cert.ReferenceFwdIdeal.nD Cert.ReferenceFwdIdeal.τ).loc Cert.ReferenceFwdIdeal.main_arg7))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v3_0)) (v1 : (c : Dev Cert.KernelProjIdeal.nD) → Buf (Elt Ideal) ((c.tc : Thread Cert.KernelProjIdeal.nD Cert.KernelProjIdeal.τ).loc Cert.KernelProjIdeal.main_v3_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v3_0) = v0 c
          ∧ r.2.mem ((c.tc : Thread Cert.KernelProjIdeal.nD Cert.KernelProjIdeal.τ).loc Cert.KernelProjIdeal.main_v3_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v14) = v0 c
          ∧ r.2.mem ((c.tc : Thread Cert.ReferenceProjIdeal.nD Cert.ReferenceProjIdeal.τ).loc Cert.ReferenceProjIdeal.main_v15) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelJoin_KernelJoinIdeal : Prop :=
  True

def algebraic_KernelJoinIdeal_ReferenceJoinIdeal [hKernelJoinIdeal : Cert.KernelJoinIdeal.Facts] [hReferenceJoinIdeal : Cert.ReferenceJoinIdeal.Facts] : Prop :=
  ∀ (m : (ℓ : Loc Cert.KernelJoinIdeal.nD Cert.KernelJoinIdeal.τ Cert.KernelJoinIdeal.sig) → Buf (Elt Ideal) ℓ) (g : Dev Cert.KernelJoinIdeal.nD → PrngReg)
    (m' : (ℓ : Loc Cert.ReferenceJoinIdeal.nD Cert.ReferenceJoinIdeal.τ Cert.ReferenceJoinIdeal.sig) → Buf (Elt Ideal) ℓ) (g' : Dev Cert.ReferenceJoinIdeal.nD → PrngReg), Pre_KernelJoinIdeal m →
    (∀ c : Dev Cert.KernelJoinIdeal.nD,
      m' ((c.tc : Thread Cert.ReferenceJoinIdeal.nD Cert.ReferenceJoinIdeal.τ).loc Cert.ReferenceJoinIdeal.main_arg0) = m ((c.tc : Thread Cert.KernelJoinIdeal.nD Cert.KernelJoinIdeal.τ).loc Cert.KernelJoinIdeal.main_arg0)
      ∧ m' ((c.tc : Thread Cert.ReferenceJoinIdeal.nD Cert.ReferenceJoinIdeal.τ).loc Cert.ReferenceJoinIdeal.main_arg1) = m ((c.tc : Thread Cert.KernelJoinIdeal.nD Cert.KernelJoinIdeal.τ).loc Cert.KernelJoinIdeal.main_arg1)
      ∧ m' ((c.tc : Thread Cert.ReferenceJoinIdeal.nD Cert.ReferenceJoinIdeal.τ).loc Cert.ReferenceJoinIdeal.main_arg2) = m ((c.tc : Thread Cert.KernelJoinIdeal.nD Cert.KernelJoinIdeal.τ).loc Cert.KernelJoinIdeal.main_arg2)
      ∧ m' ((c.tc : Thread Cert.ReferenceJoinIdeal.nD Cert.ReferenceJoinIdeal.τ).loc Cert.ReferenceJoinIdeal.main_arg3) = m ((c.tc : Thread Cert.KernelJoinIdeal.nD Cert.KernelJoinIdeal.τ).loc Cert.KernelJoinIdeal.main_arg3)
      ∧ m' ((c.tc : Thread Cert.ReferenceJoinIdeal.nD Cert.ReferenceJoinIdeal.τ).loc Cert.ReferenceJoinIdeal.main_arg4) = m ((c.tc : Thread Cert.KernelJoinIdeal.nD Cert.KernelJoinIdeal.τ).loc Cert.KernelJoinIdeal.main_arg4)
      ∧ m' ((c.tc : Thread Cert.ReferenceJoinIdeal.nD Cert.ReferenceJoinIdeal.τ).loc Cert.ReferenceJoinIdeal.main_arg5) = m ((c.tc : Thread Cert.KernelJoinIdeal.nD Cert.KernelJoinIdeal.τ).loc Cert.KernelJoinIdeal.main_arg5)) →
    ∃ (v0 : (c : Dev Cert.KernelJoinIdeal.nD) → Buf (Elt Ideal) ((c.tc : Thread Cert.KernelJoinIdeal.nD Cert.KernelJoinIdeal.τ).loc Cert.KernelJoinIdeal.main_v5_0)) (v1 : (c : Dev Cert.KernelJoinIdeal.nD) → Buf (Elt Ideal) ((c.tc : Thread Cert.KernelJoinIdeal.nD Cert.KernelJoinIdeal.τ).loc Cert.KernelJoinIdeal.main_v5_1)) (v2 : (c : Dev Cert.KernelJoinIdeal.nD) → Buf (Elt Ideal) ((c.tc : Thread Cert.KernelJoinIdeal.nD Cert.KernelJoinIdeal.τ).loc Cert.KernelJoinIdeal.main_v5_2)),
      θ_run (Cert.KernelJoinIdeal.defs (F := Ideal)) (onTc (τ := Cert.KernelJoinIdeal.τ) (Cert.KernelJoinIdeal.main (F := Ideal))) ⟨m, fun _ => 0, g⟩ (fun r => ∀ c : Dev Cert.KernelJoinIdeal.nD,
          r.2.mem ((c.tc : Thread Cert.KernelJoinIdeal.nD Cert.KernelJoinIdeal.τ).loc Cert.KernelJoinIdeal.main_v5_0) = v0 c
          ∧ r.2.mem ((c.tc : Thread Cert.KernelJoinIdeal.nD Cert.KernelJoinIdeal.τ).loc Cert.KernelJoinIdeal.main_v5_1) = v1 c
          ∧ r.2.mem ((c.tc : Thread Cert.KernelJoinIdeal.nD Cert.KernelJoinIdeal.τ).loc Cert.KernelJoinIdeal.main_v5_2) = v2 c
          ∧ r.2.mem ((c.tc : Thread Cert.KernelJoinIdeal.nD Cert.KernelJoinIdeal.τ).loc Cert.KernelJoinIdeal.main_arg0) = m ((c.tc : Thread Cert.KernelJoinIdeal.nD Cert.KernelJoinIdeal.τ).loc Cert.KernelJoinIdeal.main_arg0)
          ∧ r.2.mem ((c.tc : Thread Cert.KernelJoinIdeal.nD Cert.KernelJoinIdeal.τ).loc Cert.KernelJoinIdeal.main_arg1) = m ((c.tc : Thread Cert.KernelJoinIdeal.nD Cert.KernelJoinIdeal.τ).loc Cert.KernelJoinIdeal.main_arg1)
          ∧ r.2.mem ((c.tc : Thread Cert.KernelJoinIdeal.nD Cert.KernelJoinIdeal.τ).loc Cert.KernelJoinIdeal.main_arg2) = m ((c.tc : Thread Cert.KernelJoinIdeal.nD Cert.KernelJoinIdeal.τ).loc Cert.KernelJoinIdeal.main_arg2)
          ∧ r.2.mem ((c.tc : Thread Cert.KernelJoinIdeal.nD Cert.KernelJoinIdeal.τ).loc Cert.KernelJoinIdeal.main_arg3) = m ((c.tc : Thread Cert.KernelJoinIdeal.nD Cert.KernelJoinIdeal.τ).loc Cert.KernelJoinIdeal.main_arg3)
          ∧ r.2.mem ((c.tc : Thread Cert.KernelJoinIdeal.nD Cert.KernelJoinIdeal.τ).loc Cert.KernelJoinIdeal.main_arg4) = m ((c.tc : Thread Cert.KernelJoinIdeal.nD Cert.KernelJoinIdeal.τ).loc Cert.KernelJoinIdeal.main_arg4)
          ∧ r.2.mem ((c.tc : Thread Cert.KernelJoinIdeal.nD Cert.KernelJoinIdeal.τ).loc Cert.KernelJoinIdeal.main_arg5) = m ((c.tc : Thread Cert.KernelJoinIdeal.nD Cert.KernelJoinIdeal.τ).loc Cert.KernelJoinIdeal.main_arg5))
      ∧ θ_run (Cert.ReferenceJoinIdeal.defs (F := Ideal)) (onTc (τ := Cert.ReferenceJoinIdeal.τ) (Cert.ReferenceJoinIdeal.main (F := Ideal))) ⟨m', fun _ => 0, g'⟩ (fun r => ∀ c : Dev Cert.ReferenceJoinIdeal.nD,
          r.2.mem ((c.tc : Thread Cert.ReferenceJoinIdeal.nD Cert.ReferenceJoinIdeal.τ).loc Cert.ReferenceJoinIdeal.main_v2) = v0 c
          ∧ r.2.mem ((c.tc : Thread Cert.ReferenceJoinIdeal.nD Cert.ReferenceJoinIdeal.τ).loc Cert.ReferenceJoinIdeal.main_v15) = v1 c
          ∧ r.2.mem ((c.tc : Thread Cert.ReferenceJoinIdeal.nD Cert.ReferenceJoinIdeal.τ).loc Cert.ReferenceJoinIdeal.main_v17) = v2 c
          ∧ r.2.mem ((c.tc : Thread Cert.ReferenceJoinIdeal.nD Cert.ReferenceJoinIdeal.τ).loc Cert.ReferenceJoinIdeal.main_arg0) = m' ((c.tc : Thread Cert.ReferenceJoinIdeal.nD Cert.ReferenceJoinIdeal.τ).loc Cert.ReferenceJoinIdeal.main_arg0)
          ∧ r.2.mem ((c.tc : Thread Cert.ReferenceJoinIdeal.nD Cert.ReferenceJoinIdeal.τ).loc Cert.ReferenceJoinIdeal.main_arg1) = m' ((c.tc : Thread Cert.ReferenceJoinIdeal.nD Cert.ReferenceJoinIdeal.τ).loc Cert.ReferenceJoinIdeal.main_arg1)
          ∧ r.2.mem ((c.tc : Thread Cert.ReferenceJoinIdeal.nD Cert.ReferenceJoinIdeal.τ).loc Cert.ReferenceJoinIdeal.main_arg2) = m' ((c.tc : Thread Cert.ReferenceJoinIdeal.nD Cert.ReferenceJoinIdeal.τ).loc Cert.ReferenceJoinIdeal.main_arg2)
          ∧ r.2.mem ((c.tc : Thread Cert.ReferenceJoinIdeal.nD Cert.ReferenceJoinIdeal.τ).loc Cert.ReferenceJoinIdeal.main_arg3) = m' ((c.tc : Thread Cert.ReferenceJoinIdeal.nD Cert.ReferenceJoinIdeal.τ).loc Cert.ReferenceJoinIdeal.main_arg3)
          ∧ r.2.mem ((c.tc : Thread Cert.ReferenceJoinIdeal.nD Cert.ReferenceJoinIdeal.τ).loc Cert.ReferenceJoinIdeal.main_arg4) = m' ((c.tc : Thread Cert.ReferenceJoinIdeal.nD Cert.ReferenceJoinIdeal.τ).loc Cert.ReferenceJoinIdeal.main_arg4)
          ∧ r.2.mem ((c.tc : Thread Cert.ReferenceJoinIdeal.nD Cert.ReferenceJoinIdeal.τ).loc Cert.ReferenceJoinIdeal.main_arg5) = m' ((c.tc : Thread Cert.ReferenceJoinIdeal.nD Cert.ReferenceJoinIdeal.τ).loc Cert.ReferenceJoinIdeal.main_arg5))

def Claim : Prop :=
  ∃ (hKernel : Cert.Kernel.Facts) (hKernelIdeal : Cert.KernelIdeal.Facts) (hReferenceIdeal : Cert.ReferenceIdeal.Facts) (hKernelAttn : Cert.KernelAttn.Facts) (hKernelAttnIdeal : Cert.KernelAttnIdeal.Facts) (hReferenceAttnIdeal : Cert.ReferenceAttnIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelO : Cert.KernelO.Facts) (hKernelOIdeal : Cert.KernelOIdeal.Facts) (hReferenceOIdeal : Cert.ReferenceOIdeal.Facts) (hKernelQ : Cert.KernelQ.Facts) (hKernelQIdeal : Cert.KernelQIdeal.Facts) (hReferenceQIdeal : Cert.ReferenceQIdeal.Facts) (hKernelOut : Cert.KernelOut.Facts) (hKernelOutIdeal : Cert.KernelOutIdeal.Facts) (hReferenceOutIdeal : Cert.ReferenceOutIdeal.Facts) (hKernelMix : Cert.KernelMix.Facts) (hKernelMixIdeal : Cert.KernelMixIdeal.Facts) (hReferenceMixIdeal : Cert.ReferenceMixIdeal.Facts) (hKernelKv : Cert.KernelKv.Facts) (hKernelKvIdeal : Cert.KernelKvIdeal.Facts) (hReferenceKvIdeal : Cert.ReferenceKvIdeal.Facts) (hKernelFwd : Cert.KernelFwd.Facts) (hKernelFwdIdeal : Cert.KernelFwdIdeal.Facts) (hReferenceFwdIdeal : Cert.ReferenceFwdIdeal.Facts) (hKernelProj : Cert.KernelProj.Facts) (hKernelProjIdeal : Cert.KernelProjIdeal.Facts) (hReferenceProjIdeal : Cert.ReferenceProjIdeal.Facts) (hKernelJoin : Cert.KernelJoin.Facts) (hKernelJoinIdeal : Cert.KernelJoinIdeal.Facts) (hReferenceJoinIdeal : Cert.ReferenceJoinIdeal.Facts) (hPre_finite : Cert.Pre_finite.Facts) (hPre_finite_attn : Cert.Pre_finite_attn.Facts) (hPre_finite_mix : Cert.Pre_finite_mix.Facts) (hPre_finite_fwd : Cert.Pre_finite_fwd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelAttn (hKernelAttn := hKernelAttn)
    ∧ quiescent_KernelAttnIdeal (hKernelAttnIdeal := hKernelAttnIdeal)
    ∧ quiescent_KernelAttnIdeal_pre_finite_attn (hKernelAttnIdeal := hKernelAttnIdeal) (hPre_finite_attn := hPre_finite_attn)
    ∧ quiescent_ReferenceAttnIdeal (hReferenceAttnIdeal := hReferenceAttnIdeal)
    ∧ quiescent_ReferenceAttnIdeal_pre_finite_attn (hReferenceAttnIdeal := hReferenceAttnIdeal) (hPre_finite_attn := hPre_finite_attn)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelQ (hKernelQ := hKernelQ)
    ∧ quiescent_KernelQIdeal (hKernelQIdeal := hKernelQIdeal)
    ∧ quiescent_ReferenceQIdeal (hReferenceQIdeal := hReferenceQIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelJoin (hKernelJoin := hKernelJoin)
    ∧ quiescent_KernelJoinIdeal (hKernelJoinIdeal := hKernelJoinIdeal)
    ∧ quiescent_ReferenceJoinIdeal (hReferenceJoinIdeal := hReferenceJoinIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelAttn_KernelAttnIdeal
    ∧ algebraic_KernelAttnIdeal_ReferenceAttnIdeal_pre_finite_attn (hKernelAttnIdeal := hKernelAttnIdeal) (hReferenceAttnIdeal := hReferenceAttnIdeal) (hPre_finite_attn := hPre_finite_attn)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelO_KernelOIdeal
    ∧ algebraic_KernelOIdeal_ReferenceOIdeal (hKernelOIdeal := hKernelOIdeal) (hReferenceOIdeal := hReferenceOIdeal)
    ∧ preserves_KernelQ_KernelQIdeal
    ∧ algebraic_KernelQIdeal_ReferenceQIdeal (hKernelQIdeal := hKernelQIdeal) (hReferenceQIdeal := hReferenceQIdeal)
    ∧ preserves_KernelOut_KernelOutIdeal
    ∧ algebraic_KernelOutIdeal_ReferenceOutIdeal (hKernelOutIdeal := hKernelOutIdeal) (hReferenceOutIdeal := hReferenceOutIdeal)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelKv_KernelKvIdeal
    ∧ algebraic_KernelKvIdeal_ReferenceKvIdeal (hKernelKvIdeal := hKernelKvIdeal) (hReferenceKvIdeal := hReferenceKvIdeal)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelProj_KernelProjIdeal
    ∧ algebraic_KernelProjIdeal_ReferenceProjIdeal (hKernelProjIdeal := hKernelProjIdeal) (hReferenceProjIdeal := hReferenceProjIdeal)
    ∧ preserves_KernelJoin_KernelJoinIdeal
    ∧ algebraic_KernelJoinIdeal_ReferenceJoinIdeal (hKernelJoinIdeal := hKernelJoinIdeal) (hReferenceJoinIdeal := hReferenceJoinIdeal)
-- ==== Pre_finite.lean ====
abbrev S8192x1024 : Shape := ⟨2, ![8192, 1024]⟩
abbrev S1x1024 : Shape := ⟨2, ![1, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x6144 : S_.BroadcastsInDim S1024x6144 (![] : Fin 0 → Fin S1024x6144.rank)
  bcast_S_S3x3072 : S_.BroadcastsInDim S3x3072 (![] : Fin 0 → Fin S3x3072.rank)
  bcast_S_S1x3072 : S_.BroadcastsInDim S1x3072 (![] : Fin 0 → Fin S1x3072.rank)
  bcast_S_S3072x1024 : S_.BroadcastsInDim S3072x1024 (![] : Fin 0 → Fin S3072x1024.rank)

variable [Facts]

def fn_part1 {F : FTy → Type} [FloatOps F] (main_arg6 : FVec F S3072x1024 .f32) (main_v2 : IVec S8192x1024 1) (main_v5 : IVec S8192x1024 1) (main_v8 : IVec S1x1024 1) (main_v11 : IVec S1024x6144 1) (main_v14 : IVec S3x3072 1) (main_v17 : IVec S1x3072 1) : IVec S8192x1024 1 × IVec S8192x1024 1 × IVec S1x1024 1 × IVec S1024x6144 1 × IVec S3x3072 1 × IVec S1x3072 1 × IVec S3072x1024 1 :=
  let main_v18 : FVec F S3072x1024 .f32 := Host.absf main_arg6
  let main_cst_5 : FVec F S_ .f32 := constant S_ .f32 0x7F800000#32
  let main_v19 : FVec F S3072x1024 .f32 := broadcastInDim S3072x1024 ![] bcast_S_S3072x1024 main_cst_5
  let main_v20 : IVec S3072x1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1x1024 .f32) (main_arg3 : FVec F S1024x6144 .f32) (main_arg4 : FVec F S3x3072 .f32) (main_arg5 : FVec F S1x3072 .f32) (main_arg6 : FVec F S3072x1024 .f32) : IVec S8192x1024 1 × IVec S8192x1024 1 × IVec S1x1024 1 × IVec S1024x6144 1 × IVec S3x3072 1 × IVec S1x3072 1 × IVec S3072x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x6144 .f32 := Host.absf main_arg3
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_v12 : FVec F S3x3072 .f32 := Host.absf main_arg4
  let main_cst_3 : FVec F S_ .f32 := constant S_ .f32 0x7F800000#32
  let main_v13 : FVec F S3x3072 .f32 := broadcastInDim S3x3072 ![] bcast_S_S3x3072 main_cst_3
  let main_v14 : IVec S3x3072 1 := cmpf .olt main_v12 main_v13
  let main_v15 : FVec F S1x3072 .f32 := Host.absf main_arg5
  let main_cst_4 : FVec F S_ .f32 := constant S_ .f32 0x7F800000#32
  let main_v16 : FVec F S1x3072 .f32 := broadcastInDim S1x3072 ![] bcast_S_S1x3072 main_cst_4
  let main_v17 : IVec S1x3072 1 := cmpf .olt main_v15 main_v16
  fn_part1 (F := F) main_arg6 main_v2 main_v5 main_v8 main_v11 main_v14 main_v17
-- ==== Pre_finite_attn.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x1024 : S_.BroadcastsInDim S1024x1024 (![] : Fin 0 → Fin S1024x1024.rank)
  bcast_S_S256x2048 : S_.BroadcastsInDim S256x2048 (![] : Fin 0 → Fin S256x2048.rank)

variable [Facts]

def fn {F : FTy → Type} [FloatOps F] (main_arg0 : FVec F S8192x1024 .f32) (main_arg1 : FVec F S8192x1024 .f32) (main_arg2 : FVec F S1x1024 .f32) (main_arg3 : FVec F S1024x1024 .f32) (main_arg4 : FVec F S256x2048 .f32) (main_arg5 : FVec F S1024x1024 .f32) : IVec S8192x1024 1 × IVec S8192x1024 1 × IVec S1x1024 1 × IVec S1024x1024 1 × IVec S256x2048 1 × IVec S1024x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S256x2048 .f32 := Host.absf main_arg4
  let main_cst_3 : FVec F S_ .f32 := constant S_ .f32 0x7F800000#32
  let main_v13 : FVec F S256x2048 .f32 := broadcastInDim S256x2048 ![] bcast_S_S256x2048 main_cst_3
  let main_v14 : IVec S256x2048 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== Pre_finite_fwd.lean ====
abbrev S8192x1024 : Shape := ⟨2, ![8192, 1024]⟩
abbrev S1x1024 : Shape := ⟨2, ![1, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x6144 : S_.BroadcastsInDim S1024x6144 (![] : Fin 0 → Fin S1024x6144.rank)
  bcast_S_S3x3072 : S_.BroadcastsInDim S3x3072 (![] : Fin 0 → Fin S3x3072.rank)
  bcast_S_S1x3072 : S_.BroadcastsInDim S1x3072 (![] : Fin 0 → Fin S1x3072.rank)
  bcast_S_S3072x1024 : S_.BroadcastsInDim S3072x1024 (![] : Fin 0 → Fin S3072x1024.rank)

variable [Facts]

def fn_part1 {F : FTy → Type} [FloatOps F] (main_arg6 : FVec F S3072x1024 .f32) (main_arg7 : FVec F S1x1024 .f32) (main_v2 : IVec S8192x1024 1) (main_v5 : IVec S8192x1024 1) (main_v8 : IVec S1x1024 1) (main_v11 : IVec S1024x6144 1) (main_v14 : IVec S3x3072 1) (main_v17 : IVec S1x3072 1) : IVec S8192x1024 1 × IVec S8192x1024 1 × IVec S1x1024 1 × IVec S1024x6144 1 × IVec S3x3072 1 × IVec S1x3072 1 × IVec S3072x1024 1 × IVec S1x1024 1 :=
  let main_v18 : FVec F S3072x1024 .f32 := Host.absf main_arg6
  let main_cst_5 : FVec F S_ .f32 := constant S_ .f32 0x7F800000#32
  let main_v19 : FVec F S3072x1024 .f32 := broadcastInDim S3072x1024 ![] bcast_S_S3072x1024 main_cst_5
  let main_v20 : IVec S3072x1024 1 := cmpf .olt main_v18 main_v19
  let main_v21 : FVec F S1x1024 .f32 := Host.absf main_arg7
  let main_cst_6 : FVec F S_ .f32 := constant S_ .f32 0x7F800000#32
  let main_v22 : FVec F S1x1024 .f32 := broadcastInDim S1x1024 ![] bcast_S_S1x1024 main_cst_6
  let main_v23 : IVec S1x1024 1 := cmpf .olt main_v21 main_v22
  (main_v2, main_v5, main_v8, main_v11, main_v14, main_v17, main_v20, main_v23)

def fn {F : FTy → Type} [FloatOps F] (main_arg0 : FVec F S8192x1024 .f32) (main_arg1 : FVec F S8192x1024 .f32) (main_arg2 : FVec F S1x1024 .f32) (main_arg3 : FVec F S1024x6144 .f32) (main_arg4 : FVec F S3x3072 .f32) (main_arg5 : FVec F S1x3072 .f32) (main_arg6 : FVec F S3072x1024 .f32) (main_arg7 : FVec F S1x1024 .f32) : IVec S8192x1024 1 × IVec S8192x1024 1 × IVec S1x1024 1 × IVec S1024x6144 1 × IVec S3x3072 1 × IVec S1x3072 1 × IVec S3072x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x6144 .f32 := Host.absf main_arg3
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_v12 : FVec F S3x3072 .f32 := Host.absf main_arg4
  let main_cst_3 : FVec F S_ .f32 := constant S_ .f32 0x7F800000#32
  let main_v13 : FVec F S3x3072 .f32 := broadcastInDim S3x3072 ![] bcast_S_S3x3072 main_cst_3
  let main_v14 : IVec S3x3072 1 := cmpf .olt main_v12 main_v13
  let main_v15 : FVec F S1x3072 .f32 := Host.absf main_arg5
  let main_cst_4 : FVec F S_ .f32 := constant S_ .f32 0x7F800000#32
  let main_v16 : FVec F S1x3072 .f32 := broadcastInDim S1x3072 ![] bcast_S_S1x3072 main_cst_4
  let main_v17 : IVec S1x3072 1 := cmpf .olt main_v15 main_v16
  fn_part1 (F := F) main_arg6 main_arg7 main_v2 main_v5 main_v8 main_v11 main_v14 main_v17
-- ==== Pre_finite_mix.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩

class Facts : Prop where
  bcast_S_S8192x2048 : S_.BroadcastsInDim S8192x2048 (![] : Fin 0 → Fin S8192x2048.rank)
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2048 : S_.BroadcastsInDim S1024x2048 (![] : Fin 0 → Fin S1024x2048.rank)

variable [Facts]

def fn {F : FTy → Type} [FloatOps F] (main_arg0 : FVec F S8192x2048 .f32) (main_arg1 : FVec F S8192x1024 .f32) (main_arg2 : FVec F S1x1024 .f32) (main_arg3 : FVec F S1024x2048 .f32) (main_arg4 : FVec F S8192x1024 .f32) : IVec S8192x2048 1 × IVec S8192x1024 1 × IVec S1x1024 1 × IVec S1024x2048 1 × IVec S8192x1024 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1024x2048 .f32 := Host.absf main_arg3
  let main_cst_2 : FVec F S_ .f32 := constant S_ .f32 0x7F800000#32
  let main_v10 : FVec F S1024x2048 .f32 := broadcastInDim S1024x2048 ![] bcast_S_S1024x2048 main_cst_2
  let main_v11 : IVec S1024x2048 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Kernel.lean ====
abbrev S8192x1024 : Shape := ⟨2, ![8192, 1024]⟩
abbrev S1x1024 : Shape := ⟨2, ![1, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S1024x4x1536 : Shape := ⟨3, ![1024, 4, 1536]⟩
abbrev S4x1024x1536 : Shape := ⟨3, ![4, 1024, 1536]⟩
abbrev S4x768x1024 : Shape := ⟨3, ![4, 768, 1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x4x1536 : Shape := ⟨3, ![8192, 4, 1536]⟩
abbrev S4x8192x1536 : Shape := ⟨3, ![4, 8192, 1536]⟩
abbrev S2x2x8192x1536 : Shape := ⟨4, ![2, 2, 8192, 1536]⟩
abbrev S2x1536x1024 : Shape := ⟨3, ![2, 1536, 1024]⟩
abbrev S256x1024 : Shape := ⟨2, ![256, 1024]⟩
abbrev S2x2x256x1536 : Shape := ⟨4, ![2, 2, 256, 1536]⟩
abbrev S1x2x8x1536 : Shape := ⟨4, ![1, 2, 8, 1536]⟩
abbrev S264x1536 : Shape := ⟨2, ![264, 1536]⟩
abbrev S2x264x1536 : Shape := ⟨3, ![2, 264, 1536]⟩
abbrev S1x1536x1024 : Shape := ⟨3, ![1, 1536, 1024]⟩
abbrev S1536x1024 : Shape := ⟨2, ![1536, 1024]⟩
abbrev S256x1536 : Shape := ⟨2, ![256, 1536]⟩
abbrev S1x1x8x1536 : Shape := ⟨4, ![1, 1, 8, 1536]⟩
abbrev S8x1536 : Shape := ⟨2, ![8, 1536]⟩
abbrev S1x1x256x1536 : Shape := ⟨4, ![1, 1, 256, 1536]⟩
abbrev S1x1536 : Shape := ⟨2, ![1, 1536]⟩
abbrev S1536 : Shape := ⟨1, ![1536]⟩
abbrev S1x256x1536 : Shape := ⟨3, ![1, 256, 1536]⟩
abbrev S1x264x1536 : Shape := ⟨3, ![1, 264, 1536]⟩
abbrev S1x8x1536 : Shape := ⟨3, ![1, 8, 1536]⟩
abbrev S1x1024x1536 : Shape := ⟨3, ![1, 1024, 1536]⟩
abbrev S1024x1536 : Shape := ⟨2, ![1024, 1536]⟩
abbrev S256 : Shape := ⟨1, ![256]⟩
abbrev S256x1 : Shape := ⟨2, ![256, 1]⟩
abbrev S1024 : Shape := ⟨1, ![1024]⟩

abbrev nBuf : Space → Nat
  | .hbm => 37
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x6144, .f32⟩
  | .hbm, ⟨4, _⟩ => ⟨S3x3072, .f32⟩
  | .hbm, ⟨5, _⟩ => ⟨S1x3072, .f32⟩
  | .hbm, ⟨6, _⟩ => ⟨S3072x1024, .f32⟩
  | .hbm, ⟨7, _⟩ => ⟨S1024x4x1536, .f32⟩
  | .hbm, ⟨8, _⟩ => ⟨S4x1024x1536, .f32⟩
  | .hbm, ⟨9, _⟩ => ⟨S4x1024x1536, .bf16⟩
  | .hbm, ⟨10, _⟩ => ⟨S4x768x1024, .f32⟩
  | .hbm, ⟨11, _⟩ => ⟨S4x768x1024, .bf16⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x6144, .f32⟩
  | .hbm, ⟨28, _⟩ => ⟨S8192x4x1536, .f32⟩
  | .hbm, ⟨29, _⟩ => ⟨S4x8192x1536, .f32⟩
  | .hbm, ⟨30, _⟩ => ⟨S2x2x8192x1536, .f32⟩
  | .hbm, ⟨31, _⟩ => ⟨S2x1536x1024, .bf16⟩
  | .hbm, ⟨32, _⟩ => ⟨S2x2x8192x1536, .bf16⟩
  | .hbm, ⟨33, _⟩ => ⟨S8192x1024, .f32⟩
  | .hbm, ⟨34, _⟩ => ⟨S1x1024, .f32⟩
  | .hbm, ⟨35, _⟩ => ⟨S3x3072, .f32⟩
  | .hbm, ⟨36, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x1536x1024, .bf16⟩
  | .local _ .vmem, ⟨6, _⟩ => ⟨S4x1024x1536, .bf16⟩
  | .local _ .vmem, ⟨7, _⟩ => ⟨S2x2x256x1536, .f32⟩
  | .local _ .vmem, ⟨8, _⟩ => ⟨S2x2x256x1536, .f32⟩
  | .local _ .vmem, ⟨9, _⟩ => ⟨S1x2x8x1536, .f32⟩
  | .local _ .vmem, ⟨10, _⟩ => ⟨S1x2x8x1536, .f32⟩
  | .local _ .vmem, ⟨11, _⟩ => ⟨S3x3072, .f32⟩
  | .local _ .vmem, ⟨12, _⟩ => ⟨S1x3072, .f32⟩
  | .local _ .vmem, ⟨13, _⟩ => ⟨S2x2x256x1536, .bf16⟩
  | .local _ .vmem, ⟨14, _⟩ => ⟨S2x2x256x1536, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S3x3072, .f32⟩
  | .local _ .vmem, ⟨19, _⟩ => ⟨S1x3072, .f32⟩
  | .local _ .vmem, ⟨20, _⟩ => ⟨S264x1536, .f32⟩
  | .local _ .vmem, ⟨21, _⟩ => ⟨S2x264x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v22_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v3.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x8x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x2x256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== ReferenceIdeal.lean ====
abbrev S8192x1024 : Shape := ⟨2, ![8192, 1024]⟩
abbrev S1x1024 : Shape := ⟨2, ![1, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x3072 : Shape := ⟨2, ![8192, 3072]⟩
abbrev S2x3072 : Shape := ⟨2, ![2, 3072]⟩
abbrev S8194x3072 : Shape := ⟨2, ![8194, 3072]⟩
abbrev S3072 : Shape := ⟨1, ![3072]⟩
abbrev S1024 : Shape := ⟨1, ![1024]⟩
abbrev S8192x2x2x1536 : Shape := ⟨4, ![8192, 2, 2, 1536]⟩
abbrev S2x2x8192x1536 : Shape := ⟨4, ![2, 2, 8192, 1536]⟩

abbrev nBuf : Space → Nat
  | .hbm => 166
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x6144, .f32⟩
  | 4 => ⟨S3x3072, .f32⟩
  | 5 => ⟨S1x3072, .f32⟩
  | 6 => ⟨S3072x1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S8192x6144, .f32⟩
  | 27 => ⟨S8192x3072, .f32⟩
  | 28 => ⟨S8192x3072, .f32⟩
  | 29 => ⟨S_, .f32⟩
  | 30 => ⟨S2x3072, .f32⟩
  | 31 => ⟨S8194x3072, .f32⟩
  | 32 => ⟨S_, .f32⟩
  | 33 => ⟨S2x3072, .f32⟩
  | 34 => ⟨S8192x3072, .f32⟩
  | 35 => ⟨S1x3072, .f32⟩
  | 36 => ⟨S8192x3072, .f32⟩
  | 37 => ⟨S8192x3072, .f32⟩
  | 38 => ⟨S8192x3072, .f32⟩
  | 39 => ⟨S1x3072, .f32⟩
  | 40 => ⟨S8192x3072, .f32⟩
  | 41 => ⟨S8192x3072, .f32⟩
  | 42 => ⟨S8192x3072, .f32⟩
  | 43 => ⟨S8192x3072, .f32⟩
  | 44 => ⟨S1x3072, .f32⟩
  | 45 => ⟨S8192x3072, .f32⟩
  | 46 => ⟨S8192x3072, .f32⟩
  | 47 => ⟨S8192x3072, .f32⟩
  | 48 => ⟨S8192x3072, .f32⟩
  | 49 => ⟨S8192x3072, .f32⟩
  | 50 => ⟨S8192x3072, .f32⟩
  | 51 => ⟨S8192x3072, .f32⟩
  | 52 => ⟨S8192x3072, .f32⟩
  | 53 => ⟨S_, .f32⟩
  | 54 => ⟨S8192x3072, .f32⟩
  | 55 => ⟨S8192x3072, .f32⟩
  | 56 => ⟨S_, .f32⟩
  | 57 => ⟨S8192x3072, .f32⟩
  | 58 => ⟨S8192x3072, .f32⟩
  | 59 => ⟨S8192x3072, .f32⟩
  | 60 => ⟨S_, .f32⟩
  | 61 => ⟨S8192x3072, .f32⟩
  | 62 => ⟨S8192x3072, .f32⟩
  | 63 => ⟨S8192x3072, .f32⟩
  | 64 => ⟨S_, .f32⟩
  | 65 => ⟨S8192x3072, .f32⟩
  | 66 => ⟨S8192x3072, .f32⟩
  | 67 => ⟨S_, .f32⟩
  | 68 => ⟨S8192x3072, .f32⟩
  | 69 => ⟨S8192x3072, .f32⟩
  | 70 => ⟨S8192x3072, .f32⟩
  | 71 => ⟨S_, .f32⟩
  | 72 => ⟨S8192x3072, .f32⟩
  | 73 => ⟨S8192x3072, .f32⟩
  | 74 => ⟨S_, .f32⟩
  | 75 => ⟨S8192x3072, .f32⟩
  | 76 => ⟨S8192x3072, .f32⟩
  | 77 => ⟨S8192x3072, .f32⟩
  | 78 => ⟨S8192x3072, .f32⟩
  | 79 => ⟨S8192x1024, .f32⟩
  | 80 => ⟨S8192x3072, .f32⟩
  | 81 => ⟨S8192x3072, .f32⟩
  | 82 => ⟨S8192x3072, .f32⟩
  | 83 => ⟨S8192x3072, .f32⟩
  | 84 => ⟨S8192x3072, .f32⟩
  | 85 => ⟨S_, .f32⟩
  | 86 => ⟨S8192x3072, .f32⟩
  | 87 => ⟨S8192x3072, .f32⟩
  | 88 => ⟨S8192x3072, .f32⟩
  | 89 => ⟨S_, .f32⟩
  | 90 => ⟨S8192x3072, .f32⟩
  | 91 => ⟨S8192x3072, .f32⟩
  | 92 => ⟨S8192x3072, .f32⟩
  | 93 => ⟨S_, .f32⟩
  | 94 => ⟨S8192x3072, .f32⟩
  | 95 => ⟨S8192x3072, .f32⟩
  | 96 => ⟨S8192x3072, .f32⟩
  | 97 => ⟨S8192x3072, .f32⟩
  | 98 => ⟨S_, .f32⟩
  | 99 => ⟨S3072, .f32⟩
  | 100 => ⟨S1x3072, .f32⟩
  | 101 => ⟨S8192x3072, .f32⟩
  | 102 => ⟨S_, .f32⟩
  | 103 => ⟨S3072, .f32⟩
  | 104 => ⟨S1x3072, .f32⟩
  | 105 => ⟨S8192x3072, .f32⟩
  | 106 => ⟨S8192x3072, .f32⟩
  | 107 => ⟨S_, .f32⟩
  | 108 => ⟨S3x3072, .f32⟩
  | 109 => ⟨S_, .f32⟩
  | 110 => ⟨S8194x3072, .f32⟩
  | 111 => ⟨S8192x3072, .f32⟩
  | 112 => ⟨S_, .f32⟩
  | 113 => ⟨S3072, .f32⟩
  | 114 => ⟨S1x3072, .f32⟩
  | 115 => ⟨S8192x3072, .f32⟩
  | 116 => ⟨S8192x3072, .f32⟩
  | 117 => ⟨S_, .f32⟩
  | 118 => ⟨S3x3072, .f32⟩
  | 119 => ⟨S3x3072, .f32⟩
  | 120 => ⟨S_, .f32⟩
  | 121 => ⟨S8194x3072, .f32⟩
  | 122 => ⟨S8194x3072, .f32⟩
  | 123 => ⟨S8192x3072, .f32⟩
  | 124 => ⟨S_, .f32⟩
  | 125 => ⟨S3072, .f32⟩
  | 126 => ⟨S1x3072, .f32⟩
  | 127 => ⟨S8192x3072, .f32⟩
  | _ => ⟨S8192x1024, .f32⟩

abbrev hbmTy0_1 (i : Nat) : BufTy := match i % 128 with
  | 0 => ⟨S8192x3072, .f32⟩
  | 1 => ⟨S_, .f32⟩
  | 2 => ⟨S3x3072, .f32⟩
  | 3 => ⟨S3x3072, .f32⟩
  | 4 => ⟨S_, .f32⟩
  | 5 => ⟨S8194x3072, .f32⟩
  | 6 => ⟨S8194x3072, .f32⟩
  | 7 => ⟨S2x3072, .f32⟩
  | 8 => ⟨S8192x3072, .f32⟩
  | 9 => ⟨S8192x6144, .f32⟩
  | 10 => ⟨S8192x1024, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192, .f32⟩
  | 29 => ⟨S8192x1024, .f32⟩
  | 30 => ⟨S8192x1024, .f32⟩
  | 31 => ⟨S8192x1024, .f32⟩
  | 32 => ⟨S8192x1024, .f32⟩
  | 33 => ⟨S8192x1024, .f32⟩
  | 34 => ⟨S8192x2x2x1536, .f32⟩
  | 35 => ⟨S2x2x8192x1536, .f32⟩
  | 36 => ⟨S2x2x8192x1536, .bf16⟩
  | 37 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_16 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_cst_21 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_22 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_23 : Ref sig .tc := ⟨.hbm, 129, rfl⟩
abbrev main_v98 : Ref sig .tc := ⟨.hbm, 130, rfl⟩
abbrev main_v99 : Ref sig .tc := ⟨.hbm, 131, rfl⟩
abbrev main_cst_24 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_26 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_27 : Ref sig .tc := ⟨.hbm, 152, rfl⟩
abbrev main_v117 : Ref sig .tc := ⟨.hbm, 153, rfl⟩
abbrev main_v118 : Ref sig .tc := ⟨.hbm, 154, rfl⟩
abbrev main_cst_28 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩

abbrev nD : Nat := 1
abbrev τ : Topo := Topo.v7x

variable {F : FTy → Type} [FloatOps F]
-- ==== KernelAttn.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 30
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x1024, .f32⟩
  | .hbm, ⟨4, _⟩ => ⟨S256x2048, .f32⟩
  | .hbm, ⟨5, _⟩ => ⟨S1024x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .bf16⟩
  | .hbm, ⟨23, _⟩ => ⟨S1024x1024, .bf16⟩
  | .hbm, ⟨24, _⟩ => ⟨S256x2048, .bf16⟩
  | .hbm, ⟨25, _⟩ => ⟨S1024x1024, .bf16⟩
  | .hbm, ⟨26, _⟩ => ⟨S8192x1024, .bf16⟩
  | .hbm, ⟨27, _⟩ => ⟨S8192x1024, .f32⟩
  | .hbm, ⟨28, _⟩ => ⟨S256x2048, .f32⟩
  | .hbm, ⟨29, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x2048, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S256x2048, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17_0 : Ref sig .tc := ⟨.hbm, 26, rfl⟩
abbrev main_v17_1 : Ref sig .tc := ⟨.hbm, 27, rfl⟩
abbrev main_v17_2 : Ref sig .tc := ⟨.hbm, 28, rfl⟩
abbrev main_v17_3 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceAttnIdeal.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S8192x4x256 : Shape := ⟨3, ![8192, 4, 256]⟩
abbrev S256x1024 : Shape := ⟨2, ![256, 1024]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S1024 : Shape := ⟨1, ![1024]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x1024, .f32⟩
  | 4 => ⟨S256x2048, .f32⟩
  | 5 => ⟨S1024x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x4x256, .f32⟩
  | 27 => ⟨S256x1024, .f32⟩
  | 28 => ⟨S256x1024, .f32⟩
  | 29 => ⟨S256x4x256, .f32⟩
  | 30 => ⟨S256x4x256, .f32⟩
  | 31 => ⟨S4x8192x256, .f32⟩
  | 32 => ⟨S_, .f32⟩
  | 33 => ⟨S4x8192x256, .f32⟩
  | 34 => ⟨S4x8192x256, .f32⟩
  | 35 => ⟨S_, .f32⟩
  | 36 => ⟨S4x8192, .f32⟩
  | 37 => ⟨S4x8192x1, .f32⟩
  | 38 => ⟨S4x8192x256, .f32⟩
  | 39 => ⟨S4x8192x256, .i1⟩
  | 40 => ⟨S4x8192x256, .f32⟩
  | 41 => ⟨S_, .f32⟩
  | 42 => ⟨S4x8192, .f32⟩
  | 43 => ⟨S_, .f32⟩
  | 44 => ⟨S4x8192, .f32⟩
  | 45 => ⟨S4x8192, .f32⟩
  | 46 => ⟨S_, .f32⟩
  | 47 => ⟨S4x8192, .f32⟩
  | 48 => ⟨S4x8192, .i1⟩
  | 49 => ⟨S_, .f32⟩
  | 50 => ⟨S4x8192, .f32⟩
  | 51 => ⟨S4x8192, .i1⟩
  | 52 => ⟨S_, .f32⟩
  | 53 => ⟨S4x8192, .f32⟩
  | 54 => ⟨S_, .f32⟩
  | 55 => ⟨S4x8192, .f32⟩
  | 56 => ⟨S_, .f32⟩
  | 57 => ⟨S4x8192, .f32⟩
  | 58 => ⟨S4x8192, .f32⟩
  | 59 => ⟨S4x8192, .f32⟩
  | 60 => ⟨S4x8192x1, .f32⟩
  | 61 => ⟨S4x8192x256, .f32⟩
  | 62 => ⟨S4x8192x256, .f32⟩
  | 63 => ⟨S4x8192x256, .f32⟩
  | 64 => ⟨S_, .f32⟩
  | 65 => ⟨S4x8192, .f32⟩
  | 66 => ⟨S4x8192x1, .f32⟩
  | 67 => ⟨S4x8192x256, .f32⟩
  | 68 => ⟨S4x8192x256, .f32⟩
  | 69 => ⟨S4x8192x1, .f32⟩
  | 70 => ⟨S_, .f32⟩
  | 71 => ⟨S4x8192x1, .f32⟩
  | 72 => ⟨S4x8192x1, .f32⟩
  | 73 => ⟨S4x256x8192, .f32⟩
  | 74 => ⟨S8192x4x256, .f32⟩
  | 75 => ⟨S8192x1024, .f32⟩
  | 76 => ⟨S8192x1024, .f32⟩
  | 77 => ⟨S8192x1024, .f32⟩
  | 78 => ⟨S8192x4x256, .f32⟩
  | 79 => ⟨S4x256x8192, .f32⟩
  | 80 => ⟨S4x8192x256, .f32⟩
  | 81 => ⟨S4x256x256, .f32⟩
  | 82 => ⟨S256x4x256, .f32⟩
  | 83 => ⟨S4x8192x256, .f32⟩
  | 84 => ⟨S4x8192x256, .f32⟩
  | 85 => ⟨S4x8192x256, .f32⟩
  | 86 => ⟨S_, .f32⟩
  | 87 => ⟨S4x8192, .f32⟩
  | 88 => ⟨S4x8192x1, .f32⟩
  | 89 => ⟨S4x8192x1, .f32⟩
  | 90 => ⟨S4x8192x256, .f32⟩
  | 91 => ⟨S4x8192x256, .f32⟩
  | 92 => ⟨S_, .f32⟩
  | 93 => ⟨S4x8192, .f32⟩
  | 94 => ⟨S4x8192x256, .f32⟩
  | 95 => ⟨S4x8192x256, .f32⟩
  | 96 => ⟨S4x8192x256, .f32⟩
  | 97 => ⟨S_, .f32⟩
  | 98 => ⟨S4x8192x256, .f32⟩
  | 99 => ⟨S4x8192x256, .f32⟩
  | 100 => ⟨S4x256x256, .f32⟩
  | 101 => ⟨S256x4x256, .f32⟩
  | 102 => ⟨S4x8192x256, .f32⟩
  | 103 => ⟨S8192x4x256, .f32⟩
  | 104 => ⟨S256x1024, .f32⟩
  | 105 => ⟨S256x1024, .f32⟩
  | 106 => ⟨S256x2048, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1024, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .bf16⟩
  | 5 => ⟨S8192x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_19 : Ref sig .tc := ⟨.hbm, 122, rfl⟩
abbrev main_v96 : Ref sig .tc := ⟨.hbm, 123, rfl⟩
abbrev main_v97 : Ref sig .tc := ⟨.hbm, 124, rfl⟩
abbrev main_cst_20 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩

abbrev nD : Nat := 1
abbrev τ : Topo := Topo.v7x

variable {F : FTy → Type} [FloatOps F]
-- ==== KernelUp.lean ====
abbrev S8192x1024 : Shape := ⟨2, ![8192, 1024]⟩
abbrev S8192x6144 : Shape := ⟨2, ![8192, 6144]⟩
abbrev S1x8192x1024 : Shape := ⟨3, ![1, 8192, 1024]⟩
abbrev S8192x4x1536 : Shape := ⟨3, ![8192, 4, 1536]⟩
abbrev S4x8192x1536 : Shape := ⟨3, ![4, 8192, 1536]⟩
abbrev S4x1024x1536 : Shape := ⟨3, ![4, 1024, 1536]⟩
abbrev S1x2048x1024 : Shape := ⟨3, ![1, 2048, 1024]⟩
abbrev S1x2048x1536 : Shape := ⟨3, ![1, 2048, 1536]⟩
abbrev S1x1024x1536 : Shape := ⟨3, ![1, 1024, 1536]⟩
abbrev S1024x1536 : Shape := ⟨2, ![1024, 1536]⟩
abbrev S2048x1024 : Shape := ⟨2, ![2048, 1024]⟩
abbrev S2048x1536 : Shape := ⟨2, ![2048, 1536]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S1x8192x1024, .bf16⟩
  | .hbm, ⟨4, _⟩ => ⟨S8192x4x1536, .f32⟩
  | .hbm, ⟨5, _⟩ => ⟨S4x8192x1536, .f32⟩
  | .hbm, ⟨6, _⟩ => ⟨S4x8192x1536, .bf16⟩
  | .hbm, ⟨7, _⟩ => ⟨S4x1024x1536, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1x1024x1536, .bf16⟩
  | .local _ .vmem, ⟨5, _⟩ => ⟨S1x1024x1536, .bf16⟩
  | .local _ .vmem, ⟨6, _⟩ => ⟨S1x1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_12 : BitVec 32 := 0#32
  let v16 : BitVec 1 := Scalar.cmpi .ne v15 c0_i32_12
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceUpIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S6144x1024 : Shape := ⟨2, ![6144, 1024]⟩
abbrev S1024x4x1536 : Shape := ⟨3, ![1024, 4, 1536]⟩
abbrev S4x1024x1536 : Shape := ⟨3, ![4, 1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S8192x6144, .f32⟩
  | .hbm, ⟨5, _⟩ => ⟨S6144x1024, .f32⟩
  | .hbm, ⟨6, _⟩ => ⟨S1024x6144, .f32⟩
  | .hbm, ⟨7, _⟩ => ⟨S1024x4x1536, .f32⟩
  | .hbm, ⟨8, _⟩ => ⟨S4x1024x1536, .f32⟩
  | .hbm, ⟨9, _⟩ => ⟨S4x1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelDown.lean ====
abbrev S8192x3072 : Shape := ⟨2, ![8192, 3072]⟩
abbrev S8192x1024 : Shape := ⟨2, ![8192, 1024]⟩
abbrev S8192x2x1536 : Shape := ⟨3, ![8192, 2, 1536]⟩
abbrev S2x8192x1536 : Shape := ⟨3, ![2, 8192, 1536]⟩
abbrev S1x8192x1024 : Shape := ⟨3, ![1, 8192, 1024]⟩
abbrev S2x1536x1024 : Shape := ⟨3, ![2, 1536, 1024]⟩
abbrev S1x2048x1536 : Shape := ⟨3, ![1, 2048, 1536]⟩
abbrev S1x2048x1024 : Shape := ⟨3, ![1, 2048, 1024]⟩
abbrev S1x1536x1024 : Shape := ⟨3, ![1, 1536, 1024]⟩
abbrev S1536x1024 : Shape := ⟨2, ![1536, 1024]⟩
abbrev S2048x1536 : Shape := ⟨2, ![2048, 1536]⟩
abbrev S2048x1024 : Shape := ⟨2, ![2048, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S8192x2x1536, .f32⟩
  | .hbm, ⟨3, _⟩ => ⟨S2x8192x1536, .f32⟩
  | .hbm, ⟨4, _⟩ => ⟨S2x8192x1536, .bf16⟩
  | .hbm, ⟨5, _⟩ => ⟨S1x8192x1024, .f32⟩
  | .hbm, ⟨6, _⟩ => ⟨S2x1536x1024, .bf16⟩
  | .local _ .vmem, ⟨0, _⟩ => ⟨S1x2048x1536, .bf16⟩
  | .local _ .vmem, ⟨1, _⟩ => ⟨S1x2048x1536, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1536x1024, .bf16⟩
  | .local _ .vmem, ⟨5, _⟩ => ⟨S1x1536x1024, .bf16⟩
  | .local _ .vmem, ⟨6, _⟩ => ⟨S1x1536x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩
abbrev S2x1536x1024 : Shape := ⟨3, ![2, 1536, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x1024, .f32⟩
  | .hbm, ⟨2, _⟩ => ⟨S_, .f32⟩
  | .hbm, ⟨3, _⟩ => ⟨S3072x1024, .f32⟩
  | .hbm, ⟨4, _⟩ => ⟨S8192x1024, .f32⟩
  | .hbm, ⟨5, _⟩ => ⟨S1024x3072, .f32⟩
  | .hbm, ⟨6, _⟩ => ⟨S3072x1024, .f32⟩
  | .hbm, ⟨7, _⟩ => ⟨S2x1536x1024, .f32⟩
  | .hbm, ⟨8, _⟩ => ⟨S2x1536x1024, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S8192x1024 : Shape := ⟨2, ![8192, 1024]⟩
abbrev S8192x2048 : Shape := ⟨2, ![8192, 2048]⟩
abbrev S1x8192x1024 : Shape := ⟨3, ![1, 8192, 1024]⟩
abbrev S8192x4x512 : Shape := ⟨3, ![8192, 4, 512]⟩
abbrev S4x8192x512 : Shape := ⟨3, ![4, 8192, 512]⟩
abbrev S4x1024x512 : Shape := ⟨3, ![4, 1024, 512]⟩
abbrev S1x2048x1024 : Shape := ⟨3, ![1, 2048, 1024]⟩
abbrev S4x2048x512 : Shape := ⟨3, ![4, 2048, 512]⟩
abbrev S1x1024x512 : Shape := ⟨3, ![1, 1024, 512]⟩
abbrev S1024x512 : Shape := ⟨2, ![1024, 512]⟩
abbrev S2048x1024 : Shape := ⟨2, ![2048, 1024]⟩
abbrev S1x2048x512 : Shape := ⟨3, ![1, 2048, 512]⟩
abbrev S2048x512 : Shape := ⟨2, ![2048, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S1x8192x1024, .bf16⟩
  | .hbm, ⟨4, _⟩ => ⟨S8192x4x512, .f32⟩
  | .hbm, ⟨5, _⟩ => ⟨S4x8192x512, .f32⟩
  | .hbm, ⟨6, _⟩ => ⟨S4x8192x512, .bf16⟩
  | .hbm, ⟨7, _⟩ => ⟨S4x1024x512, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S4x2048x512, .bf16⟩
  | .local _ .vmem, ⟨3, _⟩ => ⟨S4x2048x512, .bf16⟩
  | .local _ .vmem, ⟨4, _⟩ => ⟨S4x1024x512, .bf16⟩
  | .local _ .vmem, ⟨5, _⟩ => ⟨S4x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v47 : BitVec 1 := Scalar.cmpi .eq arg1 c3_i32
  let v48 : BitVec 32 := Scalar.extui v47
  let c0_i32_48 : BitVec 32 := 0#32
  let v49 : BitVec 1 := Scalar.cmpi .ne v48 c0_i32_48
  v49

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceInIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x4x512, .f32⟩
  | .hbm, ⟨8, _⟩ => ⟨S4x1024x512, .f32⟩
  | .hbm, ⟨9, _⟩ => ⟨S4x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelO.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1x8192x1024, .bf16⟩
  | .hbm, ⟨4, _⟩ => ⟨S1x8192x1024, .f32⟩
  | .hbm, ⟨5, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024x1024, .bf16⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceOIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelQ.lean ====
abbrev S8192x1024 : Shape := ⟨2, ![8192, 1024]⟩
abbrev S1x8192x1024 : Shape := ⟨3, ![1, 8192, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1x8192x1024, .bf16⟩
  | .hbm, ⟨4, _⟩ => ⟨S8192x1024, .bf16⟩
  | .hbm, ⟨5, _⟩ => ⟨S1x8192x1024, .bf16⟩
  | .hbm, ⟨6, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_12 : BitVec 32 := 0#32
  let v16 : BitVec 1 := Scalar.cmpi .ne v15 c0_i32_12
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceQIdeal.lean ====
abbrev S8192x1024 : Shape := ⟨2, ![8192, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOut.lean ====
abbrev S8192x512 : Shape := ⟨2, ![8192, 512]⟩
abbrev S8192x1024 : Shape := ⟨2, ![8192, 1024]⟩
abbrev S1x8192x512 : Shape := ⟨3, ![1, 8192, 512]⟩
abbrev S1x8192x1024 : Shape := ⟨3, ![1, 8192, 1024]⟩
abbrev S1x512x1024 : Shape := ⟨3, ![1, 512, 1024]⟩
abbrev S1x2048x512 : Shape := ⟨3, ![1, 2048, 512]⟩
abbrev S1x2048x1024 : Shape := ⟨3, ![1, 2048, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S8192x512, .bf16⟩
  | .hbm, ⟨3, _⟩ => ⟨S1x8192x512, .bf16⟩
  | .hbm, ⟨4, _⟩ => ⟨S1x8192x1024, .f32⟩
  | .hbm, ⟨5, _⟩ => ⟨S1x512x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x512x1024, .bf16⟩
  | .local _ .vmem, ⟨5, _⟩ => ⟨S1x512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceOutIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S1x512x1024 : Shape := ⟨3, ![1, 512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .f32⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S1024x512, .f32⟩
  | .hbm, ⟨6, _⟩ => ⟨S512x1024, .f32⟩
  | .hbm, ⟨7, _⟩ => ⟨S1x512x1024, .f32⟩
  | .hbm, ⟨8, _⟩ => ⟨S1x512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelMix.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S8192x4x512 : Shape := ⟨3, ![8192, 4, 512]⟩
abbrev S4x8192x512 : Shape := ⟨3, ![4, 8192, 512]⟩
abbrev S1024x4x512 : Shape := ⟨3, ![1024, 4, 512]⟩
abbrev S4x1024x512 : Shape := ⟨3, ![4, 1024, 512]⟩
abbrev S4x512x512 : Shape := ⟨3, ![4, 512, 512]⟩
abbrev S512x1024 : Shape := ⟨2, ![512, 1024]⟩
abbrev S1x256x512 : Shape := ⟨3, ![1, 256, 512]⟩
abbrev S256x512 : Shape := ⟨2, ![256, 512]⟩
abbrev S1x1024x512 : Shape := ⟨3, ![1, 1024, 512]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S1024x2048, .f32⟩
  | .hbm, ⟨4, _⟩ => ⟨S8192x1024, .f32⟩
  | .hbm, ⟨5, _⟩ => ⟨S8192x4x512, .f32⟩
  | .hbm, ⟨6, _⟩ => ⟨S4x8192x512, .f32⟩
  | .hbm, ⟨7, _⟩ => ⟨S4x8192x512, .bf16⟩
  | .hbm, ⟨8, _⟩ => ⟨S1024x4x512, .f32⟩
  | .hbm, ⟨9, _⟩ => ⟨S4x1024x512, .f32⟩
  | .hbm, ⟨10, _⟩ => ⟨S4x1024x512, .bf16⟩
  | .hbm, ⟨11, _⟩ => ⟨S8192x1024, .f32⟩
  | .hbm, ⟨12, _⟩ => ⟨S1x1024, .f32⟩
  | .local _ .vmem, ⟨0, _⟩ => ⟨S4x512x512, .bf16⟩
  | .local _ .vmem, ⟨1, _⟩ => ⟨S4x512x512, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceMixIdeal.lean ====
abbrev S8192x2048 : Shape := ⟨2, ![8192, 2048]⟩
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S1024x2048, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2048, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== KernelKv.lean ====
abbrev S256x2048 : Shape := ⟨2, ![256, 2048]⟩
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1024x4x512 : Shape := ⟨3, ![1024, 4, 512]⟩
abbrev S4x1024x512 : Shape := ⟨3, ![4, 1024, 512]⟩
abbrev S256x512 : Shape := ⟨2, ![256, 512]⟩
abbrev S1024x512 : Shape := ⟨2, ![1024, 512]⟩
abbrev S1x1024x512 : Shape := ⟨3, ![1, 1024, 512]⟩
abbrev S1024 : Shape := ⟨1, ![1024]⟩

abbrev nBuf : Space → Nat
  | .hbm => 25
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1x1024, .f32⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S1024x4x512, .f32⟩
  | .hbm, ⟨21, _⟩ => ⟨S4x1024x512, .f32⟩
  | .hbm, ⟨22, _⟩ => ⟨S4x1024x512, .bf16⟩
  | .hbm, ⟨23, _⟩ => ⟨S4x1024x512, .bf16⟩
  | .hbm, ⟨24, _⟩ => ⟨S1x1024, .f32⟩
  | .local _ .vmem, ⟨0, _⟩ => ⟨S256x2048, .f32⟩
  | .local _ .vmem, ⟨1, _⟩ => ⟨S4x1024x512, .bf16⟩
  | .local _ .vmem, ⟨2, _⟩ => ⟨S256x1024, .f32⟩
  | .local _ .vmem, ⟨3, _⟩ => ⟨S256x1024, .bf16⟩
  | .local _ .vmem, ⟨4, _⟩ => ⟨S4x1024x512, .bf16⟩
  | .local _ .vmem, ⟨5, _⟩ => ⟨S1x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceKvIdeal.lean ====
abbrev S256x2048 : Shape := ⟨2, ![256, 2048]⟩
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024 : Shape := ⟨1, ![1024]⟩
abbrev S1024x4x512 : Shape := ⟨3, ![1024, 4, 512]⟩
abbrev S4x1024x512 : Shape := ⟨3, ![4, 1024, 512]⟩

abbrev nBuf : Space → Nat
  | .hbm => 30
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S1x1024, .f32⟩
  | .hbm, ⟨3, _⟩ => ⟨S1024x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S2048x1024, .f32⟩
  | .hbm, ⟨21, _⟩ => ⟨S1024x2048, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x4x512, .f32⟩
  | .hbm, ⟨28, _⟩ => ⟨S4x1024x512, .f32⟩
  | .hbm, ⟨29, _⟩ => ⟨S4x1024x512, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== KernelFwd.lean ====
abbrev S8192x1024 : Shape := ⟨2, ![8192, 1024]⟩
abbrev S1x1024 : Shape := ⟨2, ![1, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S_ : Shape := ⟨0, ![]⟩
abbrev S8192 : Shape := ⟨1, ![8192]⟩
abbrev S8192x1 : Shape := ⟨2, ![8192, 1]⟩
abbrev S4x768x1024 : Shape := ⟨3, ![4, 768, 1024]⟩
abbrev S1024x4x1536 : Shape := ⟨3, ![1024, 4, 1536]⟩
abbrev S4x1024x1536 : Shape := ⟨3, ![4, 1024, 1536]⟩
abbrev S2x1536x1024 : Shape := ⟨3, ![2, 1536, 1024]⟩
abbrev S2x2x8192x1536 : Shape := ⟨4, ![2, 2, 8192, 1536]⟩
abbrev S2x8192x1536 : Shape := ⟨3, ![2, 8192, 1536]⟩
abbrev S256x1024 : Shape := ⟨2, ![256, 1024]⟩
abbrev S2x2x256x1536 : Shape := ⟨4, ![2, 2, 256, 1536]⟩
abbrev S2x256x1536 : Shape := ⟨3, ![2, 256, 1536]⟩
abbrev S2x264x1536 : Shape := ⟨3, ![2, 264, 1536]⟩
abbrev S1x1024x1536 : Shape := ⟨3, ![1, 1024, 1536]⟩
abbrev S1024x1536 : Shape := ⟨2, ![1024, 1536]⟩
abbrev S256x1536 : Shape := ⟨2, ![256, 1536]⟩
abbrev S1x1x256x1536 : Shape := ⟨4, ![1, 1, 256, 1536]⟩
abbrev S1x256x1536 : Shape := ⟨3, ![1, 256, 1536]⟩
abbrev S1x264x1536 : Shape := ⟨3, ![1, 264, 1536]⟩
abbrev S264x1536 : Shape := ⟨2, ![264, 1536]⟩
abbrev S1x1536 : Shape := ⟨2, ![1, 1536]⟩
abbrev S1x8x1536 : Shape := ⟨3, ![1, 8, 1536]⟩
abbrev S8x1536 : Shape := ⟨2, ![8, 1536]⟩
abbrev S1x1536x1024 : Shape := ⟨3, ![1, 1536, 1024]⟩
abbrev S1536x1024 : Shape := ⟨2, ![1536, 1024]⟩
abbrev S256 : Shape := ⟨1, ![256]⟩
abbrev S256x1 : Shape := ⟨2, ![256, 1]⟩
abbrev S1024 : Shape := ⟨1, ![1024]⟩

abbrev nBuf : Space → Nat
  | .hbm => 35
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x6144, .f32⟩
  | .hbm, ⟨4, _⟩ => ⟨S3x3072, .f32⟩
  | .hbm, ⟨5, _⟩ => ⟨S1x3072, .f32⟩
  | .hbm, ⟨6, _⟩ => ⟨S3072x1024, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | .hbm, ⟨24, _⟩ => ⟨S4x768x1024, .f32⟩
  | .hbm, ⟨25, _⟩ => ⟨S4x768x1024, .bf16⟩
  | .hbm, ⟨26, _⟩ => ⟨S1024x4x1536, .f32⟩
  | .hbm, ⟨27, _⟩ => ⟨S4x1024x1536, .f32⟩
  | .hbm, ⟨28, _⟩ => ⟨S4x1024x1536, .bf16⟩
  | .hbm, ⟨29, _⟩ => ⟨S2x1536x1024, .bf16⟩
  | .hbm, ⟨30, _⟩ => ⟨S2x2x8192x1536, .f32⟩
  | .hbm, ⟨31, _⟩ => ⟨S2x8192x1536, .bf16⟩
  | .hbm, ⟨32, _⟩ => ⟨S8192x1024, .f32⟩
  | .hbm, ⟨33, _⟩ => ⟨S1x1024, .f32⟩
  | .hbm, ⟨34, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S4x1024x1536, .bf16⟩
  | .local _ .vmem, ⟨3, _⟩ => ⟨S3x3072, .f32⟩
  | .local _ .vmem, ⟨4, _⟩ => ⟨S1x3072, .f32⟩
  | .local _ .vmem, ⟨5, _⟩ => ⟨S2x1536x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S2x2x256x1536, .f32⟩
  | .local _ .vmem, ⟨12, _⟩ => ⟨S2x2x256x1536, .f32⟩
  | .local _ .vmem, ⟨13, _⟩ => ⟨S2x256x1536, .bf16⟩
  | .local _ .vmem, ⟨14, _⟩ => ⟨S2x256x1536, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S2x264x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v19_3 : Ref sig .tc := ⟨.hbm, 33, rfl⟩
abbrev main_v19_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelFwdIdeal.lean ====
variable {F : FTy → Type} [FloatOps F] [Named F]
def κ : String → Option EReal := fun
  | "gelu_ck" => some ((80338380498831 / 2251799813685248 : ℝ) : EReal)
  | _ => none
-- ==== ReferenceFwdIdeal.lean ====
abbrev S8192x1024 : Shape := ⟨2, ![8192, 1024]⟩
abbrev S1x1024 : Shape := ⟨2, ![1, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x3072 : Shape := ⟨2, ![8192, 3072]⟩
abbrev S2x3072 : Shape := ⟨2, ![2, 3072]⟩
abbrev S8194x3072 : Shape := ⟨2, ![8194, 3072]⟩
abbrev S1024 : Shape := ⟨1, ![1024]⟩
abbrev S8192x2x2x1536 : Shape := ⟨4, ![8192, 2, 2, 1536]⟩
abbrev S2x2x8192x1536 : Shape := ⟨4, ![2, 2, 8192, 1536]⟩
abbrev S8192x2x1536 : Shape := ⟨3, ![8192, 2, 1536]⟩
abbrev S2x8192x1536 : Shape := ⟨3, ![2, 8192, 1536]⟩

abbrev nBuf : Space → Nat
  | .hbm => 137
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1024x6144, .f32⟩
  | 4 => ⟨S3x3072, .f32⟩
  | 5 => ⟨S1x3072, .f32⟩
  | 6 => ⟨S3072x1024, .f32⟩
  | 7 => ⟨S1x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1024, .f32⟩
  | 20 => ⟨S8192x1024, .f32⟩
  | 21 => ⟨S8192x1024, .f32⟩
  | 22 => ⟨S8192x1024, .f32⟩
  | 23 => ⟨S8192x6144, .f32⟩
  | 24 => ⟨S8192x3072, .f32⟩
  | 25 => ⟨S8192x3072, .f32⟩
  | 26 => ⟨S_, .f32⟩
  | 27 => ⟨S2x3072, .f32⟩
  | 28 => ⟨S8194x3072, .f32⟩
  | 29 => ⟨S8192x3072, .f32⟩
  | 30 => ⟨S1x3072, .f32⟩
  | 31 => ⟨S8192x3072, .f32⟩
  | 32 => ⟨S8192x3072, .f32⟩
  | 33 => ⟨S8192x3072, .f32⟩
  | 34 => ⟨S1x3072, .f32⟩
  | 35 => ⟨S8192x3072, .f32⟩
  | 36 => ⟨S8192x3072, .f32⟩
  | 37 => ⟨S8192x3072, .f32⟩
  | 38 => ⟨S8192x3072, .f32⟩
  | 39 => ⟨S1x3072, .f32⟩
  | 40 => ⟨S8192x3072, .f32⟩
  | 41 => ⟨S8192x3072, .f32⟩
  | 42 => ⟨S8192x3072, .f32⟩
  | 43 => ⟨S8192x3072, .f32⟩
  | 44 => ⟨S8192x3072, .f32⟩
  | 45 => ⟨S8192x3072, .f32⟩
  | 46 => ⟨S8192x3072, .f32⟩
  | 47 => ⟨S_, .f32⟩
  | 48 => ⟨S8192x3072, .f32⟩
  | 49 => ⟨S8192x3072, .f32⟩
  | 50 => ⟨S8192x3072, .f32⟩
  | 51 => ⟨S_, .f32⟩
  | 52 => ⟨S8192x3072, .f32⟩
  | 53 => ⟨S8192x3072, .f32⟩
  | 54 => ⟨S8192x3072, .f32⟩
  | 55 => ⟨S_, .f32⟩
  | 56 => ⟨S8192x3072, .f32⟩
  | 57 => ⟨S8192x3072, .f32⟩
  | 58 => ⟨S_, .f32⟩
  | 59 => ⟨S8192x3072, .f32⟩
  | 60 => ⟨S8192x3072, .f32⟩
  | 61 => ⟨S8192x3072, .f32⟩
  | 62 => ⟨S8192x3072, .f32⟩
  | 63 => ⟨S8192x1024, .f32⟩
  | 64 => ⟨S8192x1024, .f32⟩
  | 65 => ⟨S8192x1024, .f32⟩
  | 66 => ⟨S_, .f32⟩
  | 67 => ⟨S8192, .f32⟩
  | 68 => ⟨S8192x1, .f32⟩
  | 69 => ⟨S_, .f32⟩
  | 70 => ⟨S8192x1, .f32⟩
  | 71 => ⟨S8192x1, .f32⟩
  | 72 => ⟨S_, .f32⟩
  | 73 => ⟨S8192x1, .f32⟩
  | 74 => ⟨S8192x1, .f32⟩
  | 75 => ⟨S8192x1, .f32⟩
  | 76 => ⟨S8192x1, .f32⟩
  | 77 => ⟨S_, .f32⟩
  | 78 => ⟨S8192x1, .f32⟩
  | 79 => ⟨S8192x1, .f32⟩
  | 80 => ⟨S8192x1024, .f32⟩
  | 81 => ⟨S8192x1024, .f32⟩
  | 82 => ⟨S8192x1024, .f32⟩
  | 83 => ⟨S8192x1024, .f32⟩
  | 84 => ⟨S8192x1024, .f32⟩
  | 85 => ⟨S8192x1024, .f32⟩
  | 86 => ⟨S_, .f32⟩
  | 87 => ⟨S1024, .f32⟩
  | 88 => ⟨S1x1024, .f32⟩
  | 89 => ⟨S_, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S_, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S_, .f32⟩
  | 104 => ⟨S1024, .f32⟩
  | 105 => ⟨S8192x1024, .f32⟩
  | 106 => ⟨S8192x1024, .f32⟩
  | 107 => ⟨S8192x1024, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1024, .f32⟩
  | 121 => ⟨S8192x1, .f32⟩
  | 122 => ⟨S_, .f32⟩
  | 123 => ⟨S8192x1, .f32⟩
  | 124 => ⟨S8192x1, .f32⟩
  | 125 => ⟨S_, .f32⟩
  | 126 => ⟨S8192, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x2x2x1536, .f32⟩
  | 5 => ⟨S2x2x8192x1536, .f32⟩
  | 6 => ⟨S8192x2x1536, .f32⟩
  | 7 => ⟨S2x8192x1536, .f32⟩
  | 8 => ⟨S2x8192x1536, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_cst_12 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_cst_14 : Ref sig .tc := ⟨.hbm, 95, rfl⟩
abbrev main_v72 : Ref sig .tc := ⟨.hbm, 96, rfl⟩
abbrev main_cst_15 : Ref sig .tc := ⟨.hbm, 97, rfl⟩
abbrev main_v73 : Ref sig .tc := ⟨.hbm, 98, rfl⟩
abbrev main_v74 : Ref sig .tc := ⟨.hbm, 99, rfl⟩
abbrev main_cst_16 : Ref sig .tc := ⟨.hbm, 100, rfl⟩
abbrev main_v75 : Ref sig .tc := ⟨.hbm, 101, rfl⟩
abbrev main_v76 : Ref sig .tc := ⟨.hbm, 102, rfl⟩
abbrev main_cst_17 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_18 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_19 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_20 : Ref sig .tc := ⟨.hbm, 122, rfl⟩
abbrev main_v93 : Ref sig .tc := ⟨.hbm, 123, rfl⟩
abbrev main_v94 : Ref sig .tc := ⟨.hbm, 124, rfl⟩
abbrev main_cst_21 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩

abbrev nD : Nat := 1
abbrev τ : Topo := Topo.v7x

variable {F : FTy → Type} [FloatOps F]
-- ==== KernelProj.lean ====
abbrev S8192x1024 : Shape := ⟨2, ![8192, 1024]⟩
abbrev S1x1024 : Shape := ⟨2, ![1, 1024]⟩
abbrev S1024x2048 : Shape := ⟨2, ![1024, 2048]⟩
abbrev S1024x4x512 : Shape := ⟨3, ![1024, 4, 512]⟩
abbrev S4x1024x512 : Shape := ⟨3, ![4, 1024, 512]⟩
abbrev S4x8192x512 : Shape := ⟨3, ![4, 8192, 512]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S1x1024x512 : Shape := ⟨3, ![1, 1024, 512]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1024x4x512, .f32⟩
  | .hbm, ⟨4, _⟩ => ⟨S4x1024x512, .f32⟩
  | .hbm, ⟨5, _⟩ => ⟨S4x1024x512, .bf16⟩
  | .hbm, ⟨6, _⟩ => ⟨S4x8192x512, .f32⟩
  | .hbm, ⟨7, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x512, .bf16⟩
  | .local _ .vmem, ⟨4, _⟩ => ⟨S4x1024x512, .f32⟩
  | .local _ .vmem, ⟨5, _⟩ => ⟨S4x1024x512, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceProjIdeal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x4x512 : Shape := ⟨3, ![8192, 4, 512]⟩
abbrev S4x8192x512 : Shape := ⟨3, ![4, 8192, 512]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2048, .f32⟩
  | .hbm, ⟨19, _⟩ => ⟨S8192x4x512, .f32⟩
  | .hbm, ⟨20, _⟩ => ⟨S4x8192x512, .f32⟩
  | .hbm, ⟨21, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelJoin.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S2x512x1024 : Shape := ⟨3, ![2, 512, 1024]⟩
abbrev S1024x512 : Shape := ⟨2, ![1024, 512]⟩
abbrev S512x512 : Shape := ⟨2, ![512, 512]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S8192x512, .bf16⟩
  | .hbm, ⟨7, _⟩ => ⟨S8192x512, .bf16⟩
  | .hbm, ⟨8, _⟩ => ⟨S2x512x1024, .f32⟩
  | .hbm, ⟨9, _⟩ => ⟨S2x512x1024, .bf16⟩
  | .hbm, ⟨10, _⟩ => ⟨S1024x1024, .bf16⟩
  | .hbm, ⟨11, _⟩ => ⟨S8192x1024, .f32⟩
  | .hbm, ⟨12, _⟩ => ⟨S8192x1024, .bf16⟩
  | .hbm, ⟨13, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S2x512x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceJoinIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proof.Ffn.Frame.lean ====
module

public import proofs.«01_k».proof.Proof.Gen.KernelIdeal.Frame.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 9 tile its block (4 stores of `S1x1x256x1536`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (y : S2x2x256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1 S1x1x256x1536.size (by sl_kernel_rfl) y

/-- What case A leaves in output 9's staging buffer: its pieces read back over junk. -/
def out0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) : Vec F S2x2x256x1536 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).1)

/-- Case A's pieces for output 10 tile its block (1 store of `S256x1024`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1 S256x1024.size (by sl_kernel_rfl) y

/-- What case A leaves in output 10's staging buffer: its pieces read back over junk. -/
def out0_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) : Vec F S256x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.1)

/-- Case A's pieces for output 11 tile its block (2 stores of `S1x1024`, checked by the kernel's evaluation: Lib/Ring.lean `Piece.tiledL`, linear in the pieces, through a loop's `@[irreducible]` trip theorem too), so they cover it. -/
theorem cover0_A_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (y : S1x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1 S1x1024.size (by sl_kernel_rfl) y

/-- What case A leaves in output 11's staging buffer: its pieces read back over junk. -/
def out0_A_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) : Vec F S1x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.1)

/-- Case A's pieces for output 12 are of SEVERAL sizes (7 stores of `S1x1536`, `S3x3072`): cut into blocks of `![1, 1536]` they tile its block (checked by the kernel's evaluation: Lib/Ring.lean `Piece.tiledBy`), so they cover it. -/
theorem cover0_A_12 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (y : S3x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1 ![1, 1536] (by sl_kernel_rfl) y

/-- What case A leaves in output 12's staging buffer: its pieces read back over junk. -/
def out0_A_12 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) : Vec F S3x3072 .f32 :=
  VO0_12.read (Elt F) (VO0_12.writes (Elt F) VO0_12.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.1)

/-- Case A's pieces for output 13 are of SEVERAL sizes (3 stores of `S1x1536`, `S1x3072`): cut into blocks of `![1, 1536]` they tile its block (checked by the kernel's evaluation: Lib/Ring.lean `Piece.tiledBy`), so they cover it. -/
theorem cover0_A_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (y : S1x3072.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1 ![1, 1536] (by sl_kernel_rfl) y

/-- What case A leaves in output 13's staging buffer: its pieces read back over junk. -/
def out0_A_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) : Vec F S1x3072 .f32 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.1)

/-- Case A's pieces for scratch `arg16`, which the kernel carries between points, cover it: one of them a store of the WHOLE buffer (Lib/Ring.lean `sl_whole_mem`). -/
theorem scover0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (y : S2x264x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1 (by sl_whole_mem) y

/-- What case A leaves in scratch `arg16`: its pieces read back over junk. -/
def sout0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) : Vec F S2x264x1536 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8).2.2.2.2.2.1)

/-- Case B's pieces for output 9 tile its block (4 stores of `S1x1x256x1536`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) (y : S2x2x256x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).1 S1x1x256x1536.size (by sl_kernel_rfl) y

/-- What case B leaves in output 9's staging buffer: its pieces read back over junk. -/
def out0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) : Vec F S2x2x256x1536 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).1)

/-- Case B's pieces for output 10 tile its block (1 store of `S256x1024`, checked by the kernel's evaluation: Lib/Ring.lean `Piece.tiledL`, linear in the pieces, through a loop's `@[irreducible]` trip theorem too), so they cover it. -/
theorem cover0_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.1 S256x1024.size (by sl_kernel_rfl) y

/-- What case B leaves in output 10's staging buffer: its pieces read back over junk. -/
def out0_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) : Vec F S256x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.1)

/-- Case B's pieces for output 11 tile its block (1 store of `S1x1024`, checked by the kernel's evaluation: Lib/Ring.lean `Piece.tiledL`, linear in the pieces, through a loop's `@[irreducible]` trip theorem too), so they cover it. -/
theorem cover0_B_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) (y : S1x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.1 S1x1024.size (by sl_kernel_rfl) y

/-- What case B leaves in output 11's staging buffer: its pieces read back over junk. -/
def out0_B_11 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) : Vec F S1x1024 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.1)

/-- Case B's pieces for output 12 tile its block (6 stores of `S1x1536`, checked by the kernel's evaluation: Lib/Ring.lean `Piece.tiledL`, linear in the pieces, through a loop's `@[irreducible]` trip theorem too), so they cover it. -/
theorem cover0_B_12 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) (y : S3x3072.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.1 S1x1536.size (by sl_kernel_rfl) y

/-- What case B leaves in output 12's staging buffer: its pieces read back over junk. -/
def out0_B_12 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) : Vec F S3x3072 .f32 :=
  VO0_12.read (Elt F) (VO0_12.writes (Elt F) VO0_12.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.1)

/-- Case B's pieces for output 13 tile its block (2 stores of `S1x1536`, checked by the kernel's evaluation: Lib/Ring.lean `Piece.tiledL`, linear in the pieces, through a loop's `@[irreducible]` trip theorem too), so they cover it. -/
theorem cover0_B_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) (y : S1x3072.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.2.1 S1x1536.size (by sl_kernel_rfl) y

/-- What case B leaves in output 13's staging buffer: its pieces read back over junk. -/
def out0_B_13 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) : Vec F S1x3072 .f32 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.2.1)

/-- Case B's pieces for scratch `arg16`, which the kernel carries between points, cover it: 4 pieces (stores and landed copies) of several sizes (`S1x256x1536`, `S1x8x1536`) tiling it when cut into blocks of `![1, 8, 1536]` (Lib/Ring.lean `Piece.tiledBy`). -/
theorem scover0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) (y : S2x264x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.2.2.1, y ∈ pc.1.set :=
  View.cover_of_tiledBy (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.2.2.1 ![1, 8, 1536] (by sl_kernel_rfl) y

/-- What case B leaves in scratch `arg16`: its pieces read back over junk. -/
def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S2x1536x1024 .bf16) (harg4 : arg4.IsWhole) (arg5 : Memref sig .tc .vmem S4x1024x1536 .bf16) (harg5 : arg5.IsWhole) (arg6 : Memref sig .tc .vmem S2x2x256x1536 .f32) (harg6 : arg6.IsWhole) (arg7 : Memref sig .tc .vmem S1x2x8x1536 .f32) (harg7 : arg7.IsWhole) (arg8 : Memref sig .tc .vmem S3x3072 .f32) (harg8 : arg8.IsWhole) (arg9 : Memref sig .tc .vmem S1x3072 .f32) (harg9 : arg9.IsWhole) (arg10 : Memref sig .tc .vmem S2x2x256x1536 .bf16) (harg10 : arg10.IsWhole) (arg11 : Memref sig .tc .vmem S256x1024 .f32) (harg11 : arg11.IsWhole) (arg12 : Memref sig .tc .vmem S1x1024 .f32) (harg12 : arg12.IsWhole) (arg13 : Memref sig .tc .vmem S3x3072 .f32) (harg13 : arg13.IsWhole) (arg14 : Memref sig .tc .vmem S1x3072 .f32) (harg14 : arg14.IsWhole) (arg15 : Memref sig .tc .vmem S264x1536 .f32) (harg15 : arg15.IsWhole) (arg16 : Memref sig .tc .vmem S2x264x1536 .f32) (harg16 : arg16.IsWhole) (hc0 : ¬cond0_0 i)
    (x0 : Vec F S256x1024 .f32) (x1 : Vec F S256x1024 .f32) (x2 : Vec F S1x1024 .f32) (x3 : Vec F S2x1536x1024 .bf16) (x4 : Vec F S4x1024x1536 .bf16) (x5 : Vec F S2x2x256x1536 .f32) (x6 : Vec F S1x2x8x1536 .f32) (x7 : Vec F S3x3072 .f32) (x8 : Vec F S1x3072 .f32) (xo11 : Vec F S1x1024 .f32) (xo12 : Vec F S3x3072 .f32) (xo13 : Vec F S1x3072 .f32) (xs1 : Vec F S2x264x1536 .f32) : Vec F S2x264x1536 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xo11 xo12 xo13 xs1).2.2.2.2.2.1)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2x2x256x1536 .bf16 × Vec F S256x1024 .f32 × Vec F S1x1024 .f32 × Vec F S3x3072 .f32 × Vec F S1x3072 .f32 × Vec F S2x264x1536 .f32
  | 0, hn => (out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 32 = 0 then
      (out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2.1 (outsAt0 c n (Nat.lt_of_succ_lt hn)).2.2.2.2.1 (outsAt0 c n (Nat.lt_of_succ_lt hn)).2.2.2.2.2)

set_option maxHeartbeats 4000000 in
/-- `outsAt0` at a point of case A: that case's contents. -/
theorem outsAt0_A (c : Dev nD) (t : Fin cfg0.N) (h0 : t.val % 32 = 0) :
    outsAt0 m c t.val t.isLt = (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

set_option maxHeartbeats 4000000 in
/-- `outsAt0` at a point of case B: that case's contents, over what the point before left. -/
theorem outsAt0_B (c : Dev nD) (t : Fin cfg0.N) (h0 : ¬t.val % 32 = 0) :
    outsAt0 m c t.val t.isLt = (out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((outsAt0 m c n hn).2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare ((outsAt0 m c n hn).2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare ((outsAt0 m c (n - 1) (by omega)).2.2.2.2.2)) ∗ (∃ r, prngReg c r)) := by
  cases n with
  | zero => exact absurd rfl hz
  | succ n => rfl

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
    | ⟨12, _⟩ => (outsAt0 m c t.val t.isLt).2.2.2.1
    | ⟨13, _⟩ => (outsAt0 m c t.val t.isLt).2.2.2.2.1
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = (outsAt0 m c t.val t.isLt).1 := by dsimp only [dats]
theorem after0_10 (c : Dev nD) (t : Fin cfg0.N) : (dats m 0 c).after 10 t = (outsAt0 m c t.val t.isLt).2.1 := by dsimp only [dats]
theorem after0_11 (c : Dev nD) (t : Fin cfg0.N) : (dats m 0 c).after 11 t = (outsAt0 m c t.val t.isLt).2.2.1 := by dsimp only [dats]
theorem after0_12 (c : Dev nD) (t : Fin cfg0.N) : (dats m 0 c).after 12 t = (outsAt0 m c t.val t.isLt).2.2.2.1 := by dsimp only [dats]
theorem after0_13 (c : Dev nD) (t : Fin cfg0.N) : (dats m 0 c).after 13 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
/-- At a point of case B output 11's current staging buffer holds what the body left at the point before: the point is
    not the first, the buffer was not written back between (`flush0_11`), the window is live and uncut (Lib/Pipeline/Frame.lean
    `Dat.before_out_kept`). -/
theorem before0_11_B (c : Dev nD) (t : Fin cfg0.N) (h0 : ¬t.val % 32 = 0) (d) :
    (dats m 0 c).before 11 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 11 rfl t (by omega) (Bool.eq_false_iff.mpr fun h => by have := (flush0_11 _).mp h; dsimp only at this; omega)
    (fun _ => rfl) (fun _ _ => rfl)]
  dsimp only [dats]
/-- At a point of case B output 12's current staging buffer holds what the body left at the point before: the point is
    not the first, the buffer was not written back between (`flush0_12`), the window is live and uncut (Lib/Pipeline/Frame.lean
    `Dat.before_out_kept`). -/
theorem before0_12_B (c : Dev nD) (t : Fin cfg0.N) (h0 : ¬t.val % 32 = 0) (d) :
    (dats m 0 c).before 12 t d = (outsAt0 m c (t.val - 1) (Nat.lt_of_le_of_lt (Nat.sub_le _ _) t.isLt)).2.2.2.1 := by
  have hN : t.val < 32 := lt_of_lt_of_eq t.isLt (show cfg0.N = 32 from N_0)
  rw [Dat.before_out_kept _ 12 rfl t (by omega) (Bool.eq_false_iff.mpr fun h => by have := (flush0_12 _).mp h; dsimp only at this; omega)
    (fun _ => rfl) (fun _ _ => rfl)]
  dsimp only [dats]
/-- At a point of case B output 13's current staging buffer holds what the body left at the point before: the point is
    not the first, the buffer was not written back between (`flush0_13`), the window is live and uncut (Lib/Pipeline/Frame.lean
    `Dat.before_out_kept`). -/
theorem before0_13_B (c : Dev nD) (t : Fin cfg0.N) (h0 : ¬t.val % 32 = 0) (d) :
    (dats m 0 c).before 13 t d = (outsAt0 m c (t.val - 1) (Nat.lt_of_le_of_lt (Nat.sub_le _ _) t.isLt)).2.2.2.2.1 := by
  have hN : t.val < 32 := lt_of_lt_of_eq t.isLt (show cfg0.N = 32 from N_0)
  rw [Dat.before_out_kept _ 13 rfl t (by omega) (Bool.eq_false_iff.mpr fun h => by have := (flush0_13 _).mp h; dsimp only at this; omega)
    (fun _ => rfl) (fun _ _ => rfl)]
  dsimp only [dats]

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0]
      unfold out0_A_9 out0_A_10 out0_A_11 out0_A_12 out0_A_13 sout0_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      iintro ⟨H0, H1, H2, H3, H4, H5, H6, H7, H8, ⟨%e9, H9⟩, ⟨%e10, H10⟩, ⟨%e11, H11⟩, ⟨%e12, H12⟩, ⟨%e13, H13⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (scover0_A_1 c _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_A_11 c _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_A_13 c _ _ _ _ _ _ _ _ _ _ _ _ _ _ _ _ _ _ _ _ _ _ _ _ _ _ _ _ _ _ _ _ _ _ _ _ _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0]
      simp only [before0_11_B m c t h0, before0_12_B m c t h0, before0_13_B m c t h0]
      unfold out0_B_9 out0_B_10 out0_B_11 out0_B_12 out0_B_13 sout0_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) _ _ _ _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [H12]; · iexact H12
      isplitl [H13]; · iexact H13
      isplitl [HS0]; · iexact HS0
      isplitl [HS1]; · iexact HS1
      iintro ⟨H0, H1, H2, H3, H4, H5, H6, H7, H8, ⟨%e9, H9⟩, ⟨%e10, H10⟩, ⟨%e11, H11⟩, ⟨%e12, H12⟩, ⟨%e13, H13⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ _ _ _)
      isplitl [H11]
      · unfold owns; iexists _; isplitr
        swap; · iexact H11
        ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ _ _ _)
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _)
      unfold owns; iexists _; isplitr
      swap; · iexact H13
      ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.Ffn.Real.lean ====
/- The gradient of the gated convolution feed-forward block over the real numbers, one entry at a time: what both
   programs compute. Rows and columns are natural numbers. -/
module
public import Idealize.ShloMosaic.Lib.Pointwise
@[expose] public section
noncomputable section
open Idealize.ShloMosaic

namespace Cert.Ffn

/-- The seven arguments as real numbers. -/
structure In where
  dx : ℕ → ℕ → ℝ
  x : ℕ → ℕ → ℝ
  g : ℕ → ℝ
  wu : ℕ → ℕ → ℝ
  cw : ℕ → ℕ → ℝ
  cb : ℕ → ℝ
  wd : ℕ → ℕ → ℝ

/-- The number the word of `1e-6` denotes. -/
def eps : ℝ := 8796093 / 8796093022208
/-- The number the word of `sqrt (2 / pi)` denotes. -/
def gC : ℝ := 6693141 / 8388608
/-- The number the word of `0.044715` denotes. -/
def gK : ℝ := 12003091 / 268435456

variable (P : In)

/-- The mean square of a row, shifted. -/
def ms (R : ℕ) : ℝ := (∑ c : Fin 1024, P.x R c * P.x R c) / 1024 + eps
def rinv (R : ℕ) : ℝ := (Real.sqrt (ms P R))⁻¹
/-- The normalised row. -/
def xh (R c : ℕ) : ℝ := P.x R c * rinv P R
/-- The up projection of the normalised row. -/
def gu (R n : ℕ) : ℝ := ∑ c : Fin 1024, xh P R c * P.g c * P.wu c n
/-- The gate half with two rows of zeros in front. -/
def gz (p ch : ℕ) : ℝ := if p < 2 then 0 else gu P (p - 2) ch
/-- The causal convolution of the gate half. -/
def gc (R ch : ℕ) : ℝ :=
  P.cw 2 ch * gz P (R + 2) ch + P.cw 1 ch * gz P (R + 1) ch + P.cw 0 ch * gz P R ch + P.cb ch
def th (v : ℝ) : ℝ := Real.tanh (v * (gC + gC * gK * (v * v)))
def ge (v : ℝ) : ℝ := 1 / 2 * v + 1 / 2 * v * th v
def dgeA (v : ℝ) : ℝ := 1 / 2 + 1 / 2 * th v
def dgeB (v : ℝ) : ℝ := 1 / 2 * v * ((1 - th v * th v) * (gC + 3 * gC * gK * (v * v)))
/-- The cotangent of the gated activation. -/
def dact (R ch : ℕ) : ℝ := ∑ c : Fin 1024, P.dx R c * P.wd ch c
def du (R ch : ℕ) : ℝ := dact P R ch * ge (gc P R ch)
def dgc (R ch : ℕ) : ℝ := dact P R ch * gu P R (3072 + ch) * (dgeA (gc P R ch) + dgeB (gc P R ch))
/-- The cotangent of the convolution's result, continued by zero. -/
def dgz (R ch : ℕ) : ℝ := if R < 8192 then dgc P R ch else 0
def dg (R ch : ℕ) : ℝ := P.cw 2 ch * dgz P R ch + P.cw 1 ch * dgz P (R + 1) ch + P.cw 0 ch * dgz P (R + 2) ch
/-- The cotangent of the scaled normalised row. -/
def dh (R c : ℕ) : ℝ := (∑ ch : Fin 3072, dg P R ch * P.wu c ch) + ∑ ch : Fin 3072, du P R ch * P.wu c (3072 + ch)
def dgf (c : ℕ) : ℝ := ∑ R : Fin 8192, dh P R c * xh P R c
def dx2 (R c : ℕ) : ℝ :=
  P.dx R c + rinv P R * (dh P R c * P.g c - xh P R c * ((∑ k : Fin 1024, dh P R k * P.g k * xh P R k) / 1024))
def dcb (ch : ℕ) : ℝ := ∑ R : Fin 8192, dgc P R ch
def dcw (k ch : ℕ) : ℝ := ∑ R : Fin 8192, dgc P R ch * gz P (R + k) ch
/-- The cotangent of the up projection: the gate half, then the other half. -/
def dgu (h R ch : ℕ) : ℝ := if h = 0 then dg P R ch else du P R ch

theorem ms_pos (R : ℕ) : 0 < ms P R := by
  have : 0 ≤ (∑ c : Fin 1024, P.x R c * P.x R c) / 1024 :=
    div_nonneg (Finset.sum_nonneg fun c _ => mul_self_nonneg _) (by norm_num)
  have he : 0 < eps := by norm_num [eps]
  unfold ms; linarith

theorem rinv_sq (R : ℕ) : rinv P R * rinv P R = (ms P R)⁻¹ := by
  rw [rinv, ← mul_inv, Real.mul_self_sqrt (ms_pos P R).le]

/-! ### Constants and sums in the extended reals -/

theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

theorem sum_coe {n : ℕ} (f : Fin n → EReal) (g : Fin n → ℝ) (h : ∀ k, f k = (g k : EReal)) :
    ∑ k, f k = ((∑ k, g k : ℝ) : EReal) := by
  rw [coe_sum]; exact Finset.sum_congr rfl fun k _ => h k

theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem div_coe_coe (x : ℝ) {y : ℝ} (h : y ≠ 0) : Ideal.div (x : EReal) (y : EReal) = ((x / y : ℝ) : EReal) := by
  rw [Ideal.div_coe h, ← EReal.coe_mul]; congr 1; field_simp

theorem w_1024 : Ideal.ofBits .f32 0x44800000#32 = ((1024 : ℝ) : EReal) := by
  norm_num [Ideal.ofBits, Ideal.ieee, Nat.shiftRight_eq_div_pow, show (BitVec.extractLsb' 31 1 0x44800000#32 = 1#1) = False from by decide]
theorem w_half : Ideal.ofBits .f32 0x3F000000#32 = ((1 / 2 : ℝ) : EReal) := by
  norm_num [Ideal.ofBits, Ideal.ieee, Nat.shiftRight_eq_div_pow, show (BitVec.extractLsb' 31 1 0x3F000000#32 = 1#1) = False from by decide]
theorem w_mhalf : Ideal.ofBits .f32 0xBF000000#32 = ((-(1 / 2) : ℝ) : EReal) := by
  norm_num [Ideal.ofBits, Ideal.ieee, Nat.shiftRight_eq_div_pow, show (BitVec.extractLsb' 31 1 0xBF000000#32 = 1#1) = True from by decide]
theorem w_three : Ideal.ofBits .f32 0x40400000#32 = ((3 : ℝ) : EReal) := by
  norm_num [Ideal.ofBits, Ideal.ieee, Nat.shiftRight_eq_div_pow, show (BitVec.extractLsb' 31 1 0x40400000#32 = 1#1) = False from by decide]
theorem w_eps : Ideal.ofBits .f32 0x358637BD#32 = (eps : EReal) := by
  norm_num [eps, Ideal.ofBits, Ideal.ieee, Nat.shiftRight_eq_div_pow, show (BitVec.extractLsb' 31 1 0x358637BD#32 = 1#1) = False from by decide]
theorem w_gC : Ideal.ofBits .f32 0x3F4C422A#32 = (gC : EReal) := by
  norm_num [gC, Ideal.ofBits, Ideal.ieee, Nat.shiftRight_eq_div_pow, show (BitVec.extractLsb' 31 1 0x3F4C422A#32 = 1#1) = False from by decide]
theorem w_gK : Ideal.ofBits .f32 0x3D372713#32 = (gK : EReal) := by
  norm_num [gK, Ideal.ofBits, Ideal.ieee, Nat.shiftRight_eq_div_pow, show (BitVec.extractLsb' 31 1 0x3D372713#32 = 1#1) = False from by decide]

theorem val3_0 : ((0 : Fin 3) : ℕ) = 0 := rfl
theorem val3_1 : ((1 : Fin 3) : ℕ) = 1 := rfl
theorem val3_2 : ((2 : Fin 3) : ℕ) = 2 := rfl

/-- The last step's sum over reals, of a cotangent `d` of the normed and scaled rows: the two halves of the
    root-mean-square derivative together. -/
theorem norm_close (d : ℕ → ℝ) (R c : ℕ) :
    (P.dx R c : EReal) + ((d c : EReal) * (P.g c : EReal) * (rinv P R : EReal)
      + (P.x R c : EReal) * Ideal.div ((∑ k : Fin 1024, (P.x R k : EReal) * ((d k : EReal) * (P.g k : EReal)))
          * (((-(1 / 2) : ℝ) : EReal) * Ideal.div (rinv P R : EReal) (ms P R : EReal))) ((1024 : ℝ) : EReal)
        + Ideal.div ((∑ k : Fin 1024, (P.x R k : EReal) * ((d k : EReal) * (P.g k : EReal)))
          * (((-(1 / 2) : ℝ) : EReal) * Ideal.div (rinv P R : EReal) (ms P R : EReal))) ((1024 : ℝ) : EReal) * (P.x R c : EReal))
      = ((P.dx R c + rinv P R * (d c * P.g c - xh P R c * ((∑ k : Fin 1024, d k * P.g k * xh P R k) / 1024)) : ℝ) : EReal) := by
  have hm := (ms_pos P R).ne'
  have hs : (∑ k : Fin 1024, (P.x R k : EReal) * ((d k : EReal) * (P.g k : EReal)))
      = ((∑ k : Fin 1024, P.x R k * (d k * P.g k) : ℝ) : EReal) :=
    sum_coe _ _ fun k => by rw [← EReal.coe_mul, ← EReal.coe_mul]
  rw [hs]
  rw [div_coe_coe _ hm]
  simp only [← EReal.coe_mul]
  rw [div_coe_coe _ (by norm_num)]
  simp only [← EReal.coe_mul, ← EReal.coe_add]
  refine congrArg _ ?_
  have hq := rinv_sq P R
  have e : ∑ k : Fin 1024, d k * P.g k * xh P R k = (∑ k : Fin 1024, P.x R k * (d k * P.g k)) * rinv P R := by
    rw [Finset.sum_mul]; exact Finset.sum_congr rfl fun k _ => by unfold xh; ring
  rw [e, div_eq_mul_inv (rinv P R) (ms P R), ← hq]
  unfold xh
  ring

/-- The seven arrays hold the arguments' numbers. -/
structure Rep (x0 x1 : FVec Ideal ⟨2, ![8192, 1024]⟩ .f32) (x2 : FVec Ideal ⟨2, ![1, 1024]⟩ .f32)
    (x3 : FVec Ideal ⟨2, ![1024, 6144]⟩ .f32) (x4 : FVec Ideal ⟨2, ![3, 3072]⟩ .f32)
    (x5 : FVec Ideal ⟨2, ![1, 3072]⟩ .f32) (x6 : FVec Ideal ⟨2, ![3072, 1024]⟩ .f32) : Prop where
  dx : ∀ (R : Fin 8192) (c : Fin 1024), x0 (ix2 R c) = (P.dx R c : EReal)
  x : ∀ (R : Fin 8192) (c : Fin 1024), x1 (ix2 R c) = (P.x R c : EReal)
  g : ∀ c : Fin 1024, x2 (ix2 0 c) = (P.g c : EReal)
  wu : ∀ (c : Fin 1024) (n : Fin 6144), x3 (ix2 c n) = (P.wu c n : EReal)
  cw : ∀ (k : Fin 3) (ch : Fin 3072), x4 (ix2 k ch) = (P.cw k ch : EReal)
  cb : ∀ ch : Fin 3072, x5 (ix2 0 ch) = (P.cb ch : EReal)
  wd : ∀ (ch : Fin 3072) (c : Fin 1024), x6 (ix2 ch c) = (P.wd ch c : EReal)

end Cert.Ffn
-- ==== Proof.Ffn.Pay.lean ====
/- What each value of the backward kernel's body is, entry by entry, when the values it reads are the real numbers they
   stand for. The second group of 1536 channels runs the first group's operations on its own operands. -/
module
public import Idealize.ShloMosaic.Lib.Pointwise
public import Idealize.ShloMosaic.Lib.Pipeline.ValueKit
public import proofs.«01_k».proof.Proof.Ffn.Frame
public import proofs.«01_k».proof.Proof.Ffn.Real
@[expose] public section
set_option maxRecDepth 16384
noncomputable section
open Idealize.ShloMosaic Idealize.ShloMosaic.TcCoe Idealize.SL.Sem
open Cert.KernelIdeal Cert.KernelIdeal.Gen

namespace Cert.Ffn

/-- A row of 1536 channels holds `f` from column `c0` on. -/
def Row1 (f : ℕ → ℝ) (c0 : ℕ) (v : Vec Ideal S1x1536 .f32) : Prop := ∀ ch : Fin 1536, v (ix2 0 ch) = (f (c0 + ch) : EReal)
/-- A tile of 256 rows and 1536 channels holds `f` from row `r0` and column `c0` on. -/
def Tile (f : ℕ → ℕ → ℝ) (r0 c0 : ℕ) {φ : FTy} (v : FVec Ideal S256x1536 φ) : Prop :=
  ∀ (r : Fin 256) (ch : Fin 1536), v (ix2 r ch) = (f (r0 + r) (c0 + ch) : EReal)
/-- The same with two leading axes of one entry. -/
def Tile4 (f : ℕ → ℕ → ℝ) (r0 c0 : ℕ) (v : Vec Ideal S1x1x256x1536 .f32) : Prop :=
  ∀ (r : Fin 256) (ch : Fin 1536), v (ix4 0 0 r ch) = (f (r0 + r) (c0 + ch) : EReal)
/-- The gate buffer: eight rows before the tile, then the tile. -/
def Buf (P : In) (r0 c0 : ℕ) (v : Vec Ideal S264x1536 .f32) : Prop :=
  ∀ (q : Fin 264) (ch : Fin 1536), v (ix2 q ch) = (gz P (r0 + q - 6) (c0 + ch) : EReal)

variable {P : In} {r0 c0 : ℕ}

theorem k_gelu : Named.named (F := Ideal) (φ := .f32) κ "gelu_ck" 0x3D122279#32 = ((gC * gK : ℝ) : EReal) := by
  have : Named.named (F := Ideal) (φ := .f32) κ "gelu_ck" 0x3D122279#32 = ((80338380498831 / 2251799813685248 : ℝ) : EReal) := rfl
  rw [this]; congr 1; norm_num [gC, gK]
theorem k_gelu3 : Named.named (F := Ideal) (φ := .f32) κ "gelu_3ck" 0x3DDB33B6#32 = ((3 * gC * gK : ℝ) : EReal) := by
  have : Named.named (F := Ideal) (φ := .f32) κ "gelu_3ck" 0x3DDB33B6#32 = ((241015141496493 / 2251799813685248 : ℝ) : EReal) := rfl
  rw [this]; congr 1; norm_num [gC, gK]

section first
variable {v25 : Vec Ideal S264x1536 .f32} {a2 a1 a0 b : Vec Ideal S1x1536 .f32}

theorem pay11_at (h : Buf P r0 c0 v25) : Tile (fun R ch => gz P (R + 2) ch) r0 c0 (k0_pay11 (F := Ideal) v25) := fun r ch => by
  pointwise [k0_pay11]
  rw [h]; congr 3; simp only; omega
theorem pay12_at (h : Buf P r0 c0 v25) : Tile (fun R ch => gz P (R + 1) ch) r0 c0 (k0_pay12 (F := Ideal) v25) := fun r ch => by
  pointwise [k0_pay12]
  rw [h]; congr 3; simp only; omega
theorem pay13_at (h : Buf P r0 c0 v25) : Tile (fun R ch => gz P R ch) r0 c0 (k0_pay13 (F := Ideal) v25) := fun r ch => by
  pointwise [k0_pay13]
  rw [h]; congr 3; simp only; omega

theorem pay14_at (h : Buf P r0 c0 v25) (h2 : Row1 (P.cw 2) c0 a2) (h1 : Row1 (P.cw 1) c0 a1) (h0 : Row1 (P.cw 0) c0 a0)
    (hb : Row1 P.cb c0 b) : Tile (gc P) r0 c0 (k0_pay14 (F := Ideal) v25 (k0_pay11 v25) a2 a1 a0 b) := fun r ch => by
  pointwise [k0_pay14]
  rw [pay11_at h, pay12_at h, pay13_at h, h2, h1, h0, hb]
  simp only [← EReal.coe_mul, ← EReal.coe_add, gc]

theorem pay16_at (h : Buf P r0 c0 v25) (h2 : Row1 (P.cw 2) c0 a2) (h1 : Row1 (P.cw 1) c0 a1) (h0 : Row1 (P.cw 0) c0 a0)
    (hb : Row1 P.cb c0 b) : Tile (fun R ch => th (gc P R ch)) r0 c0 (k0_pay16 (F := Ideal) v25 (k0_pay11 v25) a2 a1 a0 b) := fun r ch => by
  pointwise [k0_pay16, k0_pay15]
  rw [pay14_at h h2 h1 h0 hb, k_gelu, w_gC]
  simp only [← EReal.coe_mul, ← EReal.coe_add, th]
  rfl

theorem pay18_at (h : Buf P r0 c0 v25) (h2 : Row1 (P.cw 2) c0 a2) (h1 : Row1 (P.cw 1) c0 a1) (h0 : Row1 (P.cw 0) c0 a0)
    (hb : Row1 P.cb c0 b) : Tile (fun R ch => ge (gc P R ch)) r0 c0 (k0_pay18 (F := Ideal) v25 (k0_pay11 v25) a2 a1 a0 b) := fun r ch => by
  pointwise [k0_pay18, k0_pay17]
  rw [pay14_at h h2 h1 h0 hb, pay16_at h h2 h1 h0 hb, w_half]
  simp only [← EReal.coe_mul, ← EReal.coe_add, ge]

theorem pay19_at (h : Buf P r0 c0 v25) (h2 : Row1 (P.cw 2) c0 a2) (h1 : Row1 (P.cw 1) c0 a1) (h0 : Row1 (P.cw 0) c0 a0)
    (hb : Row1 P.cb c0 b) : Tile (fun R ch => dgeA (gc P R ch)) r0 c0 (k0_pay19 (F := Ideal) v25 (k0_pay11 v25) a2 a1 a0 b) := fun r ch => by
  pointwise [k0_pay19]
  rw [pay16_at h h2 h1 h0 hb, w_half]
  simp only [← EReal.coe_mul, ← EReal.coe_add, dgeA]

theorem pay20_at (h : Buf P r0 c0 v25) (h2 : Row1 (P.cw 2) c0 a2) (h1 : Row1 (P.cw 1) c0 a1) (h0 : Row1 (P.cw 0) c0 a0)
    (hb : Row1 P.cb c0 b) : Tile (fun R ch => dgeB (gc P R ch)) r0 c0 (k0_pay20 (F := Ideal) v25 (k0_pay11 v25) a2 a1 a0 b) := fun r ch => by
  pointwise [k0_pay20, k0_pay17, k0_pay15]
  rw [pay14_at h h2 h1 h0 hb, pay16_at h h2 h1 h0 hb, w_half, k_gelu3, w_gC]
  simp only [← EReal.coe_mul, ← EReal.coe_add, ← EReal.coe_sub, ← EReal.coe_one, dgeB]

end first

theorem pay7_at {v4 : Vec Ideal S256x1024 .f32} {w : Vec Ideal S1x1536x1024 .bf16}
    (h4 : ∀ (r : Fin 256) (c : Fin 1024), v4 (ix2 r c) = (P.dx (r0 + r) c : EReal))
    (hw : ∀ (ch : Fin 1536) (c : Fin 1024), w (ix3 0 ch c) = (P.wd (c0 + ch) c : EReal)) :
    Tile (dact P) r0 c0 (k0_pay7 (F := Ideal) v4 w) := fun r ch => by
  pointwise [k0_pay7, k0_pay6]
  exact sum_coe _ _ fun c => by rw [h4, hw, ← EReal.coe_mul]

theorem pay21_at {f g : ℕ → ℕ → ℝ} {v w : FVec Ideal S256x1536 .f32} (h : Tile f r0 c0 v) (h' : Tile g r0 c0 w) :
    Tile (fun R ch => f R ch * g R ch) r0 c0 (k0_pay21 (F := Ideal) v w) := fun r ch => by
  pointwise [k0_pay21]
  rw [h, h', ← EReal.coe_mul]

theorem pay22_at {v8 v67 v68 : FVec Ideal S256x1536 .f32} {v72 : Vec Ideal S1x1x256x1536 .f32} (h8 : Tile (dact P) r0 c0 v8)
    (h67 : Tile (fun R ch => dgeA (gc P R ch)) r0 c0 v67) (h68 : Tile (fun R ch => dgeB (gc P R ch)) r0 c0 v68)
    (h72 : Tile4 (fun R ch => gu P R (3072 + ch)) r0 c0 v72) :
    Tile (dgc P) r0 c0 (k0_pay22 (F := Ideal) v8 v67 v68 v72) := fun r ch => by
  pointwise [k0_pay22]
  rw [h8, h67, h68, h72]
  simp only [← EReal.coe_mul, ← EReal.coe_add, dgc]

end Cert.Ffn
-- ==== Proof.Ffn.Pay2.lean ====
/- The sums over a tile, the convolution's transpose and the row gradients of the backward kernel's body, and the second
   group's values as the first group's. -/
module
public import proofs.«01_k».proof.Proof.Ffn.Pay
@[expose] public section
set_option maxRecDepth 16384
noncomputable section
open Idealize.ShloMosaic Idealize.ShloMosaic.TcCoe Idealize.SL.Sem
open Cert.KernelIdeal Cert.KernelIdeal.Gen

namespace Cert.Ffn

variable {P : In} {r0 c0 : ℕ}

/-- A tile of a slab of the cotangent buffer: rows `r0, r0 + 1, …` of the convolution result's cotangent. -/
def DBuf (P : In) (r0 c0 : ℕ) (v : Vec Ideal S264x1536 .f32) : Prop :=
  ∀ (q : Fin 264) (ch : Fin 1536), v (ix2 q ch) = (dgz P (r0 + q) (c0 + ch) : EReal)

/-- The kernel's sum over one tile. -/
def tsum (f : ℕ → ℕ → ℝ) (r0 ch : ℕ) : ℝ := ∑ r : Fin 256, f (r0 + r) ch

section
variable {v8 v67 v68 w : FVec Ideal S256x1536 .f32} {v72 : Vec Ideal S1x1x256x1536 .f32} {f : ℕ → ℕ → ℝ}

theorem pay23_at (h : Tile (dgc P) r0 c0 (k0_pay22 (F := Ideal) v8 v67 v68 v72)) (acc : Vec Ideal S1x1536 .f32) (ch : Fin 1536) :
    k0_pay23 (F := Ideal) v8 v67 v68 v72 acc (ix2 0 ch) = acc (ix2 0 ch) + (tsum (dgc P) r0 (c0 + ch) : EReal) := by
  pointwise [k0_pay23]
  exact congrArg _ (sum_coe _ _ fun r => by rw [h])

theorem pay24_at (h : Tile (dgc P) r0 c0 (k0_pay22 (F := Ideal) v8 v67 v68 v72)) (r : Fin 256) (ch : Fin 1536) :
    k0_pay24 (F := Ideal) v8 v67 v68 v72 (ix3 0 r ch) = (dgc P (r0 + r) (c0 + ch) : EReal) := by
  pointwise [k0_pay24]
  rw [h]

theorem pay25_at (h : Tile (dgc P) r0 c0 (k0_pay22 (F := Ideal) v8 v67 v68 v72)) (hw : Tile f r0 c0 w) (acc : Vec Ideal S1x1536 .f32)
    (ch : Fin 1536) : k0_pay25 (F := Ideal) v8 w v67 v68 v72 acc (ix2 0 ch)
      = acc (ix2 0 ch) + (tsum (fun R c => dgc P R c * f R c) r0 (c0 + ch) : EReal) := by
  pointwise [k0_pay25]
  exact congrArg _ (sum_coe _ _ fun r => by rw [h, hw, ← EReal.coe_mul])

theorem pay26_at (h : Tile (dgc P) r0 c0 (k0_pay22 (F := Ideal) v8 v67 v68 v72)) (hw : Tile f r0 c0 w) (acc : Vec Ideal S1x1536 .f32)
    (ch : Fin 1536) : k0_pay26 (F := Ideal) v8 w v67 v68 v72 acc (ix2 0 ch)
      = acc (ix2 0 ch) + (tsum (fun R c => dgc P R c * f R c) r0 (c0 + ch) : EReal) := by
  pointwise [k0_pay26]
  exact congrArg _ (sum_coe _ _ fun r => by rw [h, hw, ← EReal.coe_mul])

theorem pay28_at (h : Tile (dgc P) r0 c0 (k0_pay22 (F := Ideal) v8 v67 v68 v72)) (hw : Tile f r0 c0 w) (acc : Vec Ideal S1x1536 .f32)
    (ch : Fin 1536) : k0_pay28 (F := Ideal) (k0_pay27 v8 w v67 v68 v72) acc (ix2 0 ch)
      = acc (ix2 0 ch) + (tsum (fun R c => dgc P R c * f R c) r0 (c0 + ch) : EReal) := by
  pointwise [k0_pay28, k0_pay27]
  exact congrArg _ (sum_coe _ _ fun r => by rw [h, hw, ← EReal.coe_mul])
end

theorem pay29_at {v : Vec Ideal S264x1536 .f32} {a2 a1 a0 : Vec Ideal S1x1536 .f32} (h : DBuf P r0 c0 v)
    (h2 : Row1 (P.cw 2) c0 a2) (h1 : Row1 (P.cw 1) c0 a1) (h0 : Row1 (P.cw 0) c0 a0) :
    Tile (dg P) r0 c0 (k0_pay29 (F := Ideal) v a2 a1 a0) := fun r ch => by
  pointwise [k0_pay29]
  rw [h, h, h, h2, h1, h0]
  have e1 : ((r : ℕ) + 264 - 263) % 264 = r + 1 := by have := r.isLt; omega
  have e2 : ((r : ℕ) + 264 - 262) % 264 = r + 2 := by have := r.isLt; omega
  simp only [← EReal.coe_mul, ← EReal.coe_add, dg, e1, e2, add_assoc]

/-- A slab of the up projection's transpose: column `n` on, for the gate half or the other. -/
def Wup (P : In) (n : ℕ) (w : Vec Ideal S1x1024x1536 .bf16) : Prop :=
  ∀ (c : Fin 1024) (ch : Fin 1536), w (ix3 0 c ch) = (P.wu c (n + ch) : EReal)

theorem pay33_at {u d : FVec Ideal S256x1536 .bf16} {w w' : Vec Ideal S1x1024x1536 .bf16} (hu : Tile (du P) r0 c0 u)
    (hd : Tile (dg P) r0 c0 d) (hw : Wup P c0 w) (hw' : Wup P (3072 + c0) w') (r : Fin 256) (c : Fin 1024) :
    k0_pay33 (F := Ideal) u d w w' (ix2 r c) = ((∑ ch : Fin 1536, dg P (r0 + r) (c0 + ch) * P.wu c (c0 + ch))
      + ∑ ch : Fin 1536, du P (r0 + r) (c0 + ch) * P.wu c (3072 + c0 + ch) : ℝ) := by
  pointwise [k0_pay33]
  rw [EReal.coe_add]
  congr 1
  · exact sum_coe _ _ fun ch => by rw [hd, hw, ← EReal.coe_mul]
  · exact sum_coe _ _ fun ch => by rw [hu, hw', ← EReal.coe_mul]

theorem pay58_at {s : FVec Ideal S256x1024 .f32} {u d : FVec Ideal S256x1536 .bf16} {w w' : Vec Ideal S1x1024x1536 .bf16}
    (hs : ∀ (r : Fin 256) (c : Fin 1024), s (ix2 r c) = ((∑ ch : Fin 1536, dg P (r0 + r) (0 + ch) * P.wu c (0 + ch))
      + ∑ ch : Fin 1536, du P (r0 + r) (0 + ch) * P.wu c (3072 + 0 + ch) : ℝ))
    (hu : Tile (du P) r0 1536 u) (hd : Tile (dg P) r0 1536 d) (hw : Wup P 1536 w) (hw' : Wup P (3072 + 1536) w')
    (r : Fin 256) (c : Fin 1024) : k0_pay58 (F := Ideal) s u d w w' (ix2 r c) = (dh P (r0 + r) c : EReal) := by
  have e : k0_pay58 (F := Ideal) s u d w w' (ix2 r c) = s (ix2 r c) + k0_pay33 (F := Ideal) u d w w' (ix2 r c) := rfl
  rw [e, hs, pay33_at hu hd hw hw', ← EReal.coe_add]
  refine congrArg _ ?_
  unfold dh
  rw [Fin.sum_univ_two_halves 1536 1536 rfl, Fin.sum_univ_two_halves 1536 1536 rfl]
  simp only [Nat.zero_add, Nat.add_zero, Nat.add_assoc]
  ring

/-! ### The row normalisation -/

section
variable {x : Vec Ideal S256x1024 .f32} (hx : ∀ (r : Fin 256) (c : Fin 1024), x (ix2 r c) = (P.x (r0 + r) c : EReal))
include hx

theorem pay59_at (r : Fin 256) : k0_pay59 (F := Ideal) x (ix2 r 0) = (rinv P (r0 + r) : EReal) := by
  pointwise [k0_pay59]
  have hs : ∑ k : Fin 1024, x (ix2 r k) * x (ix2 r k) = ((∑ k : Fin 1024, P.x (r0 + r) k * P.x (r0 + r) k : ℝ) : EReal) :=
    sum_coe _ _ fun k => by rw [hx, ← EReal.coe_mul]
  rw [hs, w_1024, w_eps, div_coe_coe _ (by norm_num), ← EReal.coe_add]
  exact rsqrt_coe_pos (ms_pos P (r0 + r))

theorem pay60_at (r : Fin 256) (c : Fin 1024) : k0_pay60 (F := Ideal) x (ix2 r c) = (xh P (r0 + r) c : EReal) := by
  pointwise [k0_pay60]
  rw [pay59_at hx, hx, ← EReal.coe_mul]; rfl

variable {s : FVec Ideal S256x1024 .f32} {u d : FVec Ideal S256x1536 .bf16} {w w' : Vec Ideal S1x1024x1536 .bf16}
  (h : ∀ (r : Fin 256) (c : Fin 1024), k0_pay58 (F := Ideal) s u d w w' (ix2 r c) = (dh P (r0 + r) c : EReal))
include h

theorem pay61_at (acc : Vec Ideal S1x1024 .f32) (c : Fin 1024) : k0_pay61 (F := Ideal) s u d w w' x acc (ix2 0 c)
    = acc (ix2 0 c) + (tsum (fun R c => dh P R c * xh P R c) r0 c : EReal) := by
  pointwise [k0_pay61]
  exact congrArg _ (sum_coe _ _ fun r => by rw [h, pay60_at hx, ← EReal.coe_mul])

theorem pay1_at {v4 : Vec Ideal S256x1024 .f32} {g : Vec Ideal S1x1024 .f32}
    (h4 : ∀ (r : Fin 256) (c : Fin 1024), v4 (ix2 r c) = (P.dx (r0 + r) c : EReal))
    (hg : ∀ c : Fin 1024, g (ix2 0 c) = (P.g c : EReal)) (r : Fin 256) (c : Fin 1024) :
    k0_pay1 (F := Ideal) v4 (k0_pay59 x) (k0_pay60 x) (k0_pay62 s u d w w' g) (k0_pay63 s u d w w' x g) (ix2 r c)
      = (dx2 P (r0 + r) c : EReal) := by
  pointwise [k0_pay1, k0_pay62, k0_pay63]
  have hs : ∑ k : Fin 1024, k0_pay58 (F := Ideal) s u d w w' (ix2 r k) * g (ix2 0 k) * k0_pay60 (F := Ideal) x (ix2 r k)
      = ((∑ k : Fin 1024, dh P (r0 + r) k * P.g k * xh P (r0 + r) k : ℝ) : EReal) :=
    sum_coe _ _ fun k => by rw [h, hg, pay60_at hx, ← EReal.coe_mul, ← EReal.coe_mul]
  rw [hs, w_1024, div_coe_coe _ (by norm_num), h4, pay59_at hx, pay60_at hx, h, hg]
  simp only [← EReal.coe_mul, ← EReal.coe_add, ← EReal.coe_sub, dx2]
end

/-! ### The second group's values -/

section
variable (v : Vec Ideal S264x1536 .f32) (a b c d : Vec Ideal S1x1536 .f32) (v8 : FVec Ideal S256x1536 .f32) (u : Vec Ideal S1x1x256x1536 .f32)
  (v67 v68 : FVec Ideal S256x1536 .f32) (acc : Vec Ideal S1x1536 .f32)

theorem pay8_eq (x : Vec Ideal S256x1024 .f32) (w : Vec Ideal S1x1536x1024 .bf16) : k0_pay8 (F := Ideal) x w = k0_pay7 x w := rfl
theorem pay34_eq (i : grid0.Coords) (w : Vec Ideal S1x1x8x1536 .f32) :
    k0_pay34 (F := Ideal) (Scalar.subi 31#32 (BitVec.ofNat 32 ↑(i 0))) w = k0_pay9 i w := rfl
theorem pay35_eq (w : Vec Ideal S1x1x256x1536 .f32) : k0_pay35 (F := Ideal) w = k0_pay10 w := rfl
theorem pay36_eq : k0_pay36 (F := Ideal) v = k0_pay11 v := rfl
theorem pay38_eq : k0_pay38 (F := Ideal) (k0_pay37 v) = k0_pay12 v := rfl
theorem pay39_eq : k0_pay39 (F := Ideal) v = k0_pay13 v := rfl
theorem pay44_eq : k0_pay44 (F := Ideal) v (k0_pay36 v) (k0_pay37 v) a b c d
    = addf (k0_pay19 v (k0_pay11 v) a b c d) (k0_pay20 v (k0_pay11 v) a b c d) := rfl
theorem pay46_eq : k0_pay46 (F := Ideal) (k0_pay45 v8 v (k0_pay36 v) (k0_pay37 v) a b c d)
    = k0_pay21 v8 (k0_pay18 v (k0_pay11 v) a b c d) := rfl
theorem pay48_eq : k0_pay48 (F := Ideal) v8 (addf v67 v68) u acc = k0_pay23 v8 v67 v68 u acc := rfl
theorem pay49_eq : k0_pay49 (F := Ideal) v8 (addf v67 v68) u = k0_pay24 v8 v67 v68 u := rfl
theorem pay50_eq (w : FVec Ideal S256x1536 .f32) : k0_pay50 (F := Ideal) v8 w (addf v67 v68) u acc = k0_pay25 v8 w v67 v68 u acc := rfl
theorem pay51_eq (w : FVec Ideal S256x1536 .f32) : k0_pay51 (F := Ideal) v8 w (addf v67 v68) u acc = k0_pay26 v8 w v67 v68 u acc := rfl
theorem pay53_eq (w : FVec Ideal S256x1536 .f32) :
    k0_pay53 (F := Ideal) (k0_pay52 v8 w (addf v67 v68) u) acc = k0_pay28 (k0_pay27 v8 w v67 v68 u) acc := rfl
theorem pay54_eq : k0_pay54 (F := Ideal) v a b c = k0_pay29 v a b c := rfl
theorem pay55_eq (w : Vec Ideal S1x8x1536 .f32) : k0_pay55 (F := Ideal) w = k0_pay30 w := rfl
theorem pay56_eq : k0_pay56 (F := Ideal) v a b c = k0_pay31 (k0_pay29 v a b c) := rfl
theorem pay57_eq (w : FVec Ideal S256x1536 .bf16) : k0_pay57 (F := Ideal) w = k0_pay32 w := rfl
end

end Cert.Ffn
-- ==== Proof.Ffn.Point.lean ====
/- One grid point of the backward kernel: what it loads, as the real numbers of its tile. -/
module
public import proofs.«01_k».proof.Proof.Ffn.Pay2
@[expose] public section
set_option maxRecDepth 16384
noncomputable section
open Idealize.ShloMosaic Idealize.ShloMosaic.TcCoe Idealize.SL.Sem
open Cert.KernelIdeal Cert.KernelIdeal.Gen

namespace Cert.Ffn

section
variable {S : Shape} {e : EltTy} {Val : EltTy → Type} [∀ e, Nonempty (Val e)]

/-- What stores leave at an index the last of them holds. -/
theorem canon_hit {off size : Fin S.rank → ℕ} {inb : ∀ a, off a + size a ≤ S.size a} (w : (Rect.unit off size inb).shape.Idx → Val e)
    (L : List (View.Piece Val S e)) (y : S.Idx) (x : (Rect.unit off size inb).shape.Idx) (h : ∀ a, (y a : ℕ) = off a + (x a : ℕ)) :
    View.canon (⟨Rect.unit off size inb, w⟩ :: L) y = w x := by
  have e : (Rect.unit off size inb).emb x = y := funext fun a => Fin.ext (by
    rw [Rect.emb_apply, h a]; show off a + 1 * (x a : ℕ) = _; omega)
  rw [← e]; exact View.canon_cons_emb _ _ _ _

/-- What stores leave at an index the last of them does not reach. -/
theorem canon_miss {off size : Fin S.rank → ℕ} {inb : ∀ a, off a + size a ≤ S.size a} (w : (Rect.unit off size inb).shape.Idx → Val e)
    (L : List (View.Piece Val S e)) (y : S.Idx) (a : Fin S.rank) (h : (y a : ℕ) < off a ∨ off a + size a ≤ (y a : ℕ)) :
    View.canon (⟨Rect.unit off size inb, w⟩ :: L) y = View.canon L y :=
  View.canon_cons_of_not_mem _ _ fun hm => by
    have h' := (Rect.mem_set_unit (inb := inb)).mp hm a
    omega
end

/-- The whole gate buffer. -/
abbrev B264 : LoadRect S264x1536 := (Rect.unit ![0, 0] ![264, 1536] inb_S264x1536_S264x1536_0_0).toLoadRect

/-- The blocks grid point `n` reads: the tile of 256 rows from row `256 * (31 - n)` on. -/
structure Ops (P : In) (n : ℕ) (x0 x1 : Vec Ideal S256x1024 .f32) (x2 : Vec Ideal S1x1024 .f32) (x3 : Vec Ideal S2x1536x1024 .bf16)
    (x4 : Vec Ideal S4x1024x1536 .bf16) (x5 : Vec Ideal S2x2x256x1536 .f32) (x6 : Vec Ideal S1x2x8x1536 .f32)
    (x7 : Vec Ideal S3x3072 .f32) (x8 : Vec Ideal S1x3072 .f32) : Prop where
  dx : ∀ (r : Fin 256) (c : Fin 1024), x0 (ix2 r c) = (P.dx (256 * (31 - n) + r) c : EReal)
  x : ∀ (r : Fin 256) (c : Fin 1024), x1 (ix2 r c) = (P.x (256 * (31 - n) + r) c : EReal)
  g : ∀ c : Fin 1024, x2 (ix2 0 c) = (P.g c : EReal)
  wd : ∀ (j : Fin 2) (ch : Fin 1536) (c : Fin 1024), x3 (ix3 j ch c) = (P.wd (1536 * j + ch) c : EReal)
  wu : ∀ (b : Fin 4) (c : Fin 1024) (ch : Fin 1536), x4 (ix3 b c ch) = (P.wu c (1536 * b + ch) : EReal)
  gu : ∀ (h j : Fin 2) (r : Fin 256) (ch : Fin 1536), x5 (ix4 h j r ch) = (gu P (256 * (31 - n) + r) (3072 * h + 1536 * j + ch) : EReal)
  pre : n < 31 → ∀ (j : Fin 2) (q : Fin 8) (ch : Fin 1536), x6 (ix4 0 j q ch) = (Cert.Ffn.gu P (256 * (31 - n) - 8 + q) (1536 * j + ch) : EReal)
  cw : ∀ (k : Fin 3) (ch : Fin 3072), x7 (ix2 k ch) = (P.cw k ch : EReal)
  cb : ∀ ch : Fin 3072, x8 (ix2 0 ch) = (P.cb ch : EReal)

/-- What one group of 1536 channels from `c0` on works on. -/
structure Grp (P : In) (r0 c0 : ℕ) (v4 : Vec Ideal S256x1024 .f32) (w : Vec Ideal S1x1536x1024 .bf16) (v25 : Vec Ideal S264x1536 .f32)
    (a2 a1 a0 b : Vec Ideal S1x1536 .f32) : Prop where
  h4 : ∀ (r : Fin 256) (c : Fin 1024), v4 (ix2 r c) = (P.dx (r0 + r) c : EReal)
  hw : ∀ (ch : Fin 1536) (c : Fin 1024), w (ix3 0 ch c) = (P.wd (c0 + ch) c : EReal)
  h : Buf P r0 c0 v25
  h2 : Row1 (P.cw 2) c0 a2
  h1 : Row1 (P.cw 1) c0 a1
  h0 : Row1 (P.cw 0) c0 a0
  hb : Row1 P.cb c0 b

section
variable {P : In} {r0 c0 : ℕ} {v4 : Vec Ideal S256x1024 .f32} {w : Vec Ideal S1x1536x1024 .bf16} {v25 : Vec Ideal S264x1536 .f32}
  {a2 a1 a0 b : Vec Ideal S1x1536 .f32} (G : Grp P r0 c0 v4 w v25 a2 a1 a0 b)
include G

theorem Grp.dgc {u : Vec Ideal S1x1x256x1536 .f32} (hu : Tile4 (fun R ch => gu P R (3072 + ch)) r0 c0 u) :
    Tile (dgc P) r0 c0 (k0_pay22 (F := Ideal) (k0_pay7 v4 w) (k0_pay19 v25 (k0_pay11 v25) a2 a1 a0 b)
      (k0_pay20 v25 (k0_pay11 v25) a2 a1 a0 b) u) :=
  pay22_at (pay7_at G.h4 G.hw) (pay19_at G.h G.h2 G.h1 G.h0 G.hb) (pay20_at G.h G.h2 G.h1 G.h0 G.hb) hu

theorem Grp.du : Tile (du P) r0 c0 (k0_pay21 (F := Ideal) (k0_pay7 v4 w) (k0_pay18 v25 (k0_pay11 v25) a2 a1 a0 b)) :=
  pay21_at (pay7_at G.h4 G.hw) (pay18_at G.h G.h2 G.h1 G.h0 G.hb)
end

variable {P : In} {n : ℕ} {x0 x1 : Vec Ideal S256x1024 .f32} {x2 : Vec Ideal S1x1024 .f32} {x3 : Vec Ideal S2x1536x1024 .bf16}
    {x4 : Vec Ideal S4x1024x1536 .bf16} {x5 : Vec Ideal S2x2x256x1536 .f32} {x6 : Vec Ideal S1x2x8x1536 .f32}
    {x7 : Vec Ideal S3x3072 .f32} {x8 : Vec Ideal S1x3072 .f32} (H : Ops P n x0 x1 x2 x3 x4 x5 x6 x7 x8)
include H

theorem gate_hi (j : Fin 2) (q : ℕ) (h8 : ¬q < 8) (hq : q - 8 < 256) (ch : Fin 1536) :
    x5 (ix4 0 j ⟨q - 8, hq⟩ ch) = (gz P (256 * (31 - n) + q - 6) (1536 * j + ch) : EReal) := by
  rw [H.gu]
  refine congrArg _ ?_
  rw [gz, if_neg (by omega)]
  congr 1
  · show 256 * (31 - n) + (q - 8) = _; omega
  · simp

omit H in
theorem sgt_point : ∀ k : Fin 32, Scalar.cmpi CmpIPredicate.sgt (Scalar.subi (31#32) (BitVec.ofNat 32 k.val)) 0#32
    = if k.val < 31 then 1#1 else 0#1 := by decide

theorem gate_lo (i : grid0.Coords) (hi : (i 0 : ℕ) = n) (j : Fin 2) (q : ℕ) (h8 : q < 8) (ch : Fin 1536) :
    Scalar.select (Scalar.cmpi CmpIPredicate.sgt (Scalar.subi (31#32) (BitVec.ofNat 32 ↑(i 0))) 0#32)
      (x6 (ix4 0 j ⟨q, h8⟩ ch)) 0 = (gz P (256 * (31 - n) + q - 6) (1536 * j + ch) : EReal) := by
  have hn : n < 32 := hi ▸ (i 0).isLt
  rw [hi, sgt_point ⟨n, hn⟩]
  by_cases h : n < 31
  · rw [if_pos h, H.pre h]
    show _ = _
    rw [gz, if_neg (by omega)]
    have e : 256 * (31 - n) - 8 + q = 256 * (31 - n) + q - 6 - 2 := by omega
    simp only [Scalar.select, e]; rfl
  · rw [if_neg h, gz, if_pos (by omega)]
    rfl

theorem grp0 (i : grid0.Coords) (hi : (i 0 : ℕ) = n) :
    Grp P (256 * (31 - n)) 0 x0 (View.ld x3 (Rect.unit ![0, 0, 0] ![1, 1536, 1024] inb_S2x1536x1024_S1x1536x1024_0_0_0))
      ((View.whole cc0_scratch0).readCov (Val := Elt Ideal)
        [⟨Rect.unit ![8, 0] ![256, 1536] inb_S264x1536_S256x1536_8_0,
          k0_pay10 (View.ld x5 (Rect.unit ![0, 0, 0, 0] ![1, 1, 256, 1536] inb_S2x2x256x1536_S1x1x256x1536_0_0_0_0))⟩,
         ⟨Rect.unit ![0, 0] ![8, 1536] inb_S264x1536_S8x1536_0_0,
          k0_pay9 i (View.ld x6 (Rect.unit ![0, 0, 0, 0] ![1, 1, 8, 1536] inb_S1x2x8x1536_S1x1x8x1536_0_0_0_0))⟩]
        B264)
      (View.ld x7 (Rect.unit ![2, 0] ![1, 1536] inb_S3x3072_S1x1536_2_0))
      (View.ld x7 (Rect.unit ![1, 0] ![1, 1536] inb_S3x3072_S1x1536_1_0))
      (View.ld x7 (Rect.unit ![0, 0] ![1, 1536] inb_S3x3072_S1x1536_0_0))
      (View.ld x8 (Rect.unit ![0, 0] ![1, 1536] inb_S1x3072_S1x1536_0_0)) where
  h4 := H.dx
  hw ch c := by pointwise; simpa using H.wd 0 ch c
  h q ch := by
    rw [View.readCov_eq_canon']
    pointwise
    have hq := q.isLt
    by_cases h8 : (q : ℕ) < 8
    · refine (canon_miss _ _ _ 0 (by left; exact h8)).trans ((canon_hit _ _ _ (ix2 ⟨q, h8⟩ ch) ?_).trans ?_)
      · exact Fin.forall_fin_two.mpr ⟨(Nat.zero_add _).symm, (Nat.zero_add _).symm⟩
      · pointwise [k0_pay9]
        simpa using gate_lo H i hi 0 q h8 ch
    · refine (canon_hit _ _ _ (ix2 ⟨q - 8, by omega⟩ ch) ?_).trans ?_
      · exact Fin.forall_fin_two.mpr ⟨show (q : ℕ) = 8 + (q - 8) by omega, (Nat.zero_add _).symm⟩
      · pointwise [k0_pay10]
        simpa using gate_hi H 0 q h8 (by omega) ch
  h2 ch := by pointwise; simpa using H.cw 2 ⟨ch, by omega⟩
  h1 ch := by pointwise; simpa using H.cw 1 ⟨ch, by omega⟩
  h0 ch := by pointwise; simpa using H.cw 0 ⟨ch, by omega⟩
  hb ch := by pointwise; simpa using H.cb ⟨ch, by omega⟩

theorem grp1 (i : grid0.Coords) (hi : (i 0 : ℕ) = n) :
    Grp P (256 * (31 - n)) 1536 x0 (View.ld x3 (Rect.unit ![1, 0, 0] ![1, 1536, 1024] inb_S2x1536x1024_S1x1536x1024_1_0_0))
      ((View.whole cc0_scratch0).readCov (Val := Elt Ideal)
        [⟨Rect.unit ![8, 0] ![256, 1536] inb_S264x1536_S256x1536_8_0,
          k0_pay35 (View.ld x5 (Rect.unit ![0, 1, 0, 0] ![1, 1, 256, 1536] inb_S2x2x256x1536_S1x1x256x1536_0_1_0_0))⟩,
         ⟨Rect.unit ![0, 0] ![8, 1536] inb_S264x1536_S8x1536_0_0,
          k0_pay34 (Scalar.subi 31#32 (BitVec.ofNat 32 ↑(i 0))) (View.ld x6 (Rect.unit ![0, 1, 0, 0] ![1, 1, 8, 1536] inb_S1x2x8x1536_S1x1x8x1536_0_1_0_0))⟩,
         ⟨Rect.unit ![8, 0] ![256, 1536] inb_S264x1536_S256x1536_8_0,
          k0_pay10 (View.ld x5 (Rect.unit ![0, 0, 0, 0] ![1, 1, 256, 1536] inb_S2x2x256x1536_S1x1x256x1536_0_0_0_0))⟩,
         ⟨Rect.unit ![0, 0] ![8, 1536] inb_S264x1536_S8x1536_0_0,
          k0_pay9 i (View.ld x6 (Rect.unit ![0, 0, 0, 0] ![1, 1, 8, 1536] inb_S1x2x8x1536_S1x1x8x1536_0_0_0_0))⟩]
        B264)
      (View.ld x7 (Rect.unit ![2, 1536] ![1, 1536] inb_S3x3072_S1x1536_2_1536))
      (View.ld x7 (Rect.unit ![1, 1536] ![1, 1536] inb_S3x3072_S1x1536_1_1536))
      (View.ld x7 (Rect.unit ![0, 1536] ![1, 1536] inb_S3x3072_S1x1536_0_1536))
      (View.ld x8 (Rect.unit ![0, 1536] ![1, 1536] inb_S1x3072_S1x1536_0_1536)) where
  h4 := H.dx
  hw ch c := by pointwise; simpa using H.wd 1 ch c
  h q ch := by
    rw [View.readCov_eq_canon']
    pointwise
    have hq := q.isLt
    by_cases h8 : (q : ℕ) < 8
    · refine (canon_miss _ _ _ 0 (by left; exact h8)).trans ((canon_hit _ _ _ (ix2 ⟨q, h8⟩ ch) ?_).trans ?_)
      · exact Fin.forall_fin_two.mpr ⟨(Nat.zero_add _).symm, (Nat.zero_add _).symm⟩
      · rw [pay34_eq]; pointwise [k0_pay9]
        simpa using gate_lo H i hi 1 q h8 ch
    · refine (canon_hit _ _ _ (ix2 ⟨q - 8, by omega⟩ ch) ?_).trans ?_
      · exact Fin.forall_fin_two.mpr ⟨show (q : ℕ) = 8 + (q - 8) by omega, (Nat.zero_add _).symm⟩
      · rw [pay35_eq]; pointwise [k0_pay10]
        simpa using gate_hi H 1 q h8 (by omega) ch
  h2 ch := by pointwise; simpa using H.cw 2 ⟨1536 + ch, by omega⟩
  h1 ch := by pointwise; simpa using H.cw 1 ⟨1536 + ch, by omega⟩
  h0 ch := by pointwise; simpa using H.cw 0 ⟨1536 + ch, by omega⟩
  hb ch := by pointwise; simpa using H.cb ⟨1536 + ch, by omega⟩

theorem up0 : Tile4 (fun R ch => gu P R (3072 + ch)) (256 * (31 - n)) 0
    (View.ld x5 (Rect.unit ![1, 0, 0, 0] ![1, 1, 256, 1536] inb_S2x2x256x1536_S1x1x256x1536_1_0_0_0)) := fun r ch => by
  pointwise; simpa using H.gu 1 0 r ch

theorem up1 : Tile4 (fun R ch => gu P R (3072 + ch)) (256 * (31 - n)) 1536
    (View.ld x5 (Rect.unit ![1, 1, 0, 0] ![1, 1, 256, 1536] inb_S2x2x256x1536_S1x1x256x1536_1_1_0_0)) := fun r ch => by
  pointwise; simpa [← Nat.add_assoc] using H.gu 1 1 r ch

theorem wup0 : Wup P 0 (View.ld x4 (Rect.unit ![0, 0, 0] ![1, 1024, 1536] inb_S4x1024x1536_S1x1024x1536_0_0_0)) := fun c ch => by
  pointwise; simpa using H.wu 0 c ch
theorem wup1 : Wup P 1536 (View.ld x4 (Rect.unit ![1, 0, 0] ![1, 1024, 1536] inb_S4x1024x1536_S1x1024x1536_1_0_0)) := fun c ch => by
  pointwise; simpa using H.wu 1 c ch
theorem wup2 : Wup P (3072 + 0) (View.ld x4 (Rect.unit ![2, 0, 0] ![1, 1024, 1536] inb_S4x1024x1536_S1x1024x1536_2_0_0)) := fun c ch => by
  pointwise; simpa using H.wu 2 c ch
theorem wup3 : Wup P (3072 + 1536) (View.ld x4 (Rect.unit ![3, 0, 0] ![1, 1024, 1536] inb_S4x1024x1536_S1x1024x1536_3_0_0)) := fun c ch => by
  pointwise; simpa using H.wu 3 c ch

end Cert.Ffn
-- ==== Proof.Ffn.Slab.lean ====
/- The cotangent buffer of the backward kernel: what its slabs hold when they are read, and the rows carried to the next
   grid point. -/
module
public import proofs.«01_k».proof.Proof.Ffn.Point
public import Idealize.ShloMosaic.Lib.WritesUnit
@[expose] public section
set_option maxRecDepth 16384
noncomputable section
open Idealize.ShloMosaic Idealize.ShloMosaic.TcCoe Idealize.SL.Sem
open Cert.KernelIdeal Cert.KernelIdeal.Gen

namespace Cert.Ffn

theorem slab_sz : ∀ i : Fin 2, (![1, 264, 1536] : Fin 3 → ℕ) i.succ = (![264, 1536] : Fin 2 → ℕ) i := by decide

/-- One slab of the cotangent buffer, as a box of the whole. -/
abbrev Slab (off : Fin 3 → ℕ) (inb : ∀ a, off a + (![1, 264, 1536] : Fin 3 → ℕ) a ≤ S2x264x1536.size a)
    (h : ∀ a, (Rect.unit (s := S2x264x1536) off ![1, 264, 1536] inb).stride a = 1) : LoadRect S2x264x1536 :=
  (Rect.unit (s := S2x264x1536) off ![1, 264, 1536] inb).withinL
    ((Rect.unit (s := S264x1536) ![0, 0] ![264, 1536] inb_S264x1536_S264x1536_0_0).consLift ![1, 264, 1536] rfl slab_sz).toLoadRect h

theorem slab_idx {off : Fin 3 → ℕ} {inb h} (hR : B264.shape.numel = (Slab off inb h).shape.numel) (j : Fin 2)
    (e : off = ![(j : ℕ), 0, 0]) (q : Fin 264) (ch : Fin 1536) :
    (Slab off inb h).idx (Shape.reshapeEquiv hR (ix2 q ch)) = ix3 j q ch := by
  have hc := Shape.reshapeEquiv_cons_one (n := 2) (d := ![264, 1536]) hR (ix2 q ch)
  have hc' : Shape.reshapeEquiv hR (ix2 q ch) = (Fin.cons ⟨0, Nat.one_pos⟩ (ix2 q ch) : (Slab off inb h).shape.Idx) := hc
  rw [hc']
  subst e
  funext a
  refine Fin.ext ?_
  match a with
  | ⟨0, _⟩ => show (j : ℕ) + 0 + 1 * 0 = j; omega
  | ⟨1, _⟩ => show 0 + 0 + 1 * (q : ℕ) = q; omega
  | ⟨2, _⟩ => show 0 + 0 + 1 * (ch : ℕ) = ch; omega

/-- A slab read whole holds a tile of the cotangent, if the buffer does there. -/
theorem dbuf_read {P : In} {r0 c0 : ℕ} (f : (View.whole (κ := .tc) cc0_scratch1).ty.Contents (Elt Ideal)) (j : Fin 2) {off : Fin 3 → ℕ}
    (e : off = ![(j : ℕ), 0, 0]) {inb h} (hR : B264.shape.numel = (Slab off inb h).shape.numel)
    (hf : ∀ (q : Fin 264) (ch : Fin 1536), View.read (Elt Ideal) (View.whole cc0_scratch1) f (ix3 j q ch) = (dgz P (r0 + q) (c0 + ch) : EReal)) :
    DBuf P r0 c0 (LoadRect.valAlong hR (View.readAt (Elt Ideal) (View.whole cc0_scratch1) (Slab off inb h) f)) := fun q ch => by
  show View.read (Elt Ideal) (View.whole cc0_scratch1) f ((Slab off inb h).idx (Shape.reshapeEquiv hR (ix2 q ch))) = _
  rw [slab_idx hR j e, hf]

/-- The rows past a tile that the buffer carries to grid point `n + 1`. -/
def Halo (P : In) (n : ℕ) (s : Vec Ideal S2x264x1536 .f32) : Prop :=
  ∀ (j : Fin 2) (q : Fin 8) (ch : Fin 1536), s (ix3 j ⟨256 + q, by omega⟩ ch) = (dgz P (256 * (31 - n) + q) (1536 * j + ch) : EReal)

/-- One group's tile of the cotangent, as stored. -/
def Put (P : In) (n c0 : ℕ) (w : FVec Ideal S1x256x1536 .f32) : Prop :=
  ∀ (r : Fin 256) (ch : Fin 1536), w (ix3 0 r ch) = (dgc P (256 * (31 - n) + r) (c0 + ch) : EReal)

section
variable {P : In} {n : ℕ} {w0 w1 : FVec Ideal S1x256x1536 .f32} {u : Vec Ideal S1x8x1536 .f32}
  (f : (View.whole (κ := .tc) cc0_scratch1).ty.Contents (Elt Ideal)) (L : List (View.Piece (Elt Ideal) S2x264x1536 .f32))

theorem Put.dgz (H : Put P n 0 w0) (r : Fin 256) (ch : Fin 1536) : w0 (ix3 0 r ch) = (dgz P (256 * (31 - n) + r) (0 + ch) : EReal) := by
  rw [H, Cert.Ffn.dgz, if_pos (by omega)]

theorem Put.dgz1 (H : Put P n 1536 w0) (r : Fin 256) (ch : Fin 1536) : w0 (ix3 0 r ch) = (Cert.Ffn.dgz P (256 * (31 - n) + r) (1536 + ch) : EReal) := by
  rw [H, Cert.Ffn.dgz, if_pos (by omega)]

/-- The first slab: the tile just stored, then what the buffer held. -/
theorem slab0 (H0 : Put P n 0 w0)
    (hL : ∀ (q : Fin 8) (ch : Fin 1536), View.read (Elt Ideal) (View.whole cc0_scratch1) ((View.whole cc0_scratch1).writes (Elt Ideal) f L)
      (ix3 0 ⟨256 + q, by omega⟩ ch) = (dgz P (256 * (31 - n) + 256 + q) (1536 * 0 + ch) : EReal)) (q : Fin 264) (ch : Fin 1536) :
    View.read (Elt Ideal) (View.whole cc0_scratch1) ((View.whole cc0_scratch1).writes (Elt Ideal) f
      (⟨Rect.unit ![0, 0, 0] ![1, 256, 1536] inb_S2x264x1536_S1x256x1536_0_0_0, w0⟩ :: L)) (ix3 0 q ch)
      = (dgz P (256 * (31 - n) + q) (0 + ch) : EReal) := by
  by_cases h : (q : ℕ) < 256
  · refine (View.read_writes_cons_unit_of_mem _ f _ w0 L _ (ix3 0 ⟨q, h⟩ ch) rfl ?_).trans (H0.dgz ⟨q, h⟩ ch)
    exact (fun a => match a with | ⟨0, _⟩ => rfl | ⟨1, _⟩ => (Nat.zero_add _).symm | ⟨2, _⟩ => (Nat.zero_add _).symm)
  · refine (View.read_writes_cons_unit_of_not_mem _ f _ w0 L _ rfl 1 (Or.inr (by show 0 + 256 ≤ (q : ℕ); omega))).trans ?_
    have e : q = ⟨256 + (q - 256), by omega⟩ := Fin.ext (by show (q : ℕ) = 256 + (q - 256); omega)
    have := hL ⟨q - 256, by omega⟩ ch
    rw [e]
    refine this.trans ?_
    refine congrArg _ ?_
    show dgz P (256 * (31 - n) + 256 + (q - 256)) (1536 * 0 + ch) = dgz P (256 * (31 - n) + (256 + (q - 256))) (0 + ch)
    rw [Nat.mul_zero, Nat.add_assoc]

/-- The second slab, stored after the first. -/
theorem slab1 (H1 : Put P n 1536 w1)
    (hL : ∀ (q : Fin 8) (ch : Fin 1536), View.read (Elt Ideal) (View.whole cc0_scratch1) ((View.whole cc0_scratch1).writes (Elt Ideal) f L)
      (ix3 1 ⟨256 + q, by omega⟩ ch) = (dgz P (256 * (31 - n) + 256 + q) (1536 * 1 + ch) : EReal)) (q : Fin 264) (ch : Fin 1536) :
    View.read (Elt Ideal) (View.whole cc0_scratch1) ((View.whole cc0_scratch1).writes (Elt Ideal) f
      (⟨Rect.unit ![1, 0, 0] ![1, 256, 1536] inb_S2x264x1536_S1x256x1536_1_0_0, w1⟩ ::
        ⟨Rect.unit ![0, 256, 0] ![1, 8, 1536] inb_S2x264x1536_S1x8x1536_0_256_0, u⟩ ::
        ⟨Rect.unit ![0, 0, 0] ![1, 256, 1536] inb_S2x264x1536_S1x256x1536_0_0_0, w0⟩ :: L)) (ix3 1 q ch)
      = (dgz P (256 * (31 - n) + q) (1536 + ch) : EReal) := by
  by_cases h : (q : ℕ) < 256
  · refine (View.read_writes_cons_unit_of_mem _ f _ w1 _ _ (ix3 0 ⟨q, h⟩ ch) rfl ?_).trans (H1.dgz1 ⟨q, h⟩ ch)
    exact (fun a => match a with | ⟨0, _⟩ => rfl | ⟨1, _⟩ => (Nat.zero_add _).symm | ⟨2, _⟩ => (Nat.zero_add _).symm)
  · refine (View.read_writes_cons_unit_of_not_mem _ f _ w1 _ _ rfl 1 (Or.inr (by show 0 + 256 ≤ (q : ℕ); omega))).trans ?_
    refine (View.read_writes_cons_unit_of_not_mem _ f _ u _ _ rfl 0 (Or.inr (by show 0 + 1 ≤ 1; omega))).trans ?_
    refine (View.read_writes_cons_unit_of_not_mem _ f _ w0 _ _ rfl 0 (Or.inr (by show 0 + 1 ≤ 1; omega))).trans ?_
    have e : q = ⟨256 + (q - 256), by omega⟩ := Fin.ext (by show (q : ℕ) = 256 + (q - 256); omega)
    have := hL ⟨q - 256, by omega⟩ ch
    rw [e]
    refine this.trans ?_
    refine congrArg _ ?_
    show dgz P (256 * (31 - n) + 256 + (q - 256)) (1536 * 1 + ch) = dgz P (256 * (31 - n) + (256 + (q - 256))) (1536 + ch)
    rw [Nat.mul_one, Nat.add_assoc]

/-- What a point leaves carries its own first rows. -/
theorem halo_of (H0 : Put P n 0 w0) (H1 : Put P n 1536 w1) :
    Halo P n (View.canon (Val := Elt Ideal)
      (⟨Rect.unit ![1, 256, 0] ![1, 8, 1536] inb_S2x264x1536_S1x8x1536_1_256_0,
          k0_pay55 ((View.whole cc0_scratch1).readCov (Val := Elt Ideal)
              (⟨Rect.unit ![1, 0, 0] ![1, 256, 1536] inb_S2x264x1536_S1x256x1536_1_0_0, w1⟩ ::
                ⟨Rect.unit ![0, 256, 0] ![1, 8, 1536] inb_S2x264x1536_S1x8x1536_0_256_0,
                  k0_pay30 ((View.whole cc0_scratch1).readCov (Val := Elt Ideal)
                      (⟨Rect.unit ![0, 0, 0] ![1, 256, 1536] inb_S2x264x1536_S1x256x1536_0_0_0, w0⟩ :: L)
                      (Rect.unit ![0, 0, 0] ![1, 8, 1536] inb_S2x264x1536_S1x8x1536_0_0_0).toLoadRect)⟩ ::
                ⟨Rect.unit ![0, 0, 0] ![1, 256, 1536] inb_S2x264x1536_S1x256x1536_0_0_0, w0⟩ :: L)
              (Rect.unit ![1, 0, 0] ![1, 8, 1536] inb_S2x264x1536_S1x8x1536_1_0_0).toLoadRect)⟩ ::
        ⟨Rect.unit ![1, 0, 0] ![1, 256, 1536] inb_S2x264x1536_S1x256x1536_1_0_0, w1⟩ ::
        ⟨Rect.unit ![0, 256, 0] ![1, 8, 1536] inb_S2x264x1536_S1x8x1536_0_256_0,
          k0_pay30 ((View.whole cc0_scratch1).readCov (Val := Elt Ideal)
            (⟨Rect.unit ![0, 0, 0] ![1, 256, 1536] inb_S2x264x1536_S1x256x1536_0_0_0, w0⟩ :: L)
            (Rect.unit ![0, 0, 0] ![1, 8, 1536] inb_S2x264x1536_S1x8x1536_0_0_0).toLoadRect)⟩ ::
        ⟨Rect.unit ![0, 0, 0] ![1, 256, 1536] inb_S2x264x1536_S1x256x1536_0_0_0, w0⟩ :: L)) := fun j q ch => by
  match j with
  | ⟨0, _⟩ =>
    refine (canon_miss _ _ _ 0 (Or.inl (by show 0 < 1; omega))).trans ?_
    refine (canon_miss _ _ _ 0 (Or.inl (by show 0 < 1; omega))).trans ?_
    refine (canon_hit _ _ _ (ix3 0 q ch) ?_).trans ?_
    · exact (fun a => match a with | ⟨0, _⟩ => rfl | ⟨1, _⟩ => rfl | ⟨2, _⟩ => (Nat.zero_add _).symm)
    rw [View.readCov_eq_canon']
    pointwise [k0_pay30]
    refine (canon_hit _ _ _ (ix3 0 ⟨q, by omega⟩ ch) ?_).trans ?_
    · exact (fun a => match a with | ⟨0, _⟩ => rfl | ⟨1, _⟩ => (Nat.zero_add _).symm | ⟨2, _⟩ => (Nat.zero_add _).symm)
    simpa using H0.dgz ⟨q, by omega⟩ ch
  | ⟨1, _⟩ =>
    refine (canon_hit _ _ _ (ix3 0 q ch) ?_).trans ?_
    · exact (fun a => match a with | ⟨0, _⟩ => rfl | ⟨1, _⟩ => rfl | ⟨2, _⟩ => (Nat.zero_add _).symm)
    rw [View.readCov_eq_canon']
    pointwise [k0_pay55]
    refine (canon_hit _ _ _ (ix3 0 ⟨q, by omega⟩ ch) ?_).trans ?_
    · exact (fun a => match a with | ⟨0, _⟩ => rfl | ⟨1, _⟩ => (Nat.zero_add _).symm | ⟨2, _⟩ => (Nat.zero_add _).symm)
    exact H1.dgz1 ⟨q, by omega⟩ ch
end

end Cert.Ffn
-- ==== Proof.Ffn.Outs.lean ====
/- What one grid point of the backward kernel leaves in its outputs, from the values its groups work on. -/
module
public import proofs.«01_k».proof.Proof.Ffn.Slab
@[expose] public section
set_option maxRecDepth 16384
noncomputable section
open Idealize.ShloMosaic Idealize.ShloMosaic.TcCoe Idealize.SL.Sem
open Cert.KernelIdeal Cert.KernelIdeal.Gen

namespace Cert.Ffn

variable {P : In} {n : ℕ} {v4 : Vec Ideal S256x1024 .f32} {w0 w1 : Vec Ideal S1x1536x1024 .bf16} {gb0 gb1 : Vec Ideal S264x1536 .f32}
  {a2 a1 a0 b e2 e1 e0 b' : Vec Ideal S1x1536 .f32} {u0 u1 : Vec Ideal S1x1x256x1536 .f32} {d0 d1 : Vec Ideal S264x1536 .f32}

section
variable (G0 : Grp P (256 * (31 - n)) 0 v4 w0 gb0 a2 a1 a0 b) (U0 : Tile4 (fun R ch => gu P R (3072 + ch)) (256 * (31 - n)) 0 u0)
  (G1 : Grp P (256 * (31 - n)) 1536 v4 w1 gb1 e2 e1 e0 b') (U1 : Tile4 (fun R ch => gu P R (3072 + ch)) (256 * (31 - n)) 1536 u1)

include G0 U0 in
theorem put0 : Put P n 0 (k0_pay24 (F := Ideal) (k0_pay7 v4 w0) (k0_pay19 gb0 (k0_pay11 gb0) a2 a1 a0 b)
    (k0_pay20 gb0 (k0_pay11 gb0) a2 a1 a0 b) u0) := pay24_at (G0.dgc U0)

include G1 U1 in
theorem put1 : Put P n 1536 (k0_pay49 (F := Ideal) (k0_pay8 v4 w1) (k0_pay44 gb1 (k0_pay36 gb1) (k0_pay37 gb1) e2 e1 e0 b') u1) := by
  rw [pay44_eq, pay8_eq, pay49_eq]; exact pay24_at (G1.dgc U1)

include G0 U0 G1 U1 in
/-- The convolution bias's row. -/
theorem row13 (Z : Fin 3072 → EReal) {z0 z1 : Vec Ideal S1x1536 .f32} (L : List (View.Piece (Elt Ideal) S1x3072 .f32))
    (h0 : ∀ ch : Fin 1536, z0 (ix2 0 ch) = Z ⟨ch, by omega⟩) (h1 : ∀ ch : Fin 1536, z1 (ix2 0 ch) = Z ⟨1536 + ch, by omega⟩) (ch : Fin 3072) :
    View.canon (Val := Elt Ideal)
      (⟨Rect.unit ![0, 1536] ![1, 1536] inb_S1x3072_S1x1536_0_1536,
          k0_pay48 (k0_pay8 v4 w1) (k0_pay44 gb1 (k0_pay36 gb1) (k0_pay37 gb1) e2 e1 e0 b') u1 z1⟩ ::
        ⟨Rect.unit ![0, 0] ![1, 1536] inb_S1x3072_S1x1536_0_0,
          k0_pay23 (k0_pay7 v4 w0) (k0_pay19 gb0 (k0_pay11 gb0) a2 a1 a0 b) (k0_pay20 gb0 (k0_pay11 gb0) a2 a1 a0 b) u0 z0⟩ :: L) (ix2 0 ch)
      = Z ch + (tsum (dgc P) (256 * (31 - n)) ch : EReal) := by
  by_cases h : (ch : ℕ) < 1536
  · refine (canon_miss _ _ _ 1 (Or.inl h)).trans ((canon_hit _ _ _ (ix2 0 ⟨ch, h⟩) ?_).trans ?_)
    · exact Fin.forall_fin_two.mpr ⟨rfl, (Nat.zero_add _).symm⟩
    rw [pay23_at (G0.dgc U0), h0]
    simp only [Nat.zero_add]
  · have e : ch = ⟨1536 + (ch - 1536), by omega⟩ := Fin.ext (by show (ch : ℕ) = 1536 + (ch - 1536); omega)
    refine (canon_hit _ _ _ (ix2 0 ⟨ch - 1536, by omega⟩) ?_).trans ?_
    · exact Fin.forall_fin_two.mpr ⟨rfl, show (ch : ℕ) = 1536 + (ch - 1536) by omega⟩
    rw [pay44_eq, pay8_eq, pay48_eq, pay23_at (G1.dgc U1), h1, ← e]
    have e' : 1536 + ((ch : ℕ) - 1536) = ch := by omega
    simp only [e']

/-- What the three taps' sums run over. -/
def cwf (P : In) (k : ℕ) : ℕ → ℕ → ℝ := fun R ch => dgc P R ch * gz P (R + k) ch

include G0 U0 G1 U1 in
/-- The convolution weight's rows. -/
theorem row12 (Z : Fin 3 → Fin 3072 → EReal) {z00 z01 z10 z11 z20 z21 : Vec Ideal S1x1536 .f32} (L : List (View.Piece (Elt Ideal) S3x3072 .f32))
    (h00 : ∀ ch : Fin 1536, z00 (ix2 0 ch) = Z 0 ⟨ch, by omega⟩) (h01 : ∀ ch : Fin 1536, z01 (ix2 0 ch) = Z 0 ⟨1536 + ch, by omega⟩)
    (h10 : ∀ ch : Fin 1536, z10 (ix2 0 ch) = Z 1 ⟨ch, by omega⟩) (h11 : ∀ ch : Fin 1536, z11 (ix2 0 ch) = Z 1 ⟨1536 + ch, by omega⟩)
    (h20 : ∀ ch : Fin 1536, z20 (ix2 0 ch) = Z 2 ⟨ch, by omega⟩) (h21 : ∀ ch : Fin 1536, z21 (ix2 0 ch) = Z 2 ⟨1536 + ch, by omega⟩)
    (k : Fin 3) (ch : Fin 3072) :
    View.canon (Val := Elt Ideal)
      (⟨Rect.unit ![0, 1536] ![1, 1536] inb_S3x3072_S1x1536_0_1536,
          k0_pay53 (k0_pay52 (k0_pay8 v4 w1) (k0_pay39 gb1) (k0_pay44 gb1 (k0_pay36 gb1) (k0_pay37 gb1) e2 e1 e0 b') u1) z01⟩ ::
        ⟨Rect.unit ![1, 1536] ![1, 1536] inb_S3x3072_S1x1536_1_1536,
          k0_pay51 (k0_pay8 v4 w1) (k0_pay38 (k0_pay37 gb1)) (k0_pay44 gb1 (k0_pay36 gb1) (k0_pay37 gb1) e2 e1 e0 b') u1 z11⟩ ::
        ⟨Rect.unit ![2, 1536] ![1, 1536] inb_S3x3072_S1x1536_2_1536,
          k0_pay50 (k0_pay8 v4 w1) (k0_pay36 gb1) (k0_pay44 gb1 (k0_pay36 gb1) (k0_pay37 gb1) e2 e1 e0 b') u1 z21⟩ ::
        ⟨Rect.unit ![0, 0] ![1, 1536] inb_S3x3072_S1x1536_0_0,
          k0_pay28 (k0_pay27 (k0_pay7 v4 w0) (k0_pay13 gb0) (k0_pay19 gb0 (k0_pay11 gb0) a2 a1 a0 b)
            (k0_pay20 gb0 (k0_pay11 gb0) a2 a1 a0 b) u0) z00⟩ ::
        ⟨Rect.unit ![1, 0] ![1, 1536] inb_S3x3072_S1x1536_1_0,
          k0_pay26 (k0_pay7 v4 w0) (k0_pay12 gb0) (k0_pay19 gb0 (k0_pay11 gb0) a2 a1 a0 b) (k0_pay20 gb0 (k0_pay11 gb0) a2 a1 a0 b) u0 z10⟩ ::
        ⟨Rect.unit ![2, 0] ![1, 1536] inb_S3x3072_S1x1536_2_0,
          k0_pay25 (k0_pay7 v4 w0) (k0_pay11 gb0) (k0_pay19 gb0 (k0_pay11 gb0) a2 a1 a0 b) (k0_pay20 gb0 (k0_pay11 gb0) a2 a1 a0 b) u0 z20⟩ ::
        L) (ix2 k ch)
      = Z k ch + (tsum (cwf P k) (256 * (31 - n)) ch : EReal) := by
  by_cases h : (ch : ℕ) < 1536
  · refine (canon_miss _ _ _ 1 (Or.inl h)).trans ((canon_miss _ _ _ 1 (Or.inl h)).trans ((canon_miss _ _ _ 1 (Or.inl h)).trans ?_))
    match k with
    | ⟨0, _⟩ =>
      refine (canon_hit _ _ _ (ix2 0 ⟨ch, h⟩) ?_).trans ?_
      · exact Fin.forall_fin_two.mpr ⟨rfl, (Nat.zero_add _).symm⟩
      rw [pay28_at (G0.dgc U0) (pay13_at G0.h), h00]
      simp only [Nat.zero_add]; rfl
    | ⟨1, _⟩ =>
      refine (canon_miss _ _ _ 0 (Or.inr (by show 0 + 1 ≤ 1; omega))).trans ?_
      refine (canon_hit _ _ _ (ix2 0 ⟨ch, h⟩) ?_).trans ?_
      · exact Fin.forall_fin_two.mpr ⟨rfl, (Nat.zero_add _).symm⟩
      rw [pay26_at (G0.dgc U0) (pay12_at G0.h), h10]
      simp only [Nat.zero_add]; rfl
    | ⟨2, _⟩ =>
      refine (canon_miss _ _ _ 0 (Or.inr (by show 0 + 1 ≤ 2; omega))).trans ?_
      refine (canon_miss _ _ _ 0 (Or.inr (by show 1 + 1 ≤ 2; omega))).trans ?_
      refine (canon_hit _ _ _ (ix2 0 ⟨ch, h⟩) ?_).trans ?_
      · exact Fin.forall_fin_two.mpr ⟨rfl, (Nat.zero_add _).symm⟩
      rw [pay25_at (G0.dgc U0) (pay11_at G0.h), h20]
      simp only [Nat.zero_add]; rfl
  · have e : ch = ⟨1536 + (ch - 1536), by omega⟩ := Fin.ext (by show (ch : ℕ) = 1536 + (ch - 1536); omega)
    have e' : 1536 + ((ch : ℕ) - 1536) = ch := by omega
    match k with
    | ⟨0, _⟩ =>
      refine (canon_hit _ _ _ (ix2 0 ⟨ch - 1536, by omega⟩) ?_).trans ?_
      · exact Fin.forall_fin_two.mpr ⟨rfl, e'.symm⟩
      rw [pay44_eq, pay8_eq, pay53_eq, pay39_eq, pay28_at (G1.dgc U1) (pay13_at G1.h), h01, ← e]
      simp only [e']; rfl
    | ⟨1, _⟩ =>
      refine (canon_miss _ _ _ 0 (Or.inr (by show 0 + 1 ≤ 1; omega))).trans ?_
      refine (canon_hit _ _ _ (ix2 0 ⟨ch - 1536, by omega⟩) ?_).trans ?_
      · exact Fin.forall_fin_two.mpr ⟨rfl, e'.symm⟩
      rw [pay44_eq, pay8_eq, pay51_eq, pay38_eq, pay26_at (G1.dgc U1) (pay12_at G1.h), h11, ← e]
      simp only [e']; rfl
    | ⟨2, _⟩ =>
      refine (canon_miss _ _ _ 0 (Or.inr (by show 0 + 1 ≤ 2; omega))).trans ?_
      refine (canon_miss _ _ _ 0 (Or.inr (by show 1 + 1 ≤ 2; omega))).trans ?_
      refine (canon_hit _ _ _ (ix2 0 ⟨ch - 1536, by omega⟩) ?_).trans ?_
      · exact Fin.forall_fin_two.mpr ⟨rfl, e'.symm⟩
      rw [pay44_eq, pay8_eq, pay50_eq, pay36_eq, pay25_at (G1.dgc U1) (pay11_at G1.h), h21, ← e]
      simp only [e']; rfl
end

section
variable (G0 : Grp P (256 * (31 - n)) 0 v4 w0 gb0 a2 a1 a0 b) (G1 : Grp P (256 * (31 - n)) 1536 v4 w1 gb1 e2 e1 e0 b')
  (D0 : DBuf P (256 * (31 - n)) 0 d0) (D1 : DBuf P (256 * (31 - n)) 1536 d1)
include G0 G1 D0 D1

/-- The up projection's cotangent. -/
theorem tile9 (h j : Fin 2) (r : Fin 256) (ch : Fin 1536) :
    View.canon (Val := Elt Ideal) (s := S2x2x256x1536) (e := .bf16)
      [⟨Rect.unit ![1, 1, 0, 0] ![1, 1, 256, 1536] inb_S2x2x256x1536_S1x1x256x1536_1_1_0_0,
          k0_pay57 (k0_pay46 (k0_pay45 (k0_pay8 v4 w1) gb1 (k0_pay36 gb1) (k0_pay37 gb1) e2 e1 e0 b'))⟩,
        ⟨Rect.unit ![0, 1, 0, 0] ![1, 1, 256, 1536] inb_S2x2x256x1536_S1x1x256x1536_0_1_0_0, k0_pay56 d1 e2 e1 e0⟩,
        ⟨Rect.unit ![1, 0, 0, 0] ![1, 1, 256, 1536] inb_S2x2x256x1536_S1x1x256x1536_1_0_0_0,
          k0_pay32 (k0_pay21 (k0_pay7 v4 w0) (k0_pay18 gb0 (k0_pay11 gb0) a2 a1 a0 b))⟩,
        ⟨Rect.unit ![0, 0, 0, 0] ![1, 1, 256, 1536] inb_S2x2x256x1536_S1x1x256x1536_0_0_0_0, k0_pay31 (k0_pay29 d0 a2 a1 a0)⟩]
      (ix4 h j r ch) = (dgu P h (256 * (31 - n) + r) (1536 * j + ch) : EReal) := by
  match h, j with
  | ⟨1, _⟩, ⟨1, _⟩ =>
    refine (canon_hit _ _ _ (ix4 0 0 r ch) ?_).trans ?_
    · exact fun a => match a with
      | ⟨0, _⟩ => rfl | ⟨1, _⟩ => rfl | ⟨2, _⟩ => (Nat.zero_add _).symm | ⟨3, _⟩ => (Nat.zero_add _).symm
    rw [pay46_eq, pay8_eq]
    pointwise [k0_pay57]
    rw [G1.du]; rfl
  | ⟨0, _⟩, ⟨1, _⟩ =>
    refine (canon_miss _ _ _ 0 (Or.inl (by show 0 < 1; omega))).trans ?_
    refine (canon_hit _ _ _ (ix4 0 0 r ch) ?_).trans ?_
    · exact fun a => match a with
      | ⟨0, _⟩ => rfl | ⟨1, _⟩ => rfl | ⟨2, _⟩ => (Nat.zero_add _).symm | ⟨3, _⟩ => (Nat.zero_add _).symm
    rw [pay56_eq]
    pointwise [k0_pay31]
    rw [pay29_at D1 G1.h2 G1.h1 G1.h0]; rfl
  | ⟨1, _⟩, ⟨0, _⟩ =>
    refine (canon_miss _ _ _ 1 (Or.inl (by show 0 < 1; omega))).trans ?_
    refine (canon_miss _ _ _ 1 (Or.inl (by show 0 < 1; omega))).trans ?_
    refine (canon_hit _ _ _ (ix4 0 0 r ch) ?_).trans ?_
    · exact fun a => match a with
      | ⟨0, _⟩ => rfl | ⟨1, _⟩ => rfl | ⟨2, _⟩ => (Nat.zero_add _).symm | ⟨3, _⟩ => (Nat.zero_add _).symm
    pointwise [k0_pay32]
    rw [G0.du, Nat.zero_add]; rfl
  | ⟨0, _⟩, ⟨0, _⟩ =>
    refine (canon_miss _ _ _ 1 (Or.inl (by show 0 < 1; omega))).trans ?_
    refine (canon_miss _ _ _ 1 (Or.inl (by show 0 < 1; omega))).trans ?_
    refine (canon_miss _ _ _ 0 (Or.inl (by show 0 < 1; omega))).trans ?_
    refine (canon_hit _ _ _ (ix4 0 0 r ch) ?_).trans ?_
    · exact fun a => match a with
      | ⟨0, _⟩ => rfl | ⟨1, _⟩ => rfl | ⟨2, _⟩ => (Nat.zero_add _).symm | ⟨3, _⟩ => (Nat.zero_add _).symm
    pointwise [k0_pay31]
    rw [pay29_at D0 G0.h2 G0.h1 G0.h0, Nat.zero_add]; rfl

variable {q0 q1 q2 q3 : Vec Ideal S1x1024x1536 .bf16} (W0 : Wup P 0 q0) (W1 : Wup P 1536 q1) (W2 : Wup P (3072 + 0) q2) (W3 : Wup P (3072 + 1536) q3)
include W0 W1 W2 W3

theorem dh_pt (r : Fin 256) (c : Fin 1024) : k0_pay58 (F := Ideal)
    (k0_pay33 (k0_pay21 (k0_pay7 v4 w0) (k0_pay18 gb0 (k0_pay11 gb0) a2 a1 a0 b)) (k0_pay29 d0 a2 a1 a0) q0 q2)
    (k0_pay46 (k0_pay45 (k0_pay8 v4 w1) gb1 (k0_pay36 gb1) (k0_pay37 gb1) e2 e1 e0 b')) (k0_pay54 d1 e2 e1 e0) q1 q3 (ix2 r c)
    = (dh P (256 * (31 - n) + r) c : EReal) := by
  rw [pay46_eq, pay8_eq, pay54_eq]
  exact pay58_at (fun r c => pay33_at G0.du (pay29_at D0 G0.h2 G0.h1 G0.h0) W0 W2 r c) G1.du (pay29_at D1 G1.h2 G1.h1 G1.h0) W1 W3 r c

variable {x : Vec Ideal S256x1024 .f32} (hx : ∀ (r : Fin 256) (c : Fin 1024), x (ix2 r c) = (P.x (256 * (31 - n) + r) c : EReal))
include hx

/-- The norm weight's row. -/
theorem row11 (acc : Vec Ideal S1x1024 .f32) (c : Fin 1024) : k0_pay61 (F := Ideal)
    (k0_pay33 (k0_pay21 (k0_pay7 v4 w0) (k0_pay18 gb0 (k0_pay11 gb0) a2 a1 a0 b)) (k0_pay29 d0 a2 a1 a0) q0 q2)
    (k0_pay46 (k0_pay45 (k0_pay8 v4 w1) gb1 (k0_pay36 gb1) (k0_pay37 gb1) e2 e1 e0 b')) (k0_pay54 d1 e2 e1 e0) q1 q3 x acc (ix2 0 c)
    = acc (ix2 0 c) + (tsum (fun R c => dh P R c * xh P R c) (256 * (31 - n)) c : EReal) :=
  pay61_at hx (dh_pt G0 G1 D0 D1 W0 W1 W2 W3) acc c

variable {g : Vec Ideal S1x1024 .f32} (hg : ∀ c : Fin 1024, g (ix2 0 c) = (P.g c : EReal))
include hg

/-- The cotangent of the block's input. -/
theorem tile10 (r : Fin 256) (c : Fin 1024) : k0_pay1 (F := Ideal) v4 (k0_pay59 x) (k0_pay60 x)
    (k0_pay62 (k0_pay33 (k0_pay21 (k0_pay7 v4 w0) (k0_pay18 gb0 (k0_pay11 gb0) a2 a1 a0 b)) (k0_pay29 d0 a2 a1 a0) q0 q2)
      (k0_pay46 (k0_pay45 (k0_pay8 v4 w1) gb1 (k0_pay36 gb1) (k0_pay37 gb1) e2 e1 e0 b')) (k0_pay54 d1 e2 e1 e0) q1 q3 g)
    (k0_pay63 (k0_pay33 (k0_pay21 (k0_pay7 v4 w0) (k0_pay18 gb0 (k0_pay11 gb0) a2 a1 a0 b)) (k0_pay29 d0 a2 a1 a0) q0 q2)
      (k0_pay46 (k0_pay45 (k0_pay8 v4 w1) gb1 (k0_pay36 gb1) (k0_pay37 gb1) e2 e1 e0 b')) (k0_pay54 d1 e2 e1 e0) q1 q3 x g) (ix2 r c)
    = (dx2 P (256 * (31 - n) + r) c : EReal) :=
  pay1_at hx (dh_pt G0 G1 D0 D1 W0 W1 W2 W3) G0.h4 hg r c
end

end Cert.Ffn
-- ==== Proof.Ffn.Step.lean ====
/- The outputs of the backward kernel after one grid point, from the values after the one before. -/
module
public import Idealize.ShloMosaic.Lib.Pointwise
public import Idealize.ShloMosaic.Lib.Pipeline.ValueKit
public import Idealize.ShloMosaic.Lib.Pipeline.ReadBack
public import proofs.«01_k».proof.Proof.Ffn.Frame
public import proofs.«01_k».proof.Proof.Ffn.Outs
@[expose] public section
set_option maxRecDepth 16384
noncomputable section
open Idealize.ShloMosaic Idealize.ShloMosaic.TcCoe Idealize.SL.Sem
open Idealize.ShloMosaic.Pipeline (Dat)
open Cert.KernelIdeal Cert.KernelIdeal.Gen

namespace Cert.Ffn

variable (m : (ℓ : Loc nD τ sig) → Idealize.ShloMosaic.Buf (Elt Ideal) ℓ) {P : In}

/-- The blocks of grid point `t`. -/
abbrev OpsAt (P : In) (c : Dev nD) (t : Fin cfg0.N) : Prop :=
  Ops P t.val (iblk m c 0 t) (iblk m c 1 t) (iblk m c 2 t) (iblk m c 3 t) (iblk m c 4 t) (iblk m c 5 t) (iblk m c 6 t) (iblk m c 7 t) (iblk m c 8 t)

theorem coord_val : ∀ t : Fin cfg0.N, ((grid0.coords t) 0 : ℕ) = t.val := by decide

theorem t_lt (t : Fin cfg0.N) : t.val < 32 := t.isLt

/-- Rows past the last hold zero after the first point's fill. -/
theorem tail_A {n : ℕ} (hn : n = 0) (j : Fin 2) (q : Fin 8) (ch : Fin 1536) :
    View.read (Elt Ideal) (View.whole (κ := .tc) cc0_scratch1) ((View.whole cc0_scratch1).writes (Elt Ideal) (View.whole cc0_scratch1).junk
      [⟨Rect.unit ![0, 0, 0] ![2, 264, 1536] inb_S2x264x1536_S2x264x1536_0_0_0, k0_pay5 (F := Ideal)⟩]) (ix3 j ⟨256 + q, by omega⟩ ch)
      = (dgz P (256 * (31 - n) + 256 + q) (1536 * j + ch) : EReal) := by
  refine (View.read_writes_cons_unit_of_mem _ _ _ _ _ _ (ix3 j ⟨256 + q, by omega⟩ ch) rfl ?_).trans ?_
  · exact fun a => match a with | ⟨0, _⟩ => (Nat.zero_add _).symm | ⟨1, _⟩ => (Nat.zero_add _).symm | ⟨2, _⟩ => (Nat.zero_add _).symm
  rw [dgz, if_neg (by omega)]
  pointwise [k0_pay5]
  rfl

/-- Rows past the tile hold what the previous point carried over. -/
theorem tail_B {n : ℕ} (hn : n ≠ 0) (hn' : n < 32) {s : Vec Ideal S2x264x1536 .f32} (H : Halo P (n - 1) s)
    {f : (View.whole (κ := .tc) cc0_scratch1).ty.Contents (Elt Ideal)} (hf : View.read (Elt Ideal) (View.whole cc0_scratch1) f = s)
    (j : Fin 2) (q : Fin 8) (ch : Fin 1536) :
    View.read (Elt Ideal) (View.whole (κ := .tc) cc0_scratch1) ((View.whole cc0_scratch1).writes (Elt Ideal) f []) (ix3 j ⟨256 + q, by omega⟩ ch)
      = (dgz P (256 * (31 - n) + 256 + q) (1536 * j + ch) : EReal) := by
  rw [View.writes_nil, hf, H]
  have e : 256 * (31 - (n - 1)) + (q : ℕ) = 256 * (31 - n) + 256 + q := by omega
  rw [e]

theorem zero2 : ∀ a : Fin 2, (![0, 0] : Fin 2 → ℕ) a = 0 := by decide

section
variable (c : Dev nD) (t : Fin cfg0.N) (H : OpsAt m P c t)
include H

set_option maxHeartbeats 1600000 in
theorem halo_A (h : t.val % 32 = 0) : Halo P t.val (outsAt0 m c t.val t.isLt).2.2.2.2.2 := by
  rw [outsAt0_A m c t h]; dsimp only; frame_out
  exact halo_of _ (put0 (grp0 H _ (coord_val t)) (up0 H)) (put1 (grp1 H _ (coord_val t)) (up1 H))

set_option maxHeartbeats 1600000 in
theorem halo_B (h : ¬t.val % 32 = 0) : Halo P t.val (outsAt0 m c t.val t.isLt).2.2.2.2.2 := by
  rw [outsAt0_B m c t h]; dsimp only; frame_out
  exact halo_of _ (put0 (grp0 H _ (coord_val t)) (up0 H)) (put1 (grp1 H _ (coord_val t)) (up1 H))

set_option maxHeartbeats 3200000 in
theorem out9_A (h : t.val % 32 = 0) (k j : Fin 2) (r : Fin 256) (ch : Fin 1536) :
    (outsAt0 m c t.val t.isLt).1 (ix4 k j r ch) = (dgu P k (256 * (31 - t.val) + r) (1536 * j + ch) : EReal) := by
  have h0 : t.val = 0 := by have := t_lt t; omega
  rw [outsAt0_A m c t h]; dsimp only; frame_out
  exact tile9 (grp0 H _ (coord_val t)) (grp1 H _ (coord_val t))
    (dbuf_read _ 0 rfl _ (slab0 _ _ (put0 (grp0 H _ (coord_val t)) (up0 H)) (tail_A h0 0)))
    (dbuf_read _ 1 rfl _ (slab1 _ _ (put1 (grp1 H _ (coord_val t)) (up1 H)) (tail_A h0 1))) k j r ch

set_option maxHeartbeats 3200000 in
theorem out9_B (h : ¬t.val % 32 = 0)
    (hH : Halo P (t.val - 1) (outsAt0 m c (t.val - 1) (Nat.lt_of_le_of_lt (Nat.sub_le _ _) t.isLt)).2.2.2.2.2) (k j : Fin 2) (r : Fin 256) (ch : Fin 1536) :
    (outsAt0 m c t.val t.isLt).1 (ix4 k j r ch) = (dgu P k (256 * (31 - t.val) + r) (1536 * j + ch) : EReal) := by
  have h0 : t.val ≠ 0 := by intro e; apply h; rw [e]
  rw [outsAt0_B m c t h]; dsimp only; frame_out
  exact tile9 (grp0 H _ (coord_val t)) (grp1 H _ (coord_val t))
    (dbuf_read _ 0 rfl _ (slab0 _ _ (put0 (grp0 H _ (coord_val t)) (up0 H)) (tail_B h0 (t_lt t) hH (read_unread_whole _ _ _) 0)))
    (dbuf_read _ 1 rfl _ (slab1 _ _ (put1 (grp1 H _ (coord_val t)) (up1 H)) (tail_B h0 (t_lt t) hH (read_unread_whole _ _ _) 1))) k j r ch

set_option maxHeartbeats 3200000 in
theorem out10_A (h : t.val % 32 = 0) (r : Fin 256) (k : Fin 1024) :
    (outsAt0 m c t.val t.isLt).2.1 (ix2 r k) = (dx2 P (256 * (31 - t.val) + r) k : EReal) := by
  have h0 : t.val = 0 := by have := t_lt t; omega
  rw [outsAt0_A m c t h]; dsimp only; frame_out
  exact tile10 (grp0 H _ (coord_val t)) (grp1 H _ (coord_val t))
    (dbuf_read _ 0 rfl _ (slab0 _ _ (put0 (grp0 H _ (coord_val t)) (up0 H)) (tail_A h0 0)))
    (dbuf_read _ 1 rfl _ (slab1 _ _ (put1 (grp1 H _ (coord_val t)) (up1 H)) (tail_A h0 1))) (wup0 H) (wup1 H) (wup2 H) (wup3 H) H.x H.g r k

set_option maxHeartbeats 3200000 in
theorem out10_B (h : ¬t.val % 32 = 0)
    (hH : Halo P (t.val - 1) (outsAt0 m c (t.val - 1) (Nat.lt_of_le_of_lt (Nat.sub_le _ _) t.isLt)).2.2.2.2.2) (r : Fin 256) (k : Fin 1024) :
    (outsAt0 m c t.val t.isLt).2.1 (ix2 r k) = (dx2 P (256 * (31 - t.val) + r) k : EReal) := by
  have h0 : t.val ≠ 0 := by intro e; apply h; rw [e]
  rw [outsAt0_B m c t h]; dsimp only; frame_out
  exact tile10 (grp0 H _ (coord_val t)) (grp1 H _ (coord_val t))
    (dbuf_read _ 0 rfl _ (slab0 _ _ (put0 (grp0 H _ (coord_val t)) (up0 H)) (tail_B h0 (t_lt t) hH (read_unread_whole _ _ _) 0)))
    (dbuf_read _ 1 rfl _ (slab1 _ _ (put1 (grp1 H _ (coord_val t)) (up1 H)) (tail_B h0 (t_lt t) hH (read_unread_whole _ _ _) 1))) (wup0 H) (wup1 H) (wup2 H) (wup3 H) H.x H.g r k

set_option maxHeartbeats 3200000 in
theorem out11_A (h : t.val % 32 = 0) (k : Fin 1024) :
    (outsAt0 m c t.val t.isLt).2.2.1 (ix2 0 k) = (tsum (fun R c => dh P R c * xh P R c) (256 * (31 - t.val)) k : EReal) := by
  have h0 : t.val = 0 := by have := t_lt t; omega
  rw [outsAt0_A m c t h]; dsimp only; frame_out
  refine (row11 (grp0 H _ (coord_val t)) (grp1 H _ (coord_val t))
    (dbuf_read _ 0 rfl _ (slab0 _ _ (put0 (grp0 H _ (coord_val t)) (up0 H)) (tail_A h0 0)))
    (dbuf_read _ 1 rfl _ (slab1 _ _ (put1 (grp1 H _ (coord_val t)) (up1 H)) (tail_A h0 1))) (wup0 H) (wup1 H) (wup2 H) (wup3 H) H.x _ k).trans ?_
  pointwise [k0_pay2]

set_option maxHeartbeats 3200000 in
theorem out11_B (h : ¬t.val % 32 = 0)
    (hH : Halo P (t.val - 1) (outsAt0 m c (t.val - 1) (Nat.lt_of_le_of_lt (Nat.sub_le _ _) t.isLt)).2.2.2.2.2) (k : Fin 1024) :
    (outsAt0 m c t.val t.isLt).2.2.1 (ix2 0 k) = (outsAt0 m c (t.val - 1) (Nat.lt_of_le_of_lt (Nat.sub_le _ _) t.isLt)).2.2.1 (ix2 0 k) + (tsum (fun R c => dh P R c * xh P R c) (256 * (31 - t.val)) k : EReal) := by
  have h0 : t.val ≠ 0 := by intro e; apply h; rw [e]
  rw [outsAt0_B m c t h]; dsimp only; frame_out
  exact row11 (grp0 H _ (coord_val t)) (grp1 H _ (coord_val t))
    (dbuf_read _ 0 rfl _ (slab0 _ _ (put0 (grp0 H _ (coord_val t)) (up0 H)) (tail_B h0 (t_lt t) hH (read_unread_whole _ _ _) 0)))
    (dbuf_read _ 1 rfl _ (slab1 _ _ (put1 (grp1 H _ (coord_val t)) (up1 H)) (tail_B h0 (t_lt t) hH (read_unread_whole _ _ _) 1))) (wup0 H) (wup1 H) (wup2 H) (wup3 H) H.x _ k

set_option maxHeartbeats 3200000 in
theorem out13_A (h : t.val % 32 = 0) (k : Fin 3072) :
    (outsAt0 m c t.val t.isLt).2.2.2.2.1 (ix2 0 k) = (tsum (dgc P) (256 * (31 - t.val)) k : EReal) := by
  have h0 : t.val = 0 := by have := t_lt t; omega
  rw [outsAt0_A m c t h]; dsimp only; frame_out
  refine (row13 (grp0 H _ (coord_val t)) (up0 H) (grp1 H _ (coord_val t)) (up1 H) (fun _ => 0) _ (fun ch => ?_) (fun ch => ?_) k).trans (zero_add _)
  · rw [View.readCov_fill _ _ _ _ _ zero2]; pointwise [k0_pay4]
  · rw [View.readCov_skip _ _ _ _ _ (by decide +kernel), View.readCov_fill _ _ _ _ _ zero2]; pointwise [k0_pay4]

set_option maxHeartbeats 3200000 in
theorem out13_B (h : ¬t.val % 32 = 0) (k : Fin 3072) :
    (outsAt0 m c t.val t.isLt).2.2.2.2.1 (ix2 0 k) = (outsAt0 m c (t.val - 1) (Nat.lt_of_le_of_lt (Nat.sub_le _ _) t.isLt)).2.2.2.2.1 (ix2 0 k) + (tsum (dgc P) (256 * (31 - t.val)) k : EReal) := by
  have h0 : t.val ≠ 0 := by intro e; apply h; rw [e]
  rw [outsAt0_B m c t h]; dsimp only; frame_out
  refine row13 (grp0 H _ (coord_val t)) (up0 H) (grp1 H _ (coord_val t)) (up1 H) (fun ch => (outsAt0 m c (t.val - 1) (Nat.lt_of_le_of_lt (Nat.sub_le _ _) t.isLt)).2.2.2.2.1 (ix2 0 ch)) _ (fun ch => ?_) (fun ch => ?_) k
  · pointwise
  · pointwise

set_option maxHeartbeats 3200000 in
theorem out12_A (h : t.val % 32 = 0) (a : Fin 3) (k : Fin 3072) :
    (outsAt0 m c t.val t.isLt).2.2.2.1 (ix2 a k) = (tsum (cwf P a) (256 * (31 - t.val)) k : EReal) := by
  have h0 : t.val = 0 := by have := t_lt t; omega
  rw [outsAt0_A m c t h]; dsimp only; frame_out
  refine (row12 (grp0 H _ (coord_val t)) (up0 H) (grp1 H _ (coord_val t)) (up1 H) (fun _ _ => 0) _ (fun ch => ?_) (fun ch => ?_) (fun ch => ?_) (fun ch => ?_)
    (fun ch => ?_) (fun ch => ?_) a k).trans (zero_add _)
  · rw [View.readCov_skip _ _ _ _ _ (by decide +kernel), View.readCov_skip _ _ _ _ _ (by decide +kernel), View.readCov_fill _ _ _ _ _ zero2]; pointwise [k0_pay3]
  · rw [View.readCov_skip _ _ _ _ _ (by decide +kernel), View.readCov_skip _ _ _ _ _ (by decide +kernel), View.readCov_skip _ _ _ _ _ (by decide +kernel), View.readCov_skip _ _ _ _ _ (by decide +kernel), View.readCov_skip _ _ _ _ _ (by decide +kernel), View.readCov_fill _ _ _ _ _ zero2]; pointwise [k0_pay3]
  · rw [View.readCov_skip _ _ _ _ _ (by decide +kernel), View.readCov_fill _ _ _ _ _ zero2]; pointwise [k0_pay3]
  · rw [View.readCov_skip _ _ _ _ _ (by decide +kernel), View.readCov_skip _ _ _ _ _ (by decide +kernel), View.readCov_skip _ _ _ _ _ (by decide +kernel), View.readCov_skip _ _ _ _ _ (by decide +kernel), View.readCov_fill _ _ _ _ _ zero2]; pointwise [k0_pay3]
  · rw [View.readCov_fill _ _ _ _ _ zero2]; pointwise [k0_pay3]
  · rw [View.readCov_skip _ _ _ _ _ (by decide +kernel), View.readCov_skip _ _ _ _ _ (by decide +kernel), View.readCov_skip _ _ _ _ _ (by decide +kernel), View.readCov_fill _ _ _ _ _ zero2]; pointwise [k0_pay3]

set_option maxHeartbeats 3200000 in
theorem out12_B (h : ¬t.val % 32 = 0) (a : Fin 3) (k : Fin 3072) :
    (outsAt0 m c t.val t.isLt).2.2.2.1 (ix2 a k) = (outsAt0 m c (t.val - 1) (Nat.lt_of_le_of_lt (Nat.sub_le _ _) t.isLt)).2.2.2.1 (ix2 a k) + (tsum (cwf P a) (256 * (31 - t.val)) k : EReal) := by
  have h0 : t.val ≠ 0 := by intro e; apply h; rw [e]
  rw [outsAt0_B m c t h]; dsimp only; frame_out
  refine row12 (grp0 H _ (coord_val t)) (up0 H) (grp1 H _ (coord_val t)) (up1 H) (fun a ch => (outsAt0 m c (t.val - 1) (Nat.lt_of_le_of_lt (Nat.sub_le _ _) t.isLt)).2.2.2.1 (ix2 a ch)) _ (fun ch => ?_) (fun ch => ?_)
    (fun ch => ?_) (fun ch => ?_) (fun ch => ?_) (fun ch => ?_) a k
  · pointwise
  · pointwise
  · pointwise
  · pointwise
  · pointwise
  · pointwise
end

end Cert.Ffn
-- ==== Proof.Ffn.Host.lean ====
/- The arrays the backward kernel is launched on, from the arguments. -/
module
public import proofs.«01_k».proof.Proof.Ffn.Step
public import Idealize.ShloMosaic.Lib.Claim
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.KernelIdeal Cert.KernelIdeal.Gen

namespace Cert.Ffn

/-- One entry of the up projection of the normed rows. -/
theorem gu_sum (P : In) (R n : ℕ) (x g w : Fin 1024 → EReal) (hx : ∀ k : Fin 1024, x k = (P.x R k : EReal))
    (hg : ∀ k : Fin 1024, g k = (P.g k : EReal)) (hw : ∀ k : Fin 1024, w k = (P.wu k n : EReal)) :
    ∑ k, x k * Ideal.rsqrt (Ideal.div (∑ k, x k * x k) (Ideal.ofBits FTy.f32 1149239296#32) + Ideal.ofBits FTy.f32 897988541#32) * g k * w k
      = (gu P R n : EReal) := by
  have hs : ∑ k, x k * x k = ((∑ k : Fin 1024, P.x R k * P.x R k : ℝ) : EReal) := sum_coe _ _ fun k => by rw [hx, ← EReal.coe_mul]
  refine sum_coe _ _ fun k => ?_
  rw [hs, w_1024, w_eps, div_coe_coe _ (by norm_num), ← EReal.coe_add]
  erw [rsqrt_coe_pos (ms_pos P R)]
  rw [hx, hg, hw, ← EReal.coe_mul, ← EReal.coe_mul, ← EReal.coe_mul]
  rfl

variable (m : (ℓ : Loc nD τ sig) → Idealize.ShloMosaic.Buf (Elt Ideal) ℓ) {P : In} (c : Dev nD)

/-- The arguments on a device hold the reals of `P`. -/
abbrev RepAt (P : In) (c : Dev nD) : Prop :=
  Rep P (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

variable (H : RepAt m P c)
include H

set_option maxHeartbeats 1600000 in
theorem host_wd (j : Fin 2) (ch : Fin 1536) (k : Fin 1024) :
    (V m c main_v21 : Vec Ideal S2x1536x1024 .bf16) (ix3 j ch k) = (P.wd (1536 * j + ch) k : EReal) := by
  entry_read
  pointwise []
  refine (H.wd _ k).trans (congrArg (fun n => (P.wd n k : EReal)) ?_)
  show ((j : ℕ) * 2 + (ch : ℕ) / 768) * 768 + (ch : ℕ) % 768 = 1536 * (j : ℕ) + (ch : ℕ)
  omega

set_option maxHeartbeats 1600000 in
theorem host_wu (b : Fin 4) (k : Fin 1024) (ch : Fin 1536) :
    (V m c main_v2 : Vec Ideal S4x1024x1536 .bf16) (ix3 b k ch) = (P.wu k (1536 * b + ch) : EReal) := by
  entry_read
  pointwise []
  refine (H.wu k _).trans (congrArg (fun n => (P.wu k n : EReal)) ?_)
  show (b : ℕ) * 1536 + (ch : ℕ) = 1536 * (b : ℕ) + (ch : ℕ)
  omega

set_option maxHeartbeats 1600000 in
theorem host_gu (h j : Fin 2) (R : Fin 8192) (ch : Fin 1536) :
    (V m c main_v20 : Vec Ideal S2x2x8192x1536 .f32) (ix4 h j R ch) = (gu P R (3072 * h + 1536 * j + ch) : EReal) := by
  entry_read
  pointwise []
  have hx : ∀ k : Fin 1024, (m (c, Proc.tc.devRef main_arg1) (ix2 R k) : EReal) = (P.x R k : EReal) := fun k => H.x R k
  have hg : ∀ k : Fin 1024, (m (c, Proc.tc.devRef main_arg2) (ix2 0 k) : EReal) = (P.g k : EReal) := fun k => H.g k
  have hn : ((h : ℕ) * 2 + (j : ℕ)) * 1536 + (ch : ℕ) = 3072 * (h : ℕ) + 1536 * (j : ℕ) + (ch : ℕ) := by omega
  have hu : ∀ (k : Fin 1024) hh, (m (c, Proc.tc.devRef main_arg3) (ix2 k ⟨((h : ℕ) * 2 + (j : ℕ)) * 1536 + (ch : ℕ), hh⟩) : EReal)
      = (P.wu k (3072 * h + 1536 * j + ch) : EReal) := fun k hh =>
    (H.wu k ⟨_, hh⟩).trans (congrArg (fun n => (P.wu k n : EReal)) hn)
  exact gu_sum P R _ _ _ _ hx hg fun k => hu k _

/-! ### The blocks -/

omit H in
theorem idx_in : ∀ t : Fin cfg0.N, win0_0.index t = ![31 - t.val, 0] ∧ win0_1.index t = ![31 - t.val, 0] ∧ win0_2.index t = ![0, 0]
    ∧ win0_3.index t = ![0, 0, 0] ∧ win0_4.index t = ![0, 0, 0] ∧ win0_5.index t = ![0, 0, 31 - t.val, 0]
    ∧ win0_6.index t = ![0, 0, (31 - t.val) * 32 - 1, 0] ∧ win0_7.index t = ![0, 0] ∧ win0_8.index t = ![0, 0] :=
  (by decide +kernel : ∀ t : Fin grid0.N, _)

omit H in
theorem emb6 (t : Fin cfg0.N) (hn : t.val < 31) (j : Fin 2) (q : Fin 8) (ch : Fin 1536) :
    (win0_6.blk t).view.emb (ix4 0 j q ch) = ix4 (0 : Fin 2) j (⟨256 * (31 - t.val) - 8 + q, by omega⟩ : Fin 8192) ch := by
  have i6 := (idx_in t).2.2.2.2.2.2.1
  have e0 : win0_6.index t 0 = 0 := congrFun i6 0
  have e1 : win0_6.index t 1 = 0 := congrFun i6 1
  have e2 : win0_6.index t 2 = (31 - t.val) * 32 - 1 := congrFun i6 2
  have e3 : win0_6.index t 3 = 0 := congrFun i6 3
  refine funext fun a => Fin.ext ?_
  exact match a with
  | ⟨0, _⟩ => by show win0_6.index t 0 * 1 + 1 * 0 = 0; omega
  | ⟨1, _⟩ => by show win0_6.index t 1 * 2 + 1 * (j : ℕ) = j; omega
  | ⟨2, _⟩ => by show win0_6.index t 2 * 8 + 1 * (q : ℕ) = 256 * (31 - t.val) - 8 + q; omega
  | ⟨3, _⟩ => by show win0_6.index t 3 * 1536 + 1 * (ch : ℕ) = ch; omega

set_option maxHeartbeats 1600000 in
theorem opsAt (t : Fin cfg0.N) : OpsAt m P c t := by
  have ht := t_lt t
  obtain ⟨i0, i1, i2, i3, i4, i5, i6, i7, i8⟩ := idx_in t
  constructor
  · intro r k
    have e : (win0_0.blk t).view.emb (ix2 r k) = ix2 (⟨256 * (31 - t.val) + r, by omega⟩ : Fin 8192) k := by blk_ext [i0]
    blk_simp [iblk]
    rw [e]
    exact (congrFun (V_main_arg0 m c) _).trans (H.dx _ k)
  · intro r k
    have e : (win0_1.blk t).view.emb (ix2 r k) = ix2 (⟨256 * (31 - t.val) + r, by omega⟩ : Fin 8192) k := by blk_ext [i1]
    blk_simp [iblk]
    rw [e]
    exact (congrFun (V_main_arg1 m c) _).trans (H.x _ k)
  · intro k
    have e : (win0_2.blk t).view.emb (ix2 0 k) = ix2 (0 : Fin 1) k := by blk_ext [i2]
    blk_simp [iblk]
    rw [e]
    exact (congrFun (V_main_arg2 m c) _).trans (H.g k)
  · intro j ch k
    have e : (win0_3.blk t).view.emb (ix3 j ch k) = ix3 j ch k := by blk_ext [i3]
    blk_simp [iblk]
    rw [e]
    exact host_wd m c H j ch k
  · intro b k ch
    have e : (win0_4.blk t).view.emb (ix3 b k ch) = ix3 b k ch := by blk_ext [i4]
    blk_simp [iblk]
    rw [e]
    exact host_wu m c H b k ch
  · intro h j r ch
    have e : (win0_5.blk t).view.emb (ix4 h j r ch) = ix4 h j (⟨256 * (31 - t.val) + r, by omega⟩ : Fin 8192) ch := by blk_ext [i5]
    blk_simp [iblk]
    rw [e]
    exact host_gu m c H h j _ ch
  · intro hn j q ch
    blk_simp [iblk]
    rw [emb6 t hn]
    refine (host_gu m c H 0 j _ ch).trans ?_
    simp
  · intro k ch
    have e : (win0_7.blk t).view.emb (ix2 k ch) = ix2 k ch := by blk_ext [i7]
    blk_simp [iblk]
    rw [e]
    exact (congrFun (V_main_arg4 m c) _).trans (H.cw k ch)
  · intro ch
    have e : (win0_8.blk t).view.emb (ix2 0 ch) = ix2 (0 : Fin 1) ch := by blk_ext [i8]
    blk_simp [iblk]
    rw [e]
    exact (congrFun (V_main_arg5 m c) _).trans (H.cb ch)

end Cert.Ffn
-- ==== Proof.Ffn.Fin.lean ====
/- Finite arguments hold reals. -/
module
public import proofs.«01_k».proof.Defs
public import proofs.«01_k».proof.Proof.Gen.Pre_finite
public import proofs.«01_k».proof.Proof.Ffn.Host
@[expose] public section
set_option maxRecDepth 16384
noncomputable section
open Idealize.ShloMosaic Idealize.ShloMosaic.TcCoe Idealize.SL.Sem

namespace Cert.Ffn

theorem w_top : Ideal.ofBits FTy.f32 2139095040#32 = (⊤ : EReal) := by
  norm_num [Ideal.ofBits, Ideal.ieee, Nat.shiftRight_eq_div_pow, show (BitVec.extractLsb' 31 1 0x7F800000#32 = 1#1) = False from by decide]

/-- A word below the infinity in magnitude is a real. -/
theorem real_of_lt (x : EReal) (h : Ideal.cmp .olt (max x (-x)) (Ideal.ofBits FTy.f32 2139095040#32) = 1#1) : (x.toReal : EReal) = x := by
  rw [w_top] at h
  have h' : max x (-x) < ⊤ := by
    by_contra hn
    simp [Ideal.cmp, hn] at h
  refine EReal.coe_toReal (fun e => ?_) (fun e => ?_) <;> simp [e] at h'

/-- A position, cut to the array. -/
theorem ofNat_val {n : ℕ} [NeZero n] (i : Fin n) : Fin.ofNat n (i : ℕ) = i := Fin.ext (Nat.mod_eq_of_lt i.isLt)

/-- The reals the arguments hold. -/
def toIn (x0 x1 : FVec Ideal ⟨2, ![8192, 1024]⟩ .f32) (x2 : FVec Ideal ⟨2, ![1, 1024]⟩ .f32)
    (x3 : FVec Ideal ⟨2, ![1024, 6144]⟩ .f32) (x4 : FVec Ideal ⟨2, ![3, 3072]⟩ .f32)
    (x5 : FVec Ideal ⟨2, ![1, 3072]⟩ .f32) (x6 : FVec Ideal ⟨2, ![3072, 1024]⟩ .f32) : In where
  dx R c := EReal.toReal (x0 (ix2 (Fin.ofNat 8192 R) (Fin.ofNat 1024 c)))
  x R c := EReal.toReal (x1 (ix2 (Fin.ofNat 8192 R) (Fin.ofNat 1024 c)))
  g c := EReal.toReal (x2 (ix2 0 (Fin.ofNat 1024 c)))
  wu c n := EReal.toReal (x3 (ix2 (Fin.ofNat 1024 c) (Fin.ofNat 6144 n)))
  cw k ch := EReal.toReal (x4 (ix2 (Fin.ofNat 3 k) (Fin.ofNat 3072 ch)))
  cb ch := EReal.toReal (x5 (ix2 0 (Fin.ofNat 3072 ch)))
  wd ch c := EReal.toReal (x6 (ix2 (Fin.ofNat 3072 ch) (Fin.ofNat 1024 c)))

theorem rep_toIn [Cert.Pre_finite.Facts] (x0 x1 : FVec Ideal ⟨2, ![8192, 1024]⟩ .f32) (x2 : FVec Ideal ⟨2, ![1, 1024]⟩ .f32)
    (x3 : FVec Ideal ⟨2, ![1024, 6144]⟩ .f32) (x4 : FVec Ideal ⟨2, ![3, 3072]⟩ .f32)
    (x5 : FVec Ideal ⟨2, ![1, 3072]⟩ .f32) (x6 : FVec Ideal ⟨2, ![3072, 1024]⟩ .f32)
    (h0 : (Cert.Pre_finite.fn (F := Ideal) x0 x1 x2 x3 x4 x5 x6).1 = fun _ => 1#1)
    (h1 : (Cert.Pre_finite.fn (F := Ideal) x0 x1 x2 x3 x4 x5 x6).2.1 = fun _ => 1#1)
    (h2 : (Cert.Pre_finite.fn (F := Ideal) x0 x1 x2 x3 x4 x5 x6).2.2.1 = fun _ => 1#1)
    (h3 : (Cert.Pre_finite.fn (F := Ideal) x0 x1 x2 x3 x4 x5 x6).2.2.2.1 = fun _ => 1#1)
    (h4 : (Cert.Pre_finite.fn (F := Ideal) x0 x1 x2 x3 x4 x5 x6).2.2.2.2.1 = fun _ => 1#1)
    (h5 : (Cert.Pre_finite.fn (F := Ideal) x0 x1 x2 x3 x4 x5 x6).2.2.2.2.2.1 = fun _ => 1#1)
    (h6 : (Cert.Pre_finite.fn (F := Ideal) x0 x1 x2 x3 x4 x5 x6).2.2.2.2.2.2 = fun _ => 1#1) :
    Rep (toIn x0 x1 x2 x3 x4 x5 x6) x0 x1 x2 x3 x4 x5 x6 := by
  constructor
  · intro R c
    simp only [toIn, ofNat_val]
    exact (real_of_lt _ (congrFun h0 (ix2 R c))).symm
  · intro R c
    simp only [toIn, ofNat_val]
    exact (real_of_lt _ (congrFun h1 (ix2 R c))).symm
  · intro c
    simp only [toIn, ofNat_val]
    exact (real_of_lt _ (congrFun h2 (ix2 0 c))).symm
  · intro c n
    simp only [toIn, ofNat_val]
    exact (real_of_lt _ (congrFun h3 (ix2 c n))).symm
  · intro k ch
    simp only [toIn, ofNat_val]
    exact (real_of_lt _ (congrFun h4 (ix2 k ch))).symm
  · intro ch
    simp only [toIn, ofNat_val]
    exact (real_of_lt _ (congrFun h5 (ix2 0 ch))).symm
  · intro ch c
    simp only [toIn, ofNat_val]
    exact (real_of_lt _ (congrFun h6 (ix2 ch c))).symm

end Cert.Ffn
-- ==== Proof.Ffn.Arr.lean ====
/- The backward kernel's output arrays after the run. -/
module
public import proofs.«01_k».proof.Proof.Ffn.Step
@[expose] public section
set_option maxRecDepth 16384
noncomputable section
open Idealize.ShloMosaic Idealize.ShloMosaic.TcCoe Idealize.SL.Sem
open Idealize.ShloMosaic.Pipeline (Dat)
open Cert.KernelIdeal Cert.KernelIdeal.Gen

namespace Cert.Ffn

/-- The tiles, last first, make up all the rows. -/
theorem tsum_all (f : ℕ → ℕ → ℝ) (ch : ℕ) :
    ∑ s : Fin 32, (tsum f (256 * (31 - s)) ch : EReal) = ((∑ R : Fin 8192, f R ch : ℝ) : EReal) := by
  rw [← coe_sum]
  refine congrArg _ ?_
  rw [← Equiv.sum_comp Fin.revPerm]
  unfold tsum
  refine Fin.sum_mul_add_congr (n := 256) fun s k hl => ?_
  have hs := s.isLt
  have e : 256 * (31 - ((Fin.revPerm s : Fin 32) : ℕ)) + (k : ℕ) = s * 256 + k := by
    rw [Fin.revPerm_apply, Fin.val_rev]; omega
  rw [e]

variable (m : (ℓ : Loc nD τ sig) → Idealize.ShloMosaic.Buf (Elt Ideal) ℓ) {P : In} (c : Dev nD) (H : ∀ t : Fin cfg0.N, OpsAt m P c t)
include H

theorem halo_all (n : ℕ) (hn : n < cfg0.N) : Halo P n (outsAt0 m c n hn).2.2.2.2.2 := by
  by_cases h : (⟨n, hn⟩ : Fin cfg0.N).val % 32 = 0
  · exact halo_A m c ⟨n, hn⟩ (H _) h
  · exact halo_B m c ⟨n, hn⟩ (H _) h

theorem out9_all (t : Fin cfg0.N) (k j : Fin 2) (r : Fin 256) (ch : Fin 1536) :
    (outsAt0 m c t.val t.isLt).1 (ix4 k j r ch) = (dgu P k (256 * (31 - t.val) + r) (1536 * j + ch) : EReal) := by
  by_cases h : t.val % 32 = 0
  · exact out9_A m c t (H t) h k j r ch
  · exact out9_B m c t (H t) h (halo_all m c H _ _) k j r ch

theorem out10_all (t : Fin cfg0.N) (r : Fin 256) (k : Fin 1024) :
    (outsAt0 m c t.val t.isLt).2.1 (ix2 r k) = (dx2 P (256 * (31 - t.val) + r) k : EReal) := by
  by_cases h : t.val % 32 = 0
  · exact out10_A m c t (H t) h r k
  · exact out10_B m c t (H t) h (halo_all m c H _ _) r k

theorem out11_last (t : Fin cfg0.N) (ht : t.val % 32 = 31) (k : Fin 1024) :
    (outsAt0 m c t.val t.isLt).2.2.1 (ix2 0 k) = (dgf P k : EReal) := by
  have h := Pipeline.eq_sum_fin_of_reset_step_apply_of_flush (fun n h (k : Fin 1024) => ((outsAt0 m c n h).2.2.1 (ix2 0 k) : EReal)) 32
    (fun _ => 0) (fun t k => (tsum (fun R c => dh P R c * xh P R c) (256 * (31 - t.val)) k : EReal))
    (fun t h i => (out11_A m c t (H t) h i).trans (zero_add _).symm) (fun t h i => out11_B m c t (H t) h (halo_all m c H _ _) i) t ht k
  have e : 32 * (t.val / 32) = 0 := by have := t_lt t; omega
  simp only [e, Nat.zero_add, zero_add] at h
  exact h.trans (tsum_all _ _)

theorem out12_last (t : Fin cfg0.N) (ht : t.val % 32 = 31) (a : Fin 3) (k : Fin 3072) :
    (outsAt0 m c t.val t.isLt).2.2.2.1 (ix2 a k) = (dcw P a k : EReal) := by
  have h := Pipeline.eq_sum_fin_of_reset_step_apply_of_flush (fun n h (k : Fin 3072) => ((outsAt0 m c n h).2.2.2.1 (ix2 a k) : EReal)) 32
    (fun _ => 0) (fun t k => (tsum (cwf P a) (256 * (31 - t.val)) k : EReal))
    (fun t h i => (out12_A m c t (H t) h a i).trans (zero_add _).symm) (fun t h i => out12_B m c t (H t) h a i) t ht k
  have e : 32 * (t.val / 32) = 0 := by have := t_lt t; omega
  simp only [e, Nat.zero_add, zero_add] at h
  exact h.trans (tsum_all _ _)

theorem out13_last (t : Fin cfg0.N) (ht : t.val % 32 = 31) (k : Fin 3072) :
    (outsAt0 m c t.val t.isLt).2.2.2.2.1 (ix2 0 k) = (dcb P k : EReal) := by
  have h := Pipeline.eq_sum_fin_of_reset_step_apply_of_flush (fun n h (k : Fin 3072) => ((outsAt0 m c n h).2.2.2.2.1 (ix2 0 k) : EReal)) 32
    (fun _ => 0) (fun t k => (tsum (dgc P) (256 * (31 - t.val)) k : EReal))
    (fun t h i => (out13_A m c t (H t) h i).trans (zero_add _).symm) (fun t h i => out13_B m c t (H t) h i) t ht k
  have e : 32 * (t.val / 32) = 0 := by have := t_lt t; omega
  simp only [e, Nat.zero_add, zero_add] at h
  exact h.trans (tsum_all _ _)

/-! ### The arrays -/

omit H in
theorem idx9 : ∀ t : Fin cfg0.N, win0_9.index t = ![0, 0, 31 - t.val, 0] ∧ win0_10.index t = ![31 - t.val, 0]
    ∧ win0_11.index t = ![0, 0] ∧ win0_12.index t = ![0, 0] ∧ win0_13.index t = ![0, 0] :=
  (by decide +kernel : ∀ t : Fin grid0.N, _)

omit H in
theorem eta4 (y : S2x2x256x1536.Idx) : y = ix4 (y 0) (y 1) (y 2) (y 3) :=
  funext fun a => match a with | ⟨0, _⟩ => rfl | ⟨1, _⟩ => rfl | ⟨2, _⟩ => rfl | ⟨3, _⟩ => rfl
omit H in
theorem eta2 {a b : ℕ} (y : (⟨2, ![a, b]⟩ : Shape).Idx) : y = ix2 (y 0) (y 1) :=
  funext fun a => match a with | ⟨0, _⟩ => rfl | ⟨1, _⟩ => rfl
omit H in
theorem eta1 {b : ℕ} (y : (⟨2, ![1, b]⟩ : Shape).Idx) : y = ix2 0 (y 1) :=
  funext fun a => match a with | ⟨0, _⟩ => Subsingleton.elim (α := Fin 1) _ _ | ⟨1, _⟩ => rfl

theorem arr9 : (dats m 0 c).arrAt 9 cfg0.N = fun i => (dgu P (i 0) (i 2) (1536 * (i 1 : ℕ) + i 3) : EReal) := by
  refine (dats m 0 c).arrAt_eq_of_covers 9 _ (by decide +kernel) fun t hf y => ?_
  blk_simp
  rw [after0_9]
  refine (congrArg _ (eta4 y)).trans ((out9_all m c H t (y 0) (y 1) (y 2) (y 3)).trans ?_)
  rw [(idx9 t).1]
  refine congrArg _ ?_
  show dgu P (y 0) (256 * (31 - t.val) + (y 2 : ℕ)) (1536 * (y 1 : ℕ) + (y 3 : ℕ))
    = dgu P (0 * 2 + (y 0 : ℕ)) ((31 - t.val) * 256 + (y 2 : ℕ)) (1536 * (0 * 2 + (y 1 : ℕ)) + (0 * 1536 + (y 3 : ℕ)))
  simp only [Nat.zero_mul, Nat.zero_add, Nat.mul_comm]

theorem arr10 : (dats m 0 c).arrAt 10 cfg0.N = fun i => (dx2 P (i 0) (i 1) : EReal) := by
  refine (dats m 0 c).arrAt_eq_of_covers 10 _ (by decide +kernel) fun t hf y => ?_
  blk_simp
  rw [after0_10]
  refine (congrArg _ (eta2 y)).trans ((out10_all m c H t (y 0) (y 1)).trans ?_)
  rw [(idx9 t).2.1]
  refine congrArg _ ?_
  show dx2 P (256 * (31 - t.val) + (y 0 : ℕ)) (y 1) = dx2 P ((31 - t.val) * 256 + (y 0 : ℕ)) (0 * 1024 + (y 1 : ℕ))
  simp only [Nat.zero_mul, Nat.zero_add, Nat.mul_comm]

theorem arr11 : (dats m 0 c).arrAt 11 cfg0.N = fun i => (dgf P (i 1) : EReal) := by
  refine (dats m 0 c).arrAt_eq_of_covers 11 _ (by decide +kernel) fun t hf y => ?_
  blk_simp
  rw [after0_11]
  refine (congrArg _ (eta1 y)).trans ((out11_last m c H t ((flush0_11 t).mp hf) (y 1)).trans ?_)
  rw [(idx9 t).2.2.1]
  refine congrArg _ ?_
  show dgf P (y 1) = dgf P (0 * 1024 + (y 1 : ℕ))
  simp only [Nat.zero_mul, Nat.zero_add]

theorem arr12 : (dats m 0 c).arrAt 12 cfg0.N = fun i => (dcw P (i 0) (i 1) : EReal) := by
  refine (dats m 0 c).arrAt_eq_of_covers 12 _ (by decide +kernel) fun t hf y => ?_
  blk_simp
  rw [after0_12]
  refine (congrArg _ (eta2 y)).trans ((out12_last m c H t ((flush0_12 t).mp hf) (y 0) (y 1)).trans ?_)
  rw [(idx9 t).2.2.2.1]
  refine congrArg _ ?_
  show dcw P (y 0) (y 1) = dcw P (0 * 3 + (y 0 : ℕ)) (0 * 3072 + (y 1 : ℕ))
  simp only [Nat.zero_mul, Nat.zero_add]

theorem arr13 : (dats m 0 c).arrAt 13 cfg0.N = fun i => (dcb P (i 1) : EReal) := by
  refine (dats m 0 c).arrAt_eq_of_covers 13 _ (by decide +kernel) fun t hf y => ?_
  blk_simp
  rw [after0_13]
  refine (congrArg _ (eta1 y)).trans ((out13_last m c H t ((flush0_13 t).mp hf) (y 1)).trans ?_)
  rw [(idx9 t).2.2.2.2]
  refine congrArg _ ?_
  show dcb P (y 1) = dcb P (0 * 3072 + (y 1 : ℕ))
  simp only [Nat.zero_mul, Nat.zero_add]

end Cert.Ffn
-- ==== Proof.Ffn.RefA.lean ====
/- The reference's values are the real formulas: the forward lines up to the convolution, and the cotangent of the
   gated activation. -/
module
public import proofs.«01_k».proof.Proof.Ffn.Real
public import proofs.«01_k».proof.Proof.Gen.ReferenceIdeal.Read
@[expose] public section
set_option maxRecDepth 16384
noncomputable section
open Idealize.ShloMosaic Idealize.ShloMosaic.TcCoe Idealize.SL.Sem
namespace Cert.Ffn
open Cert.ReferenceIdeal Cert.ReferenceIdeal.Read

variable {P : In} {x0 x1 : FVec Ideal S8192x1024 .f32} {x2 : FVec Ideal S1x1024 .f32} {x3 : FVec Ideal S1024x6144 .f32}
  {x4 : FVec Ideal S3x3072 .f32} {x5 : FVec Ideal S1x3072 .f32} {x6 : FVec Ideal S3072x1024 .f32}
  (H : Rep P x0 x1 x2 x3 x4 x5 x6)
include H

theorem ref_ms (R : Fin 8192) : val_main_v6 (F := Ideal) x1 (ix2 R 0) = (ms P R : EReal) := by
  pointwise [val_main_v6, val_main_v5, val_main_v4, val_main_v3, val_main_v2, val_main_v1, val_main_v0, val_main_cst,
    val_main_cst_0, val_main_cst_1]
  rw [sum_coe _ _ fun c => by rw [H.x, ← EReal.coe_mul], w_1024, w_eps, div_coe_coe _ (by norm_num), ← EReal.coe_add]
  rfl

theorem ref_rinv (R : Fin 8192) : val_main_v7 (F := Ideal) x1 (ix2 R 0) = (rinv P R : EReal) := by
  pointwise [val_main_v7]
  rw [ref_ms H, rsqrt_coe_pos (ms_pos P R)]
  rfl

theorem ref_xh (R : Fin 8192) (c : Fin 1024) : val_main_v12 (F := Ideal) x1 (ix2 R c) = (xh P R c : EReal) := by
  pointwise [val_main_v12, val_main_v11]
  rw [ref_rinv H, H.x, ← EReal.coe_mul]
  rfl

theorem ref_gu (R : Fin 8192) (n : Fin 6144) : val_main_v15 (F := Ideal) x1 x2 x3 (ix2 R n) = (gu P R n : EReal) := by
  pointwise [val_main_v15, val_main_v14, val_main_v13]
  exact sum_coe _ _ fun c => by rw [ref_xh H, H.g, H.wu, ← EReal.coe_mul, ← EReal.coe_mul]

theorem ref_gz (p : Fin 8194) (ch : Fin 3072) : val_main_v19 (F := Ideal) x1 x2 x3 (ix2 p ch) = (gz P p ch : EReal) := by
  pointwise [val_main_v19, val_main_v18, val_main_v16, val_main_cst_3]
  unfold gz
  by_cases h : (p : ℕ) < 2
  · simp [h]
  · simp only [h, ↓reduceDIte, ↓reduceIte]
    rw [ref_gu H]

theorem ref_gc (R : Fin 8192) (ch : Fin 3072) :
    val_main_v36 (F := Ideal) x1 x2 x3 x4 x5 (ix2 R ch) = (gc P R ch : EReal) := by
  pointwise [val_main_v36, val_main_v35, val_main_v34, val_main_v33, val_main_v32, val_main_v31, val_main_v30, val_main_v29,
    val_main_v28, val_main_v27, val_main_v26, val_main_v25, val_main_v24, val_main_v23, val_main_v22, val_main_v21]
  simp only [ref_gz H, H.cw, H.cb, ← EReal.coe_mul, ← EReal.coe_add, val3_0, val3_1, val3_2]
  congr 1
  unfold gc
  ring_nf

theorem ref_th (R : Fin 8192) (ch : Fin 3072) :
    val_main_v47 (F := Ideal) x1 x2 x3 x4 x5 (ix2 R ch) = (th (gc P R ch) : EReal) := by
  pointwise [val_main_v47, val_main_v46, val_main_v45, val_main_v44, val_main_v43, val_main_v42, val_main_v38, val_main_v37,
    val_main_cst_6, val_main_cst_7]
  simp only [ref_gc H, w_gC, w_gK, ← EReal.coe_mul, ← EReal.coe_add, Ideal.tanh_coe]
  unfold th
  congr 2; ring

theorem ref_act (R : Fin 8192) (ch : Fin 3072) :
    val_main_v57 (F := Ideal) x1 x2 x3 x4 x5 (ix2 R ch) = (ge (gc P R ch) : EReal) := by
  pointwise [val_main_v57, val_main_v56, val_main_v55, val_main_v54, val_main_v53, val_main_cst_10, val_main_cst_11]
  rw [ref_gc H, ref_th H, w_half, ← EReal.coe_one]
  simp only [← EReal.coe_mul, ← EReal.coe_add]
  unfold ge
  congr 1; ring

theorem ref_dact (R : Fin 8192) (ch : Fin 3072) :
    val_main_v60 (F := Ideal) x0 x6 (ix2 R ch) = (dact P R ch : EReal) := by
  pointwise [val_main_v60]
  exact sum_coe _ _ fun c => by rw [H.dx, H.wd, ← EReal.coe_mul]

theorem ref_du (R : Fin 8192) (ch : Fin 3072) :
    val_main_v61 (F := Ideal) x0 x1 x2 x3 x4 x5 x6 (ix2 R ch) = (du P R ch : EReal) := by
  pointwise [val_main_v61]
  rw [ref_act H, ref_dact H, ← EReal.coe_mul, mul_comm]
  rfl

theorem ref_dgc (R : Fin 8192) (ch : Fin 3072) :
    val_main_v74 (F := Ideal) x0 x1 x2 x3 x4 x5 x6 (ix2 R ch) = (dgc P R ch : EReal) := by
  pointwise [val_main_v74, val_main_v73, val_main_v72, val_main_v71, val_main_v70, val_main_v69, val_main_v68, val_main_v67,
    val_main_v66, val_main_v65, val_main_v64, val_main_v63, val_main_v62, val_main_v56, val_main_v55, val_main_v54,
    val_main_v53, val_main_v52, val_main_v51, val_main_v50, val_main_v49, val_main_v48, val_main_v41, val_main_v40,
    val_main_v39, val_main_v17, val_main_cst_5, val_main_cst_8, val_main_cst_9, val_main_cst_10, val_main_cst_11,
    val_main_cst_12, val_main_cst_13, val_main_cst_14]
  simp only [ref_gc H, ref_th H, ref_dact H, ref_gu H, w_half, w_gC, w_gK, w_three]
  rw [← EReal.coe_one]
  simp only [← EReal.coe_mul, ← EReal.coe_add, ← EReal.coe_sub]
  unfold dgc dgeA dgeB
  congr 1
  ring

end Cert.Ffn
-- ==== Proof.Ffn.RefB.lean ====
/- The reference's results are the real formulas. -/
module
public import proofs.«01_k».proof.Proof.Ffn.RefA
@[expose] public section
set_option maxRecDepth 16384
noncomputable section
open Idealize.ShloMosaic Idealize.ShloMosaic.TcCoe Idealize.SL.Sem
namespace Cert.Ffn
open Cert.ReferenceIdeal Cert.ReferenceIdeal.Read

variable {P : In} {x0 x1 : FVec Ideal S8192x1024 .f32} {x2 : FVec Ideal S1x1024 .f32} {x3 : FVec Ideal S1024x6144 .f32}
  {x4 : FVec Ideal S3x3072 .f32} {x5 : FVec Ideal S1x3072 .f32} {x6 : FVec Ideal S3072x1024 .f32}
  (H : Rep P x0 x1 x2 x3 x4 x5 x6)
include H

theorem ref_dcb (ch : Fin 3072) :
    val_main_v76 (F := Ideal) x0 x1 x2 x3 x4 x5 x6 (ix2 0 ch) = (dcb P ch : EReal) := by
  pointwise [val_main_v76, val_main_v75, val_main_cst_15]
  exact sum_coe _ _ fun R => ref_dgc H R ch

theorem ref_tap0 (ch : Fin 3072) :
    val_main_v95 (F := Ideal) x0 x1 x2 x3 x4 x5 x6 (ix2 0 ch) = (dcw P 0 ch : EReal) := by
  pointwise [val_main_v95, val_main_v94, val_main_v93, val_main_v21, val_main_cst_22]
  exact sum_coe _ _ fun R => by rw [ref_dgc H, ref_gz H, ← EReal.coe_mul, mul_comm]; rfl

theorem ref_tap1 (ch : Fin 3072) :
    val_main_v86 (F := Ideal) x0 x1 x2 x3 x4 x5 x6 (ix2 0 ch) = (dcw P 1 ch : EReal) := by
  pointwise [val_main_v86, val_main_v85, val_main_v84, val_main_v25, val_main_cst_19]
  exact sum_coe _ _ fun R => by rw [ref_dgc H, ref_gz H, ← EReal.coe_mul, mul_comm]; congr 3; exact Nat.add_comm _ _

theorem ref_tap2 (ch : Fin 3072) :
    val_main_v79 (F := Ideal) x0 x1 x2 x3 x4 x5 x6 (ix2 0 ch) = (dcw P 2 ch : EReal) := by
  pointwise [val_main_v79, val_main_v78, val_main_v77, val_main_v30, val_main_cst_16]
  exact sum_coe _ _ fun R => by rw [ref_dgc H, ref_gz H, ← EReal.coe_mul, mul_comm]; congr 3; exact Nat.add_comm _ _

theorem ref_dcw (k : Fin 3) (ch : Fin 3072) :
    val_main_v99 (F := Ideal) x0 x1 x2 x3 x4 x5 x6 (ix2 k ch) = (dcw P k ch : EReal) := by
  pointwise [val_main_v99, val_main_v98, val_main_v90, val_main_v89, val_main_v82, val_main_cst_17, val_main_cst_20,
    val_main_cst_23]
  fin_vals k with hk
  all_goals
    simp [hk, ref_tap0 H, ref_tap1 H, ref_tap2 H]

theorem ref_dgp (p : Fin 8194) (ch : Fin 3072) :
    val_main_v101 (F := Ideal) x0 x1 x2 x3 x4 x5 x6 (ix2 p ch)
      = (((if 2 ≤ (p : ℕ) then dgc P (p - 2) ch * P.cw 2 ch else 0)
          + (if 1 ≤ (p : ℕ) ∧ (p : ℕ) ≤ 8192 then dgc P (p - 1) ch * P.cw 1 ch else 0)
          + (if (p : ℕ) < 8192 then dgc P p ch * P.cw 0 ch else 0) : ℝ) : EReal) := by
  pointwise [val_main_v101, val_main_v100, val_main_v97, val_main_v96, val_main_v92, val_main_v91, val_main_v88, val_main_v87,
    val_main_v83, val_main_v81, val_main_v80, val_main_v31, val_main_v26, val_main_v22, val_main_cst_18, val_main_cst_21,
    val_main_cst_24]
  have hp := p.isLt
  have e2 : (2 ≤ (p : ℕ) ∧ (p : ℕ) - 2 < 8192) ↔ 2 ≤ (p : ℕ) := by omega
  have e1 : (1 ≤ (p : ℕ) ∧ (p : ℕ) - 1 < 8192) ↔ (1 ≤ (p : ℕ) ∧ (p : ℕ) ≤ 8192) := by omega
  simp only [ref_dgc H, H.cw, e1, e2, val3_0, val3_1, val3_2, dite_eq_ite, EReal.coe_add, ← EReal.coe_mul]
  congr 1
  · congr 1
    · split_ifs <;> rfl
    · split_ifs <;> rfl
  · split_ifs <;> rfl

theorem ref_dg (R : Fin 8192) (ch : Fin 3072) :
    val_main_v103 (F := Ideal) x0 x1 x2 x3 x4 x5 x6 (ix2 R ch) = (dg P R ch : EReal) := by
  pointwise [val_main_v103]
  rw [ref_dgp H]
  congr 1
  have hR := R.isLt
  unfold dg dgz
  have e2 : 2 + (R : ℕ) = R + 2 := by omega
  have c1 : 2 ≤ (R : ℕ) + 2 := by omega
  simp only [e2, Nat.add_sub_cancel, show (R : ℕ) + 2 - 1 = R + 1 by omega, if_pos c1, if_pos hR,
    show (1 ≤ (R : ℕ) + 2 ∧ (R : ℕ) + 2 ≤ 8192) ↔ ((R : ℕ) + 1 < 8192) by omega]
  split_ifs <;> ring

theorem ref_dgu (R : Fin 8192) (n : Fin 6144) :
    val_main_v104 (F := Ideal) x0 x1 x2 x3 x4 x5 x6 (ix2 R n)
      = ((if (n : ℕ) < 3072 then dg P R n else du P R (n - 3072) : ℝ) : EReal) := by
  pointwise [val_main_v104]
  by_cases h : (n : ℕ) < 3072
  · simp only [h, ↓reduceDIte, ↓reduceIte]; rw [ref_dg H]
  · simp only [h, ↓reduceDIte, ↓reduceIte]; rw [ref_du H]

theorem ref_dh (R : Fin 8192) (c : Fin 1024) :
    val_main_v105 (F := Ideal) x0 x1 x2 x3 x4 x5 x6 (ix2 R c) = (dh P R c : EReal) := by
  pointwise [val_main_v105]
  rw [Fin.sum_univ_two_halves 3072 3072 rfl]
  unfold dh
  rw [EReal.coe_add]
  congr 1
  · exact sum_coe _ _ fun ch => by
      rw [ref_dgu H, H.wu, ← EReal.coe_mul]
      simp
  · exact sum_coe _ _ fun ch => by
      rw [ref_dgu H, H.wu, ← EReal.coe_mul]
      simp

theorem ref_dgf (c : Fin 1024) :
    val_main_v108 (F := Ideal) x0 x1 x2 x3 x4 x5 x6 (ix2 0 c) = (dgf P c : EReal) := by
  pointwise [val_main_v108, val_main_v107, val_main_v106, val_main_cst_25]
  exact sum_coe _ _ fun R => by rw [ref_dh H, ref_xh H, ← EReal.coe_mul, mul_comm]

set_option maxHeartbeats 1000000 in
theorem ref_dx (R : Fin 8192) (c : Fin 1024) :
    val_main_v128 (F := Ideal) x0 x1 x2 x3 x4 x5 x6 (ix2 R c) = (dx2 P R c : EReal) := by
  pointwise [val_main_v128, val_main_v124, val_main_v123, val_main_v122, val_main_v121, val_main_v120, val_main_v119,
    val_main_v118, val_main_v117, val_main_v116, val_main_v115, val_main_v114, val_main_v113, val_main_v112, val_main_v111,
    val_main_v110, val_main_v109, val_main_v10, val_main_v9, val_main_v8, val_main_cst_2, val_main_cst_26, val_main_cst_27,
    val_main_cst_28]
  simp only [Fin.sum_univ_one, ref_dh H, ref_rinv H, ref_ms H, H.g, H.x, H.dx, w_mhalf, w_1024]
  exact norm_close P (dh P (R : ℕ)) (R : ℕ) (c : ℕ)

theorem ref_out (h b : Fin 2) (R : Fin 8192) (c : Fin 1536) :
    val_main_v127 (F := Ideal) x0 x1 x2 x3 x4 x5 x6 (ix4 h b R c) = (dgu P h R (b * 1536 + c) : EReal) := by
  pointwise [val_main_v127, val_main_v126, val_main_v125]
  rw [ref_dgu H]
  refine congrArg _ ?_
  have hb := b.isLt
  have hc := c.isLt
  show (if (h : ℕ) * 3072 + (b : ℕ) * 1536 + (c : ℕ) < 3072 then dg P R ((h : ℕ) * 3072 + (b : ℕ) * 1536 + (c : ℕ))
    else du P R ((h : ℕ) * 3072 + (b : ℕ) * 1536 + (c : ℕ) - 3072)) = dgu P h R ((b : ℕ) * 1536 + c)
  unfold dgu
  have hh : (h : ℕ) = 0 ∨ (h : ℕ) = 1 := by have := h.isLt; omega
  rcases hh with hh | hh
  · rw [if_pos (by omega), if_pos hh]
    exact congrArg _ (by omega)
  · rw [if_neg (by omega), if_neg (by omega)]
    exact congrArg _ (by omega)

end Cert.Ffn
-- ==== Proof.Ffn.Claim.lean ====
/- The backward kernel and its reference leave the same arrays. -/
module
public import proofs.«01_k».proof.Proof.Ffn.Fin
public import proofs.«01_k».proof.Proof.Ffn.Arr
public import proofs.«01_k».proof.Proof.Ffn.RefB
public import proofs.«01_k».proof.Proof.Gen.ReferenceIdeal.Run
@[expose] public section
set_option maxRecDepth 16384
noncomputable section
open Idealize.ShloMosaic Idealize.ShloMosaic.TcCoe Idealize.SL.Sem

namespace Cert.Ffn

theorem frame_ref : Cert.quiescent_ReferenceIdeal := fun m g _ =>
  (θ_run _ _ _).mono (fun r h => ⟨fun c => (h c).2.2.2.2.2, sem_eq_zero_of_no_sems (by decide) r.2⟩) (Cert.ReferenceIdeal.Value.run m g)

theorem frame_ref_pre [Cert.Pre_finite.Facts] : Cert.quiescent_ReferenceIdeal_pre_finite := fun m g _ => frame_ref m g trivial

theorem eta4' {a b c d : ℕ} (y : (⟨4, ![a, b, c, d]⟩ : Shape).Idx) : y = ix4 (y 0) (y 1) (y 2) (y 3) :=
  funext fun a => match a with | ⟨0, _⟩ => rfl | ⟨1, _⟩ => rfl | ⟨2, _⟩ => rfl | ⟨3, _⟩ => rfl

/-- The reals device `c`'s arguments hold. -/
abbrev inAt (m : (ℓ : Loc Cert.KernelIdeal.nD Cert.KernelIdeal.τ Cert.KernelIdeal.sig) → Idealize.ShloMosaic.Buf (Elt Ideal) ℓ)
    (c : Dev Cert.KernelIdeal.nD) : In :=
  toIn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))

theorem rep_at [Cert.Pre_finite.Facts] (m : (ℓ : Loc Cert.KernelIdeal.nD Cert.KernelIdeal.τ Cert.KernelIdeal.sig) → Idealize.ShloMosaic.Buf (Elt Ideal) ℓ)
    (c : Dev Cert.KernelIdeal.nD) (h : Cert.Pre_KernelIdeal_finite m) : RepAt m (inAt m c) c := by
  obtain ⟨h0, h1, h2, h3, h4, h5, h6⟩ := h c
  exact rep_toIn _ _ _ _ _ _ _ h0 h1 h2 h3 h4 h5 h6

set_option maxHeartbeats 6400000 in
theorem agree [Cert.Pre_finite.Facts] : Cert.algebraic_KernelIdeal_ReferenceIdeal_pre_finite := by
  pair_intro
  · run_from Cert.KernelIdeal.Gen.run_main m g
  · have R : ∀ c, Rep (inAt m c)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) := fun c => by
      obtain ⟨e0, e1, e2, e3, e4, e5, e6⟩ := hagree c
      rw [e0, e1, e2, e3, e4, e5, e6]
      exact rep_at m c hpre
    have K := fun c t => opsAt m c (rep_at m c hpre) t
    run_from Cert.ReferenceIdeal.Value.run m' g'
    · refine (Cert.ReferenceIdeal.Read.val_main_v127_eq (F := Ideal) _).trans ?_
      refine Eq.trans ?_ (arr9 m c (K c)).symm
      funext i
      refine (congrArg _ (eta4' i)).trans ((ref_out (R c) (i 0) (i 1) (i 2) (i 3)).trans ?_)
      rw [Nat.mul_comm]
    · rw [← (hagree c).1, ← (hagree c).2.1]
      refine (Cert.ReferenceIdeal.Read.val_main_v128_eq (F := Ideal) (StableHlo.launchContents m' c)).trans ?_
      refine Eq.trans ?_ (arr10 m c (K c)).symm
      funext i
      exact (congrArg _ (eta2 i)).trans (ref_dx (R c) (i 0) (i 1))
    · refine (Cert.ReferenceIdeal.Read.val_main_v108_eq (F := Ideal) _).trans ?_
      refine Eq.trans ?_ (arr11 m c (K c)).symm
      funext i
      exact (congrArg _ (eta1 i)).trans (ref_dgf (R c) (i 1))
    · refine (Cert.ReferenceIdeal.Read.val_main_v99_eq (F := Ideal) _).trans ?_
      refine Eq.trans ?_ (arr12 m c (K c)).symm
      funext i
      exact (congrArg _ (eta2 i)).trans (ref_dcw (R c) (i 0) (i 1))
    · refine (Cert.ReferenceIdeal.Read.val_main_v76_eq (F := Ideal) _).trans ?_
      refine Eq.trans ?_ (arr13 m c (K c)).symm
      funext i
      exact (congrArg _ (eta1 i)).trans (ref_dcb (R c) (i 1))

end Cert.Ffn
-- ==== Proof.Attn.Real.lean ====
/- The gradient of the cross attention over the real numbers, one entry at a time: what both programs compute. Rows,
   columns and heads are natural numbers; the query is the product of the normed rows with its weight. -/
module
public import proofs.«01_k».proof.Proof.Ffn.Real
@[expose] public section
noncomputable section
open Idealize.ShloMosaic

namespace Cert.Attn
open Cert.Ffn (sum_coe coe_sum div_coe_coe)

/-- The six arguments as real numbers. -/
structure In where
  dx : ℕ → ℕ → ℝ
  x : ℕ → ℕ → ℝ
  g : ℕ → ℝ
  wq : ℕ → ℕ → ℝ
  kv : ℕ → ℕ → ℝ
  wo : ℕ → ℕ → ℝ

/-- The rows, the gain and the weight as the feed-forward block names them: its normed rows and its up projection are
    the normed rows and the query here. -/
def nrm (P : In) : Cert.Ffn.In := ⟨P.dx, P.x, P.g, P.wq, fun _ _ => 0, fun _ => 0, fun _ _ => 0⟩

variable (P : In)

def rinv (R : ℕ) : ℝ := Cert.Ffn.rinv (nrm P) R
def xh (R c : ℕ) : ℝ := Cert.Ffn.xh (nrm P) R c
def qu (R n : ℕ) : ℝ := Cert.Ffn.gu (nrm P) R n
/-- The scaled scores of a head. -/
def sc (h R m : ℕ) : ℝ := (∑ j : Fin 256, qu P R (256 * h + j) * P.kv m (256 * h + j)) * (1 / 16)
/-- The softmax of `f` at `m`. -/
def soft (f : ℕ → ℝ) (m : ℕ) : ℝ := Real.exp (f m) / ∑ k : Fin 256, Real.exp (f k)
def pr (h R m : ℕ) : ℝ := soft (sc P h R) m
/-- The cotangent of the attended values. -/
def do_ (R n : ℕ) : ℝ := ∑ c : Fin 1024, P.dx R c * P.wo n c
def dp (h R m : ℕ) : ℝ := ∑ j : Fin 256, do_ P R (256 * h + j) * P.kv m (1024 + 256 * h + j)
/-- The cotangent of the products of queries and keys. -/
def ds (h R m : ℕ) : ℝ := pr P h R m * (dp P h R m - ∑ k : Fin 256, dp P h R k * pr P h R k) * (1 / 16)
def dqh (h R j : ℕ) : ℝ := ∑ m : Fin 256, ds P h R m * P.kv m (256 * h + j)
def dq (R n : ℕ) : ℝ := dqh P (n / 256) R (n % 256)
def dh (R c : ℕ) : ℝ := ∑ n : Fin 1024, dq P R n * P.wq c n
def dx1 (R c : ℕ) : ℝ :=
  P.dx R c + rinv P R * (dh P R c * P.g c - xh P R c * ((∑ k : Fin 1024, dh P R k * P.g k * xh P R k) / 1024))
def dgf (c : ℕ) : ℝ := ∑ R : Fin 8192, dh P R c * xh P R c
/-- One row's part of the cotangent of the keys and values: first the keys' columns, then the values'. -/
def dkvAt (R m n : ℕ) : ℝ :=
  if n < 1024 then ds P (n / 256) R m * qu P R n else pr P ((n - 1024) / 256) R m * do_ P R (n - 1024)
def dkv (m n : ℕ) : ℝ := ∑ R : Fin 8192, dkvAt P R m n

/-! ### The softmax -/

theorem expsum_pos (f : ℕ → ℝ) : 0 < ∑ k : Fin 256, Real.exp (f k) :=
  Finset.sum_pos (fun _ _ => Real.exp_pos _) ⟨0, Finset.mem_univ _⟩

/-- A shift of every score does not change the softmax. -/
theorem soft_shift (f : ℕ → ℝ) (M : ℝ) (m : ℕ) : Real.exp (f m - M) / ∑ k : Fin 256, Real.exp (f k - M) = soft f m := by
  have e : ∑ k : Fin 256, Real.exp (f k - M) = (∑ k : Fin 256, Real.exp (f k)) * Real.exp (-M) := by
    rw [Finset.sum_mul]; exact Finset.sum_congr rfl fun k _ => by rw [← Real.exp_add]; congr 1
  rw [e, sub_eq_add_neg, Real.exp_add, mul_div_mul_right _ _ (Real.exp_pos _).ne']
  rfl

/-- The greatest of 256 reals. -/
def mx (f : Fin 256 → ℝ) : ℝ := Finset.univ.sup' ⟨0, Finset.mem_univ _⟩ f

theorem mx_sup (f : Fin 256 → ℝ) : (Finset.univ.sup fun k => (f k : EReal)) = (mx f : EReal) := by
  refine le_antisymm (Finset.sup_le fun k _ => EReal.coe_le_coe_iff.mpr (Finset.le_sup' f (Finset.mem_univ k))) ?_
  obtain ⟨k, _, hk⟩ := Finset.exists_mem_eq_sup' (s := Finset.univ) ⟨0, Finset.mem_univ _⟩ f
  rw [mx, hk]
  exact Finset.le_sup (f := fun k => (f k : EReal)) (Finset.mem_univ k)

theorem w_bot : Ideal.ofBits .f32 0xFF800000#32 = (⊥ : EReal) := by
  norm_num [Ideal.ofBits, Ideal.ieee, Nat.shiftRight_eq_div_pow, show (BitVec.extractLsb' 31 1 0xFF800000#32 = 1#1) = True from by decide]
theorem w_16 : Ideal.ofBits .f32 0x3D800000#32 = ((1 / 16 : ℝ) : EReal) := by
  norm_num [Ideal.ofBits, Ideal.ieee, Nat.shiftRight_eq_div_pow, show (BitVec.extractLsb' 31 1 0x3D800000#32 = 1#1) = False from by decide]
theorem w_one : Ideal.ofBits .f32 0x3F800000#32 = ((1 : ℝ) : EReal) := by
  norm_num [Ideal.ofBits, Ideal.ieee, Nat.shiftRight_eq_div_pow, show (BitVec.extractLsb' 31 1 0x3F800000#32 = 1#1) = False from by decide]

/-- The running maximum of 256 reals from the least value. -/
theorem fold_mx (f : Fin 256 → ℝ) :
    Finset.univ.fold max (Ideal.ofBits .f32 0xFF800000#32) (fun k => (f k : EReal)) = (mx f : EReal) := by
  rw [w_bot]
  exact mx_sup f

/-- The exponential of a real. -/
theorem exp_coe (r : ℝ) : Ideal.exp (r : EReal) = (Real.exp r : EReal) := rfl

/-- The shifted exponentials over their sum, in the extended reals. -/
theorem soft_coe (f : ℕ → ℝ) (M : ℝ) (m : ℕ) :
    Ideal.div (Ideal.exp ((f m : EReal) - (M : EReal))) (∑ k : Fin 256, Ideal.exp ((f k : EReal) - (M : EReal))) = (soft f m : EReal) := by
  rw [sum_coe (fun k : Fin 256 => Ideal.exp ((f k : EReal) - (M : EReal))) (fun k => Real.exp (f k - M)) fun k => by
      rw [← EReal.coe_sub, exp_coe], ← EReal.coe_sub, exp_coe, div_coe_coe _ (expsum_pos fun k => f k - M).ne', soft_shift]

/-- The reference's derivative of the softmax. -/
theorem ds_close (h R m : ℕ) (M : ℝ) :
    (dp P h R m / (∑ k : Fin 256, Real.exp (sc P h R k - M))
        + -(∑ k : Fin 256, dp P h R k * (1 / ((∑ k : Fin 256, Real.exp (sc P h R k - M)) * ∑ k : Fin 256, Real.exp (sc P h R k - M)))
            * Real.exp (sc P h R k - M))) * Real.exp (sc P h R m - M) * (1 / 16)
      = ds P h R m := by
  have hp := (expsum_pos fun k => sc P h R k - M).ne'
  have hs : ∀ k : ℕ, pr P h R k = Real.exp (sc P h R k - M) / ∑ k : Fin 256, Real.exp (sc P h R k - M) :=
    fun k => (soft_shift _ M k).symm
  have e : ∑ k : Fin 256, dp P h R k * pr P h R k
      = (∑ k : Fin 256, dp P h R k * (1 / ((∑ k : Fin 256, Real.exp (sc P h R k - M)) * ∑ k : Fin 256, Real.exp (sc P h R k - M)))
            * Real.exp (sc P h R k - M)) * ∑ k : Fin 256, Real.exp (sc P h R k - M) := by
    rw [Finset.sum_mul]
    refine Finset.sum_congr rfl fun k _ => ?_
    rw [hs k]
    generalize (∑ k : Fin 256, Real.exp (sc P h R k - M)) = D at hp
    field_simp
  unfold ds
  rw [e, hs m]
  generalize (∑ k : Fin 256, dp P h R k * (1 / ((∑ k : Fin 256, Real.exp (sc P h R k - M)) * ∑ k : Fin 256, Real.exp (sc P h R k - M)))
            * Real.exp (sc P h R k - M)) = A
  generalize (∑ k : Fin 256, Real.exp (sc P h R k - M)) = D at hp
  field_simp
  ring

/-- The six arrays hold the arguments' numbers. -/
structure Rep (x0 x1 : FVec Ideal ⟨2, ![8192, 1024]⟩ .f32) (x2 : FVec Ideal ⟨2, ![1, 1024]⟩ .f32)
    (x3 : FVec Ideal ⟨2, ![1024, 1024]⟩ .f32) (x4 : FVec Ideal ⟨2, ![256, 2048]⟩ .f32)
    (x5 : FVec Ideal ⟨2, ![1024, 1024]⟩ .f32) : Prop where
  dx : ∀ (R : Fin 8192) (c : Fin 1024), x0 (ix2 R c) = (P.dx R c : EReal)
  x : ∀ (R : Fin 8192) (c : Fin 1024), x1 (ix2 R c) = (P.x R c : EReal)
  g : ∀ c : Fin 1024, x2 (ix2 0 c) = (P.g c : EReal)
  wq : ∀ c n : Fin 1024, x3 (ix2 c n) = (P.wq c n : EReal)
  kv : ∀ (m : Fin 256) (n : Fin 2048), x4 (ix2 m n) = (P.kv m n : EReal)
  wo : ∀ n c : Fin 1024, x5 (ix2 n c) = (P.wo n c : EReal)

end Cert.Attn
-- ==== Proof.Attn.Pay.lean ====
/- What each value of the attention's backward kernel is, entry by entry, when the values it reads are the real numbers
   they stand for. The four heads run the same operations on their own columns. -/
module
public import Idealize.ShloMosaic.Lib.Pointwise
public import Idealize.ShloMosaic.Lib.Pipeline.ValueKit
public import proofs.«01_k».proof.Proof.Gen.KernelAttnIdeal.Skeleton
public import proofs.«01_k».proof.Proof.Attn.Real
@[expose] public section
set_option maxRecDepth 16384
noncomputable section
open Idealize.ShloMosaic Idealize.ShloMosaic.TcCoe Idealize.SL.Sem
open Cert.KernelAttnIdeal Cert.KernelAttnIdeal.Gen

namespace Cert.Attn
open Cert.Ffn (sum_coe coe_sum div_coe_coe rsqrt_coe_pos w_1024 w_eps ms_pos)

/-! ### The heads' operations are the same -/

theorem score0 : k0_pay9 (F := Ideal) = k0_pay21 := rfl
theorem score1 : k0_pay12 (F := Ideal) = k0_pay21 := rfl
theorem score3 : k0_pay29 (F := Ideal) = k0_pay21 := rfl
theorem dp0 (v3 v4 v17) : k0_pay10 (F := Ideal) v3 v4 v17 = k0_pay22 (k0_pay8 v3 v4) v17 := rfl
theorem dp1 (v3 v4 v28) : k0_pay13 (F := Ideal) v3 v4 v28 = k0_pay22 (k0_pay11 v3 v4) v28 := rfl
theorem dp3 (v8 v122) : k0_pay30 (F := Ideal) v8 v122 = k0_pay22 (k0_pay28 v8) v122 := rfl
theorem prob0 (q k) : k0_pay15 (F := Ideal) (k0_pay9 q k) (k0_pay14 q k) = k0_pay23 (k0_pay21 q k) := rfl
theorem prob2 : k0_pay31 (F := Ideal) = k0_pay23 := rfl
theorem prob3 : k0_pay36 (F := Ideal) = k0_pay23 := rfl
theorem ds0 (q k d) : k0_pay16 (F := Ideal) (k0_pay9 q k) d (k0_pay14 q k) = k0_pay24 (k0_pay21 q k) d := rfl
theorem ds2 : k0_pay32 (F := Ideal) = k0_pay24 := rfl
theorem ds3 : k0_pay37 (F := Ideal) = k0_pay24 := rfl
theorem dv0 (d q k a) : k0_pay17 (F := Ideal) d (k0_pay9 q k) (k0_pay14 q k) a = k0_pay33 d (k0_pay23 (k0_pay21 q k)) a := rfl
theorem dv1 (d s a) : k0_pay25 (F := Ideal) d s a = k0_pay33 d (k0_pay23 s) a := rfl
theorem dv3 : k0_pay38 (F := Ideal) = k0_pay33 := rfl
theorem dq0 (q k d b) : k0_pay18 (F := Ideal) (k0_pay9 q k) d (k0_pay14 q k) b = k0_pay34 (k0_pay24 (k0_pay21 q k) d) b := rfl
theorem dq1 (s d b) : k0_pay26 (F := Ideal) s d b = k0_pay34 (k0_pay24 s d) b := rfl
theorem dq3 : k0_pay39 (F := Ideal) = k0_pay34 := rfl
theorem dk0 (q k d a b) : k0_pay19 (F := Ideal) (k0_pay9 q k) d (k0_pay14 q k) a b = k0_pay35 (k0_pay24 (k0_pay21 q k) d) a b := rfl
theorem dk1 : k0_pay27 (F := Ideal) = k0_pay35 := rfl
theorem dk3 : k0_pay40 (F := Ideal) = k0_pay35 := rfl

/-! ### Their entries -/

/-- A tile of 1024 rows and one head's 256 columns holds `f`, its rows counted from `r0`. -/
def Tile {φ : FTy} (f : ℕ → ℕ → ℝ) (r0 : ℕ) (v : FVec Ideal S1024x256 φ) : Prop :=
  ∀ (r : Fin 1024) (j : Fin 256), v (ix2 r j) = (f (r0 + r) j : EReal)
/-- A head's square of keys or values holds `f`. -/
def Sq (f : ℕ → ℕ → ℝ) (v : FVec Ideal S256x256 .bf16) : Prop := ∀ m j : Fin 256, v (ix2 m j) = (f m j : EReal)
/-- A tile of 1024 whole rows. -/
def Wide {φ : FTy} (f : ℕ → ℕ → ℝ) (r0 : ℕ) (v : FVec Ideal S1024x1024 φ) : Prop :=
  ∀ r n : Fin 1024, v (ix2 r n) = (f (r0 + r) n : EReal)

variable {P : In} {r0 h : ℕ}

/-- The columns of a head. -/
abbrev col (f : ℕ → ℕ → ℝ) (o : ℕ) : ℕ → ℕ → ℝ := fun R j => f R (o + j)

theorem score_at {q : FVec Ideal S1024x256 .bf16} {k : FVec Ideal S256x256 .bf16} (hq : Tile (col (qu P) (256 * h)) r0 q)
    (hk : Sq (col P.kv (256 * h)) k) : Tile (sc P h) r0 (k0_pay21 (F := Ideal) q k) := fun r m => by
  pointwise [k0_pay21]
  rw [w_16, sum_coe _ _ fun j => by rw [hq, hk, ← EReal.coe_mul], ← EReal.coe_mul]
  rfl

theorem do_at {dx : FVec Ideal S1024x1024 .f32} {wo : FVec Ideal S1024x1024 .bf16} (hx : Wide P.dx r0 dx) (hw : Wide P.wo 0 wo) :
    Wide (do_ P) r0 (k0_pay7 (F := Ideal) dx wo) := fun r n => by
  pointwise [k0_pay7]
  exact sum_coe _ _ fun c => by rw [hx, hw, ← EReal.coe_mul, Nat.zero_add]

theorem slice0 {f : ℕ → ℕ → ℝ} {v : FVec Ideal S1024x1024 .f32} {w : FVec Ideal S1024x1024 .bf16} (H : Wide f r0 (k0_pay7 (F := Ideal) v w)) :
    Tile (col f 0) r0 (k0_pay8 (F := Ideal) v w) := fun r j => by
  pointwise [k0_pay8]
  rw [H]; simp only [col, Nat.zero_add]
theorem slice1 {f : ℕ → ℕ → ℝ} {v : FVec Ideal S1024x1024 .f32} {w : FVec Ideal S1024x1024 .bf16} (H : Wide f r0 (k0_pay7 (F := Ideal) v w)) :
    Tile (col f 256) r0 (k0_pay11 (F := Ideal) v w) := fun r j => by
  pointwise [k0_pay11]
  rw [H]
theorem slice2 {f : ℕ → ℕ → ℝ} {v : FVec Ideal S1024x1024 .bf16} (H : Wide f r0 v) : Tile (col f 512) r0 (k0_pay20 (F := Ideal) v) := fun r j => by
  pointwise [k0_pay20]
  rw [H]
theorem slice3 {f : ℕ → ℕ → ℝ} {v : FVec Ideal S1024x1024 .bf16} (H : Wide f r0 v) : Tile (col f 768) r0 (k0_pay28 (F := Ideal) v) := fun r j => by
  pointwise [k0_pay28]
  rw [H]

theorem dp_at {d : FVec Ideal S1024x256 .bf16} {v : FVec Ideal S256x256 .bf16} (hd : Tile (col (do_ P) (256 * h)) r0 d)
    (hv : Sq (col P.kv (1024 + 256 * h)) v) : Tile (dp P h) r0 (k0_pay22 (F := Ideal) d v) := fun r m => by
  pointwise [k0_pay22]
  exact sum_coe _ _ fun j => by rw [hd, hv, ← EReal.coe_mul]

theorem prob_at {s : FVec Ideal S1024x256 .f32} (hs : Tile (sc P h) r0 s) : Tile (pr P h) r0 (k0_pay23 (F := Ideal) s) := fun r m => by
  pointwise [k0_pay23]
  simp only [hs r _]
  rw [fold_mx]
  exact soft_coe _ _ _

theorem ds_at {s d : FVec Ideal S1024x256 .f32} (hs : Tile (sc P h) r0 s) (hd : Tile (dp P h) r0 d) :
    Tile (ds P h) r0 (k0_pay24 (F := Ideal) s d) := fun r m => by
  pointwise [k0_pay24]
  rw [sum_coe _ _ fun j => by rw [hd, prob_at hs, ← EReal.coe_mul], hd, prob_at hs, w_16, ← EReal.coe_sub, ← EReal.coe_mul, ← EReal.coe_mul]
  rfl

theorem dv_at {d : FVec Ideal S1024x256 .bf16} {p : FVec Ideal S1024x256 .f32} (hd : Tile (col (do_ P) (256 * h)) r0 d) (hp : Tile (pr P h) r0 p)
    (a : Vec Ideal S256x256 .f32) (m j : Fin 256) : k0_pay33 (F := Ideal) d p a (ix2 m j)
      = a (ix2 m j) + ((∑ r : Fin 1024, pr P h (r0 + r) m * do_ P (r0 + r) (256 * h + j) : ℝ) : EReal) := by
  pointwise [k0_pay33]
  exact congrArg _ (sum_coe _ _ fun r => by rw [hd, hp, ← EReal.coe_mul])

theorem dq_at {d : FVec Ideal S1024x256 .bf16} {k : FVec Ideal S256x256 .bf16} (hd : Tile (ds P h) r0 d) (hk : Sq (col P.kv (256 * h)) k) :
    Tile (dqh P h) r0 (k0_pay34 (F := Ideal) d k) := fun r j => by
  pointwise [k0_pay34]
  exact sum_coe _ _ fun m => by rw [hd, hk, ← EReal.coe_mul]

theorem dk_at {d q : FVec Ideal S1024x256 .bf16} (hd : Tile (ds P h) r0 d) (hq : Tile (col (qu P) (256 * h)) r0 q)
    (a : Vec Ideal S256x256 .f32) (m j : Fin 256) : k0_pay35 (F := Ideal) d a q (ix2 m j)
      = a (ix2 m j) + ((∑ r : Fin 1024, ds P h (r0 + r) m * qu P (r0 + r) (256 * h + j) : ℝ) : EReal) := by
  pointwise [k0_pay35]
  exact congrArg _ (sum_coe _ _ fun r => by rw [hd, hq, ← EReal.coe_mul])

/-! ### The rows' norm and its derivative -/

theorem dh_at {d w : FVec Ideal S1024x1024 .bf16} (hd : Wide (dq P) r0 d) (hw : Wide P.wq 0 w) :
    Wide (dh P) r0 (k0_pay41 (F := Ideal) d w) := fun r c => by
  pointwise [k0_pay41]
  exact sum_coe _ _ fun n => by rw [hd, hw, ← EReal.coe_mul, Nat.zero_add]

theorem rinv_at {x : FVec Ideal S1024x1024 .f32} (hx : Wide P.x r0 x) (r : Fin 1024) :
    k0_pay1 (F := Ideal) (k0_pay42 x) k0_pay43 (ix2 r 0) = (rinv P (r0 + r) : EReal) := by
  pointwise [k0_pay1, k0_pay42, k0_pay43]
  rw [sum_coe _ _ fun c => by rw [hx, ← EReal.coe_mul], w_1024, w_eps, div_coe_coe _ (by norm_num), ← EReal.coe_add]
  exact rsqrt_coe_pos (ms_pos (nrm P) (r0 + r))

theorem xh_at {x : FVec Ideal S1024x1024 .f32} (hx : Wide P.x r0 x) :
    Wide (xh P) r0 (k0_pay2 (F := Ideal) x (k0_pay42 x) k0_pay43) := fun r c => by
  pointwise [k0_pay2]
  rw [hx, rinv_at hx, ← EReal.coe_mul]
  rfl

theorem dg_at {d x : FVec Ideal S1024x1024 .f32} (hd : Wide (dh P) r0 d) (hx : Wide P.x r0 x) (a : Vec Ideal S1x1024 .f32) (c : Fin 1024) :
    k0_pay3 (F := Ideal) d x (k0_pay42 x) k0_pay43 a (ix2 0 c)
      = a (ix2 0 c) + ((∑ r : Fin 1024, dh P (r0 + r) c * xh P (r0 + r) c : ℝ) : EReal) := by
  pointwise [k0_pay3]
  exact congrArg _ (sum_coe _ _ fun r => by rw [hd, xh_at hx, ← EReal.coe_mul])

theorem dx_at {e d x : FVec Ideal S1024x1024 .f32} {g : Vec Ideal S1x1024 .f32} (he : Wide P.dx r0 e) (hd : Wide (dh P) r0 d) (hx : Wide P.x r0 x)
    (hg : ∀ c : Fin 1024, g (ix2 0 c) = (P.g c : EReal)) :
    Wide (dx1 P) r0 (k0_pay4 (F := Ideal) e d x (k0_pay42 x) k0_pay43 g) := fun r c => by
  pointwise [k0_pay4]
  rw [sum_coe _ _ fun k => by rw [hd, hg, xh_at hx, ← EReal.coe_mul, ← EReal.coe_mul], w_1024, div_coe_coe _ (by norm_num), hd, hg, xh_at hx,
    rinv_at hx, he, ← EReal.coe_mul, ← EReal.coe_mul, ← EReal.coe_sub, ← EReal.coe_mul, ← EReal.coe_add]
  rfl

end Cert.Attn
-- ==== Proof.Attn.Point.lean ====
/- One grid point of the attention's backward kernel: what it stores, as the real numbers of its tile. -/
module
public import proofs.«01_k».proof.Proof.Attn.Pay
public import proofs.«01_k».proof.Proof.Ffn.Point
@[expose] public section
set_option maxRecDepth 16384
noncomputable section
open Idealize.ShloMosaic Idealize.ShloMosaic.TcCoe Idealize.SL.Sem
open Cert.KernelAttnIdeal Cert.KernelAttnIdeal.Gen

namespace Cert.Attn
open Cert.Ffn (canon_hit canon_miss)

/-- Stores of 256 columns each that hold `G` there: the last one's columns hold it, and the others if the earlier stores do. -/
theorem peel {a b o : ℕ} {e : EltTy} {inb} (G : ℕ → ℕ → Elt Ideal e) (w : (⟨2, ![a, 256]⟩ : Shape).Idx → Elt Ideal e)
    (L : List (View.Piece (Elt Ideal) ⟨2, ![a, b]⟩ e)) (r : Fin a) (n : Fin b) (hw : ∀ (r : Fin a) (j : Fin 256), w (ix2 r j) = G r (o + j))
    (hL : ¬(o ≤ (n : ℕ) ∧ (n : ℕ) < o + 256) → View.canon L (ix2 r n) = G r n) :
    View.canon (⟨Rect.unit (s := ⟨2, ![a, b]⟩) ![0, o] ![a, 256] inb, w⟩ :: L) (ix2 r n) = G r n := by
  by_cases h : o ≤ (n : ℕ) ∧ (n : ℕ) < o + 256
  · refine (canon_hit _ _ _ (ix2 r ⟨n - o, by omega⟩) ?_).trans ((hw r ⟨n - o, by omega⟩).trans ?_)
    · exact Fin.forall_fin_two.mpr ⟨(Nat.zero_add _).symm, show (n : ℕ) = o + (n - o) by omega⟩
    · congr 1; show o + ((n : ℕ) - o) = n; omega
  · refine (canon_miss _ _ _ 1 ?_).trans (hL h)
    show (n : ℕ) < o ∨ o + 256 ≤ (n : ℕ)
    omega

/-- The blocks a grid point reads: the tile of 1024 rows from row `r0` on. -/
structure Ops (P : In) (r0 : ℕ) (x0 : Vec Ideal S1024x1024 .f32) (x1 x2 : Vec Ideal S1024x1024 .bf16) (x3 : Vec Ideal S256x2048 .bf16)
    (x4 : Vec Ideal S1024x1024 .f32) (x5 : Vec Ideal S1x1024 .f32) (x6 : Vec Ideal S1024x1024 .bf16) : Prop where
  dx : Wide (φ := .f32) P.dx r0 x0
  wo : Wide (φ := .bf16) P.wo 0 x1
  q : Wide (φ := .bf16) (qu P) r0 x2
  kv : ∀ (m : Fin 256) (n : Fin 2048), x3 (ix2 m n) = (P.kv m n : EReal)
  x : Wide (φ := .f32) P.x r0 x4
  g : ∀ c : Fin 1024, x5 (ix2 0 c) = (P.g c : EReal)
  wq : Wide (φ := .bf16) P.wq 0 x6

/-- A head's columns of the query's tile, its keys and its values. -/
abbrev qs (x2 : Vec Ideal S1024x1024 .bf16) (o : ℕ) (inb : ∀ a, (![0, o] : Fin 2 → ℕ) a + (![1024, 256] : Fin 2 → ℕ) a ≤ S1024x1024.size a) : Vec Ideal S1024x256 .bf16 := View.ld x2 (Rect.unit ![0, o] ![1024, 256] inb)
abbrev ks (x3 : Vec Ideal S256x2048 .bf16) (o : ℕ) (inb : ∀ a, (![0, o] : Fin 2 → ℕ) a + (![256, 256] : Fin 2 → ℕ) a ≤ S256x2048.size a) : Vec Ideal S256x256 .bf16 := View.ld x3 (Rect.unit ![0, o] ![256, 256] inb)

section
variable {P : In} {r0 : ℕ} {x0 : Vec Ideal S1024x1024 .f32} {x1 x2 : Vec Ideal S1024x1024 .bf16} {x3 : Vec Ideal S256x2048 .bf16}
    {x4 : Vec Ideal S1024x1024 .f32} {x5 : Vec Ideal S1x1024 .f32} {x6 : Vec Ideal S1024x1024 .bf16} (H : Ops P r0 x0 x1 x2 x3 x4 x5 x6)
include H

theorem qs_at (h o : ℕ) (ho : 256 * h = o) (inb) : Tile (φ := .bf16) (col (qu P) (256 * h)) r0 (qs x2 o inb) := fun r j => by
  have hb : o + 256 ≤ 1024 := inb 1
  subst ho
  refine (View.ld_unit_apply_of x2 _ _ inb (ix2 r j) (ix2 r ⟨256 * h + j, by omega⟩) ?_).trans (H.q r ⟨256 * h + j, by omega⟩)
  exact Fin.forall_fin_two.mpr ⟨(Nat.zero_add _).symm, rfl⟩

theorem ks_at (p o : ℕ) (ho : p = o) (inb) : Sq (col P.kv p) (ks x3 o inb) := fun m j => by
  have hb : o + 256 ≤ 2048 := inb 1
  subst ho
  refine (View.ld_unit_apply_of x3 _ _ inb (ix2 m j) (ix2 m ⟨p + j, by omega⟩) ?_).trans (H.kv m ⟨p + j, by omega⟩)
  exact Fin.forall_fin_two.mpr ⟨(Nat.zero_add _).symm, rfl⟩

/-! ### The four heads -/

theorem dO : Wide (do_ P) r0 (k0_pay7 (F := Ideal) x0 x1) := do_at H.dx H.wo

/-- Head `h`: its scores, its cotangent of the attended values and what comes of them. -/
structure Head (P : In) (r0 h : ℕ) (q d : FVec Ideal S1024x256 .bf16) (k v : FVec Ideal S256x256 .bf16) : Prop where
  q : Tile (col (qu P) (256 * h)) r0 q
  d : Tile (col (do_ P) (256 * h)) r0 d
  k : Sq (col P.kv (256 * h)) k
  v : Sq (col P.kv (1024 + 256 * h)) v

omit H in
theorem Head.pr {h : ℕ} {q d : FVec Ideal S1024x256 .bf16} {k v : FVec Ideal S256x256 .bf16} (A : Head P r0 h q d k v) :
    Tile (pr P h) r0 (k0_pay23 (F := Ideal) (k0_pay21 q k)) := prob_at (score_at A.q A.k)
omit H in
theorem Head.ds {h : ℕ} {q d : FVec Ideal S1024x256 .bf16} {k v : FVec Ideal S256x256 .bf16} (A : Head P r0 h q d k v) :
    Tile (ds P h) r0 (k0_pay24 (F := Ideal) (k0_pay21 q k) (k0_pay22 d v)) := ds_at (score_at A.q A.k) (dp_at A.d A.v)

omit H in
/-- A head's columns of the query's cotangent. -/
theorem Head.dq {h : ℕ} (hh : h < 4) {q d : FVec Ideal S1024x256 .bf16} {k v : FVec Ideal S256x256 .bf16} (A : Head P r0 h q d k v) (r : Fin 1024) (j : Fin 256) :
    k0_pay34 (F := Ideal) (k0_pay24 (k0_pay21 q k) (k0_pay22 d v)) k (ix2 r j) = (dq P (r0 + r) (256 * h + j) : EReal) := by
  rw [dq_at A.ds A.k, Cert.Attn.dq]
  have e1 : (256 * h + (j : ℕ)) / 256 = h := by omega
  have e2 : (256 * h + (j : ℕ)) % 256 = j := by omega
  rw [e1, e2]

/-- A tile's part of the cotangent of the keys and values. -/
def dkvT (P : In) (r0 m n : ℕ) : ℝ := ∑ r : Fin 1024, dkvAt P (r0 + r) m n

omit H in
/-- A head's columns of the keys' cotangent. -/
theorem Head.dk {h : ℕ} (hh : h < 4) {q d : FVec Ideal S1024x256 .bf16} {k v : FVec Ideal S256x256 .bf16} (A : Head P r0 h q d k v)
    {a : Vec Ideal S256x256 .f32} (Z : ℕ → ℕ → EReal) (ha : ∀ m j : Fin 256, a (ix2 m j) = Z m (256 * h + j)) (m j : Fin 256) :
    k0_pay35 (F := Ideal) (k0_pay24 (k0_pay21 q k) (k0_pay22 d v)) a q (ix2 m j) = Z m (256 * h + j) + (dkvT P r0 m (256 * h + j) : EReal) := by
  rw [dk_at A.ds A.q, ha]
  have e1 : (256 * h + (j : ℕ)) / 256 = h := by omega
  simp only [dkvT, dkvAt, if_pos (show 256 * h + (j : ℕ) < 1024 by omega), e1]

omit H in
/-- A head's columns of the values' cotangent. -/
theorem Head.dv {h : ℕ} (hh : h < 4) {q d : FVec Ideal S1024x256 .bf16} {k v : FVec Ideal S256x256 .bf16} (A : Head P r0 h q d k v)
    {a : Vec Ideal S256x256 .f32} (Z : ℕ → ℕ → EReal) (ha : ∀ m j : Fin 256, a (ix2 m j) = Z m (1024 + 256 * h + j)) (m j : Fin 256) :
    k0_pay33 (F := Ideal) d (k0_pay23 (k0_pay21 q k)) a (ix2 m j) = Z m (1024 + 256 * h + j) + (dkvT P r0 m (1024 + 256 * h + j) : EReal) := by
  rw [dv_at A.d A.pr, ha]
  have e1 : (256 * h + (j : ℕ)) / 256 = h := by omega
  have e2 : 1024 + 256 * h + (j : ℕ) - 1024 = 256 * h + j := by omega
  simp only [dkvT, dkvAt, if_neg (show ¬1024 + 256 * h + (j : ℕ) < 1024 by omega), e1, e2]

theorem head0 : Head P r0 0 (qs x2 0 inb_S1024x1024_S1024x256_0_0) (k0_pay8 x0 x1) (ks x3 0 inb_S256x2048_S256x256_0_0) (ks x3 1024 inb_S256x2048_S256x256_0_1024) :=
  ⟨qs_at H 0 0 rfl _, slice0 (dO H), ks_at H _ _ rfl _, ks_at H _ _ rfl _⟩
theorem head1 : Head P r0 1 (qs x2 256 inb_S1024x1024_S1024x256_0_256) (k0_pay11 x0 x1) (ks x3 256 inb_S256x2048_S256x256_0_256) (ks x3 1280 inb_S256x2048_S256x256_0_1280) :=
  ⟨qs_at H 1 _ rfl _, slice1 (dO H), ks_at H _ _ rfl _, ks_at H _ _ rfl _⟩
theorem head2 : Head P r0 2 (qs x2 512 inb_S1024x1024_S1024x256_0_512) (k0_pay20 (k0_pay7 x0 x1)) (ks x3 512 inb_S256x2048_S256x256_0_512) (ks x3 1536 inb_S256x2048_S256x256_0_1536) :=
  ⟨qs_at H 2 _ rfl _, slice2 (dO H), ks_at H _ _ rfl _, ks_at H _ _ rfl _⟩
theorem head3 : Head P r0 3 (qs x2 768 inb_S1024x1024_S1024x256_0_768) (k0_pay28 (k0_pay7 x0 x1)) (ks x3 768 inb_S256x2048_S256x256_0_768) (ks x3 1792 inb_S256x2048_S256x256_0_1792) :=
  ⟨qs_at H 3 _ rfl _, slice3 (dO H), ks_at H _ _ rfl _, ks_at H _ _ rfl _⟩

/-! ### What a point stores -/

omit H in
/-- The four stores of the query's cotangent. -/
abbrev dqL (x0 : Vec Ideal S1024x1024 .f32) (x1 x2 : Vec Ideal S1024x1024 .bf16) (x3 : Vec Ideal S256x2048 .bf16) :
    List (View.Piece (Elt Ideal) S1024x1024 .bf16) :=
  [⟨Rect.unit ![0, 768] ![1024, 256] inb_S1024x1024_S1024x256_0_768,
      k0_pay39 (k0_pay37 (k0_pay29 (qs x2 768 inb_S1024x1024_S1024x256_0_768) (ks x3 768 inb_S256x2048_S256x256_0_768))
        (k0_pay30 (k0_pay7 x0 x1) (ks x3 1792 inb_S256x2048_S256x256_0_1792))) (ks x3 768 inb_S256x2048_S256x256_0_768)⟩,
    ⟨Rect.unit ![0, 512] ![1024, 256] inb_S1024x1024_S1024x256_0_512,
      k0_pay34 (k0_pay32 (k0_pay21 (qs x2 512 inb_S1024x1024_S1024x256_0_512) (ks x3 512 inb_S256x2048_S256x256_0_512))
        (k0_pay22 (k0_pay20 (k0_pay7 x0 x1)) (ks x3 1536 inb_S256x2048_S256x256_0_1536))) (ks x3 512 inb_S256x2048_S256x256_0_512)⟩,
    ⟨Rect.unit ![0, 256] ![1024, 256] inb_S1024x1024_S1024x256_0_256,
      k0_pay26 (k0_pay12 (qs x2 256 inb_S1024x1024_S1024x256_0_256) (ks x3 256 inb_S256x2048_S256x256_0_256))
        (k0_pay13 x0 x1 (ks x3 1280 inb_S256x2048_S256x256_0_1280)) (ks x3 256 inb_S256x2048_S256x256_0_256)⟩,
    ⟨Rect.unit ![0, 0] ![1024, 256] inb_S1024x1024_S1024x256_0_0,
      k0_pay18 (k0_pay9 (qs x2 0 inb_S1024x1024_S1024x256_0_0) (ks x3 0 inb_S256x2048_S256x256_0_0))
        (k0_pay10 x0 x1 (ks x3 1024 inb_S256x2048_S256x256_0_1024))
        (k0_pay14 (qs x2 0 inb_S1024x1024_S1024x256_0_0) (ks x3 0 inb_S256x2048_S256x256_0_0)) (ks x3 0 inb_S256x2048_S256x256_0_0)⟩]

theorem dqL_at (r n : Fin 1024) : View.canon (Val := Elt Ideal) (dqL x0 x1 x2 x3) (ix2 r n) = (dq P (r0 + r) n : EReal) := by
  have hn := n.isLt
  refine peel (e := .bf16) (fun r n => (dq P (r0 + r) n : EReal)) _ _ r n (fun r j => ?_) fun h0 => ?_
  · rw [dq3, ds3, score3, dp3]; exact (head3 H).dq (by decide) r j
  refine peel (e := .bf16) (fun r n => (dq P (r0 + r) n : EReal)) _ _ r n (fun r j => ?_) fun h1 => ?_
  · rw [ds2]; exact (head2 H).dq (by decide) r j
  refine peel (e := .bf16) (fun r n => (dq P (r0 + r) n : EReal)) _ _ r n (fun r j => ?_) fun h2 => ?_
  · rw [dq1, score1, dp1]; exact (head1 H).dq (by decide) r j
  refine peel (e := .bf16) (fun r n => (dq P (r0 + r) n : EReal)) _ _ r n (fun r j => ?_) fun h3 => ?_
  · rw [dq0, dp0]; exact (head0 H).dq (by decide) r j
  omega

/-- The eight stores of the keys' and values' cotangent. -/
theorem dkv_at (Z : ℕ → ℕ → EReal) {k3 v3 k2 v2 k1 v1 k0 v0 : Vec Ideal S256x256 .f32} (L : List (View.Piece (Elt Ideal) S256x2048 .f32))
    (hk3 : ∀ m j : Fin 256, k3 (ix2 m j) = Z m (768 + j)) (hv3 : ∀ m j : Fin 256, v3 (ix2 m j) = Z m (1792 + j))
    (hk2 : ∀ m j : Fin 256, k2 (ix2 m j) = Z m (512 + j)) (hv2 : ∀ m j : Fin 256, v2 (ix2 m j) = Z m (1536 + j))
    (hk1 : ∀ m j : Fin 256, k1 (ix2 m j) = Z m (256 + j)) (hv1 : ∀ m j : Fin 256, v1 (ix2 m j) = Z m (1280 + j))
    (hk0 : ∀ m j : Fin 256, k0 (ix2 m j) = Z m (0 + j)) (hv0 : ∀ m j : Fin 256, v0 (ix2 m j) = Z m (1024 + j)) (m : Fin 256) (n : Fin 2048) :
    View.canon (Val := Elt Ideal)
      (⟨Rect.unit ![0, 768] ![256, 256] inb_S256x2048_S256x256_0_768,
          k0_pay40 (k0_pay37 (k0_pay29 (qs x2 768 inb_S1024x1024_S1024x256_0_768) (ks x3 768 inb_S256x2048_S256x256_0_768))
            (k0_pay30 (k0_pay7 x0 x1) (ks x3 1792 inb_S256x2048_S256x256_0_1792))) k3 (qs x2 768 inb_S1024x1024_S1024x256_0_768)⟩ ::
        ⟨Rect.unit ![0, 1792] ![256, 256] inb_S256x2048_S256x256_0_1792,
          k0_pay38 (k0_pay28 (k0_pay7 x0 x1))
            (k0_pay36 (k0_pay29 (qs x2 768 inb_S1024x1024_S1024x256_0_768) (ks x3 768 inb_S256x2048_S256x256_0_768))) v3⟩ ::
        ⟨Rect.unit ![0, 512] ![256, 256] inb_S256x2048_S256x256_0_512,
          k0_pay35 (k0_pay32 (k0_pay21 (qs x2 512 inb_S1024x1024_S1024x256_0_512) (ks x3 512 inb_S256x2048_S256x256_0_512))
            (k0_pay22 (k0_pay20 (k0_pay7 x0 x1)) (ks x3 1536 inb_S256x2048_S256x256_0_1536))) k2 (qs x2 512 inb_S1024x1024_S1024x256_0_512)⟩ ::
        ⟨Rect.unit ![0, 1536] ![256, 256] inb_S256x2048_S256x256_0_1536,
          k0_pay33 (k0_pay20 (k0_pay7 x0 x1))
            (k0_pay31 (k0_pay21 (qs x2 512 inb_S1024x1024_S1024x256_0_512) (ks x3 512 inb_S256x2048_S256x256_0_512))) v2⟩ ::
        ⟨Rect.unit ![0, 256] ![256, 256] inb_S256x2048_S256x256_0_256,
          k0_pay27 (k0_pay24 (k0_pay12 (qs x2 256 inb_S1024x1024_S1024x256_0_256) (ks x3 256 inb_S256x2048_S256x256_0_256))
            (k0_pay13 x0 x1 (ks x3 1280 inb_S256x2048_S256x256_0_1280))) k1 (qs x2 256 inb_S1024x1024_S1024x256_0_256)⟩ ::
        ⟨Rect.unit ![0, 1280] ![256, 256] inb_S256x2048_S256x256_0_1280,
          k0_pay25 (k0_pay11 x0 x1) (k0_pay12 (qs x2 256 inb_S1024x1024_S1024x256_0_256) (ks x3 256 inb_S256x2048_S256x256_0_256)) v1⟩ ::
        ⟨Rect.unit ![0, 0] ![256, 256] inb_S256x2048_S256x256_0_0,
          k0_pay19 (k0_pay9 (qs x2 0 inb_S1024x1024_S1024x256_0_0) (ks x3 0 inb_S256x2048_S256x256_0_0))
            (k0_pay10 x0 x1 (ks x3 1024 inb_S256x2048_S256x256_0_1024))
            (k0_pay14 (qs x2 0 inb_S1024x1024_S1024x256_0_0) (ks x3 0 inb_S256x2048_S256x256_0_0)) k0 (qs x2 0 inb_S1024x1024_S1024x256_0_0)⟩ ::
        ⟨Rect.unit ![0, 1024] ![256, 256] inb_S256x2048_S256x256_0_1024,
          k0_pay17 (k0_pay8 x0 x1) (k0_pay9 (qs x2 0 inb_S1024x1024_S1024x256_0_0) (ks x3 0 inb_S256x2048_S256x256_0_0))
            (k0_pay14 (qs x2 0 inb_S1024x1024_S1024x256_0_0) (ks x3 0 inb_S256x2048_S256x256_0_0)) v0⟩ :: L) (ix2 m n)
      = Z m n + (dkvT P r0 m n : EReal) := by
  have hn := n.isLt
  refine peel (e := .f32) (fun m n => Z m n + (dkvT P r0 m n : EReal)) _ _ m n (fun m j => ?_) fun h0 => ?_
  · rw [dk3, ds3, score3, dp3]; exact (head3 H).dk (by decide) Z hk3 m j
  refine peel (e := .f32) (fun m n => Z m n + (dkvT P r0 m n : EReal)) _ _ m n (fun m j => ?_) fun h1 => ?_
  · rw [dv3, prob3, score3]; exact (head3 H).dv (by decide) Z hv3 m j
  refine peel (e := .f32) (fun m n => Z m n + (dkvT P r0 m n : EReal)) _ _ m n (fun m j => ?_) fun h2 => ?_
  · rw [ds2]; exact (head2 H).dk (by decide) Z hk2 m j
  refine peel (e := .f32) (fun m n => Z m n + (dkvT P r0 m n : EReal)) _ _ m n (fun m j => ?_) fun h3 => ?_
  · rw [prob2]; exact (head2 H).dv (by decide) Z hv2 m j
  refine peel (e := .f32) (fun m n => Z m n + (dkvT P r0 m n : EReal)) _ _ m n (fun m j => ?_) fun h4 => ?_
  · rw [dk1, score1, dp1]; exact (head1 H).dk (by decide) Z hk1 m j
  refine peel (e := .f32) (fun m n => Z m n + (dkvT P r0 m n : EReal)) _ _ m n (fun m j => ?_) fun h5 => ?_
  · rw [dv1, score1]; exact (head1 H).dv (by decide) Z hv1 m j
  refine peel (e := .f32) (fun m n => Z m n + (dkvT P r0 m n : EReal)) _ _ m n (fun m j => ?_) fun h6 => ?_
  · rw [dk0, dp0]; exact (head0 H).dk (by decide) Z hk0 m j
  refine peel (e := .f32) (fun m n => Z m n + (dkvT P r0 m n : EReal)) _ _ m n (fun m j => ?_) fun h7 => ?_
  · rw [dv0]; exact (head0 H).dv (by decide) Z hv0 m j
  omega

end
end Cert.Attn
-- ==== Proof.Attn.Step.lean ====
/- The outputs of the attention's backward kernel after one grid point, from the values after the one before. -/
module
public import Idealize.ShloMosaic.Lib.Pointwise
public import Idealize.ShloMosaic.Lib.Pipeline.ValueKit
public import Idealize.ShloMosaic.Lib.Pipeline.ReadBack
public import proofs.«01_k».proof.Proof.Gen.KernelAttnIdeal.Frame
public import proofs.«01_k».proof.Proof.Attn.Point
@[expose] public section
set_option maxRecDepth 16384
noncomputable section
open Idealize.ShloMosaic Idealize.ShloMosaic.TcCoe Idealize.SL.Sem
open Idealize.ShloMosaic.Pipeline (Dat)
open Cert.KernelAttnIdeal Cert.KernelAttnIdeal.Gen

namespace Cert.Attn

variable (m : (ℓ : Loc nD τ sig) → Idealize.ShloMosaic.Buf (Elt Ideal) ℓ) {P : In}

/-- The blocks of grid point `t`. -/
abbrev OpsAt (P : In) (c : Dev nD) (t : Fin cfg0.N) : Prop :=
  Ops P (1024 * t.val) (iblk m c 0 t) (iblk m c 1 t) (iblk m c 2 t) (iblk m c 3 t) (iblk m c 4 t) (iblk m c 5 t) (iblk m c 6 t)

theorem t_lt (t : Fin cfg0.N) : t.val < 8 := t.isLt

theorem zero2 : ∀ a : Fin 2, (![0, 0] : Fin 2 → ℕ) a = 0 := by decide

section
variable (c : Dev nD) (t : Fin cfg0.N) (H : OpsAt m P c t)
include H

theorem out7_A (h : t.val % 8 = 0) (r n : Fin 1024) :
    (outsAt0 m c t.val t.isLt).1 (ix2 r n) = (dq P (1024 * t.val + r) n : EReal) := by
  rw [outsAt0_A m c t h]; dsimp only; frame_out
  exact dqL_at H r n

theorem out7_B (h : ¬t.val % 8 = 0) (r n : Fin 1024) :
    (outsAt0 m c t.val t.isLt).1 (ix2 r n) = (dq P (1024 * t.val + r) n : EReal) := by
  rw [outsAt0_B m c t h]; dsimp only; frame_out
  exact dqL_at H r n

omit H in
/-- The tile of the query's cotangent, read back. -/
theorem dq_read {r0 : ℕ} {x0 : Vec Ideal S1024x1024 .f32} {x1 x2 : Vec Ideal S1024x1024 .bf16} {x3 : Vec Ideal S256x2048 .bf16}
    {x4 : Vec Ideal S1024x1024 .f32} {x5 : Vec Ideal S1x1024 .f32} {x6 : Vec Ideal S1024x1024 .bf16} (H : Ops P r0 x0 x1 x2 x3 x4 x5 x6)
    {κ} {sp} (v : View sig κ sp S1024x1024 .bf16) :
    Wide (φ := .bf16) (dq P) r0
      (v.readCov (dqL x0 x1 x2 x3) (Rect.unit (s := S1024x1024) ![0, 0] ![1024, 1024] inb_S1024x1024_S1024x1024_0_0).toLoadRect) := fun r n => by
  rw [View.readCov_eq_canon']
  pointwise
  exact dqL_at H r n

theorem out8_A (h : t.val % 8 = 0) (r n : Fin 1024) :
    (outsAt0 m c t.val t.isLt).2.1 (ix2 r n) = (dx1 P (1024 * t.val + r) n : EReal) := by
  rw [outsAt0_A m c t h]; dsimp only; frame_out
  exact dx_at H.dx (dh_at (dq_read H _) H.wq) H.x H.g r n

theorem out8_B (h : ¬t.val % 8 = 0) (r n : Fin 1024) :
    (outsAt0 m c t.val t.isLt).2.1 (ix2 r n) = (dx1 P (1024 * t.val + r) n : EReal) := by
  rw [outsAt0_B m c t h]; dsimp only; frame_out
  exact dx_at H.dx (dh_at (dq_read H _) H.wq) H.x H.g r n

/-- A tile's part of the norm scale's gradient. -/
abbrev dgT (P : In) (r0 k : ℕ) : ℝ := ∑ r : Fin 1024, dh P (r0 + r) k * xh P (r0 + r) k

theorem out10_A (h : t.val % 8 = 0) (k : Fin 1024) :
    (outsAt0 m c t.val t.isLt).2.2.2 (ix2 0 k) = (dgT P (1024 * t.val) k : EReal) := by
  rw [outsAt0_A m c t h]; dsimp only; frame_out
  refine (dg_at (dh_at (dq_read H _) H.wq) H.x _ k).trans ?_
  pointwise [k0_pay6]

theorem out10_B (h : ¬t.val % 8 = 0) (k : Fin 1024) :
    (outsAt0 m c t.val t.isLt).2.2.2 (ix2 0 k)
      = (outsAt0 m c (t.val - 1) (Nat.lt_of_le_of_lt (Nat.sub_le _ _) t.isLt)).2.2.2 (ix2 0 k) + (dgT P (1024 * t.val) k : EReal) := by
  rw [outsAt0_B m c t h]; dsimp only; frame_out
  exact dg_at (dh_at (dq_read H _) H.wq) H.x _ k

set_option maxHeartbeats 3200000 in
theorem out9_A (h : t.val % 8 = 0) (a : Fin 256) (k : Fin 2048) :
    (outsAt0 m c t.val t.isLt).2.2.1 (ix2 a k) = (dkvT P (1024 * t.val) a k : EReal) := by
  rw [outsAt0_A m c t h]; dsimp only; frame_out
  refine (dkv_at H (fun _ _ => 0) _ (fun i j => ?_) (fun i j => ?_) (fun i j => ?_) (fun i j => ?_) (fun i j => ?_) (fun i j => ?_)
    (fun i j => ?_) (fun i j => ?_) a k).trans (zero_add _)
  all_goals
    repeat rw [View.readCov_skip _ _ _ _ _ (by decide +kernel)]
    rw [View.readCov_fill _ _ _ _ _ zero2]
    pointwise [k0_pay5]

/-- The keys' and values' cotangent after the point before. -/
def prev9 (n k : ℕ) : EReal :=
  if h : n < 256 ∧ k < 2048 then (outsAt0 m c (t.val - 1) (Nat.lt_of_le_of_lt (Nat.sub_le _ _) t.isLt)).2.2.1 (ix2 ⟨n, h.1⟩ ⟨k, h.2⟩) else 0

set_option maxHeartbeats 3200000 in
theorem out9_B (h : ¬t.val % 8 = 0) (a : Fin 256) (k : Fin 2048) :
    (outsAt0 m c t.val t.isLt).2.2.1 (ix2 a k)
      = (outsAt0 m c (t.val - 1) (Nat.lt_of_le_of_lt (Nat.sub_le _ _) t.isLt)).2.2.1 (ix2 a k) + (dkvT P (1024 * t.val) a k : EReal) := by
  rw [outsAt0_B m c t h]; dsimp only; frame_out
  refine (dkv_at H (prev9 m c t) _ (fun i j => ?_) (fun i j => ?_) (fun i j => ?_) (fun i j => ?_) (fun i j => ?_) (fun i j => ?_)
    (fun i j => ?_) (fun i j => ?_) a k).trans ?_
  rotate_right
  · rw [prev9, dif_pos ⟨a.isLt, k.isLt⟩]
  all_goals
    rw [prev9, dif_pos ⟨i.isLt, by omega⟩]
    pointwise
end

end Cert.Attn
-- ==== Proof.Attn.Host.lean ====
/- The arrays the attention's backward kernel is launched on, from the arguments. -/
module
public import proofs.«01_k».proof.Proof.Attn.Step
public import proofs.«01_k».proof.Proof.Ffn.Host
public import Idealize.ShloMosaic.Lib.Claim
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)
open Cert.KernelAttnIdeal Cert.KernelAttnIdeal.Gen

namespace Cert.Attn

variable (m : (ℓ : Loc nD τ sig) → Idealize.ShloMosaic.Buf (Elt Ideal) ℓ) {P : In} (c : Dev nD)

/-- The arguments on a device hold the reals of `P`. -/
abbrev RepAt (P : In) (c : Dev nD) : Prop :=
  Rep P (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable (H : RepAt m P c)
include H

set_option maxHeartbeats 1600000 in
theorem host_wo (n k : Fin 1024) : (V m c main_v14 : Vec Ideal S1024x1024 .bf16) (ix2 n k) = (P.wo n k : EReal) := by
  entry_read
  pointwise []
  exact H.wo n k

set_option maxHeartbeats 1600000 in
theorem host_kv (a : Fin 256) (k : Fin 2048) : (V m c main_v15 : Vec Ideal S256x2048 .bf16) (ix2 a k) = (P.kv a k : EReal) := by
  entry_read
  pointwise []
  exact H.kv a k

set_option maxHeartbeats 1600000 in
theorem host_wq (k n : Fin 1024) : (V m c main_v16 : Vec Ideal S1024x1024 .bf16) (ix2 k n) = (P.wq k n : EReal) := by
  entry_read
  pointwise []
  exact H.wq k n

set_option maxHeartbeats 1600000 in
theorem host_q (R : Fin 8192) (n : Fin 1024) : (V m c main_v13 : Vec Ideal S8192x1024 .bf16) (ix2 R n) = (qu P R n : EReal) := by
  entry_read
  pointwise []
  have hx : ∀ k : Fin 1024, (m (c, Proc.tc.devRef main_arg1) (ix2 R k) : EReal) = (P.x R k : EReal) := fun k => H.x R k
  have hg : ∀ k : Fin 1024, (m (c, Proc.tc.devRef main_arg2) (ix2 0 k) : EReal) = (P.g k : EReal) := fun k => H.g k
  have hu : ∀ k : Fin 1024, (m (c, Proc.tc.devRef main_arg3) (ix2 k n) : EReal) = (P.wq k n : EReal) := fun k => H.wq k n
  exact Cert.Ffn.gu_sum (nrm P) R n _ _ _ hx hg hu

/-! ### The blocks -/

omit H in
theorem idx_in : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![0, 0] :=
  (by decide +kernel : ∀ t : Fin grid0.N, _)

set_option maxHeartbeats 1600000 in
theorem opsAt (t : Fin cfg0.N) : OpsAt m P c t := by
  have ht := t_lt t
  obtain ⟨i0, i1, i2, i3, i4, i5, i6⟩ := idx_in t
  constructor
  · intro r k
    have e : (win0_0.blk t).view.emb (ix2 r k) = ix2 (⟨1024 * t.val + r, by omega⟩ : Fin 8192) k := by blk_ext [i0]
    blk_simp [iblk]
    rw [e]
    exact (congrFun (V_main_arg0 m c) _).trans (H.dx _ k)
  · intro r k
    have e : (win0_1.blk t).view.emb (ix2 r k) = ix2 r k := by blk_ext [i1]
    blk_simp [iblk]
    rw [e]
    exact host_wo m c H r k
  · intro r k
    have e : (win0_2.blk t).view.emb (ix2 r k) = ix2 (⟨1024 * t.val + r, by omega⟩ : Fin 8192) k := by blk_ext [i2]
    blk_simp [iblk]
    rw [e]
    exact host_q m c H _ k
  · intro a k
    have e : (win0_3.blk t).view.emb (ix2 a k) = ix2 a k := by blk_ext [i3]
    blk_simp [iblk]
    rw [e]
    exact host_kv m c H a k
  · intro r k
    have e : (win0_4.blk t).view.emb (ix2 r k) = ix2 (⟨1024 * t.val + r, by omega⟩ : Fin 8192) k := by blk_ext [i4]
    blk_simp [iblk]
    rw [e]
    exact (congrFun (V_main_arg1 m c) _).trans (H.x _ k)
  · intro k
    have e : (win0_5.blk t).view.emb (ix2 0 k) = ix2 (0 : Fin 1) k := by blk_ext [i5]
    blk_simp [iblk]
    rw [e]
    exact (congrFun (V_main_arg2 m c) _).trans (H.g k)
  · intro r k
    have e : (win0_6.blk t).view.emb (ix2 r k) = ix2 r k := by blk_ext [i6]
    blk_simp [iblk]
    rw [e]
    exact host_wq m c H r k

end Cert.Attn
-- ==== Proof.Attn.Fin.lean ====
/- Finite arguments of the attention hold reals. -/
module
public import proofs.«01_k».proof.Defs
public import proofs.«01_k».proof.Proof.Gen.Pre_finite_attn
public import proofs.«01_k».proof.Proof.Ffn.Fin
public import proofs.«01_k».proof.Proof.Attn.Host
@[expose] public section
set_option maxRecDepth 16384
noncomputable section
open Idealize.ShloMosaic Idealize.ShloMosaic.TcCoe Idealize.SL.Sem

namespace Cert.Attn
open Cert.Ffn (real_of_lt ofNat_val)

/-- The reals the arguments hold. -/
def toIn (x0 x1 : FVec Ideal ⟨2, ![8192, 1024]⟩ .f32) (x2 : FVec Ideal ⟨2, ![1, 1024]⟩ .f32)
    (x3 : FVec Ideal ⟨2, ![1024, 1024]⟩ .f32) (x4 : FVec Ideal ⟨2, ![256, 2048]⟩ .f32)
    (x5 : FVec Ideal ⟨2, ![1024, 1024]⟩ .f32) : In where
  dx R c := EReal.toReal (x0 (ix2 (Fin.ofNat 8192 R) (Fin.ofNat 1024 c)))
  x R c := EReal.toReal (x1 (ix2 (Fin.ofNat 8192 R) (Fin.ofNat 1024 c)))
  g c := EReal.toReal (x2 (ix2 0 (Fin.ofNat 1024 c)))
  wq c n := EReal.toReal (x3 (ix2 (Fin.ofNat 1024 c) (Fin.ofNat 1024 n)))
  kv m n := EReal.toReal (x4 (ix2 (Fin.ofNat 256 m) (Fin.ofNat 2048 n)))
  wo n c := EReal.toReal (x5 (ix2 (Fin.ofNat 1024 n) (Fin.ofNat 1024 c)))

theorem rep_toIn [Cert.Pre_finite_attn.Facts] (x0 x1 : FVec Ideal ⟨2, ![8192, 1024]⟩ .f32) (x2 : FVec Ideal ⟨2, ![1, 1024]⟩ .f32)
    (x3 : FVec Ideal ⟨2, ![1024, 1024]⟩ .f32) (x4 : FVec Ideal ⟨2, ![256, 2048]⟩ .f32) (x5 : FVec Ideal ⟨2, ![1024, 1024]⟩ .f32)
    (h0 : (Cert.Pre_finite_attn.fn (F := Ideal) x0 x1 x2 x3 x4 x5).1 = fun _ => 1#1)
    (h1 : (Cert.Pre_finite_attn.fn (F := Ideal) x0 x1 x2 x3 x4 x5).2.1 = fun _ => 1#1)
    (h2 : (Cert.Pre_finite_attn.fn (F := Ideal) x0 x1 x2 x3 x4 x5).2.2.1 = fun _ => 1#1)
    (h3 : (Cert.Pre_finite_attn.fn (F := Ideal) x0 x1 x2 x3 x4 x5).2.2.2.1 = fun _ => 1#1)
    (h4 : (Cert.Pre_finite_attn.fn (F := Ideal) x0 x1 x2 x3 x4 x5).2.2.2.2.1 = fun _ => 1#1)
    (h5 : (Cert.Pre_finite_attn.fn (F := Ideal) x0 x1 x2 x3 x4 x5).2.2.2.2.2 = fun _ => 1#1) :
    Rep (toIn x0 x1 x2 x3 x4 x5) x0 x1 x2 x3 x4 x5 := by
  constructor
  · intro R c
    simp only [toIn, ofNat_val]
    exact (real_of_lt _ (congrFun h0 (ix2 R c))).symm
  · intro R c
    simp only [toIn, ofNat_val]
    exact (real_of_lt _ (congrFun h1 (ix2 R c))).symm
  · intro c
    simp only [toIn, ofNat_val]
    exact (real_of_lt _ (congrFun h2 (ix2 0 c))).symm
  · intro c n
    simp only [toIn, ofNat_val]
    exact (real_of_lt _ (congrFun h3 (ix2 c n))).symm
  · intro m n
    simp only [toIn, ofNat_val]
    exact (real_of_lt _ (congrFun h4 (ix2 m n))).symm
  · intro n c
    simp only [toIn, ofNat_val]
    exact (real_of_lt _ (congrFun h5 (ix2 n c))).symm

end Cert.Attn
-- ==== Proof.Attn.Arr.lean ====
/- The attention's backward kernel's output arrays after the run. -/
module
public import proofs.«01_k».proof.Proof.Attn.Step
@[expose] public section
set_option maxRecDepth 16384
noncomputable section
open Idealize.ShloMosaic Idealize.ShloMosaic.TcCoe Idealize.SL.Sem
open Idealize.ShloMosaic.Pipeline (Dat)
open Cert.KernelAttnIdeal Cert.KernelAttnIdeal.Gen

namespace Cert.Attn
open Cert.Ffn (coe_sum)

/-- The tiles make up all the rows. -/
theorem tiles_all (f : ℕ → ℝ) : ∑ s : Fin 8, ((∑ r : Fin 1024, f (1024 * s + r) : ℝ) : EReal) = ((∑ R : Fin 8192, f R : ℝ) : EReal) := by
  rw [← coe_sum]
  refine congrArg _ ?_
  refine Fin.sum_mul_add_congr (n := 1024) fun s k hl => ?_
  have e : 1024 * (s : ℕ) + (k : ℕ) = s * 1024 + k := by omega
  rw [e]

variable (m : (ℓ : Loc nD τ sig) → Idealize.ShloMosaic.Buf (Elt Ideal) ℓ) {P : In} (c : Dev nD) (H : ∀ t : Fin cfg0.N, OpsAt m P c t)
include H

theorem out7_all (t : Fin cfg0.N) (r n : Fin 1024) : (outsAt0 m c t.val t.isLt).1 (ix2 r n) = (dq P (1024 * t.val + r) n : EReal) := by
  by_cases h : t.val % 8 = 0
  · exact out7_A m c t (H t) h r n
  · exact out7_B m c t (H t) h r n

theorem out8_all (t : Fin cfg0.N) (r n : Fin 1024) : (outsAt0 m c t.val t.isLt).2.1 (ix2 r n) = (dx1 P (1024 * t.val + r) n : EReal) := by
  by_cases h : t.val % 8 = 0
  · exact out8_A m c t (H t) h r n
  · exact out8_B m c t (H t) h r n

theorem out9_last (t : Fin cfg0.N) (ht : t.val % 8 = 7) (a : Fin 256) (k : Fin 2048) :
    (outsAt0 m c t.val t.isLt).2.2.1 (ix2 a k) = (dkv P a k : EReal) := by
  have h := Pipeline.eq_sum_fin_of_reset_step_apply_of_flush (fun n h (k : Fin 2048) => ((outsAt0 m c n h).2.2.1 (ix2 a k) : EReal)) 8
    (fun _ => 0) (fun t k => (dkvT P (1024 * t.val) a k : EReal))
    (fun t h i => (out9_A m c t (H t) h a i).trans (zero_add _).symm) (fun t h i => out9_B m c t (H t) h a i) t ht k
  have e : 8 * (t.val / 8) = 0 := by have := t_lt t; omega
  simp only [e, Nat.zero_add, zero_add] at h
  exact h.trans (tiles_all fun R => dkvAt P R a k)

theorem out10_last (t : Fin cfg0.N) (ht : t.val % 8 = 7) (k : Fin 1024) :
    (outsAt0 m c t.val t.isLt).2.2.2 (ix2 0 k) = (dgf P k : EReal) := by
  have h := Pipeline.eq_sum_fin_of_reset_step_apply_of_flush (fun n h (k : Fin 1024) => ((outsAt0 m c n h).2.2.2 (ix2 0 k) : EReal)) 8
    (fun _ => 0) (fun t k => (dgT P (1024 * t.val) k : EReal))
    (fun t h i => (out10_A m c t (H t) h i).trans (zero_add _).symm) (fun t h i => out10_B m c t (H t) h i) t ht k
  have e : 8 * (t.val / 8) = 0 := by have := t_lt t; omega
  simp only [e, Nat.zero_add, zero_add] at h
  exact h.trans (tiles_all fun R => dh P R k * xh P R k)

/-! ### The arrays -/

omit H in
theorem idx_out : ∀ t : Fin cfg0.N, win0_7.index t = ![t.val, 0] ∧ win0_8.index t = ![t.val, 0] ∧ win0_9.index t = ![0, 0] ∧ win0_10.index t = ![0, 0] :=
  (by decide +kernel : ∀ t : Fin grid0.N, _)

omit H in
theorem eta2 {a b : ℕ} (y : (⟨2, ![a, b]⟩ : Shape).Idx) : y = ix2 (y 0) (y 1) :=
  funext fun a => match a with | ⟨0, _⟩ => rfl | ⟨1, _⟩ => rfl
omit H in
theorem eta1 {b : ℕ} (y : (⟨2, ![1, b]⟩ : Shape).Idx) : y = ix2 0 (y 1) :=
  funext fun a => match a with | ⟨0, _⟩ => Subsingleton.elim (α := Fin 1) _ _ | ⟨1, _⟩ => rfl

theorem arr7 : (dats m 0 c).arrAt 7 cfg0.N = fun i => (dq P (i 0) (i 1) : EReal) := by
  refine (dats m 0 c).arrAt_eq_of_covers 7 _ (by decide +kernel) fun t hf y => ?_
  blk_simp
  rw [after0_7]
  refine (congrArg _ (eta2 y)).trans ((out7_all m c H t (y 0) (y 1)).trans ?_)
  rw [(idx_out t).1]
  refine congrArg _ ?_
  show dq P (1024 * t.val + (y 0 : ℕ)) (y 1) = dq P (t.val * 1024 + (y 0 : ℕ)) (0 * 1024 + (y 1 : ℕ))
  simp only [Nat.zero_mul, Nat.zero_add, Nat.mul_comm]

theorem arr8 : (dats m 0 c).arrAt 8 cfg0.N = fun i => (dx1 P (i 0) (i 1) : EReal) := by
  refine (dats m 0 c).arrAt_eq_of_covers 8 _ (by decide +kernel) fun t hf y => ?_
  blk_simp
  rw [after0_8]
  refine (congrArg _ (eta2 y)).trans ((out8_all m c H t (y 0) (y 1)).trans ?_)
  rw [(idx_out t).2.1]
  refine congrArg _ ?_
  show dx1 P (1024 * t.val + (y 0 : ℕ)) (y 1) = dx1 P (t.val * 1024 + (y 0 : ℕ)) (0 * 1024 + (y 1 : ℕ))
  simp only [Nat.zero_mul, Nat.zero_add, Nat.mul_comm]

theorem arr9 : (dats m 0 c).arrAt 9 cfg0.N = fun i => (dkv P (i 0) (i 1) : EReal) := by
  refine (dats m 0 c).arrAt_eq_of_covers 9 _ (by decide +kernel) fun t hf y => ?_
  blk_simp
  rw [after0_9]
  refine (congrArg _ (eta2 y)).trans ((out9_last m c H t ((flush0_9 t).mp hf) (y 0) (y 1)).trans ?_)
  rw [(idx_out t).2.2.1]
  refine congrArg _ ?_
  show dkv P (y 0) (y 1) = dkv P (0 * 256 + (y 0 : ℕ)) (0 * 2048 + (y 1 : ℕ))
  simp only [Nat.zero_mul, Nat.zero_add]

theorem arr10 : (dats m 0 c).arrAt 10 cfg0.N = fun i => (dgf P (i 1) : EReal) := by
  refine (dats m 0 c).arrAt_eq_of_covers 10 _ (by decide +kernel) fun t hf y => ?_
  blk_simp
  rw [after0_10]
  refine (congrArg _ (eta1 y)).trans ((out10_last m c H t ((flush0_10 t).mp hf) (y 1)).trans ?_)
  rw [(idx_out t).2.2.2]
  refine congrArg _ ?_
  show dgf P (y 1) = dgf P (0 * 1024 + (y 1 : ℕ))
  simp only [Nat.zero_mul, Nat.zero_add]

end Cert.Attn
-- ==== Proof.Attn.RefA.lean ====
/- The attention reference's values are the real formulas: up to the cotangent of the scores. -/
module
public import proofs.«01_k».proof.Proof.Attn.Real
public import proofs.«01_k».proof.Proof.Gen.ReferenceAttnIdeal.Read
@[expose] public section
set_option maxRecDepth 16384
noncomputable section
open Idealize.ShloMosaic Idealize.ShloMosaic.TcCoe Idealize.SL.Sem
namespace Cert.Attn
open Cert.Ffn (sum_coe w_1024 w_eps div_coe_coe rsqrt_coe_pos ms_pos)
open Cert.ReferenceAttnIdeal Cert.ReferenceAttnIdeal.Read

variable {P : In} {x0 x1 : FVec Ideal S8192x1024 .f32} {x2 : FVec Ideal S1x1024 .f32} {x3 : FVec Ideal S1024x1024 .f32}
  {x4 : FVec Ideal S256x2048 .f32} {x5 : FVec Ideal S1024x1024 .f32} (H : Rep P x0 x1 x2 x3 x4 x5)
include H

theorem ref_ms (R : Fin 8192) : val_main_v6 (F := Ideal) x1 (ix2 R 0) = (Cert.Ffn.ms (nrm P) R : EReal) := by
  pointwise [val_main_v6, val_main_v5, val_main_v4, val_main_v3, val_main_v2, val_main_v1, val_main_v0, val_main_cst,
    val_main_cst_0, val_main_cst_1]
  rw [sum_coe _ _ fun c => by rw [H.x, ← EReal.coe_mul], w_1024, w_eps, div_coe_coe _ (by norm_num), ← EReal.coe_add]
  rfl

theorem ref_rinv (R : Fin 8192) : val_main_v7 (F := Ideal) x1 (ix2 R 0) = (rinv P R : EReal) := by
  pointwise [val_main_v7]
  rw [ref_ms H, rsqrt_coe_pos (ms_pos (nrm P) R)]
  rfl

theorem ref_xh (R : Fin 8192) (c : Fin 1024) : val_main_v12 (F := Ideal) x1 (ix2 R c) = (xh P R c : EReal) := by
  pointwise [val_main_v12, val_main_v11]
  rw [ref_rinv H, H.x, ← EReal.coe_mul]
  rfl

theorem ref_qu (R : Fin 8192) (n : Fin 1024) : val_main_v15 (F := Ideal) x1 x2 x3 (ix2 R n) = (qu P R n : EReal) := by
  pointwise [val_main_v15, val_main_v14, val_main_v13]
  refine (sum_coe _ (fun c : Fin 1024 => xh P R c * P.g c * P.wq c n) fun c => ?_).trans rfl
  rw [ref_xh H, H.g, H.wq, ← EReal.coe_mul, ← EReal.coe_mul]

theorem ref_qh (R : Fin 8192) (h : Fin 4) (j : Fin 256) :
    val_main_v16 (F := Ideal) x1 x2 x3 (ix3 R h j) = (qu P R (256 * h + j) : EReal) := by
  pointwise [val_main_v16]
  rw [ref_qu H]
  simp only [Nat.mul_comm]

theorem ref_kh (m : Fin 256) (h : Fin 4) (j : Fin 256) :
    val_main_v19 (F := Ideal) x4 (ix3 m h j) = (P.kv m (256 * h + j) : EReal) := by
  pointwise [val_main_v19, val_main_v17]
  rw [H.kv]
  simp only [Nat.mul_comm]

theorem ref_vh (m : Fin 256) (h : Fin 4) (j : Fin 256) :
    val_main_v20 (F := Ideal) x4 (ix3 m h j) = (P.kv m (1024 + 256 * h + j) : EReal) := by
  pointwise [val_main_v20, val_main_v18]
  rw [H.kv]
  simp only [Nat.mul_comm, Nat.add_assoc]

theorem ref_sc (h : Fin 4) (R : Fin 8192) (m : Fin 256) :
    val_main_v23 (F := Ideal) x1 x2 x3 x4 (ix3 h R m) = (sc P h R m : EReal) := by
  pointwise [val_main_v23, val_main_v22, val_main_v21, val_main_cst_3]
  rw [w_16, sum_coe _ _ fun j => by rw [ref_qh H, ref_kh H, ← EReal.coe_mul], ← EReal.coe_mul]
  rfl

/-- The largest score of a row. -/
abbrev top (P : In) (h R : ℕ) : ℝ := mx fun k : Fin 256 => sc P h R k

theorem ref_top (h : Fin 4) (R : Fin 8192) :
    val_main_v24 (F := Ideal) x1 x2 x3 x4 (ix2 h R) = (top P h R : EReal) := by
  pointwise [val_main_v24, val_main_cst_4]
  simp only [ref_sc H]
  exact fold_mx _

omit H in
/-- The larger of two arrays, at an index. -/
theorem max_at (a b : FVec Ideal S4x8192 .f32) (i : S4x8192.Idx) : maximumf a b i = max (a i : EReal) (b i) := rfl

omit H in
theorem ref_low (i : S4x8192.Idx) : val_main_v30 (F := Ideal) i = (⊥ : EReal) := by
  rw [val_main_v30_apply, val_main_cst_6_apply]
  exact w_bot

theorem ref_max (h : Fin 4) (R : Fin 8192) :
    val_main_v31 (F := Ideal) x1 x2 x3 x4 (ix2 h R) = (top P h R : EReal) := by
  rw [val_main_v31, max_at, ref_low, ref_top H]
  exact max_eq_right bot_le

theorem ref_exp (h : Fin 4) (R : Fin 8192) (m : Fin 256) :
    val_main_v44 (F := Ideal) x1 x2 x3 x4 (ix3 h R m) = (Real.exp (sc P h R m - top P h R) : EReal) := by
  pointwise [val_main_v44, val_main_v43, val_main_v42, val_main_v41]
  rw [ref_sc H, ref_max H, ← EReal.coe_sub, exp_coe]

theorem ref_sum (h : Fin 4) (R : Fin 8192) :
    val_main_v46 (F := Ideal) x1 x2 x3 x4 (ix3 h R 0) = ((∑ k : Fin 256, Real.exp (sc P h R k - top P h R) : ℝ) : EReal) := by
  pointwise [val_main_v46, val_main_v45, val_main_cst_12]
  exact sum_coe _ _ fun k => ref_exp H h R k

theorem ref_pr (h : Fin 4) (R : Fin 8192) (m : Fin 256) :
    val_main_v48 (F := Ideal) x1 x2 x3 x4 (ix3 h R m) = (pr P h R m : EReal) := by
  pointwise [val_main_v48, val_main_v47]
  rw [ref_exp H, ref_sum H, div_coe_coe _ (expsum_pos fun k => sc P h R k - top P h R).ne', soft_shift]
  rfl

theorem ref_do (h : Fin 4) (j : Fin 256) (R : Fin 8192) :
    val_main_v58 (F := Ideal) x0 x5 (ix3 h j R) = (do_ P R (256 * h + j) : EReal) := by
  pointwise [val_main_v58, val_main_v57, val_main_v56]
  exact sum_coe _ _ fun c => by rw [H.dx, H.wo, ← EReal.coe_mul]; simp only [Nat.mul_comm]

theorem ref_dp (h : Fin 4) (R : Fin 8192) (m : Fin 256) :
    val_main_v59 (F := Ideal) x0 x4 x5 (ix3 h R m) = (dp P h R m : EReal) := by
  pointwise [val_main_v59]
  exact sum_coe _ _ fun j => by rw [ref_do H, ref_vh H, ← EReal.coe_mul]

theorem ref_ds (h : Fin 4) (R : Fin 8192) (m : Fin 256) :
    val_main_v75 (F := Ideal) x0 x1 x2 x3 x4 x5 (ix3 h R m) = (ds P h R m : EReal) := by
  pointwise [val_main_v75, val_main_v74, val_main_v73, val_main_v72, val_main_v71, val_main_v70, val_main_v69, val_main_v68,
    val_main_v67, val_main_v66, val_main_v65, val_main_v64, val_main_v63, val_main_v62, val_main_v51, val_main_v50, val_main_v49,
    val_main_cst_14, val_main_cst_15, val_main_cst_13, val_main_cst_16]
  simp only [Fin.sum_univ_one, ref_dp H, ref_sum H, ref_exp H]
  have hd := (expsum_pos fun k => sc P h R k - top P h R).ne'
  rw [sum_coe _ (fun x : Fin 256 => dp P h R x * (1 / ((∑ k : Fin 256, Real.exp (sc P h R k - top P h R))
      * ∑ k : Fin 256, Real.exp (sc P h R k - top P h R))) * Real.exp (sc P h R x - top P h R)) fun x => by
        rw [← EReal.coe_mul, ← EReal.coe_one, div_coe_coe _ (mul_ne_zero hd hd), ← EReal.coe_mul, ← EReal.coe_mul],
    div_coe_coe _ hd, w_16, ← EReal.coe_neg, ← EReal.coe_add, ← EReal.coe_mul, ← EReal.coe_mul, ds_close]

end Cert.Attn
-- ==== Proof.Attn.RefB.lean ====
/- The attention reference's results are the real formulas. -/
module
public import proofs.«01_k».proof.Proof.Attn.RefA
@[expose] public section
set_option maxRecDepth 16384
noncomputable section
open Idealize.ShloMosaic Idealize.ShloMosaic.TcCoe Idealize.SL.Sem
namespace Cert.Attn
open Cert.Ffn (sum_coe w_1024 w_mhalf norm_close)
open Cert.ReferenceAttnIdeal Cert.ReferenceAttnIdeal.Read

variable {P : In} {x0 x1 : FVec Ideal S8192x1024 .f32} {x2 : FVec Ideal S1x1024 .f32} {x3 : FVec Ideal S1024x1024 .f32}
  {x4 : FVec Ideal S256x2048 .f32} {x5 : FVec Ideal S1024x1024 .f32} (H : Rep P x0 x1 x2 x3 x4 x5)
include H

theorem ref_dqh (h : Fin 4) (R : Fin 8192) (j : Fin 256) :
    val_main_v78 (F := Ideal) x0 x1 x2 x3 x4 x5 (ix3 h R j) = (dqh P h R j : EReal) := by
  pointwise [val_main_v78]
  exact sum_coe _ _ fun m => by rw [ref_ds H, ref_kh H, ← EReal.coe_mul]

theorem ref_dq' (R : Fin 8192) (n : Fin 1024) :
    val_main_v83 (F := Ideal) x0 x1 x2 x3 x4 x5 (ix2 R n) = (dq P R n : EReal) := by
  pointwise [val_main_v83, val_main_v79]
  rw [ref_dqh H]
  rfl

theorem ref_dq (R : Fin 8192) (n : Fin 1024) :
    val_main_v104 (F := Ideal) x0 x1 x2 x3 x4 x5 (ix2 R n) = (dq P R n : EReal) := by
  pointwise [val_main_v104]
  rw [ref_dq' H]

theorem ref_dv (m : Fin 256) (n : Fin 1024) :
    val_main_v80 (F := Ideal) x0 x1 x2 x3 x4 x5 (ix2 m n)
      = ((∑ R : Fin 8192, pr P (n / 256) R m * do_ P R n : ℝ) : EReal) := by
  pointwise [val_main_v80, val_main_v61, val_main_v60]
  refine sum_coe _ _ fun R => ?_
  rw [ref_do H, ref_pr H, ← EReal.coe_mul]
  refine congrArg _ ?_
  show do_ P R (256 * ((n : ℕ) / 256) + (n : ℕ) % 256) * pr P ((n : ℕ) / 256) R m = pr P ((n : ℕ) / 256) R m * do_ P R n
  rw [Nat.div_add_mod, mul_comm]

theorem ref_dk (m : Fin 256) (n : Fin 1024) :
    val_main_v81 (F := Ideal) x0 x1 x2 x3 x4 x5 (ix2 m n)
      = ((∑ R : Fin 8192, ds P (n / 256) R m * qu P R n : ℝ) : EReal) := by
  pointwise [val_main_v81, val_main_v77, val_main_v76]
  refine sum_coe _ _ fun R => ?_
  rw [ref_ds H, ref_qh H, ← EReal.coe_mul]
  refine congrArg _ ?_
  show ds P ((n : ℕ) / 256) R m * qu P R (256 * ((n : ℕ) / 256) + (n : ℕ) % 256) = ds P ((n : ℕ) / 256) R m * qu P R n
  rw [Nat.div_add_mod]

theorem ref_dkv (m : Fin 256) (n : Fin 2048) :
    val_main_v82 (F := Ideal) x0 x1 x2 x3 x4 x5 (ix2 m n) = (dkv P m n : EReal) := by
  pointwise [val_main_v82]
  unfold dkv dkvAt
  by_cases h : (n : ℕ) < 1024
  · simp only [h, ↓reduceDIte, ↓reduceIte]; rw [ref_dk H]
  · simp only [h, ↓reduceDIte, ↓reduceIte]; rw [ref_dv H]

theorem ref_dh (R : Fin 8192) (c : Fin 1024) :
    val_main_v84 (F := Ideal) x0 x1 x2 x3 x4 x5 (ix2 R c) = (dh P R c : EReal) := by
  pointwise [val_main_v84]
  exact sum_coe _ _ fun n => by rw [ref_dq' H, H.wq, ← EReal.coe_mul]

theorem ref_dgf (c : Fin 1024) :
    val_main_v87 (F := Ideal) x0 x1 x2 x3 x4 x5 (ix2 0 c) = (dgf P c : EReal) := by
  pointwise [val_main_v87, val_main_v86, val_main_v85, val_main_cst_17]
  exact sum_coe _ _ fun R => by rw [ref_dh H, ref_xh H, ← EReal.coe_mul, mul_comm]

set_option maxHeartbeats 1000000 in
theorem ref_dx (R : Fin 8192) (c : Fin 1024) :
    val_main_v105 (F := Ideal) x0 x1 x2 x3 x4 x5 (ix2 R c) = (dx1 P R c : EReal) := by
  pointwise [val_main_v105, val_main_v103, val_main_v102, val_main_v101, val_main_v100, val_main_v99, val_main_v98,
    val_main_v97, val_main_v96, val_main_v95, val_main_v94, val_main_v93, val_main_v92, val_main_v91, val_main_v90,
    val_main_v89, val_main_v88, val_main_v10, val_main_v9, val_main_v8, val_main_cst_2, val_main_cst_18, val_main_cst_19,
    val_main_cst_20]
  simp only [Fin.sum_univ_one, ref_dh H, ref_rinv H, ref_ms H, H.g, H.x, H.dx, w_mhalf, w_1024]
  exact norm_close (nrm P) (dh P (R : ℕ)) (R : ℕ) (c : ℕ)

end Cert.Attn
-- ==== Proof.Attn.Claim.lean ====
/- The attention's backward kernel and its reference leave the same arrays. -/
module
public import proofs.«01_k».proof.Proof.Attn.Fin
public import proofs.«01_k».proof.Proof.Attn.Arr
public import proofs.«01_k».proof.Proof.Attn.RefB
public import proofs.«01_k».proof.Proof.Gen.ReferenceAttnIdeal.Run
public import proofs.«01_k».proof.Proof.Gen.KernelAttnIdeal.Value
@[expose] public section
set_option maxRecDepth 16384
noncomputable section
open Idealize.ShloMosaic Idealize.ShloMosaic.TcCoe Idealize.SL.Sem

namespace Cert.Attn

theorem frame_ref : Cert.quiescent_ReferenceAttnIdeal := fun m g _ =>
  (θ_run _ _ _).mono (fun r h => ⟨fun c => (h c).2.2.2.2, sem_eq_zero_of_no_sems (by decide) r.2⟩) (Cert.ReferenceAttnIdeal.Value.run m g)

theorem frame_ref_pre [Cert.Pre_finite_attn.Facts] : Cert.quiescent_ReferenceAttnIdeal_pre_finite_attn := fun m g _ => frame_ref m g trivial

/-- The reals device `c`'s arguments hold. -/
abbrev inAt (m : (ℓ : Loc Cert.KernelAttnIdeal.nD Cert.KernelAttnIdeal.τ Cert.KernelAttnIdeal.sig) → Idealize.ShloMosaic.Buf (Elt Ideal) ℓ)
    (c : Dev Cert.KernelAttnIdeal.nD) : In :=
  toIn (m ((c.tc : Thread Cert.KernelAttnIdeal.nD Cert.KernelAttnIdeal.τ).loc Cert.KernelAttnIdeal.main_arg0))
    (m ((c.tc : Thread Cert.KernelAttnIdeal.nD Cert.KernelAttnIdeal.τ).loc Cert.KernelAttnIdeal.main_arg1))
    (m ((c.tc : Thread Cert.KernelAttnIdeal.nD Cert.KernelAttnIdeal.τ).loc Cert.KernelAttnIdeal.main_arg2))
    (m ((c.tc : Thread Cert.KernelAttnIdeal.nD Cert.KernelAttnIdeal.τ).loc Cert.KernelAttnIdeal.main_arg3))
    (m ((c.tc : Thread Cert.KernelAttnIdeal.nD Cert.KernelAttnIdeal.τ).loc Cert.KernelAttnIdeal.main_arg4))
    (m ((c.tc : Thread Cert.KernelAttnIdeal.nD Cert.KernelAttnIdeal.τ).loc Cert.KernelAttnIdeal.main_arg5))

theorem rep_at [Cert.Pre_finite_attn.Facts]
    (m : (ℓ : Loc Cert.KernelAttnIdeal.nD Cert.KernelAttnIdeal.τ Cert.KernelAttnIdeal.sig) → Idealize.ShloMosaic.Buf (Elt Ideal) ℓ)
    (c : Dev Cert.KernelAttnIdeal.nD) (h : Cert.Pre_KernelAttnIdeal_finite_attn m) : RepAt m (inAt m c) c := by
  obtain ⟨h0, h1, h2, h3, h4, h5⟩ := h c
  exact rep_toIn _ _ _ _ _ _ h0 h1 h2 h3 h4 h5

section
variable {P : In} {x0 x1 : FVec Ideal ⟨2, ![8192, 1024]⟩ .f32} {x2 : FVec Ideal ⟨2, ![1, 1024]⟩ .f32} {x3 : FVec Ideal ⟨2, ![1024, 1024]⟩ .f32}
  {x4 : FVec Ideal ⟨2, ![256, 2048]⟩ .f32} {x5 : FVec Ideal ⟨2, ![1024, 1024]⟩ .f32} (H : Rep P x0 x1 x2 x3 x4 x5)
include H

/-- The reference's four results, whole. -/
theorem all_dq : Cert.ReferenceAttnIdeal.Read.val_main_v104 (F := Ideal) x0 x1 x2 x3 x4 x5 = fun i => (dq P (i 0) (i 1) : EReal) :=
  funext fun i => (congrArg _ (eta2 i)).trans (ref_dq H (i 0) (i 1))
theorem all_dx : Cert.ReferenceAttnIdeal.Read.val_main_v105 (F := Ideal) x0 x1 x2 x3 x4 x5 = fun i => (dx1 P (i 0) (i 1) : EReal) :=
  funext fun i => (congrArg _ (eta2 i)).trans (ref_dx H (i 0) (i 1))
theorem all_dkv : Cert.ReferenceAttnIdeal.Read.val_main_v82 (F := Ideal) x0 x1 x2 x3 x4 x5 = fun i => (dkv P (i 0) (i 1) : EReal) :=
  funext fun i => (congrArg _ (eta2 i)).trans (ref_dkv H (i 0) (i 1))
theorem all_dg : Cert.ReferenceAttnIdeal.Read.val_main_v87 (F := Ideal) x0 x1 x2 x3 x4 x5 = fun i => (dgf P (i 1) : EReal) :=
  funext fun i => (congrArg _ (eta1 i)).trans (ref_dgf H (i 1))
end

set_option maxHeartbeats 6400000 in
theorem agree [Cert.Pre_finite_attn.Facts] : Cert.algebraic_KernelAttnIdeal_ReferenceAttnIdeal_pre_finite_attn := by
  pair_intro
  · exact Cert.KernelAttnIdeal.Value.run_blocks m g
  · have R : ∀ c, Rep (inAt m c)
        (m' ((c.tc : Thread Cert.ReferenceAttnIdeal.nD Cert.ReferenceAttnIdeal.τ).loc Cert.ReferenceAttnIdeal.main_arg0))
        (m' ((c.tc : Thread Cert.ReferenceAttnIdeal.nD Cert.ReferenceAttnIdeal.τ).loc Cert.ReferenceAttnIdeal.main_arg1))
        (m' ((c.tc : Thread Cert.ReferenceAttnIdeal.nD Cert.ReferenceAttnIdeal.τ).loc Cert.ReferenceAttnIdeal.main_arg2))
        (m' ((c.tc : Thread Cert.ReferenceAttnIdeal.nD Cert.ReferenceAttnIdeal.τ).loc Cert.ReferenceAttnIdeal.main_arg3))
        (m' ((c.tc : Thread Cert.ReferenceAttnIdeal.nD Cert.ReferenceAttnIdeal.τ).loc Cert.ReferenceAttnIdeal.main_arg4))
        (m' ((c.tc : Thread Cert.ReferenceAttnIdeal.nD Cert.ReferenceAttnIdeal.τ).loc Cert.ReferenceAttnIdeal.main_arg5)) := fun c => by
      obtain ⟨e0, e1, e2, e3, e4, e5⟩ := hagree c
      rw [e0, e1, e2, e3, e4, e5]
      exact rep_at m c hpre
    have K := fun c t => opsAt m c (rep_at m c hpre) t
    refine (θ_run _ _ _).mono (fun r h c => ⟨(h c).1.trans ?_, (h c).2.1.trans ?_, (h c).2.2.1.trans ?_, (h c).2.2.2.1.trans ?_, (h c).2.2.2.2⟩)
      (Cert.ReferenceAttnIdeal.Value.run m' g')
    · exact (Cert.ReferenceAttnIdeal.Read.val_main_v104_eq (F := Ideal) m' c).trans ((all_dq (R c)).trans (arr7 m c (K c)).symm)
    · exact (Cert.ReferenceAttnIdeal.Read.val_main_v105_eq (F := Ideal) m' c).trans ((all_dx (R c)).trans (arr8 m c (K c)).symm)
    · exact (Cert.ReferenceAttnIdeal.Read.val_main_v82_eq (F := Ideal) m' c).trans ((all_dkv (R c)).trans (arr9 m c (K c)).symm)
    · exact (Cert.ReferenceAttnIdeal.Read.val_main_v87_eq (F := Ideal) m' c).trans ((all_dg (R c)).trans (arr10 m c (K c)).symm)

end Cert.Attn
-- ==== Proof.Mix.Real.lean ====
/- The gradient of the input projection and its norm over the real numbers, one entry at a time. -/
module
public import Idealize.ShloMosaic.Lib.Pipeline.ValueKit
public import proofs.«01_k».proof.Proof.Ffn.Real
@[expose] public section
noncomputable section
open Idealize.ShloMosaic

namespace Cert.Mix
open Cert.Ffn (sum_coe)

/-- The five arguments as real numbers. -/
structure In where
  dz : ℕ → ℕ → ℝ
  x : ℕ → ℕ → ℝ
  g : ℕ → ℝ
  w : ℕ → ℕ → ℝ
  dx : ℕ → ℕ → ℝ

/-- The rows and the gain as the feed-forward block names them: its normed rows are the normed rows here. -/
def nrm (P : In) : Cert.Ffn.In := ⟨P.dx, P.x, P.g, P.w, fun _ _ => 0, fun _ => 0, fun _ _ => 0⟩

variable (P : In)

def rinv (R : ℕ) : ℝ := Cert.Ffn.rinv (nrm P) R
def xh (R c : ℕ) : ℝ := Cert.Ffn.xh (nrm P) R c
/-- The cotangent of the scaled normed row. -/
def dh (R c : ℕ) : ℝ := ∑ n : Fin 2048, P.dz R n * P.w c n
def dgf (c : ℕ) : ℝ := ∑ R : Fin 8192, dh P R c * xh P R c
def dx0 (R c : ℕ) : ℝ :=
  P.dx R c + rinv P R * (dh P R c * P.g c - xh P R c * ((∑ k : Fin 1024, dh P R k * P.g k * xh P R k) / 1024))

/-- A sum over 2048 columns, by blocks of 512. -/
theorem quarters (f : ℕ → ℝ) : ∑ j : Fin 512, f (512 * 0 + j) + ∑ j : Fin 512, f (512 * 1 + j) + ∑ j : Fin 512, f (512 * 2 + j)
    + ∑ j : Fin 512, f (512 * 3 + j) = ∑ n : Fin 2048, f n := by
  refine (Fin.sum_univ_four fun s : Fin 4 => ∑ j : Fin 512, f (512 * (s : ℕ) + j)).symm.trans ?_
  refine Fin.sum_mul_add_congr (n := 512) fun s k hl => ?_
  have e : 512 * (s : ℕ) + (k : ℕ) = s * 512 + k := by omega
  rw [e]

/-- The five arrays hold the arguments' numbers. -/
structure Rep (x0 : FVec Ideal ⟨2, ![8192, 2048]⟩ .f32) (x1 : FVec Ideal ⟨2, ![8192, 1024]⟩ .f32) (x2 : FVec Ideal ⟨2, ![1, 1024]⟩ .f32)
    (x3 : FVec Ideal ⟨2, ![1024, 2048]⟩ .f32) (x4 : FVec Ideal ⟨2, ![8192, 1024]⟩ .f32) : Prop where
  dz : ∀ (R : Fin 8192) (n : Fin 2048), x0 (ix2 R n) = (P.dz R n : EReal)
  x : ∀ (R : Fin 8192) (c : Fin 1024), x1 (ix2 R c) = (P.x R c : EReal)
  g : ∀ c : Fin 1024, x2 (ix2 0 c) = (P.g c : EReal)
  w : ∀ (c : Fin 1024) (n : Fin 2048), x3 (ix2 c n) = (P.w c n : EReal)
  dx : ∀ (R : Fin 8192) (c : Fin 1024), x4 (ix2 R c) = (P.dx R c : EReal)

end Cert.Mix
-- ==== Proof.Mix.Pay.lean ====
/- What each value of the input projection's backward kernel is, entry by entry, when the values it reads are the real
   numbers they stand for. The two halves of a tile run the same operations. -/
module
public import Idealize.ShloMosaic.Lib.Pointwise
public import Idealize.ShloMosaic.Lib.Pipeline.ValueKit
public import proofs.«01_k».proof.Proof.Gen.KernelMixIdeal.Skeleton
public import proofs.«01_k».proof.Proof.Mix.Real
@[expose] public section
set_option maxRecDepth 16384
noncomputable section
open Idealize.ShloMosaic Idealize.ShloMosaic.TcCoe Idealize.SL.Sem
open Cert.KernelMixIdeal Cert.KernelMixIdeal.Gen

namespace Cert.Mix
open Cert.Ffn (sum_coe div_coe_coe rsqrt_coe_pos w_1024 w_eps ms_pos)

theorem second_dh : k0_pay5 (F := Ideal) = k0_pay4 := rfl
theorem second_rinv (x) : k0_pay11 (F := Ideal) x = k0_pay7 (k0_pay6 x) (Scalar.ofBits .f32 0x358637BD#32) := rfl
theorem second_xh (x) : k0_pay12 (F := Ideal) x = k0_pay8 x (k0_pay6 x) (Scalar.ofBits .f32 0x358637BD#32) := rfl
theorem second_dg (d x a) : k0_pay1 (F := Ideal) d (k0_pay12 x) a = k0_pay9 d x (k0_pay6 x) (Scalar.ofBits .f32 0x358637BD#32) a := rfl
theorem second_dx (d x e g) : k0_pay2 (F := Ideal) d (k0_pay11 x) (k0_pay12 x) e g = k0_pay10 d x (k0_pay6 x) (Scalar.ofBits .f32 0x358637BD#32) e g := rfl

/-- A half tile of 256 whole rows holds `f`, its rows counted from `r0`. -/
def Wide (f : ℕ → ℕ → ℝ) (r0 : ℕ) (v : FVec Ideal S256x1024 .f32) : Prop :=
  ∀ (r : Fin 256) (c : Fin 1024), v (ix2 r c) = (f (r0 + r) c : EReal)

variable {P : In} {r0 : ℕ}

/-- Column block `j` of the cotangent's rows, and of the weight. -/
def Dz (P : In) (r0 j : ℕ) (v : Vec Ideal S1x256x512 .bf16) : Prop :=
  ∀ (r : Fin 256) (n : Fin 512), v (ix3 0 r n) = (P.dz (r0 + r) (512 * j + n) : EReal)
def Wj (P : In) (j : ℕ) (v : Vec Ideal S1x1024x512 .bf16) : Prop :=
  ∀ (c : Fin 1024) (n : Fin 512), v (ix3 0 c n) = (P.w c (512 * j + n) : EReal)

theorem dh_at {a0 a1 a2 a3 : Vec Ideal S1x256x512 .bf16} {b0 b1 b2 b3 : Vec Ideal S1x1024x512 .bf16} (h0 : Dz P r0 0 a0) (h1 : Dz P r0 1 a1)
    (h2 : Dz P r0 2 a2) (h3 : Dz P r0 3 a3) (k0 : Wj P 0 b0) (k1 : Wj P 1 b1) (k2 : Wj P 2 b2) (k3 : Wj P 3 b3) :
    Wide (dh P) r0 (k0_pay4 (F := Ideal) a0 b0 a1 b1 a2 b2 a3 b3) := fun r c => by
  pointwise [k0_pay4]
  have e : ∀ (j : ℕ) (a : Vec Ideal S1x256x512 .bf16) (b : Vec Ideal S1x1024x512 .bf16), Dz P r0 j a → Wj P j b →
      ∑ n : Fin 512, (a (ix3 0 r n) * b (ix3 0 c n) : EReal) = ((∑ n : Fin 512, P.dz (r0 + r) (512 * j + n) * P.w c (512 * j + n) : ℝ) : EReal) :=
    fun j a b ha hb => sum_coe _ _ fun n => by rw [ha, hb, ← EReal.coe_mul]
  rw [e 0 _ _ h0 k0, e 1 _ _ h1 k1, e 2 _ _ h2 k2, e 3 _ _ h3 k3, ← EReal.coe_add, ← EReal.coe_add, ← EReal.coe_add]
  exact congrArg _ (quarters fun n => P.dz (r0 + r) n * P.w c n)

theorem rinv_at {x : FVec Ideal S256x1024 .f32} (hx : Wide P.x r0 x) (r : Fin 256) :
    k0_pay7 (F := Ideal) (k0_pay6 x) (Ideal.ofBits .f32 0x358637BD#32) (ix2 r 0) = (rinv P (r0 + r) : EReal) := by
  pointwise [k0_pay7, k0_pay6]
  rw [sum_coe _ _ fun c => by rw [hx, ← EReal.coe_mul], w_1024, w_eps, div_coe_coe _ (by norm_num), ← EReal.coe_add]
  exact rsqrt_coe_pos (ms_pos (nrm P) (r0 + r))

theorem xh_at {x : FVec Ideal S256x1024 .f32} (hx : Wide P.x r0 x) :
    Wide (xh P) r0 (k0_pay8 (F := Ideal) x (k0_pay6 x) (Ideal.ofBits .f32 0x358637BD#32)) := fun r c => by
  pointwise [k0_pay8]
  rw [hx, rinv_at hx, ← EReal.coe_mul]
  rfl

/-- A half tile's part of the gain's gradient. -/
abbrev dgH (P : In) (r0 k : ℕ) : ℝ := ∑ r : Fin 256, dh P (r0 + r) k * xh P (r0 + r) k

theorem dg_at {d x : FVec Ideal S256x1024 .f32} (hd : Wide (dh P) r0 d) (hx : Wide P.x r0 x) (a : Vec Ideal S1x1024 .f32) (c : Fin 1024) :
    k0_pay9 (F := Ideal) d x (k0_pay6 x) (Ideal.ofBits .f32 0x358637BD#32) a (ix2 0 c) = a (ix2 0 c) + (dgH P r0 c : EReal) := by
  pointwise [k0_pay9]
  exact congrArg _ (sum_coe _ _ fun r => by rw [hd, xh_at hx, ← EReal.coe_mul])

theorem dx_at {e d x : FVec Ideal S256x1024 .f32} {g : Vec Ideal S1x1024 .f32} (he : Wide P.dx r0 e) (hd : Wide (dh P) r0 d) (hx : Wide P.x r0 x)
    (hg : ∀ c : Fin 1024, g (ix2 0 c) = (P.g c : EReal)) :
    Wide (dx0 P) r0 (k0_pay10 (F := Ideal) d x (k0_pay6 x) (Ideal.ofBits .f32 0x358637BD#32) e g) := fun r c => by
  pointwise [k0_pay10]
  rw [sum_coe _ _ fun k => by rw [hd, hg, xh_at hx, ← EReal.coe_mul, ← EReal.coe_mul], w_1024, div_coe_coe _ (by norm_num), hd, hg, xh_at hx,
    rinv_at hx, he, ← EReal.coe_mul, ← EReal.coe_mul, ← EReal.coe_sub, ← EReal.coe_mul, ← EReal.coe_add]
  rfl

end Cert.Mix
-- ==== Proof.Mix.Step.lean ====
/- The outputs of the input projection's backward kernel after one grid point, from the values after the one before. -/
module
public import Idealize.ShloMosaic.Lib.Pointwise
public import Idealize.ShloMosaic.Lib.Pipeline.ValueKit
public import Idealize.ShloMosaic.Lib.Pipeline.ReadBack
public import proofs.«01_k».proof.Proof.Gen.KernelMixIdeal.Frame
public import proofs.«01_k».proof.Proof.Ffn.Point
public import proofs.«01_k».proof.Proof.Mix.Pay
@[expose] public section
set_option maxRecDepth 16384
noncomputable section
open Idealize.ShloMosaic Idealize.ShloMosaic.TcCoe Idealize.SL.Sem
open Idealize.ShloMosaic.Pipeline (Dat)
open Cert.KernelMixIdeal Cert.KernelMixIdeal.Gen

namespace Cert.Mix
open Cert.Ffn (canon_hit canon_miss)

/-- The blocks of a tile of 512 rows, counted from `r0`. -/
structure Ops (P : In) (r0 : ℕ) (x0 : Vec Ideal S4x512x512 .bf16) (x1 : Vec Ideal S4x1024x512 .bf16) (x2 : Vec Ideal S512x1024 .f32)
    (x3 : Vec Ideal S1x1024 .f32) (x4 : Vec Ideal S512x1024 .f32) : Prop where
  dz : ∀ (j : Fin 4) (r n : Fin 512), x0 (ix3 j r n) = (P.dz (r0 + r) (512 * j + n) : EReal)
  w : ∀ (j : Fin 4) (c : Fin 1024) (n : Fin 512), x1 (ix3 j c n) = (P.w c (512 * j + n) : EReal)
  x : ∀ (r : Fin 512) (c : Fin 1024), x2 (ix2 r c) = (P.x (r0 + r) c : EReal)
  g : ∀ c : Fin 1024, x3 (ix2 0 c) = (P.g c : EReal)
  dx : ∀ (r : Fin 512) (c : Fin 1024), x4 (ix2 r c) = (P.dx (r0 + r) c : EReal)

section
variable {P : In} {r0 : ℕ} {x0 : Vec Ideal S4x512x512 .bf16} {x1 : Vec Ideal S4x1024x512 .bf16} {x2 : Vec Ideal S512x1024 .f32}
  {x3 : Vec Ideal S1x1024 .f32} {x4 : Vec Ideal S512x1024 .f32}

/-- Half of a tile of whole rows. -/
theorem half {f : ℕ → ℕ → ℝ} {x : Vec Ideal S512x1024 .f32} (h : ∀ (r : Fin 512) (c : Fin 1024), x (ix2 r c) = (f (r0 + r) c : EReal)) (o : ℕ)
    (inb : ∀ a, (![o, 0] : Fin 2 → ℕ) a + (![256, 1024] : Fin 2 → ℕ) a ≤ S512x1024.size a) :
    Wide f (r0 + o) (View.ld x (Rect.unit ![o, 0] ![256, 1024] inb)) := fun r c => by
  have b : o + 256 ≤ 512 := inb 0
  refine (congrArg x (?_ : _ = ix2 (⟨o + r, by omega⟩ : Fin 512) c)).trans ((h _ c).trans (by rw [Nat.add_assoc]))
  refine funext fun a => Fin.ext ?_
  exact match a with
  | ⟨0, _⟩ => by show o + 1 * (r : ℕ) = o + r; omega
  | ⟨1, _⟩ => by show 0 + 1 * (c : ℕ) = c; omega

variable (H : Ops P r0 x0 x1 x2 x3 x4)
include H

theorem dz_half (o j : ℕ) (inb : ∀ a, (![j, o, 0] : Fin 3 → ℕ) a + (![1, 256, 512] : Fin 3 → ℕ) a ≤ S4x512x512.size a) :
    Dz P (r0 + o) j (View.ld x0 (Rect.unit ![j, o, 0] ![1, 256, 512] inb)) := fun r n => by
  have b : j + 1 ≤ 4 := inb 0
  have b' : o + 256 ≤ 512 := inb 1
  refine (congrArg x0 (?_ : _ = ix3 (⟨j, by omega⟩ : Fin 4) (⟨o + r, by omega⟩ : Fin 512) n)).trans ((H.dz _ _ n).trans (by rw [Nat.add_assoc]))
  refine funext fun a => Fin.ext ?_
  exact match a with
  | ⟨0, _⟩ => by show j + 1 * 0 = j; omega
  | ⟨1, _⟩ => by show o + 1 * (r : ℕ) = o + r; omega
  | ⟨2, _⟩ => by show 0 + 1 * (n : ℕ) = n; omega

theorem w_blk (j : ℕ) (inb : ∀ a, (![j, 0, 0] : Fin 3 → ℕ) a + (![1, 1024, 512] : Fin 3 → ℕ) a ≤ S4x1024x512.size a) :
    Wj P j (View.ld x1 (Rect.unit ![j, 0, 0] ![1, 1024, 512] inb)) := fun c n => by
  have b : j + 1 ≤ 4 := inb 0
  refine (congrArg x1 (?_ : _ = ix3 (⟨j, by omega⟩ : Fin 4) c n)).trans (H.w _ c n)
  refine funext fun a => Fin.ext ?_
  exact match a with
  | ⟨0, _⟩ => by show j + 1 * 0 = j; omega
  | ⟨1, _⟩ => by show 0 + 1 * (c : ℕ) = c; omega
  | ⟨2, _⟩ => by show 0 + 1 * (n : ℕ) = n; omega

/-- The cotangent of the scaled normed rows of one half. -/
theorem dh_half (o : ℕ) (i0 i1 i2 i3 j0 j1 j2 j3) :
    Wide (dh P) (r0 + o) (k0_pay4 (F := Ideal) (View.ld x0 (Rect.unit ![0, o, 0] ![1, 256, 512] i0)) (View.ld x1 (Rect.unit ![0, 0, 0] ![1, 1024, 512] j0))
      (View.ld x0 (Rect.unit ![1, o, 0] ![1, 256, 512] i1)) (View.ld x1 (Rect.unit ![1, 0, 0] ![1, 1024, 512] j1))
      (View.ld x0 (Rect.unit ![2, o, 0] ![1, 256, 512] i2)) (View.ld x1 (Rect.unit ![2, 0, 0] ![1, 1024, 512] j2))
      (View.ld x0 (Rect.unit ![3, o, 0] ![1, 256, 512] i3)) (View.ld x1 (Rect.unit ![3, 0, 0] ![1, 1024, 512] j3))) :=
  dh_at (dz_half H o 0 i0) (dz_half H o 1 i1) (dz_half H o 2 i2) (dz_half H o 3 i3) (w_blk H 0 j0) (w_blk H 1 j1) (w_blk H 2 j2) (w_blk H 3 j3)
end

/-- Two stores, each of one half of a tile. -/
theorem two {f : ℕ → ℕ → ℝ} {r0 : ℕ} {w1 w0 : Vec Ideal S256x1024 .f32} (L : List (View.Piece (Elt Ideal) S512x1024 .f32)) (h1 : Wide f (r0 + 256) w1)
    (h0 : Wide f (r0 + 0) w0) (i1 i0) (r : Fin 512) (c : Fin 1024) :
    View.canon (⟨Rect.unit ![256, 0] ![256, 1024] i1, w1⟩ :: ⟨Rect.unit ![0, 0] ![256, 1024] i0, w0⟩ :: L) (ix2 r c) = (f (r0 + r) c : EReal) := by
  by_cases h : (r : ℕ) < 256
  · refine (canon_miss _ _ _ 0 (Or.inl h)).trans ((canon_hit _ _ _ (ix2 (⟨r, h⟩ : Fin 256) c) fun a => ?_).trans (h0 _ c))
    exact match a with | ⟨0, _⟩ => (Nat.zero_add _).symm | ⟨1, _⟩ => (Nat.zero_add _).symm
  · have e : 256 + ((r : ℕ) - 256) = r := by omega
    refine (canon_hit _ _ _ (ix2 (⟨(r : ℕ) - 256, by omega⟩ : Fin 256) c) fun a => ?_).trans ((h1 _ c).trans ?_)
    · exact match a with | ⟨0, _⟩ => e.symm | ⟨1, _⟩ => (Nat.zero_add _).symm
    · show (f (r0 + 256 + ((r : ℕ) - 256)) c : EReal) = _
      rw [Nat.add_assoc, e]

variable (m : (ℓ : Loc nD τ sig) → Idealize.ShloMosaic.Buf (Elt Ideal) ℓ) {P : In}

/-- The blocks of grid point `t`. -/
abbrev OpsAt (P : In) (c : Dev nD) (t : Fin cfg0.N) : Prop :=
  Ops P (512 * t.val) (iblk m c 0 t) (iblk m c 1 t) (iblk m c 2 t) (iblk m c 3 t) (iblk m c 4 t)

theorem t_lt (t : Fin cfg0.N) : t.val < 16 := t.isLt

/-- A tile's part of the gain's gradient, by halves. -/
abbrev dgT (P : In) (t k : ℕ) : ℝ := dgH P (512 * t + 0) k + dgH P (512 * t + 256) k

section
variable (c : Dev nD) (t : Fin cfg0.N) (H : OpsAt m P c t)
include H

theorem out5_A (h : t.val % 16 = 0) (r : Fin 512) (n : Fin 1024) :
    (outsAt0 m c t.val t.isLt).1 (ix2 r n) = (dx0 P (512 * t.val + r) n : EReal) := by
  rw [outsAt0_A m c t h]; dsimp only; frame_out
  rw [second_dh, second_dx]
  exact two _ (dx_at (half H.dx _ _) (dh_half H _ _ _ _ _ _ _ _ _) (half H.x _ _) H.g)
    (dx_at (half H.dx _ _) (dh_half H _ _ _ _ _ _ _ _ _) (half H.x _ _) H.g) _ _ r n

theorem out5_B (h : ¬t.val % 16 = 0) (r : Fin 512) (n : Fin 1024) :
    (outsAt0 m c t.val t.isLt).1 (ix2 r n) = (dx0 P (512 * t.val + r) n : EReal) := by
  rw [outsAt0_B m c t h]; dsimp only; frame_out
  rw [second_dh, second_dx]
  exact two _ (dx_at (half H.dx _ _) (dh_half H _ _ _ _ _ _ _ _ _) (half H.x _ _) H.g)
    (dx_at (half H.dx _ _) (dh_half H _ _ _ _ _ _ _ _ _) (half H.x _ _) H.g) _ _ r n

theorem out6_A (h : t.val % 16 = 0) (k : Fin 1024) :
    (outsAt0 m c t.val t.isLt).2 (ix2 0 k) = (dgT P t.val k : EReal) := by
  rw [outsAt0_A m c t h]; dsimp only; frame_out
  rw [second_dh, second_dg, EReal.coe_add]
  refine (dg_at (dh_half H _ _ _ _ _ _ _ _ _) (half H.x _ _) _ k).trans (congrArg (· + _) ?_)
  refine (dg_at (dh_half H _ _ _ _ _ _ _ _ _) (half H.x _ _) _ k).trans ?_
  pointwise [k0_pay3]

theorem out6_B (h : ¬t.val % 16 = 0) (k : Fin 1024) :
    (outsAt0 m c t.val t.isLt).2 (ix2 0 k)
      = (outsAt0 m c (t.val - 1) (Nat.lt_of_le_of_lt (Nat.sub_le _ _) t.isLt)).2 (ix2 0 k) + (dgT P t.val k : EReal) := by
  rw [outsAt0_B m c t h]; dsimp only; frame_out
  rw [second_dh, second_dg, EReal.coe_add, ← add_assoc]
  refine (dg_at (dh_half H _ _ _ _ _ _ _ _ _) (half H.x _ _) _ k).trans (congrArg (· + _) ?_)
  exact dg_at (dh_half H _ _ _ _ _ _ _ _ _) (half H.x _ _) _ k
end

end Cert.Mix
-- ==== Proof.Mix.Arr.lean ====
/- The input projection's backward kernel's output arrays after the run, and the arrays it is launched on. -/
module
public import proofs.«01_k».proof.Proof.Mix.Step
public import Idealize.ShloMosaic.Lib.Claim
@[expose] public section
set_option maxRecDepth 16384
noncomputable section
open Idealize.ShloMosaic Idealize.ShloMosaic.TcCoe Idealize.SL.Sem
open Idealize.ShloMosaic.Pipeline (Dat)
open Cert.KernelMixIdeal Cert.KernelMixIdeal.Gen

namespace Cert.Mix
open Cert.Ffn (coe_sum)

/-- The tiles, each of two halves, make up all the rows. -/
theorem tiles_all (f : ℕ → ℝ) :
    ∑ s : Fin 16, (((∑ r : Fin 256, f (512 * s + 0 + r)) + ∑ r : Fin 256, f (512 * s + 256 + r) : ℝ) : EReal) = ((∑ R : Fin 8192, f R : ℝ) : EReal) := by
  rw [← coe_sum]
  refine congrArg _ ?_
  refine (Finset.sum_congr rfl fun s _ => ?_ : _ = ∑ s : Fin 16, ∑ r : Fin 512, f (s * 512 + r)).trans
    (Fin.sum_mul_add_congr (n := 512) fun s k hl => rfl)
  refine (Fin.sum_univ_two fun h : Fin 2 => ∑ r : Fin 256, f (512 * s + 256 * (h : ℕ) + r)).symm.trans ?_
  refine Fin.sum_mul_add_congr (n := 256) fun h k hl => ?_
  have e : 512 * (s : ℕ) + 256 * (h : ℕ) + (k : ℕ) = s * 512 + (h * 256 + k) := by omega
  rw [e]

variable (m : (ℓ : Loc nD τ sig) → Idealize.ShloMosaic.Buf (Elt Ideal) ℓ) {P : In} (c : Dev nD)

section
variable (H : ∀ t : Fin cfg0.N, OpsAt m P c t)
include H

theorem out5_all (t : Fin cfg0.N) (r : Fin 512) (n : Fin 1024) :
    (outsAt0 m c t.val t.isLt).1 (ix2 r n) = (dx0 P (512 * t.val + r) n : EReal) := by
  by_cases h : t.val % 16 = 0
  · exact out5_A m c t (H t) h r n
  · exact out5_B m c t (H t) h r n

theorem out6_last (t : Fin cfg0.N) (ht : t.val % 16 = 15) (k : Fin 1024) :
    (outsAt0 m c t.val t.isLt).2 (ix2 0 k) = (dgf P k : EReal) := by
  have h := Pipeline.eq_sum_fin_of_reset_step_apply_of_flush (fun n h (k : Fin 1024) => ((outsAt0 m c n h).2 (ix2 0 k) : EReal)) 16
    (fun _ => 0) (fun t k => (dgT P t.val k : EReal))
    (fun t h i => (out6_A m c t (H t) h i).trans (zero_add _).symm) (fun t h i => out6_B m c t (H t) h i) t ht k
  have e : 16 * (t.val / 16) = 0 := by have := t_lt t; omega
  simp only [e, Nat.zero_add, zero_add] at h
  exact h.trans (tiles_all fun R => dh P R k * xh P R k)

omit H in
theorem idx_out : ∀ t : Fin cfg0.N, win0_5.index t = ![t.val, 0] ∧ win0_6.index t = ![0, 0] :=
  (by decide +kernel : ∀ t : Fin grid0.N, _)

omit H in
theorem eta2 {a b : ℕ} (y : (⟨2, ![a, b]⟩ : Shape).Idx) : y = ix2 (y 0) (y 1) :=
  funext fun a => match a with | ⟨0, _⟩ => rfl | ⟨1, _⟩ => rfl
omit H in
theorem eta1 {b : ℕ} (y : (⟨2, ![1, b]⟩ : Shape).Idx) : y = ix2 0 (y 1) :=
  funext fun a => match a with | ⟨0, _⟩ => Subsingleton.elim (α := Fin 1) _ _ | ⟨1, _⟩ => rfl

theorem arr5 : (dats m 0 c).arrAt 5 cfg0.N = fun i => (dx0 P (i 0) (i 1) : EReal) := by
  refine (dats m 0 c).arrAt_eq_of_covers 5 _ (by decide +kernel) fun t hf y => ?_
  blk_simp
  rw [after0_5]
  refine (congrArg _ (eta2 y)).trans ((out5_all m c H t (y 0) (y 1)).trans ?_)
  rw [(idx_out t).1]
  refine congrArg _ ?_
  show dx0 P (512 * t.val + (y 0 : ℕ)) (y 1) = dx0 P (t.val * 512 + (y 0 : ℕ)) (0 * 1024 + (y 1 : ℕ))
  simp only [Nat.zero_mul, Nat.zero_add, Nat.mul_comm]

theorem arr6 : (dats m 0 c).arrAt 6 cfg0.N = fun i => (dgf P (i 1) : EReal) := by
  refine (dats m 0 c).arrAt_eq_of_covers 6 _ (by decide +kernel) fun t hf y => ?_
  blk_simp
  rw [after0_6]
  refine (congrArg _ (eta1 y)).trans ((out6_last m c H t ((flush0_6 t).mp hf) (y 1)).trans ?_)
  rw [(idx_out t).2]
  refine congrArg _ ?_
  show dgf P (y 1) = dgf P (0 * 1024 + (y 1 : ℕ))
  simp only [Nat.zero_mul, Nat.zero_add]
end

/-! ### The blocks -/

/-- The arguments on a device hold the reals of `P`. -/
abbrev RepAt (P : In) (c : Dev nD) : Prop :=
  Rep P (m ((c : Thread nD τ).loc main_arg0)) (m ((c : Thread nD τ).loc main_arg1)) (m ((c : Thread nD τ).loc main_arg2))
    (m ((c : Thread nD τ).loc main_arg3)) (m ((c : Thread nD τ).loc main_arg4))

variable (H : RepAt m P c)
include H

set_option maxHeartbeats 1600000 in
theorem host_dz (j : Fin 4) (R : Fin 8192) (n : Fin 512) :
    (V m c main_v2 : Vec Ideal S4x8192x512 .bf16) (ix3 j R n) = (P.dz R (512 * j + n) : EReal) := by
  entry_read
  pointwise []
  refine (H.dz R _).trans (congrArg _ (congrArg _ ?_))
  simp only []
  omega

set_option maxHeartbeats 1600000 in
theorem host_w (j : Fin 4) (k : Fin 1024) (n : Fin 512) :
    (V m c main_v5 : Vec Ideal S4x1024x512 .bf16) (ix3 j k n) = (P.w k (512 * j + n) : EReal) := by
  entry_read
  pointwise []
  refine (H.w k _).trans (congrArg _ (congrArg _ ?_))
  simp only []
  omega

omit H in
theorem idx_in : ∀ t : Fin cfg0.N, win0_0.index t = ![0, t.val, 0] ∧ win0_1.index t = ![0, 0, 0] ∧ win0_2.index t = ![t.val, 0]
    ∧ win0_3.index t = ![0, 0] ∧ win0_4.index t = ![t.val, 0] :=
  (by decide +kernel : ∀ t : Fin grid0.N, _)

set_option maxHeartbeats 1600000 in
theorem opsAt (t : Fin cfg0.N) : OpsAt m P c t := by
  have ht := t_lt t
  obtain ⟨i0, i1, i2, i3, i4⟩ := idx_in t
  constructor
  · intro j r n
    have e : (win0_0.blk t).view.emb (ix3 j r n) = ix3 j (⟨512 * t.val + r, by omega⟩ : Fin 8192) n := by blk_ext [i0]
    blk_simp [iblk]
    rw [e]
    exact host_dz m c H j _ n
  · intro j k n
    have e : (win0_1.blk t).view.emb (ix3 j k n) = ix3 j k n := by blk_ext [i1]
    blk_simp [iblk]
    rw [e]
    exact host_w m c H j k n
  · intro r k
    have e : (win0_2.blk t).view.emb (ix2 r k) = ix2 (⟨512 * t.val + r, by omega⟩ : Fin 8192) k := by blk_ext [i2]
    blk_simp [iblk]
    rw [e]
    exact (congrFun (V_main_arg1 m c) _).trans (H.x _ k)
  · intro k
    have e : (win0_3.blk t).view.emb (ix2 0 k) = ix2 (0 : Fin 1) k := by blk_ext [i3]
    blk_simp [iblk]
    rw [e]
    exact (congrFun (V_main_arg2 m c) _).trans (H.g k)
  · intro r k
    have e : (win0_4.blk t).view.emb (ix2 r k) = ix2 (⟨512 * t.val + r, by omega⟩ : Fin 8192) k := by blk_ext [i4]
    blk_simp [iblk]
    rw [e]
    exact (congrFun (V_main_arg4 m c) _).trans (H.dx _ k)

end Cert.Mix
-- ==== Proof.Mix.Claim.lean ====
/- The input projection's backward kernel and its reference leave the same arrays when the arguments are finite. -/
module
public import proofs.«01_k».proof.Defs
public import proofs.«01_k».proof.Proof.Mix.Arr
public import proofs.«01_k».proof.Proof.Ffn.Fin
public import proofs.«01_k».proof.Proof.Gen.Pre_finite_mix
public import proofs.«01_k».proof.Proof.Gen.ReferenceMixIdeal.Read
public import proofs.«01_k».proof.Proof.Gen.ReferenceMixIdeal.Run
public import proofs.«01_k».proof.Proof.Gen.KernelMixIdeal.Value
@[expose] public section
set_option maxRecDepth 16384
noncomputable section
open Idealize.ShloMosaic Idealize.ShloMosaic.TcCoe Idealize.SL.Sem

namespace Cert.Mix
open Cert.Ffn (sum_coe w_1024 w_eps w_mhalf div_coe_coe rsqrt_coe_pos ms_pos norm_close real_of_lt ofNat_val)

/-! ### The reference -/
section
open Cert.ReferenceMixIdeal Cert.ReferenceMixIdeal.Read

variable {P : In} {x0 : FVec Ideal S8192x2048 .f32} {x1 : FVec Ideal S8192x1024 .f32} {x2 : FVec Ideal S1x1024 .f32}
  {x3 : FVec Ideal S1024x2048 .f32} {x4 : FVec Ideal S8192x1024 .f32} (H : Rep P x0 x1 x2 x3 x4)
include H

theorem ref_ms (R : Fin 8192) : val_main_v6 (F := Ideal) x1 (ix2 R 0) = (Cert.Ffn.ms (nrm P) R : EReal) := by
  pointwise [val_main_v6, val_main_v5, val_main_v4, val_main_v3, val_main_v2, val_main_v1, val_main_v0, val_main_cst,
    val_main_cst_0, val_main_cst_1]
  rw [sum_coe _ _ fun c => by rw [H.x, ← EReal.coe_mul], w_1024, w_eps, div_coe_coe _ (by norm_num), ← EReal.coe_add]
  rfl

theorem ref_rinv (R : Fin 8192) : val_main_v7 (F := Ideal) x1 (ix2 R 0) = (rinv P R : EReal) := by
  pointwise [val_main_v7]
  rw [ref_ms H, rsqrt_coe_pos (ms_pos (nrm P) R)]
  rfl

theorem ref_xh (R : Fin 8192) (c : Fin 1024) : val_main_v12 (F := Ideal) x1 (ix2 R c) = (xh P R c : EReal) := by
  pointwise [val_main_v12, val_main_v11]
  rw [ref_rinv H, H.x, ← EReal.coe_mul]
  rfl

theorem ref_dh (R : Fin 8192) (c : Fin 1024) : val_main_v16 (F := Ideal) x0 x3 (ix2 R c) = (dh P R c : EReal) := by
  pointwise [val_main_v16]
  exact sum_coe _ _ fun n => by rw [H.dz, H.w, ← EReal.coe_mul]

theorem ref_dgf (c : Fin 1024) : val_main_v19 (F := Ideal) x0 x1 x3 (ix2 0 c) = (dgf P c : EReal) := by
  pointwise [val_main_v19, val_main_v18, val_main_v17, val_main_cst_3]
  exact sum_coe _ _ fun R => by rw [ref_dh H, ref_xh H, ← EReal.coe_mul, mul_comm]

set_option maxHeartbeats 1000000 in
theorem ref_dx (R : Fin 8192) (c : Fin 1024) : val_main_v36 (F := Ideal) x0 x1 x2 x3 x4 (ix2 R c) = (dx0 P R c : EReal) := by
  pointwise [val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v10, val_main_v9, val_main_v8, val_main_cst_2, val_main_cst_4, val_main_cst_5, val_main_cst_6]
  simp only [Fin.sum_univ_one, ref_dh H, ref_rinv H, ref_ms H, H.g, H.x, H.dx, w_mhalf, w_1024]
  exact norm_close (nrm P) (dh P (R : ℕ)) (R : ℕ) (c : ℕ)

/-- The two results, whole. -/
theorem all_dx : val_main_v36 (F := Ideal) x0 x1 x2 x3 x4 = fun i => (dx0 P (i 0) (i 1) : EReal) :=
  funext fun i => (congrArg _ (eta2 i)).trans (ref_dx H (i 0) (i 1))
theorem all_dg : val_main_v19 (F := Ideal) x0 x1 x3 = fun i => (dgf P (i 1) : EReal) :=
  funext fun i => (congrArg _ (eta1 i)).trans (ref_dgf H (i 1))
end

/-! ### The arguments -/

/-- The reals the arguments hold. -/
def toIn (x0 : FVec Ideal ⟨2, ![8192, 2048]⟩ .f32) (x1 : FVec Ideal ⟨2, ![8192, 1024]⟩ .f32) (x2 : FVec Ideal ⟨2, ![1, 1024]⟩ .f32)
    (x3 : FVec Ideal ⟨2, ![1024, 2048]⟩ .f32) (x4 : FVec Ideal ⟨2, ![8192, 1024]⟩ .f32) : In where
  dz R n := EReal.toReal (x0 (ix2 (Fin.ofNat 8192 R) (Fin.ofNat 2048 n)))
  x R c := EReal.toReal (x1 (ix2 (Fin.ofNat 8192 R) (Fin.ofNat 1024 c)))
  g c := EReal.toReal (x2 (ix2 0 (Fin.ofNat 1024 c)))
  w c n := EReal.toReal (x3 (ix2 (Fin.ofNat 1024 c) (Fin.ofNat 2048 n)))
  dx R c := EReal.toReal (x4 (ix2 (Fin.ofNat 8192 R) (Fin.ofNat 1024 c)))

theorem rep_toIn [Cert.Pre_finite_mix.Facts] (x0 : FVec Ideal ⟨2, ![8192, 2048]⟩ .f32) (x1 : FVec Ideal ⟨2, ![8192, 1024]⟩ .f32)
    (x2 : FVec Ideal ⟨2, ![1, 1024]⟩ .f32) (x3 : FVec Ideal ⟨2, ![1024, 2048]⟩ .f32) (x4 : FVec Ideal ⟨2, ![8192, 1024]⟩ .f32)
    (h0 : (Cert.Pre_finite_mix.fn (F := Ideal) x0 x1 x2 x3 x4).1 = fun _ => 1#1)
    (h1 : (Cert.Pre_finite_mix.fn (F := Ideal) x0 x1 x2 x3 x4).2.1 = fun _ => 1#1)
    (h2 : (Cert.Pre_finite_mix.fn (F := Ideal) x0 x1 x2 x3 x4).2.2.1 = fun _ => 1#1)
    (h3 : (Cert.Pre_finite_mix.fn (F := Ideal) x0 x1 x2 x3 x4).2.2.2.1 = fun _ => 1#1)
    (h4 : (Cert.Pre_finite_mix.fn (F := Ideal) x0 x1 x2 x3 x4).2.2.2.2 = fun _ => 1#1) :
    Rep (toIn x0 x1 x2 x3 x4) x0 x1 x2 x3 x4 := by
  constructor
  · intro R n
    simp only [toIn, ofNat_val]
    exact (real_of_lt _ (congrFun h0 (ix2 R n))).symm
  · intro R c
    simp only [toIn, ofNat_val]
    exact (real_of_lt _ (congrFun h1 (ix2 R c))).symm
  · intro c
    simp only [toIn, ofNat_val]
    exact (real_of_lt _ (congrFun h2 (ix2 0 c))).symm
  · intro c n
    simp only [toIn, ofNat_val]
    exact (real_of_lt _ (congrFun h3 (ix2 c n))).symm
  · intro R c
    simp only [toIn, ofNat_val]
    exact (real_of_lt _ (congrFun h4 (ix2 R c))).symm

/-! ### The claims -/

theorem frame_ref : Cert.quiescent_ReferenceMixIdeal := fun m g _ =>
  (θ_run _ _ _).mono (fun r h => ⟨fun c => (h c).2.2, sem_eq_zero_of_no_sems (by decide) r.2⟩) (Cert.ReferenceMixIdeal.Value.run m g)

theorem frame_ref_pre [Cert.Pre_finite_mix.Facts] : Cert.quiescent_ReferenceMixIdeal_pre_finite_mix := fun m g _ => frame_ref m g trivial

/-- The reals device `c`'s arguments hold. -/
abbrev inAt (m : (ℓ : Loc Cert.KernelMixIdeal.nD Cert.KernelMixIdeal.τ Cert.KernelMixIdeal.sig) → Idealize.ShloMosaic.Buf (Elt Ideal) ℓ)
    (c : Dev Cert.KernelMixIdeal.nD) : In :=
  toIn (m ((c.tc : Thread Cert.KernelMixIdeal.nD Cert.KernelMixIdeal.τ).loc Cert.KernelMixIdeal.main_arg0))
    (m ((c.tc : Thread Cert.KernelMixIdeal.nD Cert.KernelMixIdeal.τ).loc Cert.KernelMixIdeal.main_arg1))
    (m ((c.tc : Thread Cert.KernelMixIdeal.nD Cert.KernelMixIdeal.τ).loc Cert.KernelMixIdeal.main_arg2))
    (m ((c.tc : Thread Cert.KernelMixIdeal.nD Cert.KernelMixIdeal.τ).loc Cert.KernelMixIdeal.main_arg3))
    (m ((c.tc : Thread Cert.KernelMixIdeal.nD Cert.KernelMixIdeal.τ).loc Cert.KernelMixIdeal.main_arg4))

theorem rep_at [Cert.Pre_finite_mix.Facts]
    (m : (ℓ : Loc Cert.KernelMixIdeal.nD Cert.KernelMixIdeal.τ Cert.KernelMixIdeal.sig) → Idealize.ShloMosaic.Buf (Elt Ideal) ℓ)
    (c : Dev Cert.KernelMixIdeal.nD) (h : Cert.Pre_KernelMixIdeal_finite_mix m) : RepAt m (inAt m c) c := by
  obtain ⟨h0, h1, h2, h3, h4⟩ := h c
  exact rep_toIn _ _ _ _ _ h0 h1 h2 h3 h4

set_option maxHeartbeats 6400000 in
theorem agree [Cert.Pre_finite_mix.Facts] : Cert.algebraic_KernelMixIdeal_ReferenceMixIdeal_pre_finite_mix := by
  pair_intro
  · exact Cert.KernelMixIdeal.Value.run_blocks m g
  · have R : ∀ c, Rep (inAt m c)
        (m' ((c.tc : Thread Cert.ReferenceMixIdeal.nD Cert.ReferenceMixIdeal.τ).loc Cert.ReferenceMixIdeal.main_arg0))
        (m' ((c.tc : Thread Cert.ReferenceMixIdeal.nD Cert.ReferenceMixIdeal.τ).loc Cert.ReferenceMixIdeal.main_arg1))
        (m' ((c.tc : Thread Cert.ReferenceMixIdeal.nD Cert.ReferenceMixIdeal.τ).loc Cert.ReferenceMixIdeal.main_arg2))
        (m' ((c.tc : Thread Cert.ReferenceMixIdeal.nD Cert.ReferenceMixIdeal.τ).loc Cert.ReferenceMixIdeal.main_arg3))
        (m' ((c.tc : Thread Cert.ReferenceMixIdeal.nD Cert.ReferenceMixIdeal.τ).loc Cert.ReferenceMixIdeal.main_arg4)) := fun c => by
      obtain ⟨e0, e1, e2, e3, e4⟩ := hagree c
      rw [e0, e1, e2, e3, e4]
      exact rep_at m c hpre
    have K := fun c t => opsAt m c (rep_at m c hpre) t
    refine (θ_run _ _ _).mono (fun r h c => ⟨(h c).1.trans ?_, (h c).2.1.trans ?_, (h c).2.2⟩) (Cert.ReferenceMixIdeal.Value.run m' g')
    · exact (Cert.ReferenceMixIdeal.Read.val_main_v36_eq (F := Ideal) m' c).trans ((all_dx (R c)).trans (arr5 m c (K c)).symm)
    · exact (Cert.ReferenceMixIdeal.Read.val_main_v19_eq (F := Ideal) _ _ _).trans ((all_dg (R c)).trans (arr6 m c (K c)).symm)

end Cert.Mix
-- ==== Proof.Kv.Call.lean ====
/- The gradients of the keys' and values' projection and of its norm: what the call computes, and that the reference
   computes it too, whatever the arguments hold. -/
module
public import proofs.«01_k».proof.Proof.Ffn.Point
public import proofs.«01_k».proof.Proof.Gen.KernelKvIdeal.Value
public import proofs.«01_k».proof.Proof.Gen.ReferenceKvIdeal.Read
public import proofs.«01_k».proof.Proof.Gen.ReferenceKvIdeal.Run
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Cert.Ffn (canon_hit canon_miss)
open Cert.KernelKvIdeal Cert.KernelKvIdeal.Gen

namespace Cert.Kv

/-- A sum over 2048 columns, by blocks of 512. -/
theorem quarters {M : Type*} [AddCommMonoid M] (f : Fin 2048 → M) : ∑ n : Fin 512, f ⟨512 * 0 + n, by omega⟩ + ∑ n : Fin 512, f ⟨512 * 1 + n, by omega⟩
    + ∑ n : Fin 512, f ⟨512 * 2 + n, by omega⟩ + ∑ n : Fin 512, f ⟨512 * 3 + n, by omega⟩ = ∑ n, f n := by
  refine (Fin.sum_univ_four fun s : Fin 4 => ∑ n : Fin 512, f ⟨512 * (s : ℕ) + n, by omega⟩).symm.trans ?_
  refine Fin.sum_mul_add_congr (n := 512) fun s k hl => congrArg f (Fin.ext ?_)
  show 512 * (s : ℕ) + (k : ℕ) = s * 512 + k
  omega

/-! ### The values at an index -/

/-- One block of the weight's gradient. -/
theorem dw_at (x : Vec Ideal S256x512 .f32) (y : Vec Ideal S256x1024 .bf16) (k : Fin 1024) (n : Fin 512) :
    k0_pay3 (F := Ideal) x y (ix3 0 k n) = ∑ a : Fin 256, y (ix2 a k) * x (ix2 a n) := by
  pointwise [k0_pay3, k0_pay2]

theorem pay5_eq : k0_pay5 (F := Ideal) = k0_pay3 := rfl
theorem pay8_eq (x) : k0_pay8 (F := Ideal) (k0_pay7 x) = k0_pay3 x := rfl
theorem pay10_eq : k0_pay10 (F := Ideal) = k0_pay3 := rfl

/-- The cotangent of the normed memory: four blocks of columns. -/
theorem dm_at (x0 x1 x2 x3 : Vec Ideal S256x512 .f32) (w0 w1 w2 w3 : Vec Ideal S1x1024x512 .bf16) (a : Fin 256) (k : Fin 1024) :
    k0_pay11 (F := Ideal) (k0_pay6 x0 w0 x1 w1) (k0_pay7 x2) w2 x3 w3 (ix2 a k)
      = ∑ n : Fin 512, x0 (ix2 a n) * w0 (ix3 0 k n) + ∑ n : Fin 512, x1 (ix2 a n) * w1 (ix3 0 k n) + ∑ n : Fin 512, x2 (ix2 a n) * w2 (ix3 0 k n)
        + ∑ n : Fin 512, x3 (ix2 a n) * w3 (ix3 0 k n) := by
  pointwise [k0_pay11, k0_pay6, k0_pay7, k0_pay2, k0_pay4, k0_pay9]

/-- The normed memory, as the reference has it. -/
abbrev xh (x : Vec Ideal S256x1024 .f32) (a : Fin 256) (k : Fin 1024) : EReal := Cert.ReferenceKvIdeal.Read.val_main_v9 (F := Ideal) x (ix2 a k)

theorem xh_eq (x : Vec Ideal S256x1024 .f32) (a : Fin 256) (k : Fin 1024) :
    xh x a k = x (ix2 a k) * rsqrt (k0_pay12 (F := Ideal) x) (ix2 a 0) := by
  unfold xh
  pointwise [k0_pay12, Cert.ReferenceKvIdeal.Read.val_main_v9, Cert.ReferenceKvIdeal.Read.val_main_v8, Cert.ReferenceKvIdeal.Read.val_main_v7,
    Cert.ReferenceKvIdeal.Read.val_main_v6, Cert.ReferenceKvIdeal.Read.val_main_v5, Cert.ReferenceKvIdeal.Read.val_main_v4,
    Cert.ReferenceKvIdeal.Read.val_main_v3, Cert.ReferenceKvIdeal.Read.val_main_v2, Cert.ReferenceKvIdeal.Read.val_main_v1,
    Cert.ReferenceKvIdeal.Read.val_main_v0, Cert.ReferenceKvIdeal.Read.val_main_cst, Cert.ReferenceKvIdeal.Read.val_main_cst_0,
    Cert.ReferenceKvIdeal.Read.val_main_cst_1]

/-- The gain's gradient. -/
theorem dg_at (d x : Vec Ideal S256x1024 .f32) (k : Fin 1024) :
    k0_pay1 (F := Ideal) d x (k0_pay12 x) (ix2 0 k) = ∑ a : Fin 256, d (ix2 a k) * xh x a k := by
  simp only [xh_eq]
  pointwise [k0_pay1]

/-! ### The blocks of the arguments -/

variable (m : (ℓ : Loc nD τ sig) → Buf (Elt Ideal) ℓ) (c : Dev nD)

abbrev D (a : Fin 256) (n : Fin 2048) : EReal := m ((c : Thread nD τ).loc main_arg0) (ix2 a n)
abbrev X : Vec Ideal S256x1024 .f32 := m ((c : Thread nD τ).loc main_arg1)
abbrev G (k : Fin 1024) : EReal := m ((c : Thread nD τ).loc main_arg2) (ix2 0 k)
abbrev W (k : Fin 1024) (n : Fin 2048) : EReal := m ((c : Thread nD τ).loc main_arg3) (ix2 k n)

theorem idx_in : ∀ t : Fin cfg0.N, win0_0.index t = ![0, 0] ∧ win0_1.index t = ![0, 0, 0] ∧ win0_2.index t = ![0, 0] ∧ win0_3.index t = ![0, 0] :=
  (by decide +kernel : ∀ t : Fin grid0.N, _)
theorem idx_out : ∀ t : Fin cfg0.N, win0_4.index t = ![0, 0, 0] ∧ win0_5.index t = ![0, 0] :=
  (by decide +kernel : ∀ t : Fin grid0.N, _)

theorem blk0 (t : Fin cfg0.N) (a : Fin 256) (n : Fin 2048) : (iblk m c 0 t : Vec Ideal S256x2048 .f32) (ix2 a n) = D m c a n := by
  have i0 := (idx_in t).1
  have e : (win0_0.blk t).view.emb (ix2 a n) = ix2 a n := by blk_ext [i0]
  blk_simp [iblk]
  rw [e]
  exact congrFun (V_main_arg0 m c) _

theorem host_w (j : Fin 4) (k : Fin 1024) (n : Fin 512) :
    (V m c main_v15 : Vec Ideal S4x1024x512 .bf16) (ix3 j k n) = W m c k ⟨512 * j + n, by omega⟩ := by
  entry_read
  pointwise []
  refine congrArg _ (congrArg _ (Fin.ext ?_))
  show _ = 512 * (j : ℕ) + (n : ℕ)
  simp only []
  omega

theorem blk1 (t : Fin cfg0.N) (j : Fin 4) (k : Fin 1024) (n : Fin 512) :
    (iblk m c 1 t : Vec Ideal S4x1024x512 .bf16) (ix3 j k n) = W m c k ⟨512 * j + n, by omega⟩ := by
  have i1 := (idx_in t).2.1
  have e : (win0_1.blk t).view.emb (ix3 j k n) = ix3 j k n := by blk_ext [i1]
  blk_simp [iblk]
  rw [e]
  exact host_w m c j k n

theorem blk2_at (t : Fin cfg0.N) (a : Fin 256) (k : Fin 1024) : (iblk m c 2 t : Vec Ideal S256x1024 .f32) (ix2 a k) = X m c (ix2 a k) := by
  have i2 := (idx_in t).2.2.1
  have e : (win0_2.blk t).view.emb (ix2 a k) = ix2 a k := by blk_ext [i2]
  blk_simp [iblk]
  rw [e]
  exact congrFun (V_main_arg1 m c) _

theorem eta2 {a b : ℕ} (y : (⟨2, ![a, b]⟩ : Shape).Idx) : y = ix2 (y 0) (y 1) :=
  funext fun a => match a with | ⟨0, _⟩ => rfl | ⟨1, _⟩ => rfl

theorem blk2 (t : Fin cfg0.N) : (iblk m c 2 t : Vec Ideal S256x1024 .f32) = X m c :=
  funext fun y => (congrArg _ (eta2 y)).trans ((blk2_at m c t (y 0) (y 1)).trans (congrArg _ (eta2 y).symm))

theorem host_m (a : Fin 256) (k : Fin 1024) : (V m c main_v12 : Vec Ideal S256x1024 .bf16) (ix2 a k) = xh (X m c) a k * G m c k := by
  unfold xh X G
  entry_read
  pointwise [Cert.ReferenceKvIdeal.Read.val_main_v9, Cert.ReferenceKvIdeal.Read.val_main_v8, Cert.ReferenceKvIdeal.Read.val_main_v7,
    Cert.ReferenceKvIdeal.Read.val_main_v6, Cert.ReferenceKvIdeal.Read.val_main_v5, Cert.ReferenceKvIdeal.Read.val_main_v4,
    Cert.ReferenceKvIdeal.Read.val_main_v3, Cert.ReferenceKvIdeal.Read.val_main_v2, Cert.ReferenceKvIdeal.Read.val_main_v1,
    Cert.ReferenceKvIdeal.Read.val_main_v0, Cert.ReferenceKvIdeal.Read.val_main_cst, Cert.ReferenceKvIdeal.Read.val_main_cst_0,
    Cert.ReferenceKvIdeal.Read.val_main_cst_1]

theorem blk3 (t : Fin cfg0.N) (a : Fin 256) (k : Fin 1024) :
    (iblk m c 3 t : Vec Ideal S256x1024 .bf16) (ix2 a k) = xh (X m c) a k * G m c k := by
  have i3 := (idx_in t).2.2.2
  have e : (win0_3.blk t).view.emb (ix2 a k) = ix2 a k := by blk_ext [i3]
  blk_simp [iblk]
  rw [e]
  exact host_m m c a k

/-- A block of columns of the cotangent, loaded. -/
theorem ld_d (t : Fin cfg0.N) (o j : ℕ) (h : 512 * j = o) (inb : ∀ a, (![0, o] : Fin 2 → ℕ) a + (![256, 512] : Fin 2 → ℕ) a ≤ S256x2048.size a)
    (hj : j < 4) (a : Fin 256) (n : Fin 512) :
    View.ld (iblk m c 0 t : Vec Ideal S256x2048 .f32) (Rect.unit ![0, o] ![256, 512] inb) (ix2 a n) = D m c a ⟨512 * j + n, by omega⟩ := by
  refine (congrArg (iblk m c 0 t) (?_ : _ = ix2 a (⟨512 * j + n, by omega⟩ : Fin 2048))).trans (blk0 m c t a _)
  refine funext fun d => Fin.ext ?_
  exact match d with
  | ⟨0, _⟩ => by show 0 + 1 * (a : ℕ) = a; omega
  | ⟨1, _⟩ => by show o + 1 * (n : ℕ) = 512 * j + n; omega

theorem ld_w (t : Fin cfg0.N) (j : ℕ) (inb : ∀ a, (![j, 0, 0] : Fin 3 → ℕ) a + (![1, 1024, 512] : Fin 3 → ℕ) a ≤ S4x1024x512.size a)
    (hj : j < 4) (k : Fin 1024) (n : Fin 512) :
    View.ld (iblk m c 1 t : Vec Ideal S4x1024x512 .bf16) (Rect.unit ![j, 0, 0] ![1, 1024, 512] inb) (ix3 (0 : Fin 1) k n) = W m c k ⟨512 * j + n, by omega⟩ := by
  refine (congrArg (iblk m c 1 t) (?_ : _ = ix3 (⟨j, hj⟩ : Fin 4) k n)).trans (blk1 m c t _ k n)
  refine funext fun a => Fin.ext ?_
  exact match a with
  | ⟨0, _⟩ => by show j + 1 * 0 = j; omega
  | ⟨1, _⟩ => by show 0 + 1 * (k : ℕ) = k; omega
  | ⟨2, _⟩ => by show 0 + 1 * (n : ℕ) = n; omega

/-! ### The two outputs -/

/-- The weight's gradient. -/
def dw (k : Fin 1024) (n : Fin 2048) : EReal := ∑ a : Fin 256, xh (X m c) a k * G m c k * D m c a n
/-- The gain's. -/
def dg (k : Fin 1024) : EReal := ∑ a : Fin 256, (∑ n : Fin 2048, D m c a n * W m c k n) * xh (X m c) a k

/-- One block of the weight's gradient, over the loaded blocks. -/
theorem dw_blk (t : Fin cfg0.N) (o j : ℕ) (h : 512 * j = o) (inb : ∀ a, (![0, o] : Fin 2 → ℕ) a + (![256, 512] : Fin 2 → ℕ) a ≤ S256x2048.size a)
    (hj : j < 4) (y : Vec Ideal S256x1024 .bf16) (hy : y = iblk m c 3 t) (k : Fin 1024) (n : Fin 512) :
    k0_pay3 (F := Ideal) (View.ld (iblk m c 0 t : Vec Ideal S256x2048 .f32) (Rect.unit ![0, o] ![256, 512] inb)) y (ix3 0 k n)
      = dw m c k ⟨512 * j + n, by omega⟩ := by
  subst hy
  refine (dw_at _ _ k n).trans (Finset.sum_congr rfl fun a _ => ?_)
  rw [blk3, ld_d m c t o j h inb hj]

/-- Four stores, each of one of the four blocks. -/
theorem four (w3 w2 w1 w0 : Vec Ideal S1x1024x512 .bf16) (L : List (View.Piece (Elt Ideal) S4x1024x512 .bf16)) (g : Fin 4 → EReal)
    (k : Fin 1024) (n : Fin 512) (h3 : w3 (ix3 0 k n) = g 3) (h2 : w2 (ix3 0 k n) = g 2) (h1 : w1 (ix3 0 k n) = g 1)
    (h0 : w0 (ix3 0 k n) = g 0) (j : Fin 4) :
    View.canon (⟨Rect.unit ![3, 0, 0] ![1, 1024, 512] inb_S4x1024x512_S1x1024x512_3_0_0, w3⟩
      :: ⟨Rect.unit ![2, 0, 0] ![1, 1024, 512] inb_S4x1024x512_S1x1024x512_2_0_0, w2⟩
      :: ⟨Rect.unit ![1, 0, 0] ![1, 1024, 512] inb_S4x1024x512_S1x1024x512_1_0_0, w1⟩
      :: ⟨Rect.unit ![0, 0, 0] ![1, 1024, 512] inb_S4x1024x512_S1x1024x512_0_0_0, w0⟩ :: L) (ix3 j k n) = g j := by
  have e : ∀ (o : ℕ) (j : Fin 4), (j : ℕ) = o → ∀ a : Fin 3, ((ix3 j k n : S4x1024x512.Idx) a : ℕ) = ![o, 0, 0] a + ((ix3 0 k n : S1x1024x512.Idx) a : ℕ) :=
    fun o j h a => match a with
    | ⟨0, _⟩ => h | ⟨1, _⟩ => (Nat.zero_add _).symm | ⟨2, _⟩ => (Nat.zero_add _).symm
  match j with
  | ⟨3, _⟩ => exact (canon_hit _ _ _ (ix3 0 k n) (e 3 3 rfl)).trans h3
  | ⟨2, _⟩ =>
    refine (canon_miss _ _ _ 0 (Or.inl (by show 2 < 3; omega))).trans ?_
    exact (canon_hit _ _ _ (ix3 0 k n) (e 2 2 rfl)).trans h2
  | ⟨1, _⟩ =>
    refine (canon_miss _ _ _ 0 (Or.inl (by show 1 < 3; omega))).trans ((canon_miss _ _ _ 0 (Or.inl (by show 1 < 2; omega))).trans ?_)
    exact (canon_hit _ _ _ (ix3 0 k n) (e 1 1 rfl)).trans h1
  | ⟨0, _⟩ =>
    refine (canon_miss _ _ _ 0 (Or.inl (by show 0 < 3; omega))).trans ((canon_miss _ _ _ 0 (Or.inl (by show 0 < 2; omega))).trans
      ((canon_miss _ _ _ 0 (Or.inl (by show 0 < 1; omega))).trans ?_))
    exact (canon_hit _ _ _ (ix3 0 k n) (e 0 0 rfl)).trans h0

theorem ld_all {s : Shape} {e : EltTy} (x : Vec Ideal s e) (off : Fin s.rank → ℕ) (inb : ∀ a, off a + s.size a ≤ s.size a) (h : ∀ a, off a = 0) :
    View.ld x (Rect.unit off s.size inb) = x := by
  funext y
  refine congrArg x (funext fun a => Fin.ext ?_)
  show off a + 1 * (y a : ℕ) = y a
  rw [h a]; omega

theorem zero2 : ∀ a : Fin 2, (![0, 0] : Fin 2 → ℕ) a = 0 := by decide

theorem out4_at (t : Fin cfg0.N) (j : Fin 4) (k : Fin 1024) (n : Fin 512) :
    out0_4 (F := Ideal) (iblk m c 0 t) (iblk m c 1 t) (iblk m c 2 t) (iblk m c 3 t) (ix3 j k n) = dw m c k ⟨512 * j + n, by omega⟩ := by
  unfold_out out0_4
  rw [pay5_eq, pay8_eq, pay10_eq]
  exact four _ _ _ _ _ (fun j => dw m c k ⟨512 * j + n, by omega⟩) k n
    (dw_blk m c t 1536 3 rfl _ (by omega) _ (ld_all (s := S256x1024) _ _ _ zero2) k n) (dw_blk m c t 1024 2 rfl _ (by omega) _ (ld_all (s := S256x1024) _ _ _ zero2) k n)
    (dw_blk m c t 512 1 rfl _ (by omega) _ (ld_all (s := S256x1024) _ _ _ zero2) k n) (dw_blk m c t 0 0 rfl _ (by omega) _ (ld_all (s := S256x1024) _ _ _ zero2) k n) j

theorem out5_at (t : Fin cfg0.N) (k : Fin 1024) :
    out0_5 (F := Ideal) (iblk m c 0 t) (iblk m c 1 t) (iblk m c 2 t) (iblk m c 3 t) (ix2 0 k) = dg m c k := by
  unfold_out out0_5
  refine (canon_hit _ _ _ (ix2 0 k) fun a => ?_).trans ?_
  · exact match a with | ⟨0, _⟩ => rfl | ⟨1, _⟩ => (Nat.zero_add _).symm
  refine (dg_at _ _ k).trans (Finset.sum_congr rfl fun a _ => ?_)
  refine congr (congrArg _ ((dm_at _ _ _ _ _ _ _ _ a k).trans (Eq.trans ?_ (quarters fun n => D m c a n * W m c k n)))) ?_
  · refine congr (congrArg _ (congr (congrArg _ (congr (congrArg _ ?_) ?_)) ?_)) ?_
    · exact Finset.sum_congr rfl fun n _ => congr (congrArg _ (ld_d m c t 0 0 rfl _ (by omega) a n)) (ld_w m c t 0 _ (by omega) k n)
    · exact Finset.sum_congr rfl fun n _ => congr (congrArg _ (ld_d m c t 512 1 rfl _ (by omega) a n)) (ld_w m c t 1 _ (by omega) k n)
    · exact Finset.sum_congr rfl fun n _ => congr (congrArg _ (ld_d m c t 1024 2 rfl _ (by omega) a n)) (ld_w m c t 2 _ (by omega) k n)
    · exact Finset.sum_congr rfl fun n _ => congr (congrArg _ (ld_d m c t 1536 3 rfl _ (by omega) a n)) (ld_w m c t 3 _ (by omega) k n)
  · exact congrArg (fun x => xh x a k) ((ld_all (s := S256x1024) _ _ _ zero2).trans (blk2 m c t))

/-! ### The arrays, and the reference's -/

theorem eta1 {b : ℕ} (y : (⟨2, ![1, b]⟩ : Shape).Idx) : y = ix2 0 (y 1) :=
  funext fun a => match a with | ⟨0, _⟩ => Subsingleton.elim (α := Fin 1) _ _ | ⟨1, _⟩ => rfl

theorem eta3 {a b d : ℕ} (y : (⟨3, ![a, b, d]⟩ : Shape).Idx) : y = ix3 (y 0) (y 1) (y 2) :=
  funext fun a => match a with | ⟨0, _⟩ => rfl | ⟨1, _⟩ => rfl | ⟨2, _⟩ => rfl

/-- The two results, whole. -/
def dwA : Vec Ideal S4x1024x512 .bf16 := fun i => dw m c (i 1)
  ⟨512 * (i 0 : ℕ) + (i 2 : ℕ), by have h0 : (i 0 : ℕ) < 4 := (i 0).isLt; have h2 : (i 2 : ℕ) < 512 := (i 2).isLt; omega⟩
def dgA : Vec Ideal S1x1024 .f32 := fun i => dg m c (i 1)

section
open Cert.ReferenceKvIdeal.Read

theorem ref_dw (j : Fin 4) (k : Fin 1024) (n : Fin 512) :
    val_main_v21 (F := Ideal) (m ((c : Thread nD τ).loc main_arg0)) (m ((c : Thread nD τ).loc main_arg1)) (m ((c : Thread nD τ).loc main_arg2)) (ix3 j k n)
      = dw m c k ⟨512 * j + n, by omega⟩ := by
  pointwise [val_main_v21, val_main_v20, val_main_v19, val_main_v14, val_main_v13, val_main_v11, val_main_v10]
  refine Finset.sum_congr rfl fun a _ => (mul_comm _ _).trans (congrArg _ ?_)
  refine congrArg _ (congrArg _ (Fin.ext ?_))
  show _ = 512 * (j : ℕ) + (n : ℕ)
  simp only []
  omega

theorem ref_dg (k : Fin 1024) :
    val_main_v18 (F := Ideal) (m ((c : Thread nD τ).loc main_arg0)) (m ((c : Thread nD τ).loc main_arg1)) (m ((c : Thread nD τ).loc main_arg3)) (ix2 0 k)
      = dg m c k := by
  pointwise [val_main_v18, val_main_v17, val_main_v16, val_main_v15, val_main_cst_2]
  exact Finset.sum_congr rfl fun a _ => mul_comm _ _
end

theorem arr4 : (dats m 0 c).arrAt 4 cfg0.N = dwA m c := by
  refine (dats m 0 c).arrAt_eq_of_covers 4 _ (by decide +kernel) fun t hf y => ?_
  have i4 := (idx_out t).1
  have e : ∀ (j : Fin 4) (k : Fin 1024) (n : Fin 512), (win0_4.blk t).view.emb (ix3 j k n) = ix3 j k n := fun j k n => by blk_ext [i4]
  blk_simp
  rw [after0_4]
  exact (congrArg _ (eta3 y)).trans ((out4_at m c t (y 0) (y 1) (y 2)).trans
    (congrArg (dwA m c) ((congrArg (win0_4.blk t).view.emb (eta3 y)).trans (e (y 0) (y 1) (y 2)))).symm)

theorem arr5 : (dats m 0 c).arrAt 5 cfg0.N = dgA m c := by
  refine (dats m 0 c).arrAt_eq_of_covers 5 _ (by decide +kernel) fun t hf y => ?_
  have i5 := (idx_out t).2
  have e : ∀ k : Fin 1024, (win0_5.blk t).view.emb (ix2 0 k) = ix2 (0 : Fin 1) k := fun k => by blk_ext [i5]
  blk_simp
  rw [after0_5]
  exact (congrArg _ (eta1 y)).trans ((out5_at m c t (y 1)).trans
    (congrArg (dgA m c) ((congrArg (win0_5.blk t).view.emb (eta1 y)).trans (e (y 1)))).symm)

theorem frame_ref : Cert.quiescent_ReferenceKvIdeal := fun m g _ =>
  (θ_run _ _ _).mono (fun r h => ⟨fun c => (h c).2.2, sem_eq_zero_of_no_sems (by decide) r.2⟩) (Cert.ReferenceKvIdeal.Value.run m g)

set_option maxHeartbeats 1600000 in
theorem agree : Cert.algebraic_KernelKvIdeal_ReferenceKvIdeal := by
  pair_intro
  · exact Cert.KernelKvIdeal.Value.run_blocks m g
  · refine (θ_run _ _ _).mono (fun r h c => ⟨(h c).1.trans ?_, (h c).2.1.trans ?_, (h c).2.2⟩) (Cert.ReferenceKvIdeal.Value.run m' g')
    · obtain ⟨e0, e1, e2, e3⟩ := hagree c
      refine (Cert.ReferenceKvIdeal.Read.val_main_v21_eq (F := Ideal) _ _ _).trans (Eq.trans ?_ (arr4 m c).symm)
      rw [e0, e1, e2]
      exact funext fun i => (congrArg _ (eta3 i)).trans (ref_dw m c (i 0) (i 1) (i 2))
    · obtain ⟨e0, e1, e2, e3⟩ := hagree c
      refine (Cert.ReferenceKvIdeal.Read.val_main_v18_eq (F := Ideal) _ _ _).trans (Eq.trans ?_ (arr5 m c).symm)
      rw [e0, e1, e3]
      exact funext fun i => (congrArg _ (eta1 i)).trans (ref_dg m c (i 1))

end Cert.Kv
-- ==== Proof.Fwd.Real.lean ====
/- The feed-forward block, the final norm and the loss with its gradient over the real numbers, one entry at a time: what
   both programs compute. The first seven arguments stand as in the block's backward pass, the target in the place of the
   cotangent. -/
module
public import proofs.«01_k».proof.Proof.Ffn.Real
@[expose] public section
noncomputable section
open Idealize.ShloMosaic Cert.Ffn

namespace Cert.Fwd

variable (P : In) (gf : ℕ → ℝ)

/-- The gated activation. -/
def act (R ch : ℕ) : ℝ := ge (gc P R ch) * gu P R (3072 + ch)
/-- The block's result. -/
def x3 (R c : ℕ) : ℝ := P.x R c + ∑ ch : Fin 3072, act P R ch * P.wd ch c
/-- The arguments of the final norm: the block's result and the norm's weight. -/
def Q : In := { P with dx := fun _ _ => 0, x := x3 P, g := gf }
def diff (R c : ℕ) : ℝ := xh (Q P gf) R c * gf c - P.dx R c
/-- The cotangent of the final norm's result. -/
def dy (R c : ℕ) : ℝ := diff P gf R c / 1024
/-- The loss of one feature. -/
def loss (c : ℕ) : ℝ := ∑ R : Fin 8192, diff P gf R c * diff P gf R c * (1 / 2048)
def dgf (c : ℕ) : ℝ := ∑ R : Fin 8192, dy P gf R c * xh (Q P gf) R c
def dx3 (R c : ℕ) : ℝ := rinv (Q P gf) R * (dy P gf R c * gf c
  - xh (Q P gf) R c * ((∑ k : Fin 1024, dy P gf R k * gf k * xh (Q P gf) R k) / 1024))

theorem w_recip : Ideal.ofBits .f32 0x3A800000#32 = ((1 / 1024 : ℝ) : EReal) := by
  norm_num [Ideal.ofBits, Ideal.ieee, Nat.shiftRight_eq_div_pow, show (BitVec.extractLsb' 31 1 0x3A800000#32 = 1#1) = False from by decide]
theorem w_recip2 : Ideal.ofBits .f32 0x3A000000#32 = ((1 / 2048 : ℝ) : EReal) := by
  norm_num [Ideal.ofBits, Ideal.ieee, Nat.shiftRight_eq_div_pow, show (BitVec.extractLsb' 31 1 0x3A000000#32 = 1#1) = False from by decide]

/-- A sum over the channels, from the sums over its two groups. -/
theorem sum_groups (f : ℕ → ℝ) : (∑ ch : Fin 1536, f (0 + ch)) + ∑ ch : Fin 1536, f (1536 + ch) = ∑ ch : Fin 3072, f ch := by
  have h := Fin.sum_univ_add (a := 1536) (b := 1536) (fun i : Fin (1536 + 1536) => f i)
  simp only [Fin.val_castAdd, Fin.val_natAdd] at h
  simp only [Nat.zero_add]
  exact h.symm

end Cert.Fwd
-- ==== Proof.Fwd.Pay.lean ====
/- What each value of the forward kernel's body is, entry by entry, when the values it reads are the real numbers they stand
   for. The second group of 1536 channels runs the first group's operations on its own operands. -/
module
public import Idealize.ShloMosaic.Lib.Pointwise
public import Idealize.ShloMosaic.Lib.Pipeline.ValueKit
public import proofs.«01_k».proof.Proof.Gen.KernelFwdIdeal.Frame
public import proofs.«01_k».proof.Proof.Ffn.Pay2
public import proofs.«01_k».proof.Proof.Fwd.Real
@[expose] public section
set_option maxRecDepth 16384
noncomputable section
open Idealize.ShloMosaic Idealize.ShloMosaic.TcCoe Idealize.SL.Sem
open Cert.KernelFwdIdeal Cert.KernelFwdIdeal.Gen

namespace Cert.Fwd
open Cert.Ffn (In Tile Row1 Buf Wup xh rinv gu gz gc th ge gC gK sum_coe div_coe_coe rsqrt_coe_pos ms_pos w_1024 w_eps w_half w_gC tsum)

/-- A tile of 256 whole rows holds `f` from row `r0` on. -/
def Wide (f : ℕ → ℕ → ℝ) (r0 : ℕ) {φ : FTy} (v : FVec Ideal S256x1024 φ) : Prop :=
  ∀ (r : Fin 256) (c : Fin 1024), v (ix2 r c) = (f (r0 + r) c : EReal)
/-- A row of 1024 features holds `f`. -/
def Row (f : ℕ → ℝ) (v : Vec Ideal S1x1024 .f32) : Prop := ∀ c : Fin 1024, v (ix2 0 c) = (f c : EReal)

variable {P : In} {gf : ℕ → ℝ} {r0 c0 : ℕ}

theorem k_gelu : Named.named (F := Ideal) (φ := .f32) κ "gelu_ck" 0x3D122279#32 = ((gC * gK : ℝ) : EReal) := by
  have : Named.named (F := Ideal) (φ := .f32) κ "gelu_ck" 0x3D122279#32 = ((80338380498831 / 2251799813685248 : ℝ) : EReal) := rfl
  rw [this]; congr 1; norm_num [gC, gK]

theorem pay6_at {v : Vec Ideal S256x1024 .bf16} {w : Vec Ideal S1x1024x1536 .bf16} (h : Wide (φ := .bf16) (fun R c => xh P R c * P.g c) r0 v)
    (hw : Wup P c0 w) : Tile (gu P) r0 c0 (k0_pay6 (F := Ideal) v w) := fun r ch => by
  pointwise [k0_pay6, k0_pay5]
  exact sum_coe _ _ fun c => by rw [h, hw, ← EReal.coe_mul]

/-- The other half of the up projection, its columns counted from the half's first. -/
theorem upper {v : FVec Ideal S256x1536 .f32} (h : Tile (gu P) r0 (3072 + c0) v) : Tile (fun R ch => gu P R (3072 + ch)) r0 c0 v :=
  fun r ch => by rw [h, Nat.add_assoc]

section group
variable {b : Vec Ideal S264x1536 .f32} {a2 a1 a0 d : Vec Ideal S1x1536 .f32} (h : Buf P r0 c0 b) (h2 : Row1 (P.cw 2) c0 a2)
  (h1 : Row1 (P.cw 1) c0 a1) (h0 : Row1 (P.cw 0) c0 a0) (hd : Row1 P.cb c0 d)
include h h2 h1 h0 hd

theorem pay13_at : Tile (gc P) r0 c0 (k0_pay13 (F := Ideal) b a2 a1 a0 d) := fun r ch => by
  pointwise [k0_pay13]
  rw [h, h, h, h2, h1, h0, hd]
  have hr := r.isLt
  simp only [← EReal.coe_mul, ← EReal.coe_add, gc]
  congr 5 <;> (try congr 2) <;> (try congr 2) <;> (try simp only) <;> omega

theorem pay17_at {u : FVec Ideal S256x1536 .f32} (hu : Tile (fun R ch => gu P R (3072 + ch)) r0 c0 u) :
    Tile (act P) r0 c0 (k0_pay17 (F := Ideal) u (k0_pay13 b a2 a1 a0 d) (k0_pay15 b a2 a1 a0 d) k0_pay16) := fun r ch => by
  pointwise [k0_pay17, k0_pay15, k0_pay16]
  rw [pay13_at h h2 h1 h0 hd, hu, k_gelu, w_gC, w_half]
  simp only [← EReal.coe_mul, ← EReal.coe_add]
  rfl

theorem pay19_at {u : FVec Ideal S256x1536 .f32} (hu : Tile (fun R ch => gu P R (3072 + ch)) r0 c0 u) {x : Vec Ideal S256x1024 .f32}
    (hx : Wide (φ := .f32) P.x r0 x) {w : Vec Ideal S1x1536x1024 .bf16} (hw : ∀ (ch : Fin 1536) (c : Fin 1024), w (ix3 0 ch c) = (P.wd (c0 + ch) c : EReal)) :
    Wide (fun R c => P.x R c + ∑ ch : Fin 1536, act P R (c0 + ch) * P.wd (c0 + ch) c) r0
      (k0_pay19 (F := Ideal) x u (k0_pay13 b a2 a1 a0 d) (k0_pay15 b a2 a1 a0 d) k0_pay16 w) := fun r c => by
  pointwise [k0_pay19]
  rw [hx, EReal.coe_add]
  exact congrArg _ (sum_coe _ _ fun ch => by rw [pay17_at h h2 h1 h0 hd hu, hw, ← EReal.coe_mul])
end group

theorem pay26_eq (u : FVec Ideal S256x1536 .f32) (b : Vec Ideal S264x1536 .f32) (a2 a1 a0 d : Vec Ideal S1x1536 .f32) :
    k0_pay26 (F := Ideal) u b (k0_pay23 b) (k0_pay24 b) a2 a1 a0 d
      = k0_pay17 u (k0_pay13 b a2 a1 a0 d) (k0_pay15 b a2 a1 a0 d) k0_pay16 := rfl
theorem pay27_eq (u : FVec Ideal S256x1536 .f32) (b : Vec Ideal S264x1536 .f32) (a2 a1 a0 d : Vec Ideal S1x1536 .f32) :
    k0_pay27 (F := Ideal) u b (k0_pay23 b) (k0_pay24 b) a2 a1 a0 d
      = k0_pay18 u (k0_pay13 b a2 a1 a0 d) (k0_pay15 b a2 a1 a0 d) k0_pay16 := rfl

section norm
variable {v : FVec Ideal S256x1024 .f32} {u : FVec Ideal S256x1536 .bf16} {w : Vec Ideal S1x1536x1024 .bf16} {g : Vec Ideal S1x1024 .f32}
  {t : Vec Ideal S256x1024 .f32} (hv : Wide (fun R c => P.x R c + ∑ ch : Fin 1536, act P R (0 + ch) * P.wd (0 + ch) c) r0 v)
  (hu : Tile (act P) r0 1536 u) (hw : ∀ (ch : Fin 1536) (c : Fin 1024), w (ix3 0 ch c) = (P.wd (1536 + ch) c : EReal))
include hv hu hw

theorem pay28_at : Wide (x3 P) r0 (k0_pay28 (F := Ideal) v u w) := fun r c => by
  pointwise [k0_pay28]
  rw [hv, sum_coe _ (fun ch : Fin 1536 => act P (r0 + r) (1536 + ch) * P.wd (1536 + ch) c) fun ch => by rw [hu, hw, ← EReal.coe_mul],
    ← EReal.coe_add, add_assoc, sum_groups fun ch => act P (r0 + r) ch * P.wd ch c]
  rfl

theorem pay29_at (r : Fin 256) : k0_pay29 (F := Ideal) v u w (ix2 r 0) = (rinv (Q P gf) (r0 + r) : EReal) := by
  pointwise [k0_pay29]
  rw [sum_coe _ (fun c : Fin 1024 => (Q P gf).x (r0 + r) c * (Q P gf).x (r0 + r) c) fun c => by rw [pay28_at hv hu hw, ← EReal.coe_mul]; rfl,
    w_1024, w_eps, div_coe_coe _ (by norm_num), ← EReal.coe_add]
  exact rsqrt_coe_pos (ms_pos (Q P gf) (r0 + r))

theorem pay30_at : Wide (xh (Q P gf)) r0 (k0_pay30 (F := Ideal) v u w) := fun r c => by
  pointwise [k0_pay30]
  rw [pay29_at (gf := gf) hv hu hw, pay28_at hv hu hw, ← EReal.coe_mul]; rfl

variable (hg : Row gf g) (ht : Wide (φ := .f32) P.dx r0 t)
include hg ht

theorem pay31_at : Wide (diff P gf) r0 (k0_pay31 (F := Ideal) v u w g t) := fun r c => by
  pointwise [k0_pay31]
  rw [pay30_at (gf := gf) hv hu hw, hg, ht, ← EReal.coe_mul, ← EReal.coe_sub]; rfl

theorem pay33_at : Wide (dy P gf) r0 (k0_pay33 (F := Ideal) v u w g t) := fun r c => by
  pointwise [k0_pay33]
  rw [pay31_at hv hu hw hg ht, w_recip, ← EReal.coe_mul, dy, mul_one_div]

theorem pay32_at (acc : Vec Ideal S1x1024 .f32) (c : Fin 1024) : k0_pay32 (F := Ideal) v u w g t acc (ix2 0 c)
    = acc (ix2 0 c) + (tsum (fun R c => diff P gf R c * diff P gf R c * (1 / 2048)) r0 c : EReal) := by
  pointwise [k0_pay32]
  rw [sum_coe _ (fun r : Fin 256 => diff P gf (r0 + r) c * diff P gf (r0 + r) c) fun r => by rw [pay31_at hv hu hw hg ht, ← EReal.coe_mul],
    w_recip2, ← EReal.coe_mul, Finset.sum_mul]
  rfl

theorem pay34_at (acc : Vec Ideal S1x1024 .f32) (c : Fin 1024) : k0_pay34 (F := Ideal) v u w g t acc (ix2 0 c)
    = acc (ix2 0 c) + (tsum (fun R c => dy P gf R c * xh (Q P gf) R c) r0 c : EReal) := by
  pointwise [k0_pay34]
  exact congrArg _ (sum_coe _ _ fun r => by rw [pay33_at hv hu hw hg ht, pay30_at (gf := gf) hv hu hw, ← EReal.coe_mul])

theorem pay1_at : Wide (dx3 P gf) r0 (k0_pay1 (F := Ideal) (k0_pay29 v u w) (k0_pay30 v u w) g (k0_pay33 v u w g t)) := fun r c => by
  pointwise [k0_pay1]
  rw [sum_coe _ (fun k : Fin 1024 => dy P gf (r0 + r) k * gf k * xh (Q P gf) (r0 + r) k) fun k => by
      rw [pay33_at hv hu hw hg ht, pay30_at (gf := gf) hv hu hw, hg, ← EReal.coe_mul, ← EReal.coe_mul],
    w_1024, div_coe_coe _ (by norm_num), pay33_at hv hu hw hg ht, pay30_at (gf := gf) hv hu hw, pay29_at (gf := gf) hv hu hw, hg]
  simp only [← EReal.coe_mul, ← EReal.coe_sub, dx3]
end norm

end Cert.Fwd
-- ==== Proof.Fwd.Host.lean ====
/- The arrays the forward kernel is launched on, from the arguments, and the blocks of one grid point. -/
module
public import Idealize.ShloMosaic.Lib.Claim
public import proofs.«01_k».proof.Proof.Fwd.Pay
@[expose] public section
set_option maxRecDepth 16384
noncomputable section
open Idealize.ShloMosaic Idealize.ShloMosaic.TcCoe Idealize.SL.Sem
open Idealize.ShloMosaic.Pipeline (Dat)
open Cert.KernelFwdIdeal Cert.KernelFwdIdeal.Gen

namespace Cert.Fwd
open Cert.Ffn (In Rep xh ms rinv ms_pos sum_coe div_coe_coe rsqrt_coe_pos w_1024 w_eps)

/-- The blocks of a tile of 256 rows, counted from `r0`. -/
structure Ops (P : In) (gf : ℕ → ℝ) (r0 : ℕ) (x0 : Vec Ideal S256x1024 .bf16) (x1 : Vec Ideal S4x1024x1536 .bf16) (x2 : Vec Ideal S3x3072 .f32)
    (x3 : Vec Ideal S1x3072 .f32) (x4 : Vec Ideal S2x1536x1024 .bf16) (x5 : Vec Ideal S256x1024 .f32) (x6 : Vec Ideal S1x1024 .f32)
    (x7 : Vec Ideal S256x1024 .f32) : Prop where
  h : Wide (φ := .bf16) (fun R c => xh P R c * P.g c) r0 x0
  wu : ∀ (b : Fin 4) (c : Fin 1024) (ch : Fin 1536), x1 (ix3 b c ch) = (P.wu c (1536 * b + ch) : EReal)
  cw : ∀ (k : Fin 3) (ch : Fin 3072), x2 (ix2 k ch) = (P.cw k ch : EReal)
  cb : ∀ ch : Fin 3072, x3 (ix2 0 ch) = (P.cb ch : EReal)
  wd : ∀ (j : Fin 2) (ch : Fin 1536) (c : Fin 1024), x4 (ix3 j ch c) = (P.wd (1536 * j + ch) c : EReal)
  x : Wide (φ := .f32) P.x r0 x5
  gf : Row gf x6
  tg : Wide (φ := .f32) P.dx r0 x7

variable (m : (ℓ : Loc nD τ sig) → Idealize.ShloMosaic.Buf (Elt Ideal) ℓ) {P : In} {gf : ℕ → ℝ} (c : Dev nD)

/-- The blocks of grid point `t`. -/
abbrev OpsAt (P : In) (gf : ℕ → ℝ) (c : Dev nD) (t : Fin cfg0.N) : Prop :=
  Ops P gf (256 * t.val) (iblk m c 0 t) (iblk m c 1 t) (iblk m c 2 t) (iblk m c 3 t) (iblk m c 4 t) (iblk m c 5 t) (iblk m c 6 t) (iblk m c 7 t)

/-- The arguments on a device hold the reals of `P`, and the final norm's weight `gf`. -/
abbrev RepAt (P : In) (gf : ℕ → ℝ) (c : Dev nD) : Prop :=
  Rep P (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) ∧ Row gf (m ((c : Thread nD τ).loc main_arg7))

/-- One entry of the normed and scaled rows. -/
theorem h_val (P : In) (R k : ℕ) (x : Fin 1024 → EReal) (y g : EReal) (hx : ∀ k : Fin 1024, x k = (P.x R k : EReal))
    (hy : y = (P.x R k : EReal)) (hg : g = (P.g k : EReal)) :
    y * Ideal.rsqrt (Ideal.div (∑ k, x k * x k) (Ideal.ofBits FTy.f32 1149239296#32) + Ideal.ofBits FTy.f32 897988541#32) * g
      = ((xh P R k * P.g k : ℝ) : EReal) := by
  have hs : ∑ k, x k * x k = ((∑ k : Fin 1024, P.x R k * P.x R k : ℝ) : EReal) := sum_coe _ _ fun k => by rw [hx, ← EReal.coe_mul]
  rw [hs, w_1024, w_eps, div_coe_coe _ (by norm_num), ← EReal.coe_add]
  erw [rsqrt_coe_pos (ms_pos P R)]
  rw [hy, hg, ← EReal.coe_mul, ← EReal.coe_mul]
  rfl

variable (H : RepAt m P gf c)
include H

set_option maxHeartbeats 1600000 in
theorem host_h (R : Fin 8192) (k : Fin 1024) :
    (V m c main_v12 : Vec Ideal S8192x1024 .bf16) (ix2 R k) = ((xh P R k * P.g k : ℝ) : EReal) := by
  entry_read
  pointwise []
  exact h_val P R k _ _ _ (fun k => H.1.x R k) (H.1.x R k) (H.1.g k)

set_option maxHeartbeats 1600000 in
theorem host_wd (j : Fin 2) (ch : Fin 1536) (k : Fin 1024) :
    (V m c main_v18 : Vec Ideal S2x1536x1024 .bf16) (ix3 j ch k) = (P.wd (1536 * j + ch) k : EReal) := by
  entry_read
  pointwise []
  refine (H.1.wd _ k).trans (congrArg (fun n => (P.wd n k : EReal)) ?_)
  show ((j : ℕ) * 2 + (ch : ℕ) / 768) * 768 + (ch : ℕ) % 768 = 1536 * (j : ℕ) + (ch : ℕ)
  omega

set_option maxHeartbeats 1600000 in
theorem host_wu (b : Fin 4) (k : Fin 1024) (ch : Fin 1536) :
    (V m c main_v17 : Vec Ideal S4x1024x1536 .bf16) (ix3 b k ch) = (P.wu k (1536 * b + ch) : EReal) := by
  entry_read
  pointwise []
  refine (H.1.wu k _).trans (congrArg (fun n => (P.wu k n : EReal)) ?_)
  show (b : ℕ) * 1536 + (ch : ℕ) = 1536 * (b : ℕ) + (ch : ℕ)
  omega

omit H in
theorem idx_in : ∀ t : Fin cfg0.N, win0_0.index t = ![t.val, 0] ∧ win0_1.index t = ![0, 0, 0] ∧ win0_2.index t = ![0, 0]
    ∧ win0_3.index t = ![0, 0] ∧ win0_4.index t = ![0, 0, 0] ∧ win0_5.index t = ![t.val, 0] ∧ win0_6.index t = ![0, 0]
    ∧ win0_7.index t = ![t.val, 0] :=
  (by decide +kernel : ∀ t : Fin grid0.N, _)

omit H in
theorem t_lt (t : Fin cfg0.N) : t.val < 32 := t.isLt

set_option maxHeartbeats 1600000 in
theorem opsAt (t : Fin cfg0.N) : OpsAt m P gf c t := by
  have ht := t_lt t
  obtain ⟨i0, i1, i2, i3, i4, i5, i6, i7⟩ := idx_in t
  constructor
  · intro r k
    have e : (win0_0.blk t).view.emb (ix2 r k) = ix2 (⟨256 * t.val + r, by omega⟩ : Fin 8192) k := by blk_ext [i0]
    blk_simp [iblk]
    rw [e]
    exact host_h m c H _ k
  · intro b k ch
    have e : (win0_1.blk t).view.emb (ix3 b k ch) = ix3 b k ch := by blk_ext [i1]
    blk_simp [iblk]
    rw [e]
    exact host_wu m c H b k ch
  · intro k ch
    have e : (win0_2.blk t).view.emb (ix2 k ch) = ix2 k ch := by blk_ext [i2]
    blk_simp [iblk]
    rw [e]
    exact (congrFun (V_main_arg4 m c) _).trans (H.1.cw k ch)
  · intro ch
    have e : (win0_3.blk t).view.emb (ix2 0 ch) = ix2 (0 : Fin 1) ch := by blk_ext [i3]
    blk_simp [iblk]
    rw [e]
    exact (congrFun (V_main_arg5 m c) _).trans (H.1.cb ch)
  · intro j ch k
    have e : (win0_4.blk t).view.emb (ix3 j ch k) = ix3 j ch k := by blk_ext [i4]
    blk_simp [iblk]
    rw [e]
    exact host_wd m c H j ch k
  · intro r k
    have e : (win0_5.blk t).view.emb (ix2 r k) = ix2 (⟨256 * t.val + r, by omega⟩ : Fin 8192) k := by blk_ext [i5]
    blk_simp [iblk]
    rw [e]
    exact (congrFun (V_main_arg1 m c) _).trans (H.1.x _ k)
  · intro k
    have e : (win0_6.blk t).view.emb (ix2 0 k) = ix2 (0 : Fin 1) k := by blk_ext [i6]
    blk_simp [iblk]
    rw [e]
    exact (congrFun (V_main_arg7 m c) _).trans (H.2 k)
  · intro r k
    have e : (win0_7.blk t).view.emb (ix2 r k) = ix2 (⟨256 * t.val + r, by omega⟩ : Fin 8192) k := by blk_ext [i7]
    blk_simp [iblk]
    rw [e]
    exact (congrFun (V_main_arg0 m c) _).trans (H.1.dx _ k)

end Cert.Fwd
-- ==== Proof.Fwd.Point.lean ====
/- One grid point of the forward kernel: what its buffer of gate rows holds when it is read, the rows carried to the next
   grid point, and what the point leaves in its outputs. -/
module
public import proofs.«01_k».proof.Proof.Fwd.Host
public import proofs.«01_k».proof.Proof.Ffn.Point
public import Idealize.ShloMosaic.Lib.WritesUnit
@[expose] public section
set_option maxRecDepth 16384
noncomputable section
open Idealize.ShloMosaic Idealize.ShloMosaic.TcCoe Idealize.SL.Sem
open Cert.KernelFwdIdeal Cert.KernelFwdIdeal.Gen

namespace Cert.Fwd
open Cert.Ffn (In Tile Row1 Buf Wup xh rinv gu gz gc ge tsum canon_hit canon_miss)

theorem slab_sz : ∀ i : Fin 2, (![1, 264, 1536] : Fin 3 → ℕ) i.succ = (![264, 1536] : Fin 2 → ℕ) i := by decide

/-- One slab of the gate buffer, as a box of the whole. -/
abbrev Slab (off : Fin 3 → ℕ) (inb : ∀ a, off a + (![1, 264, 1536] : Fin 3 → ℕ) a ≤ S2x264x1536.size a)
    (h : ∀ a, (Rect.unit (s := S2x264x1536) off ![1, 264, 1536] inb).stride a = 1) : LoadRect S2x264x1536 :=
  (Rect.unit (s := S2x264x1536) off ![1, 264, 1536] inb).withinL
    ((Rect.unit (s := S264x1536) ![0, 0] ![264, 1536] inb_S264x1536_S264x1536_0_0).consLift ![1, 264, 1536] rfl slab_sz).toLoadRect h

abbrev B264 : LoadRect S264x1536 := (Rect.unit ![0, 0] ![264, 1536] inb_S264x1536_S264x1536_0_0).toLoadRect

theorem slab_idx {off : Fin 3 → ℕ} {inb h} (hR : B264.shape.numel = (Slab off inb h).shape.numel) (j : Fin 2)
    (e : off = ![(j : ℕ), 0, 0]) (q : Fin 264) (ch : Fin 1536) :
    (Slab off inb h).idx (Shape.reshapeEquiv hR (ix2 q ch)) = ix3 j q ch := by
  have hc := Shape.reshapeEquiv_cons_one (n := 2) (d := ![264, 1536]) hR (ix2 q ch)
  have hc' : Shape.reshapeEquiv hR (ix2 q ch) = (Fin.cons ⟨0, Nat.one_pos⟩ (ix2 q ch) : (Slab off inb h).shape.Idx) := hc
  rw [hc']
  subst e
  funext a
  refine Fin.ext ?_
  match a with
  | ⟨0, _⟩ => show (j : ℕ) + 0 + 1 * 0 = j; omega
  | ⟨1, _⟩ => show 0 + 0 + 1 * (q : ℕ) = q; omega
  | ⟨2, _⟩ => show 0 + 0 + 1 * (ch : ℕ) = ch; omega

/-- The gate rows before a tile, which the buffer carries to grid point `n + 1`. -/
def Halo (P : In) (n : ℕ) (s : Vec Ideal S2x264x1536 .f32) : Prop :=
  ∀ (j : Fin 2) (q : Fin 8) (ch : Fin 1536), s (ix3 j ⟨q, by omega⟩ ch) = (gz P (256 * (n + 1) + q - 6) (1536 * j + ch) : EReal)

/-- One group's tile of the gate, as stored. -/
def Put (P : In) (n c0 : ℕ) (w : FVec Ideal S1x256x1536 .f32) : Prop :=
  ∀ (r : Fin 256) (ch : Fin 1536), w (ix3 0 r ch) = (gu P (256 * n + r) (c0 + ch) : EReal)

abbrev Store : Type := (View.whole (κ := .tc) cc0_scratch0).ty.Contents (Elt Ideal)

/-- The first eight rows of a slab hold the rows before the tile. -/
def Tail (P : In) (n : ℕ) (j : Fin 2) (f : Store) (L : List (View.Piece (Elt Ideal) S2x264x1536 .f32)) : Prop :=
  ∀ (q : Fin 8) (ch : Fin 1536), View.read (Elt Ideal) (View.whole cc0_scratch0) ((View.whole cc0_scratch0).writes (Elt Ideal) f L)
    (ix3 j ⟨q, by omega⟩ ch) = (gz P (256 * n + q - 6) (1536 * j + ch) : EReal)

section
variable {P : In} {n c0 : ℕ} {w w0 w1 : FVec Ideal S1x256x1536 .f32} {u : Vec Ideal S1x8x1536 .f32}
  {f : Store} {L : List (View.Piece (Elt Ideal) S2x264x1536 .f32)}

/-- A slab read whole, its tile just stored. -/
theorem slab (j : Fin 2) {off off' : Fin 3 → ℕ} (e : off = ![(j : ℕ), 0, 0]) (e' : off' = ![(j : ℕ), 8, 0]) {inb h inb'}
    (hR : B264.shape.numel = (Slab off inb h).shape.numel) (hc : c0 = 1536 * (j : ℕ)) (H : Put P n c0 w) (hL : Tail P n j f L) :
    Buf P (256 * n) c0 (LoadRect.valAlong hR (View.readAt (Elt Ideal) (View.whole cc0_scratch0) (Slab off inb h)
      ((View.whole cc0_scratch0).writes (Elt Ideal) f (⟨Rect.unit off' ![1, 256, 1536] inb', w⟩ :: L)))) := fun q ch => by
  show View.read (Elt Ideal) (View.whole cc0_scratch0) _ ((Slab off inb h).idx (Shape.reshapeEquiv hR (ix2 q ch))) = _
  rw [slab_idx hR j e]
  subst e' hc
  have hq := q.isLt
  by_cases h8 : (q : ℕ) < 8
  · refine (View.read_writes_cons_unit_of_not_mem _ f _ w L _ rfl 1 (Or.inl (by show (q : ℕ) < 8; exact h8))).trans ?_
    exact hL ⟨q, h8⟩ ch
  · refine (View.read_writes_cons_unit_of_mem _ f _ w L _ (ix3 0 ⟨q - 8, by omega⟩ ch) rfl ?_).trans ?_
    · exact fun a => match a with
        | ⟨0, _⟩ => rfl | ⟨1, _⟩ => show (q : ℕ) = 8 + (q - 8) by omega | ⟨2, _⟩ => (Nat.zero_add _).symm
    rw [H, gz, if_neg (by omega)]
    have e : 256 * n + ((q : ℕ) - 8) = 256 * n + q - 6 - 2 := by omega
    simp only [e]

/-- The second slab's first rows, past the first slab's stores. -/
theorem tail1 {i0 i1} (hL : Tail P n 1 f L) : Tail P n 1 f (⟨Rect.unit ![0, 0, 0] ![1, 8, 1536] i0, u⟩ ::
    ⟨Rect.unit ![0, 8, 0] ![1, 256, 1536] i1, w⟩ :: L) := fun q ch => by
  refine (View.read_writes_cons_unit_of_not_mem _ f _ u _ _ rfl 0 (Or.inr (by show 0 + 1 ≤ 1; omega))).trans ?_
  refine (View.read_writes_cons_unit_of_not_mem _ f _ w _ _ rfl 0 (Or.inr (by show 0 + 1 ≤ 1; omega))).trans ?_
  exact hL q ch

/-- The rows before the first tile are zero after the first point's fill. -/
theorem tail_A (hn : n = 0) (j : Fin 2) {f : Store} : Tail P n j f
    [⟨Rect.unit ![0, 0, 0] ![2, 264, 1536] inb_S2x264x1536_S2x264x1536_0_0_0, k0_pay4 (F := Ideal)⟩] := fun q ch => by
  refine (View.read_writes_cons_unit_of_mem _ _ _ _ _ _ (ix3 j ⟨q, by omega⟩ ch) rfl ?_).trans ?_
  · exact fun a => match a with | ⟨0, _⟩ => (Nat.zero_add _).symm | ⟨1, _⟩ => (Nat.zero_add _).symm | ⟨2, _⟩ => (Nat.zero_add _).symm
  rw [gz, if_pos (by omega)]
  pointwise [k0_pay4]
  rfl

/-- The rows before the tile are what the previous point carried over. -/
theorem tail_B (hn : n ≠ 0) {s : Vec Ideal S2x264x1536 .f32} (H : Halo P (n - 1) s) {f : Store}
    (hf : View.read (Elt Ideal) (View.whole cc0_scratch0) f = s) (j : Fin 2) : Tail P n j f [] := fun q ch => by
  rw [View.writes_nil, hf, H]
  have e : n - 1 + 1 = n := by omega
  rw [e]

theorem Put.last (H : Put P n c0 w) (q : Fin 8) (ch : Fin 1536) : w (ix3 0 ⟨248 + q, by omega⟩ ch)
    = (gz P (256 * (n + 1) + q - 6) (c0 + ch) : EReal) := by
  rw [H, gz, if_neg (by omega)]
  have e : 256 * n + (248 + (q : ℕ)) = 256 * (n + 1) + q - 6 - 2 := by omega
  simp only [e]

/-- What a point leaves carries its own last rows. -/
theorem halo_of (H0 : Put P n 0 w0) (H1 : Put P n 1536 w1) :
    Halo P n (View.canon (Val := Elt Ideal)
      (⟨Rect.unit ![1, 0, 0] ![1, 8, 1536] inb_S2x264x1536_S1x8x1536_1_0_0,
          k0_pay25 ((View.whole cc0_scratch0).readCov (Val := Elt Ideal)
              (⟨Rect.unit ![1, 8, 0] ![1, 256, 1536] inb_S2x264x1536_S1x256x1536_1_8_0, w1⟩ ::
                ⟨Rect.unit ![0, 0, 0] ![1, 8, 1536] inb_S2x264x1536_S1x8x1536_0_0_0,
                  k0_pay14 ((View.whole cc0_scratch0).readCov (Val := Elt Ideal)
                      (⟨Rect.unit ![0, 8, 0] ![1, 256, 1536] inb_S2x264x1536_S1x256x1536_0_8_0, w0⟩ :: L)
                      (Rect.unit ![0, 256, 0] ![1, 8, 1536] inb_S2x264x1536_S1x8x1536_0_256_0).toLoadRect)⟩ ::
                ⟨Rect.unit ![0, 8, 0] ![1, 256, 1536] inb_S2x264x1536_S1x256x1536_0_8_0, w0⟩ :: L)
              (Rect.unit ![1, 256, 0] ![1, 8, 1536] inb_S2x264x1536_S1x8x1536_1_256_0).toLoadRect)⟩ ::
        ⟨Rect.unit ![1, 8, 0] ![1, 256, 1536] inb_S2x264x1536_S1x256x1536_1_8_0, w1⟩ ::
        ⟨Rect.unit ![0, 0, 0] ![1, 8, 1536] inb_S2x264x1536_S1x8x1536_0_0_0,
          k0_pay14 ((View.whole cc0_scratch0).readCov (Val := Elt Ideal)
            (⟨Rect.unit ![0, 8, 0] ![1, 256, 1536] inb_S2x264x1536_S1x256x1536_0_8_0, w0⟩ :: L)
            (Rect.unit ![0, 256, 0] ![1, 8, 1536] inb_S2x264x1536_S1x8x1536_0_256_0).toLoadRect)⟩ ::
        ⟨Rect.unit ![0, 8, 0] ![1, 256, 1536] inb_S2x264x1536_S1x256x1536_0_8_0, w0⟩ :: L)) := fun j q ch => by
  match j with
  | ⟨0, _⟩ =>
    refine (canon_miss _ _ _ 0 (Or.inl (by show 0 < 1; omega))).trans ?_
    refine (canon_miss _ _ _ 0 (Or.inl (by show 0 < 1; omega))).trans ?_
    refine (canon_hit _ _ _ (ix3 0 q ch) ?_).trans ?_
    · exact (fun a => match a with | ⟨0, _⟩ => rfl | ⟨1, _⟩ => (Nat.zero_add _).symm | ⟨2, _⟩ => (Nat.zero_add _).symm)
    rw [View.readCov_eq_canon']
    pointwise [k0_pay14]
    refine (canon_hit _ _ _ (ix3 0 ⟨248 + q, by omega⟩ ch) ?_).trans ?_
    · exact (fun a => match a with | ⟨0, _⟩ => rfl | ⟨1, _⟩ => show 256 + (q : ℕ) = 8 + (248 + q) by omega | ⟨2, _⟩ => (Nat.zero_add _).symm)
    simpa using H0.last q ch
  | ⟨1, _⟩ =>
    refine (canon_hit _ _ _ (ix3 0 q ch) ?_).trans ?_
    · exact (fun a => match a with | ⟨0, _⟩ => rfl | ⟨1, _⟩ => (Nat.zero_add _).symm | ⟨2, _⟩ => (Nat.zero_add _).symm)
    rw [View.readCov_eq_canon']
    pointwise [k0_pay25]
    refine (canon_hit _ _ _ (ix3 0 ⟨248 + q, by omega⟩ ch) ?_).trans ?_
    · exact (fun a => match a with | ⟨0, _⟩ => rfl | ⟨1, _⟩ => show 256 + (q : ℕ) = 8 + (248 + q) by omega | ⟨2, _⟩ => (Nat.zero_add _).symm)
    exact H1.last q ch
end

/-- What one group of 1536 channels from `c0` on works on. -/
structure Grp (P : In) (r0 c0 : ℕ) (b : Vec Ideal S264x1536 .f32) (a2 a1 a0 d : Vec Ideal S1x1536 .f32)
    (u : FVec Ideal S256x1536 .f32) (w : Vec Ideal S1x1536x1024 .bf16) : Prop where
  h : Buf P r0 c0 b
  h2 : Row1 (P.cw 2) c0 a2
  h1 : Row1 (P.cw 1) c0 a1
  h0 : Row1 (P.cw 0) c0 a0
  hd : Row1 P.cb c0 d
  hu : Tile (fun R ch => gu P R (3072 + ch)) r0 c0 u
  hw : ∀ (ch : Fin 1536) (c : Fin 1024), w (ix3 0 ch c) = (P.wd (c0 + ch) c : EReal)

section
variable {P : In} {gf : ℕ → ℝ} {r0 : ℕ} {b0 b1 : Vec Ideal S264x1536 .f32} {a2 a1 a0 d e2 e1 e0 d' : Vec Ideal S1x1536 .f32}
  {u0 u1 : FVec Ideal S256x1536 .f32} {w0 w1 : Vec Ideal S1x1536x1024 .bf16}
  (G0 : Grp P r0 0 b0 a2 a1 a0 d u0 w0) (G1 : Grp P r0 1536 b1 e2 e1 e0 d' u1 w1)

/-- The up projection's four tiles. -/
theorem tile8 {p6 p7 : FVec Ideal S1x1x256x1536 .f32} {g1 : FVec Ideal S256x1536 .f32}
    (h6 : ∀ (r : Fin 256) (ch : Fin 1536), p6 (ix4 0 0 r ch) = (gu P (r0 + r) (0 + ch) : EReal))
    (h7 : ∀ (r : Fin 256) (ch : Fin 1536), p7 (ix4 0 0 r ch) = (gu P (r0 + r) (3072 + (0 + ch)) : EReal))
    (h8 : Tile (gu P) r0 1536 g1) (h9 : Tile (fun R ch => gu P R (3072 + ch)) r0 1536 u1) (h j : Fin 2) (r : Fin 256) (ch : Fin 1536) :
    View.canon (Val := Elt Ideal) (s := S2x2x256x1536) (e := .f32)
      [⟨Rect.unit ![1, 1, 0, 0] ![1, 1, 256, 1536] inb_S2x2x256x1536_S1x1x256x1536_1_1_0_0, k0_pay21 u1⟩,
        ⟨Rect.unit ![0, 1, 0, 0] ![1, 1, 256, 1536] inb_S2x2x256x1536_S1x1x256x1536_0_1_0_0, k0_pay20 g1⟩,
        ⟨Rect.unit ![1, 0, 0, 0] ![1, 1, 256, 1536] inb_S2x2x256x1536_S1x1x256x1536_1_0_0_0, p7⟩,
        ⟨Rect.unit ![0, 0, 0, 0] ![1, 1, 256, 1536] inb_S2x2x256x1536_S1x1x256x1536_0_0_0_0, p6⟩]
      (ix4 h j r ch) = (gu P (r0 + r) (3072 * h + 1536 * j + ch) : EReal) := by
  match h, j with
  | ⟨1, _⟩, ⟨1, _⟩ =>
    refine (canon_hit _ _ _ (ix4 0 0 r ch) ?_).trans ?_
    · exact fun a => match a with
      | ⟨0, _⟩ => rfl | ⟨1, _⟩ => rfl | ⟨2, _⟩ => (Nat.zero_add _).symm | ⟨3, _⟩ => (Nat.zero_add _).symm
    pointwise [k0_pay21]
    rw [h9]
    have e : 3072 + (1536 + (ch : ℕ)) = 4608 + ch := by omega
    simp only [e]
  | ⟨0, _⟩, ⟨1, _⟩ =>
    refine (canon_miss _ _ _ 0 (Or.inl (by show 0 < 1; omega))).trans ?_
    refine (canon_hit _ _ _ (ix4 0 0 r ch) ?_).trans ?_
    · exact fun a => match a with
      | ⟨0, _⟩ => rfl | ⟨1, _⟩ => rfl | ⟨2, _⟩ => (Nat.zero_add _).symm | ⟨3, _⟩ => (Nat.zero_add _).symm
    pointwise [k0_pay20]
    rw [h8]
  | ⟨1, _⟩, ⟨0, _⟩ =>
    refine (canon_miss _ _ _ 1 (Or.inl (by show 0 < 1; omega))).trans ?_
    refine (canon_miss _ _ _ 1 (Or.inl (by show 0 < 1; omega))).trans ?_
    refine (canon_hit _ _ _ (ix4 0 0 r ch) ?_).trans ?_
    · exact fun a => match a with
      | ⟨0, _⟩ => rfl | ⟨1, _⟩ => rfl | ⟨2, _⟩ => (Nat.zero_add _).symm | ⟨3, _⟩ => (Nat.zero_add _).symm
    rw [h7]
    have e : 3072 + (0 + (ch : ℕ)) = 3072 * 1 + 1536 * 0 + ch := by omega
    rw [e]
  | ⟨0, _⟩, ⟨0, _⟩ =>
    refine (canon_miss _ _ _ 1 (Or.inl (by show 0 < 1; omega))).trans ?_
    refine (canon_miss _ _ _ 1 (Or.inl (by show 0 < 1; omega))).trans ?_
    refine (canon_miss _ _ _ 0 (Or.inl (by show 0 < 1; omega))).trans ?_
    refine (canon_hit _ _ _ (ix4 0 0 r ch) ?_).trans ?_
    · exact fun a => match a with
      | ⟨0, _⟩ => rfl | ⟨1, _⟩ => rfl | ⟨2, _⟩ => (Nat.zero_add _).symm | ⟨3, _⟩ => (Nat.zero_add _).symm
    rw [h6]
    refine congrArg (fun n => (gu P (r0 + r) n : EReal)) ?_
    show 0 + (ch : ℕ) = 3072 * 0 + 1536 * 0 + ch
    omega

include G1 in
theorem act1 : Tile (act P) r0 1536 (k0_pay26 (F := Ideal) u1 b1 (k0_pay23 b1) (k0_pay24 b1) e2 e1 e0 d') := by
  rw [pay26_eq]; exact pay17_at G1.h G1.h2 G1.h1 G1.h0 G1.hd G1.hu

include G0 G1

/-- The activation's two tiles. -/
theorem tile9 (j : Fin 2) (r : Fin 256) (ch : Fin 1536) :
    View.canon (Val := Elt Ideal) (s := S2x256x1536) (e := .bf16)
      [⟨Rect.unit ![1, 0, 0] ![1, 256, 1536] inb_S2x256x1536_S1x256x1536_1_0_0, k0_pay27 u1 b1 (k0_pay23 b1) (k0_pay24 b1) e2 e1 e0 d'⟩,
        ⟨Rect.unit ![0, 0, 0] ![1, 256, 1536] inb_S2x256x1536_S1x256x1536_0_0_0,
          k0_pay18 u0 (k0_pay13 b0 a2 a1 a0 d) (k0_pay15 b0 a2 a1 a0 d) k0_pay16⟩]
      (ix3 j r ch) = (act P (r0 + r) (1536 * j + ch) : EReal) := by
  match j with
  | ⟨1, _⟩ =>
    refine (canon_hit _ _ _ (ix3 0 r ch) ?_).trans ?_
    · exact fun a => match a with | ⟨0, _⟩ => rfl | ⟨1, _⟩ => (Nat.zero_add _).symm | ⟨2, _⟩ => (Nat.zero_add _).symm
    rw [pay27_eq]
    pointwise [k0_pay18]
    exact pay17_at G1.h G1.h2 G1.h1 G1.h0 G1.hd G1.hu r ch
  | ⟨0, _⟩ =>
    refine (canon_miss _ _ _ 0 (Or.inl (by show 0 < 1; omega))).trans ?_
    refine (canon_hit _ _ _ (ix3 0 r ch) ?_).trans ?_
    · exact fun a => match a with | ⟨0, _⟩ => rfl | ⟨1, _⟩ => (Nat.zero_add _).symm | ⟨2, _⟩ => (Nat.zero_add _).symm
    pointwise [k0_pay18]
    refine (pay17_at G0.h G0.h2 G0.h1 G0.h0 G0.hd G0.hu r ch).trans ?_
    rw [Nat.zero_add]

variable {x t : Vec Ideal S256x1024 .f32} {g : Vec Ideal S1x1024 .f32} (hx : Wide (φ := .f32) P.x r0 x) (hg : Row gf g) (ht : Wide (φ := .f32) P.dx r0 t)
include hx hg ht

theorem row11 (acc : Vec Ideal S1x1024 .f32) (c : Fin 1024) :
    k0_pay32 (F := Ideal) (k0_pay19 x u0 (k0_pay13 b0 a2 a1 a0 d) (k0_pay15 b0 a2 a1 a0 d) k0_pay16 w0)
      (k0_pay26 u1 b1 (k0_pay23 b1) (k0_pay24 b1) e2 e1 e0 d') w1 g t acc (ix2 0 c)
      = acc (ix2 0 c) + (tsum (fun R c => diff P gf R c * diff P gf R c * (1 / 2048)) r0 c : EReal) :=
  pay32_at (pay19_at G0.h G0.h2 G0.h1 G0.h0 G0.hd G0.hu hx G0.hw) (act1 G1) G1.hw hg ht acc c

theorem row12 (acc : Vec Ideal S1x1024 .f32) (c : Fin 1024) :
    k0_pay34 (F := Ideal) (k0_pay19 x u0 (k0_pay13 b0 a2 a1 a0 d) (k0_pay15 b0 a2 a1 a0 d) k0_pay16 w0)
      (k0_pay26 u1 b1 (k0_pay23 b1) (k0_pay24 b1) e2 e1 e0 d') w1 g t acc (ix2 0 c)
      = acc (ix2 0 c) + (tsum (fun R c => dy P gf R c * xh (Q P gf) R c) r0 c : EReal) :=
  pay34_at (pay19_at G0.h G0.h2 G0.h1 G0.h0 G0.hd G0.hu hx G0.hw) (act1 G1) G1.hw hg ht acc c

theorem tile10 (r : Fin 256) (c : Fin 1024) :
    k0_pay1 (F := Ideal)
      (k0_pay29 (k0_pay19 x u0 (k0_pay13 b0 a2 a1 a0 d) (k0_pay15 b0 a2 a1 a0 d) k0_pay16 w0)
        (k0_pay26 u1 b1 (k0_pay23 b1) (k0_pay24 b1) e2 e1 e0 d') w1)
      (k0_pay30 (k0_pay19 x u0 (k0_pay13 b0 a2 a1 a0 d) (k0_pay15 b0 a2 a1 a0 d) k0_pay16 w0)
        (k0_pay26 u1 b1 (k0_pay23 b1) (k0_pay24 b1) e2 e1 e0 d') w1) g
      (k0_pay33 (k0_pay19 x u0 (k0_pay13 b0 a2 a1 a0 d) (k0_pay15 b0 a2 a1 a0 d) k0_pay16 w0)
        (k0_pay26 u1 b1 (k0_pay23 b1) (k0_pay24 b1) e2 e1 e0 d') w1 g t) (ix2 r c) = (dx3 P gf (r0 + r) c : EReal) :=
  pay1_at (pay19_at G0.h G0.h2 G0.h1 G0.h0 G0.hd G0.hu hx G0.hw) (act1 G1) G1.hw hg ht r c
end

section
variable {P : In} {gf : ℕ → ℝ} {n : ℕ} {x0 : Vec Ideal S256x1024 .bf16} {x1 : Vec Ideal S4x1024x1536 .bf16} {x2 : Vec Ideal S3x3072 .f32}
    {x3 : Vec Ideal S1x3072 .f32} {x4 : Vec Ideal S2x1536x1024 .bf16} {x5 : Vec Ideal S256x1024 .f32} {x6 : Vec Ideal S1x1024 .f32}
    {x7 : Vec Ideal S256x1024 .f32} (H : Ops P gf (256 * n) x0 x1 x2 x3 x4 x5 x6 x7)
include H

theorem gate0 : Tile (gu P) (256 * n) 0 (k0_pay6 (F := Ideal) x0
    (View.ld x1 (Rect.unit ![0, 0, 0] ![1, 1024, 1536] inb_S4x1024x1536_S1x1024x1536_0_0_0))) :=
  pay6_at H.h fun c ch => by pointwise; simpa using H.wu 0 c ch
theorem gate1 : Tile (gu P) (256 * n) 1536 (k0_pay8 (F := Ideal) x0
    (View.ld x1 (Rect.unit ![1, 0, 0] ![1, 1024, 1536] inb_S4x1024x1536_S1x1024x1536_1_0_0))) :=
  pay6_at H.h fun c ch => by pointwise; simpa using H.wu 1 c ch
theorem up0 : Tile (fun R ch => gu P R (3072 + ch)) (256 * n) 0 (k0_pay7 (F := Ideal) x0
    (View.ld x1 (Rect.unit ![2, 0, 0] ![1, 1024, 1536] inb_S4x1024x1536_S1x1024x1536_2_0_0))) :=
  upper (pay6_at H.h fun c ch => by pointwise; simpa using H.wu 2 c ch)
theorem up1 : Tile (fun R ch => gu P R (3072 + ch)) (256 * n) 1536 (k0_pay9 (F := Ideal) x0
    (View.ld x1 (Rect.unit ![3, 0, 0] ![1, 1024, 1536] inb_S4x1024x1536_S1x1024x1536_3_0_0))) :=
  upper (pay6_at H.h fun c ch => by pointwise; simpa using H.wu 3 c ch)

theorem put0 : Put P n 0 (k0_pay12 (F := Ideal) (k0_pay6 x0
    (View.ld x1 (Rect.unit ![0, 0, 0] ![1, 1024, 1536] inb_S4x1024x1536_S1x1024x1536_0_0_0)))) := fun r ch => by
  pointwise [k0_pay12]; simpa using gate0 H r ch
theorem put1 : Put P n 1536 (k0_pay22 (F := Ideal) (k0_pay8 x0
    (View.ld x1 (Rect.unit ![1, 0, 0] ![1, 1024, 1536] inb_S4x1024x1536_S1x1024x1536_1_0_0)))) := fun r ch => by
  pointwise [k0_pay22]; exact gate1 H r ch

theorem grp0 {b : Vec Ideal S264x1536 .f32} (hb : Buf P (256 * n) 0 b) : Grp P (256 * n) 0 b
    (View.ld x2 (Rect.unit ![2, 0] ![1, 1536] inb_S3x3072_S1x1536_2_0))
    (View.ld x2 (Rect.unit ![1, 0] ![1, 1536] inb_S3x3072_S1x1536_1_0))
    (View.ld x2 (Rect.unit ![0, 0] ![1, 1536] inb_S3x3072_S1x1536_0_0))
    (View.ld x3 (Rect.unit ![0, 0] ![1, 1536] inb_S1x3072_S1x1536_0_0))
    (k0_pay7 x0 (View.ld x1 (Rect.unit ![2, 0, 0] ![1, 1024, 1536] inb_S4x1024x1536_S1x1024x1536_2_0_0)))
    (View.ld x4 (Rect.unit ![0, 0, 0] ![1, 1536, 1024] inb_S2x1536x1024_S1x1536x1024_0_0_0)) where
  h := hb
  h2 ch := by pointwise; simpa using H.cw 2 ⟨ch, by omega⟩
  h1 ch := by pointwise; simpa using H.cw 1 ⟨ch, by omega⟩
  h0 ch := by pointwise; simpa using H.cw 0 ⟨ch, by omega⟩
  hd ch := by pointwise; simpa using H.cb ⟨ch, by omega⟩
  hu := up0 H
  hw ch c := by pointwise; simpa using H.wd 0 ch c

theorem grp1 {b : Vec Ideal S264x1536 .f32} (hb : Buf P (256 * n) 1536 b) : Grp P (256 * n) 1536 b
    (View.ld x2 (Rect.unit ![2, 1536] ![1, 1536] inb_S3x3072_S1x1536_2_1536))
    (View.ld x2 (Rect.unit ![1, 1536] ![1, 1536] inb_S3x3072_S1x1536_1_1536))
    (View.ld x2 (Rect.unit ![0, 1536] ![1, 1536] inb_S3x3072_S1x1536_0_1536))
    (View.ld x3 (Rect.unit ![0, 1536] ![1, 1536] inb_S1x3072_S1x1536_0_1536))
    (k0_pay9 x0 (View.ld x1 (Rect.unit ![3, 0, 0] ![1, 1024, 1536] inb_S4x1024x1536_S1x1024x1536_3_0_0)))
    (View.ld x4 (Rect.unit ![1, 0, 0] ![1, 1536, 1024] inb_S2x1536x1024_S1x1536x1024_1_0_0)) where
  h := hb
  h2 ch := by pointwise; simpa using H.cw 2 ⟨1536 + ch, by omega⟩
  h1 ch := by pointwise; simpa using H.cw 1 ⟨1536 + ch, by omega⟩
  h0 ch := by pointwise; simpa using H.cw 0 ⟨1536 + ch, by omega⟩
  hd ch := by pointwise; simpa using H.cb ⟨1536 + ch, by omega⟩
  hu := up1 H
  hw ch c := by pointwise; simpa using H.wd 1 ch c

theorem out8_at (h j : Fin 2) (r : Fin 256) (ch : Fin 1536) :
    View.canon (Val := Elt Ideal) (s := S2x2x256x1536) (e := .f32)
      [⟨Rect.unit ![1, 1, 0, 0] ![1, 1, 256, 1536] inb_S2x2x256x1536_S1x1x256x1536_1_1_0_0, k0_pay21 (k0_pay9 x0
          (View.ld x1 (Rect.unit ![3, 0, 0] ![1, 1024, 1536] inb_S4x1024x1536_S1x1024x1536_3_0_0)))⟩,
        ⟨Rect.unit ![0, 1, 0, 0] ![1, 1, 256, 1536] inb_S2x2x256x1536_S1x1x256x1536_0_1_0_0, k0_pay20 (k0_pay8 x0
          (View.ld x1 (Rect.unit ![1, 0, 0] ![1, 1024, 1536] inb_S4x1024x1536_S1x1024x1536_1_0_0)))⟩,
        ⟨Rect.unit ![1, 0, 0, 0] ![1, 1, 256, 1536] inb_S2x2x256x1536_S1x1x256x1536_1_0_0_0, k0_pay11 x0
          (View.ld x1 (Rect.unit ![2, 0, 0] ![1, 1024, 1536] inb_S4x1024x1536_S1x1024x1536_2_0_0))⟩,
        ⟨Rect.unit ![0, 0, 0, 0] ![1, 1, 256, 1536] inb_S2x2x256x1536_S1x1x256x1536_0_0_0_0, k0_pay10 x0
          (View.ld x1 (Rect.unit ![0, 0, 0] ![1, 1024, 1536] inb_S4x1024x1536_S1x1024x1536_0_0_0))⟩]
      (ix4 h j r ch) = (gu P (256 * n + r) (3072 * h + 1536 * j + ch) : EReal) :=
  tile8 (fun r ch => by pointwise [k0_pay10]; simpa using gate0 H r ch) (fun r ch => by pointwise [k0_pay11]; simpa using up0 H r ch)
    (gate1 H) (up1 H) h j r ch
end

end Cert.Fwd
-- ==== Proof.Fwd.Step.lean ====
/- The outputs of the forward kernel after one grid point, from the values after the one before. -/
module
public import Idealize.ShloMosaic.Lib.Pipeline.ReadBack
public import proofs.«01_k».proof.Proof.Gen.KernelFwdIdeal.Value
public import proofs.«01_k».proof.Proof.Fwd.Point
@[expose] public section
set_option maxRecDepth 16384
noncomputable section
open Idealize.ShloMosaic Idealize.ShloMosaic.TcCoe Idealize.SL.Sem
open Idealize.ShloMosaic.Pipeline (Dat)
open Cert.KernelFwdIdeal Cert.KernelFwdIdeal.Gen

namespace Cert.Fwd
open Cert.Ffn (In xh gu)

variable (m : (ℓ : Loc nD τ sig) → Idealize.ShloMosaic.Buf (Elt Ideal) ℓ) {P : In} {gf : ℕ → ℝ}
  (c : Dev nD) (t : Fin cfg0.N) (H : OpsAt m P gf c t)
include H

/-- What the point before left in the gate buffer. -/
abbrev Before (m : (ℓ : Loc nD τ sig) → Idealize.ShloMosaic.Buf (Elt Ideal) ℓ) (P : In) (c : Dev nD) (t : Fin cfg0.N) : Prop :=
  Halo P (t.val - 1) (outsAt0 m c (t.val - 1) (Nat.lt_of_le_of_lt (Nat.sub_le _ _) t.isLt)).2.2.2.2.2

set_option maxHeartbeats 1600000 in
theorem halo_A (h : t.val % 32 = 0) : Halo P t.val (outsAt0 m c t.val t.isLt).2.2.2.2.2 := by
  rw [outsAt0_A m c t h]; dsimp only; frame_out
  exact halo_of (put0 H) (put1 H)

set_option maxHeartbeats 1600000 in
theorem halo_B (h : ¬t.val % 32 = 0) : Halo P t.val (outsAt0 m c t.val t.isLt).2.2.2.2.2 := by
  rw [outsAt0_B m c t h]; dsimp only; frame_out
  exact halo_of (put0 H) (put1 H)

set_option maxHeartbeats 3200000 in
theorem out8_A (h : t.val % 32 = 0) (k j : Fin 2) (r : Fin 256) (ch : Fin 1536) :
    (outsAt0 m c t.val t.isLt).1 (ix4 k j r ch) = (gu P (256 * t.val + r) (3072 * k + 1536 * j + ch) : EReal) := by
  rw [outsAt0_A m c t h]; dsimp only; frame_out
  exact out8_at H k j r ch

set_option maxHeartbeats 3200000 in
theorem out8_B (h : ¬t.val % 32 = 0) (k j : Fin 2) (r : Fin 256) (ch : Fin 1536) :
    (outsAt0 m c t.val t.isLt).1 (ix4 k j r ch) = (gu P (256 * t.val + r) (3072 * k + 1536 * j + ch) : EReal) := by
  rw [outsAt0_B m c t h]; dsimp only; frame_out
  exact out8_at H k j r ch

set_option maxHeartbeats 3200000 in
theorem out9_A (h : t.val % 32 = 0) (j : Fin 2) (r : Fin 256) (ch : Fin 1536) :
    (outsAt0 m c t.val t.isLt).2.1 (ix3 j r ch) = (act P (256 * t.val + r) (1536 * j + ch) : EReal) := by
  have h0 : t.val = 0 := by have := t_lt t; omega
  rw [outsAt0_A m c t h]; dsimp only; frame_out
  exact tile9 (grp0 H (slab 0 rfl rfl _ rfl (put0 H) (tail_A h0 0))) (grp1 H (slab 1 rfl rfl _ rfl (put1 H) (tail1 (tail_A h0 1)))) j r ch

set_option maxHeartbeats 3200000 in
theorem out9_B (h : ¬t.val % 32 = 0) (hH : Before m P c t) (j : Fin 2) (r : Fin 256) (ch : Fin 1536) :
    (outsAt0 m c t.val t.isLt).2.1 (ix3 j r ch) = (act P (256 * t.val + r) (1536 * j + ch) : EReal) := by
  have h0 : t.val ≠ 0 := by intro e; apply h; rw [e]
  rw [outsAt0_B m c t h]; dsimp only; frame_out
  exact tile9 (grp0 H (slab 0 rfl rfl _ rfl (put0 H) (tail_B h0 hH (read_unread_whole _ _ _) 0)))
    (grp1 H (slab 1 rfl rfl _ rfl (put1 H) (tail1 (tail_B h0 hH (read_unread_whole _ _ _) 1)))) j r ch

set_option maxHeartbeats 3200000 in
theorem out10_A (h : t.val % 32 = 0) (r : Fin 256) (k : Fin 1024) :
    (outsAt0 m c t.val t.isLt).2.2.1 (ix2 r k) = (dx3 P gf (256 * t.val + r) k : EReal) := by
  have h0 : t.val = 0 := by have := t_lt t; omega
  rw [outsAt0_A m c t h]; dsimp only; frame_out
  exact tile10 (grp0 H (slab 0 rfl rfl _ rfl (put0 H) (tail_A h0 0))) (grp1 H (slab 1 rfl rfl _ rfl (put1 H) (tail1 (tail_A h0 1))))
    H.x H.gf H.tg r k

set_option maxHeartbeats 3200000 in
theorem out10_B (h : ¬t.val % 32 = 0) (hH : Before m P c t) (r : Fin 256) (k : Fin 1024) :
    (outsAt0 m c t.val t.isLt).2.2.1 (ix2 r k) = (dx3 P gf (256 * t.val + r) k : EReal) := by
  have h0 : t.val ≠ 0 := by intro e; apply h; rw [e]
  rw [outsAt0_B m c t h]; dsimp only; frame_out
  exact tile10 (grp0 H (slab 0 rfl rfl _ rfl (put0 H) (tail_B h0 hH (read_unread_whole _ _ _) 0)))
    (grp1 H (slab 1 rfl rfl _ rfl (put1 H) (tail1 (tail_B h0 hH (read_unread_whole _ _ _) 1)))) H.x H.gf H.tg r k

set_option maxHeartbeats 3200000 in
theorem out11_A (h : t.val % 32 = 0) (k : Fin 1024) :
    (outsAt0 m c t.val t.isLt).2.2.2.1 (ix2 0 k)
      = (Cert.Ffn.tsum (fun R c => diff P gf R c * diff P gf R c * (1 / 2048)) (256 * t.val) k : EReal) := by
  have h0 : t.val = 0 := by have := t_lt t; omega
  rw [outsAt0_A m c t h]; dsimp only; frame_out
  refine (row11 (grp0 H (slab 0 rfl rfl _ rfl (put0 H) (tail_A h0 0))) (grp1 H (slab 1 rfl rfl _ rfl (put1 H) (tail1 (tail_A h0 1))))
    H.x H.gf H.tg _ k).trans ?_
  pointwise [k0_pay2]

set_option maxHeartbeats 3200000 in
theorem out11_B (h : ¬t.val % 32 = 0) (hH : Before m P c t) (k : Fin 1024) :
    (outsAt0 m c t.val t.isLt).2.2.2.1 (ix2 0 k) = (outsAt0 m c (t.val - 1) (Nat.lt_of_le_of_lt (Nat.sub_le _ _) t.isLt)).2.2.2.1 (ix2 0 k)
      + (Cert.Ffn.tsum (fun R c => diff P gf R c * diff P gf R c * (1 / 2048)) (256 * t.val) k : EReal) := by
  have h0 : t.val ≠ 0 := by intro e; apply h; rw [e]
  rw [outsAt0_B m c t h]; dsimp only; frame_out
  exact row11 (grp0 H (slab 0 rfl rfl _ rfl (put0 H) (tail_B h0 hH (read_unread_whole _ _ _) 0)))
    (grp1 H (slab 1 rfl rfl _ rfl (put1 H) (tail1 (tail_B h0 hH (read_unread_whole _ _ _) 1)))) H.x H.gf H.tg _ k

set_option maxHeartbeats 3200000 in
theorem out12_A (h : t.val % 32 = 0) (k : Fin 1024) :
    (outsAt0 m c t.val t.isLt).2.2.2.2.1 (ix2 0 k) = (Cert.Ffn.tsum (fun R c => dy P gf R c * xh (Q P gf) R c) (256 * t.val) k : EReal) := by
  have h0 : t.val = 0 := by have := t_lt t; omega
  rw [outsAt0_A m c t h]; dsimp only; frame_out
  refine (row12 (grp0 H (slab 0 rfl rfl _ rfl (put0 H) (tail_A h0 0))) (grp1 H (slab 1 rfl rfl _ rfl (put1 H) (tail1 (tail_A h0 1))))
    H.x H.gf H.tg _ k).trans ?_
  pointwise [k0_pay3]

set_option maxHeartbeats 3200000 in
theorem out12_B (h : ¬t.val % 32 = 0) (hH : Before m P c t) (k : Fin 1024) :
    (outsAt0 m c t.val t.isLt).2.2.2.2.1 (ix2 0 k) = (outsAt0 m c (t.val - 1) (Nat.lt_of_le_of_lt (Nat.sub_le _ _) t.isLt)).2.2.2.2.1 (ix2 0 k)
      + (Cert.Ffn.tsum (fun R c => dy P gf R c * xh (Q P gf) R c) (256 * t.val) k : EReal) := by
  have h0 : t.val ≠ 0 := by intro e; apply h; rw [e]
  rw [outsAt0_B m c t h]; dsimp only; frame_out
  exact row12 (grp0 H (slab 0 rfl rfl _ rfl (put0 H) (tail_B h0 hH (read_unread_whole _ _ _) 0)))
    (grp1 H (slab 1 rfl rfl _ rfl (put1 H) (tail1 (tail_B h0 hH (read_unread_whole _ _ _) 1)))) H.x H.gf H.tg _ k

end Cert.Fwd
-- ==== Proof.Fwd.Arr.lean ====
/- The forward kernel's output arrays after the run. -/
module
public import proofs.«01_k».proof.Proof.Fwd.Step
@[expose] public section
set_option maxRecDepth 16384
noncomputable section
open Idealize.ShloMosaic Idealize.ShloMosaic.TcCoe Idealize.SL.Sem
open Idealize.ShloMosaic.Pipeline (Dat)
open Cert.KernelFwdIdeal Cert.KernelFwdIdeal.Gen

namespace Cert.Fwd
open Cert.Ffn (In xh gu coe_sum)

/-- The tiles make up all the rows. -/
theorem tsum_all (f : ℕ → ℕ → ℝ) (ch : ℕ) :
    ∑ s : Fin 32, (Cert.Ffn.tsum f (256 * s) ch : EReal) = ((∑ R : Fin 8192, f R ch : ℝ) : EReal) := by
  rw [← coe_sum]
  refine congrArg _ ?_
  unfold Cert.Ffn.tsum
  refine Fin.sum_mul_add_congr (n := 256) fun s k hl => ?_
  rw [Nat.mul_comm]

theorem eta4 {a b c d : ℕ} (y : (⟨4, ![a, b, c, d]⟩ : Shape).Idx) : y = ix4 (y 0) (y 1) (y 2) (y 3) :=
  funext fun a => match a with | ⟨0, _⟩ => rfl | ⟨1, _⟩ => rfl | ⟨2, _⟩ => rfl | ⟨3, _⟩ => rfl
theorem eta3 {a b c : ℕ} (y : (⟨3, ![a, b, c]⟩ : Shape).Idx) : y = ix3 (y 0) (y 1) (y 2) :=
  funext fun a => match a with | ⟨0, _⟩ => rfl | ⟨1, _⟩ => rfl | ⟨2, _⟩ => rfl
theorem eta2 {a b : ℕ} (y : (⟨2, ![a, b]⟩ : Shape).Idx) : y = ix2 (y 0) (y 1) :=
  funext fun a => match a with | ⟨0, _⟩ => rfl | ⟨1, _⟩ => rfl
theorem eta1 {b : ℕ} (y : (⟨2, ![1, b]⟩ : Shape).Idx) : y = ix2 0 (y 1) :=
  funext fun a => match a with | ⟨0, _⟩ => Subsingleton.elim (α := Fin 1) _ _ | ⟨1, _⟩ => rfl

theorem idx_out : ∀ t : Fin cfg0.N, win0_8.index t = ![0, 0, t.val, 0] ∧ win0_9.index t = ![0, t.val, 0]
    ∧ win0_10.index t = ![t.val, 0] ∧ win0_11.index t = ![0, 0] ∧ win0_12.index t = ![0, 0] :=
  (by decide +kernel : ∀ t : Fin grid0.N, _)

variable (m : (ℓ : Loc nD τ sig) → Idealize.ShloMosaic.Buf (Elt Ideal) ℓ) {P : In} {gf : ℕ → ℝ} (c : Dev nD)
  (H : ∀ t : Fin cfg0.N, OpsAt m P gf c t)
include H

theorem halo_all (n : ℕ) (hn : n < cfg0.N) : Halo P n (outsAt0 m c n hn).2.2.2.2.2 := by
  by_cases h : (⟨n, hn⟩ : Fin cfg0.N).val % 32 = 0
  · exact halo_A m c ⟨n, hn⟩ (H _) h
  · exact halo_B m c ⟨n, hn⟩ (H _) h

theorem out8_all (t : Fin cfg0.N) (k j : Fin 2) (r : Fin 256) (ch : Fin 1536) :
    (outsAt0 m c t.val t.isLt).1 (ix4 k j r ch) = (gu P (256 * t.val + r) (3072 * k + 1536 * j + ch) : EReal) := by
  by_cases h : t.val % 32 = 0
  · exact out8_A m c t (H t) h k j r ch
  · exact out8_B m c t (H t) h k j r ch

theorem out9_all (t : Fin cfg0.N) (j : Fin 2) (r : Fin 256) (ch : Fin 1536) :
    (outsAt0 m c t.val t.isLt).2.1 (ix3 j r ch) = (act P (256 * t.val + r) (1536 * j + ch) : EReal) := by
  by_cases h : t.val % 32 = 0
  · exact out9_A m c t (H t) h j r ch
  · exact out9_B m c t (H t) h (halo_all m c H _ _) j r ch

theorem out10_all (t : Fin cfg0.N) (r : Fin 256) (k : Fin 1024) :
    (outsAt0 m c t.val t.isLt).2.2.1 (ix2 r k) = (dx3 P gf (256 * t.val + r) k : EReal) := by
  by_cases h : t.val % 32 = 0
  · exact out10_A m c t (H t) h r k
  · exact out10_B m c t (H t) h (halo_all m c H _ _) r k

theorem out11_last (t : Fin cfg0.N) (ht : t.val % 32 = 31) (k : Fin 1024) :
    (outsAt0 m c t.val t.isLt).2.2.2.1 (ix2 0 k) = (loss P gf k : EReal) := by
  have h := Pipeline.eq_sum_fin_of_reset_step_apply_of_flush (fun n h (k : Fin 1024) => ((outsAt0 m c n h).2.2.2.1 (ix2 0 k) : EReal)) 32
    (fun _ => 0) (fun t k => (Cert.Ffn.tsum (fun R c => diff P gf R c * diff P gf R c * (1 / 2048)) (256 * t.val) k : EReal))
    (fun t h i => (out11_A m c t (H t) h i).trans (zero_add _).symm) (fun t h i => out11_B m c t (H t) h (halo_all m c H _ _) i) t ht k
  have e : 32 * (t.val / 32) = 0 := by have := t_lt t; omega
  simp only [e, Nat.zero_add, zero_add] at h
  exact h.trans (tsum_all _ _)

theorem out12_last (t : Fin cfg0.N) (ht : t.val % 32 = 31) (k : Fin 1024) :
    (outsAt0 m c t.val t.isLt).2.2.2.2.1 (ix2 0 k) = (dgf P gf k : EReal) := by
  have h := Pipeline.eq_sum_fin_of_reset_step_apply_of_flush (fun n h (k : Fin 1024) => ((outsAt0 m c n h).2.2.2.2.1 (ix2 0 k) : EReal)) 32
    (fun _ => 0) (fun t k => (Cert.Ffn.tsum (fun R c => dy P gf R c * xh (Q P gf) R c) (256 * t.val) k : EReal))
    (fun t h i => (out12_A m c t (H t) h i).trans (zero_add _).symm) (fun t h i => out12_B m c t (H t) h (halo_all m c H _ _) i) t ht k
  have e : 32 * (t.val / 32) = 0 := by have := t_lt t; omega
  simp only [e, Nat.zero_add, zero_add] at h
  exact h.trans (tsum_all _ _)

/-! ### The arrays -/

theorem arr8 : (dats m 0 c).arrAt 8 cfg0.N = fun i => (gu P (i 2) (3072 * (i 0 : ℕ) + 1536 * (i 1 : ℕ) + i 3) : EReal) := by
  refine (dats m 0 c).arrAt_eq_of_covers 8 _ (by decide +kernel) fun t hf y => ?_
  blk_simp
  rw [after0_8]
  refine (congrArg _ (eta4 y)).trans ((out8_all m c H t (y 0) (y 1) (y 2) (y 3)).trans ?_)
  rw [(idx_out t).1]
  refine congrArg _ ?_
  show gu P (256 * t.val + (y 2 : ℕ)) (3072 * (y 0 : ℕ) + 1536 * (y 1 : ℕ) + (y 3 : ℕ))
    = gu P (t.val * 256 + (y 2 : ℕ)) (3072 * (0 * 2 + (y 0 : ℕ)) + 1536 * (0 * 2 + (y 1 : ℕ)) + (0 * 1536 + (y 3 : ℕ)))
  simp only [Nat.zero_mul, Nat.zero_add, Nat.mul_comm]

theorem arr9 : (dats m 0 c).arrAt 9 cfg0.N = fun i => (act P (i 1) (1536 * (i 0 : ℕ) + i 2) : EReal) := by
  refine (dats m 0 c).arrAt_eq_of_covers 9 _ (by decide +kernel) fun t hf y => ?_
  blk_simp
  rw [after0_9]
  refine (congrArg _ (eta3 y)).trans ((out9_all m c H t (y 0) (y 1) (y 2)).trans ?_)
  rw [(idx_out t).2.1]
  refine congrArg _ ?_
  show act P (256 * t.val + (y 1 : ℕ)) (1536 * (y 0 : ℕ) + (y 2 : ℕ))
    = act P (t.val * 256 + (y 1 : ℕ)) (1536 * (0 * 2 + (y 0 : ℕ)) + (0 * 1536 + (y 2 : ℕ)))
  simp only [Nat.zero_mul, Nat.zero_add, Nat.mul_comm]

theorem arr10 : (dats m 0 c).arrAt 10 cfg0.N = fun i => (dx3 P gf (i 0) (i 1) : EReal) := by
  refine (dats m 0 c).arrAt_eq_of_covers 10 _ (by decide +kernel) fun t hf y => ?_
  blk_simp
  rw [after0_10]
  refine (congrArg _ (eta2 y)).trans ((out10_all m c H t (y 0) (y 1)).trans ?_)
  rw [(idx_out t).2.2.1]
  refine congrArg _ ?_
  show dx3 P gf (256 * t.val + (y 0 : ℕ)) (y 1) = dx3 P gf (t.val * 256 + (y 0 : ℕ)) (0 * 1024 + (y 1 : ℕ))
  simp only [Nat.zero_mul, Nat.zero_add, Nat.mul_comm]

theorem arr11 : (dats m 0 c).arrAt 11 cfg0.N = fun i => (loss P gf (i 1) : EReal) := by
  refine (dats m 0 c).arrAt_eq_of_covers 11 _ (by decide +kernel) fun t hf y => ?_
  blk_simp
  rw [after0_11]
  refine (congrArg _ (eta1 y)).trans ((out11_last m c H t ((flush0_11 t).mp hf) (y 1)).trans ?_)
  rw [(idx_out t).2.2.2.1]
  refine congrArg _ ?_
  show loss P gf (y 1) = loss P gf (0 * 1024 + (y 1 : ℕ))
  simp only [Nat.zero_mul, Nat.zero_add]

theorem arr12 : (dats m 0 c).arrAt 12 cfg0.N = fun i => (dgf P gf (i 1) : EReal) := by
  refine (dats m 0 c).arrAt_eq_of_covers 12 _ (by decide +kernel) fun t hf y => ?_
  blk_simp
  rw [after0_12]
  refine (congrArg _ (eta1 y)).trans ((out12_last m c H t ((flush0_12 t).mp hf) (y 1)).trans ?_)
  rw [(idx_out t).2.2.2.2]
  refine congrArg _ ?_
  show dgf P gf (y 1) = dgf P gf (0 * 1024 + (y 1 : ℕ))
  simp only [Nat.zero_mul, Nat.zero_add]

end Cert.Fwd
-- ==== Proof.Fwd.Ref.lean ====
/- The forward reference's values are the real formulas. -/
module
public import proofs.«01_k».proof.Proof.Fwd.Real
public import proofs.«01_k».proof.Proof.Gen.ReferenceFwdIdeal.Read
@[expose] public section
set_option maxRecDepth 16384
noncomputable section
open Idealize.ShloMosaic Idealize.ShloMosaic.TcCoe Idealize.SL.Sem
namespace Cert.Fwd
open Cert.ReferenceFwdIdeal Cert.ReferenceFwdIdeal.Read
open Cert.Ffn (In Rep xh ms rinv gu gz gc th ge ms_pos sum_coe div_coe_coe rsqrt_coe_pos w_1024 w_eps w_half w_mhalf w_gC w_gK
  val3_0 val3_1 val3_2 norm_close)

variable {P : In} {gf : ℕ → ℝ} {x0 x1 : FVec Ideal S8192x1024 .f32} {x2 : FVec Ideal S1x1024 .f32} {x3 : FVec Ideal S1024x6144 .f32}
  {x4 : FVec Ideal S3x3072 .f32} {x5 : FVec Ideal S1x3072 .f32} {x6 : FVec Ideal S3072x1024 .f32} {x7 : FVec Ideal S1x1024 .f32}
  (H : Rep P x0 x1 x2 x3 x4 x5 x6) (hg : ∀ c : Fin 1024, x7 (ix2 0 c) = (gf c : EReal))

section block
include H

theorem ref_xh (R : Fin 8192) (c : Fin 1024) : val_main_v9 (F := Ideal) x1 (ix2 R c) = (xh P R c : EReal) := by
  pointwise [val_main_v9, val_main_v8, val_main_v7, val_main_v6, val_main_v5, val_main_v4, val_main_v3, val_main_v2, val_main_v1,
    val_main_v0, val_main_cst, val_main_cst_0, val_main_cst_1]
  rw [sum_coe _ _ fun c => by rw [H.x, ← EReal.coe_mul], w_1024, w_eps, div_coe_coe _ (by norm_num), ← EReal.coe_add]
  erw [rsqrt_coe_pos (ms_pos P R)]
  rw [H.x, ← EReal.coe_mul]
  rfl

theorem ref_gu (R : Fin 8192) (n : Fin 6144) : val_main_v12 (F := Ideal) x1 x2 x3 (ix2 R n) = (gu P R n : EReal) := by
  pointwise [val_main_v12, val_main_v11, val_main_v10]
  exact sum_coe _ _ fun c => by rw [ref_xh H, H.g, H.wu, ← EReal.coe_mul, ← EReal.coe_mul]

theorem ref_gz (p : Fin 8194) (ch : Fin 3072) : val_main_v16 (F := Ideal) x1 x2 x3 (ix2 p ch) = (gz P p ch : EReal) := by
  pointwise [val_main_v16, val_main_v15, val_main_v13, val_main_cst_2]
  unfold gz
  by_cases h : (p : ℕ) < 2
  · simp [h]
  · simp only [h, ↓reduceDIte, ↓reduceIte]
    rw [ref_gu H]

theorem ref_gc (R : Fin 8192) (ch : Fin 3072) : val_main_v32 (F := Ideal) x1 x2 x3 x4 x5 (ix2 R ch) = (gc P R ch : EReal) := by
  pointwise [val_main_v32, val_main_v31, val_main_v30, val_main_v29, val_main_v28, val_main_v27, val_main_v26, val_main_v25,
    val_main_v24, val_main_v23, val_main_v22, val_main_v21, val_main_v20, val_main_v19, val_main_v18, val_main_v17]
  simp only [ref_gz H, H.cw, H.cb, ← EReal.coe_mul, ← EReal.coe_add, val3_0, val3_1, val3_2]
  congr 1
  unfold gc
  ring_nf

theorem ref_act (R : Fin 8192) (ch : Fin 3072) : val_main_v46 (F := Ideal) x1 x2 x3 x4 x5 (ix2 R ch) = (act P R ch : EReal) := by
  pointwise [val_main_v46, val_main_v45, val_main_v44, val_main_v43, val_main_v42, val_main_v41, val_main_v40, val_main_v39,
    val_main_v38, val_main_v37, val_main_v36, val_main_v35, val_main_v34, val_main_v33, val_main_v14, val_main_cst_3,
    val_main_cst_4, val_main_cst_5, val_main_cst_6]
  simp only [ref_gc H, ref_gu H, w_gC, w_gK, w_half]
  rw [← EReal.coe_one]
  simp only [← EReal.coe_mul, ← EReal.coe_add, Ideal.tanh_coe]
  unfold act ge th
  congr 1
  rw [show Cert.Ffn.gC * (gc P R ch + Cert.Ffn.gK * (gc P R ch * gc P R ch * gc P R ch))
    = gc P R ch * (Cert.Ffn.gC + Cert.Ffn.gC * Cert.Ffn.gK * (gc P R ch * gc P R ch)) by ring]
  ring

theorem ref_x3 (R : Fin 8192) (c : Fin 1024) : val_main_v48 (F := Ideal) x1 x2 x3 x4 x5 x6 (ix2 R c) = ((Q P gf).x R c : EReal) := by
  pointwise [val_main_v48, val_main_v47]
  rw [H.x, sum_coe _ (fun ch : Fin 3072 => act P R ch * P.wd ch c) fun ch => by rw [ref_act H, H.wd, ← EReal.coe_mul], ← EReal.coe_add]
  rfl

theorem ref_ms3 (R : Fin 8192) : val_main_v55 (F := Ideal) x1 x2 x3 x4 x5 x6 (ix2 R 0) = (ms (Q P gf) R : EReal) := by
  pointwise [val_main_v55, val_main_v54, val_main_v53, val_main_v52, val_main_v51, val_main_v50, val_main_v49, val_main_cst_7,
    val_main_cst_8, val_main_cst_9]
  rw [sum_coe _ _ fun c => by rw [ref_x3 (gf := gf) H, ← EReal.coe_mul], w_1024, w_eps, div_coe_coe _ (by norm_num), ← EReal.coe_add]
  rfl

theorem ref_rinv3 (R : Fin 8192) : val_main_v56 (F := Ideal) x1 x2 x3 x4 x5 x6 (ix2 R 0) = (rinv (Q P gf) R : EReal) := by
  pointwise [val_main_v56]
  rw [ref_ms3 (gf := gf) H, rsqrt_coe_pos (ms_pos (Q P gf) R)]
  rfl

theorem ref_xh3 (R : Fin 8192) (c : Fin 1024) : val_main_v61 (F := Ideal) x1 x2 x3 x4 x5 x6 (ix2 R c) = (xh (Q P gf) R c : EReal) := by
  pointwise [val_main_v61, val_main_v60]
  rw [ref_rinv3 (gf := gf) H, ref_x3 (gf := gf) H, ← EReal.coe_mul]
  rfl

theorem ref_out_gu (h b : Fin 2) (R : Fin 8192) (c : Fin 1536) :
    val_main_v102 (F := Ideal) x1 x2 x3 (ix4 h b R c) = (gu P R (3072 * h + 1536 * b + c) : EReal) := by
  pointwise [val_main_v102, val_main_v101]
  refine (ref_gu H R _).trans (congrArg (fun n => (gu P R n : EReal)) ?_)
  show (h : ℕ) * 3072 + (b : ℕ) * 1536 + (c : ℕ) = 3072 * (h : ℕ) + 1536 * (b : ℕ) + c
  omega

theorem ref_out_act (b : Fin 2) (R : Fin 8192) (c : Fin 1536) :
    val_main_v105 (F := Ideal) x1 x2 x3 x4 x5 (ix3 b R c) = (act P R (1536 * b + c) : EReal) := by
  pointwise [val_main_v105, val_main_v104, val_main_v103]
  refine (ref_act H R _).trans (congrArg (fun n => (act P R n : EReal)) ?_)
  show (b : ℕ) * 1536 + (c : ℕ) = 1536 * (b : ℕ) + c
  omega
end block

include H hg

theorem ref_diff (R : Fin 8192) (c : Fin 1024) :
    val_main_v64 (F := Ideal) x0 x1 x2 x3 x4 x5 x6 x7 (ix2 R c) = (diff P gf R c : EReal) := by
  pointwise [val_main_v64, val_main_v63, val_main_v62]
  rw [ref_xh3 (gf := gf) H, hg, H.dx, ← EReal.coe_mul, ← EReal.coe_sub]
  rfl

theorem ref_loss (c : Fin 1024) : val_main_v71 (F := Ideal) x0 x1 x2 x3 x4 x5 x6 x7 (ix2 0 c) = (loss P gf c : EReal) := by
  pointwise [val_main_v71, val_main_v70, val_main_v69, val_main_v68, val_main_v67, val_main_v66, val_main_v65, val_main_cst_11,
    val_main_cst_12, val_main_cst_13]
  rw [sum_coe _ (fun R : Fin 8192 => diff P gf R c * diff P gf R c) fun R => by rw [ref_diff H hg, ← EReal.coe_mul], w_1024, w_half,
    div_coe_coe _ (by norm_num), ← EReal.coe_mul]
  unfold loss
  rw [← Finset.sum_mul]
  congr 1
  ring

theorem ref_dy (R : Fin 8192) (c : Fin 1024) :
    val_main_v81 (F := Ideal) x0 x1 x2 x3 x4 x5 x6 x7 (ix2 R c) = (dy P gf R c : EReal) := by
  pointwise [val_main_v81, val_main_v80, val_main_v79, val_main_v78, val_main_v77, val_main_v76, val_main_v75, val_main_v74,
    val_main_v73, val_main_v72, val_main_cst_14, val_main_cst_15, val_main_cst_16, val_main_cst_17]
  simp only [Fin.sum_univ_one, w_half, w_1024]
  rw [ref_diff H hg, div_coe_coe _ (by norm_num)]
  simp only [← EReal.coe_mul, ← EReal.coe_add]
  unfold dy
  congr 1
  ring

theorem ref_dgf (c : Fin 1024) : val_main_v84 (F := Ideal) x0 x1 x2 x3 x4 x5 x6 x7 (ix2 0 c) = (dgf P gf c : EReal) := by
  pointwise [val_main_v84, val_main_v83, val_main_v82, val_main_cst_18]
  exact sum_coe _ _ fun R => by rw [ref_dy H hg, ref_xh3 (gf := gf) H, ← EReal.coe_mul, mul_comm]

set_option maxHeartbeats 1000000 in
theorem ref_dx3 (R : Fin 8192) (c : Fin 1024) :
    val_main_v100 (F := Ideal) x0 x1 x2 x3 x4 x5 x6 x7 (ix2 R c) = (dx3 P gf R c : EReal) := by
  pointwise [val_main_v100, val_main_v99, val_main_v98, val_main_v97, val_main_v96, val_main_v95, val_main_v94, val_main_v93,
    val_main_v92, val_main_v91, val_main_v90, val_main_v89, val_main_v88, val_main_v87, val_main_v86, val_main_v85,
    val_main_v59, val_main_v58, val_main_v57, val_main_cst_10, val_main_cst_19, val_main_cst_20, val_main_cst_21]
  simp only [Fin.sum_univ_one, ref_dy H hg, ref_rinv3 (gf := gf) H, ref_ms3 (gf := gf) H, hg, ref_x3 (gf := gf) H, w_mhalf, w_1024]
  have h := norm_close (Q P gf) (dy P gf R) R c
  rw [show (Q P gf).dx R c = 0 from rfl, EReal.coe_zero, zero_add, zero_add] at h
  exact h

end Cert.Fwd
-- ==== Proof.Fwd.Claim.lean ====
/- The forward kernel and its reference leave the same arrays when the arguments are finite. -/
module
public import proofs.«01_k».proof.Defs
public import proofs.«01_k».proof.Proof.Fwd.Arr
public import proofs.«01_k».proof.Proof.Fwd.Ref
public import proofs.«01_k».proof.Proof.Ffn.Fin
public import proofs.«01_k».proof.Proof.Gen.Pre_finite_fwd
public import proofs.«01_k».proof.Proof.Gen.ReferenceFwdIdeal.Run
@[expose] public section
set_option maxRecDepth 16384
noncomputable section
open Idealize.ShloMosaic Idealize.ShloMosaic.TcCoe Idealize.SL.Sem

namespace Cert.Fwd
open Cert.Ffn (In Rep gu toIn real_of_lt ofNat_val)

/-! ### The reference's results, whole -/
section
open Cert.ReferenceFwdIdeal Cert.ReferenceFwdIdeal.Read

variable {P : In} {gf : ℕ → ℝ} {x0 x1 : FVec Ideal S8192x1024 .f32} {x2 : FVec Ideal S1x1024 .f32} {x3 : FVec Ideal S1024x6144 .f32}
  {x4 : FVec Ideal S3x3072 .f32} {x5 : FVec Ideal S1x3072 .f32} {x6 : FVec Ideal S3072x1024 .f32} {x7 : FVec Ideal S1x1024 .f32}
  (H : Rep P x0 x1 x2 x3 x4 x5 x6 ∧ Row gf x7)
include H

theorem all_gu : val_main_v102 (F := Ideal) x1 x2 x3 = fun i => (gu P (i 2) (3072 * (i 0 : ℕ) + 1536 * (i 1 : ℕ) + i 3) : EReal) :=
  funext fun i => (congrArg _ (eta4 i)).trans (ref_out_gu H.1 (i 0) (i 1) (i 2) (i 3))
theorem all_act : val_main_v105 (F := Ideal) x1 x2 x3 x4 x5 = fun i => (act P (i 1) (1536 * (i 0 : ℕ) + i 2) : EReal) :=
  funext fun i => (congrArg _ (eta3 i)).trans (ref_out_act H.1 (i 0) (i 1) (i 2))
theorem all_dx3 : val_main_v100 (F := Ideal) x0 x1 x2 x3 x4 x5 x6 x7 = fun i => (dx3 P gf (i 0) (i 1) : EReal) :=
  funext fun i => (congrArg _ (eta2 i)).trans (ref_dx3 H.1 H.2 (i 0) (i 1))
theorem all_loss : val_main_v71 (F := Ideal) x0 x1 x2 x3 x4 x5 x6 x7 = fun i => (loss P gf (i 1) : EReal) :=
  funext fun i => (congrArg _ (eta1 i)).trans (ref_loss H.1 H.2 (i 1))
theorem all_dgf : val_main_v84 (F := Ideal) x0 x1 x2 x3 x4 x5 x6 x7 = fun i => (dgf P gf (i 1) : EReal) :=
  funext fun i => (congrArg _ (eta1 i)).trans (ref_dgf H.1 H.2 (i 1))
end

/-! ### The arguments -/

/-- The reals the final norm's weight holds. -/
def toRow (x7 : FVec Ideal ⟨2, ![1, 1024]⟩ .f32) (c : ℕ) : ℝ := EReal.toReal (x7 (ix2 0 (Fin.ofNat 1024 c)))

theorem rep_toIn [Cert.Pre_finite_fwd.Facts] (x0 x1 : FVec Ideal ⟨2, ![8192, 1024]⟩ .f32) (x2 : FVec Ideal ⟨2, ![1, 1024]⟩ .f32)
    (x3 : FVec Ideal ⟨2, ![1024, 6144]⟩ .f32) (x4 : FVec Ideal ⟨2, ![3, 3072]⟩ .f32)
    (x5 : FVec Ideal ⟨2, ![1, 3072]⟩ .f32) (x6 : FVec Ideal ⟨2, ![3072, 1024]⟩ .f32) (x7 : FVec Ideal ⟨2, ![1, 1024]⟩ .f32)
    (h0 : (Cert.Pre_finite_fwd.fn (F := Ideal) x0 x1 x2 x3 x4 x5 x6 x7).1 = fun _ => 1#1)
    (h1 : (Cert.Pre_finite_fwd.fn (F := Ideal) x0 x1 x2 x3 x4 x5 x6 x7).2.1 = fun _ => 1#1)
    (h2 : (Cert.Pre_finite_fwd.fn (F := Ideal) x0 x1 x2 x3 x4 x5 x6 x7).2.2.1 = fun _ => 1#1)
    (h3 : (Cert.Pre_finite_fwd.fn (F := Ideal) x0 x1 x2 x3 x4 x5 x6 x7).2.2.2.1 = fun _ => 1#1)
    (h4 : (Cert.Pre_finite_fwd.fn (F := Ideal) x0 x1 x2 x3 x4 x5 x6 x7).2.2.2.2.1 = fun _ => 1#1)
    (h5 : (Cert.Pre_finite_fwd.fn (F := Ideal) x0 x1 x2 x3 x4 x5 x6 x7).2.2.2.2.2.1 = fun _ => 1#1)
    (h6 : (Cert.Pre_finite_fwd.fn (F := Ideal) x0 x1 x2 x3 x4 x5 x6 x7).2.2.2.2.2.2.1 = fun _ => 1#1)
    (h7 : (Cert.Pre_finite_fwd.fn (F := Ideal) x0 x1 x2 x3 x4 x5 x6 x7).2.2.2.2.2.2.2 = fun _ => 1#1) :
    Rep (toIn x0 x1 x2 x3 x4 x5 x6) x0 x1 x2 x3 x4 x5 x6 ∧ Row (toRow x7) x7 := by
  refine ⟨?_, fun c => ?_⟩
  · constructor
    · intro R c
      simp only [toIn, ofNat_val]
      exact (real_of_lt _ (congrFun h0 (ix2 R c))).symm
    · intro R c
      simp only [toIn, ofNat_val]
      exact (real_of_lt _ (congrFun h1 (ix2 R c))).symm
    · intro c
      simp only [toIn, ofNat_val]
      exact (real_of_lt _ (congrFun h2 (ix2 0 c))).symm
    · intro c n
      simp only [toIn, ofNat_val]
      exact (real_of_lt _ (congrFun h3 (ix2 c n))).symm
    · intro k ch
      simp only [toIn, ofNat_val]
      exact (real_of_lt _ (congrFun h4 (ix2 k ch))).symm
    · intro ch
      simp only [toIn, ofNat_val]
      exact (real_of_lt _ (congrFun h5 (ix2 0 ch))).symm
    · intro ch c
      simp only [toIn, ofNat_val]
      exact (real_of_lt _ (congrFun h6 (ix2 ch c))).symm
  · simp only [toRow, ofNat_val]
    exact (real_of_lt _ (congrFun h7 (ix2 0 c))).symm

/-! ### The claims -/

theorem frame_ref : Cert.quiescent_ReferenceFwdIdeal := fun m g _ =>
  (θ_run _ _ _).mono (fun r h => ⟨fun c => (h c).2.2.2.2.2, sem_eq_zero_of_no_sems (by decide) r.2⟩) (Cert.ReferenceFwdIdeal.Value.run m g)

theorem frame_ref_pre [Cert.Pre_finite_fwd.Facts] : Cert.quiescent_ReferenceFwdIdeal_pre_finite_fwd := fun m g _ => frame_ref m g trivial

/-- The reals device `c`'s arguments hold. -/
abbrev inAt (m : (ℓ : Loc Cert.KernelFwdIdeal.nD Cert.KernelFwdIdeal.τ Cert.KernelFwdIdeal.sig) → Idealize.ShloMosaic.Buf (Elt Ideal) ℓ)
    (c : Dev Cert.KernelFwdIdeal.nD) : In :=
  toIn (m ((c.tc : Thread Cert.KernelFwdIdeal.nD Cert.KernelFwdIdeal.τ).loc Cert.KernelFwdIdeal.main_arg0))
    (m ((c.tc : Thread Cert.KernelFwdIdeal.nD Cert.KernelFwdIdeal.τ).loc Cert.KernelFwdIdeal.main_arg1))
    (m ((c.tc : Thread Cert.KernelFwdIdeal.nD Cert.KernelFwdIdeal.τ).loc Cert.KernelFwdIdeal.main_arg2))
    (m ((c.tc : Thread Cert.KernelFwdIdeal.nD Cert.KernelFwdIdeal.τ).loc Cert.KernelFwdIdeal.main_arg3))
    (m ((c.tc : Thread Cert.KernelFwdIdeal.nD Cert.KernelFwdIdeal.τ).loc Cert.KernelFwdIdeal.main_arg4))
    (m ((c.tc : Thread Cert.KernelFwdIdeal.nD Cert.KernelFwdIdeal.τ).loc Cert.KernelFwdIdeal.main_arg5))
    (m ((c.tc : Thread Cert.KernelFwdIdeal.nD Cert.KernelFwdIdeal.τ).loc Cert.KernelFwdIdeal.main_arg6))
abbrev rowAt (m : (ℓ : Loc Cert.KernelFwdIdeal.nD Cert.KernelFwdIdeal.τ Cert.KernelFwdIdeal.sig) → Idealize.ShloMosaic.Buf (Elt Ideal) ℓ)
    (c : Dev Cert.KernelFwdIdeal.nD) : ℕ → ℝ :=
  toRow (m ((c.tc : Thread Cert.KernelFwdIdeal.nD Cert.KernelFwdIdeal.τ).loc Cert.KernelFwdIdeal.main_arg7))

theorem rep_at [Cert.Pre_finite_fwd.Facts]
    (m : (ℓ : Loc Cert.KernelFwdIdeal.nD Cert.KernelFwdIdeal.τ Cert.KernelFwdIdeal.sig) → Idealize.ShloMosaic.Buf (Elt Ideal) ℓ)
    (c : Dev Cert.KernelFwdIdeal.nD) (h : Cert.Pre_KernelFwdIdeal_finite_fwd m) : RepAt m (inAt m c) (rowAt m c) c := by
  obtain ⟨h0, h1, h2, h3, h4, h5, h6, h7⟩ := h c
  exact rep_toIn _ _ _ _ _ _ _ _ h0 h1 h2 h3 h4 h5 h6 h7

set_option maxHeartbeats 6400000 in
theorem agree [Cert.Pre_finite_fwd.Facts] : Cert.algebraic_KernelFwdIdeal_ReferenceFwdIdeal_pre_finite_fwd := by
  pair_intro
  · exact Cert.KernelFwdIdeal.Value.run_blocks m g
  · have R : ∀ c, Rep (inAt m c)
        (m' ((c.tc : Thread Cert.ReferenceFwdIdeal.nD Cert.ReferenceFwdIdeal.τ).loc Cert.ReferenceFwdIdeal.main_arg0))
        (m' ((c.tc : Thread Cert.ReferenceFwdIdeal.nD Cert.ReferenceFwdIdeal.τ).loc Cert.ReferenceFwdIdeal.main_arg1))
        (m' ((c.tc : Thread Cert.ReferenceFwdIdeal.nD Cert.ReferenceFwdIdeal.τ).loc Cert.ReferenceFwdIdeal.main_arg2))
        (m' ((c.tc : Thread Cert.ReferenceFwdIdeal.nD Cert.ReferenceFwdIdeal.τ).loc Cert.ReferenceFwdIdeal.main_arg3))
        (m' ((c.tc : Thread Cert.ReferenceFwdIdeal.nD Cert.ReferenceFwdIdeal.τ).loc Cert.ReferenceFwdIdeal.main_arg4))
        (m' ((c.tc : Thread Cert.ReferenceFwdIdeal.nD Cert.ReferenceFwdIdeal.τ).loc Cert.ReferenceFwdIdeal.main_arg5))
        (m' ((c.tc : Thread Cert.ReferenceFwdIdeal.nD Cert.ReferenceFwdIdeal.τ).loc Cert.ReferenceFwdIdeal.main_arg6))
        ∧ Row (rowAt m c) (m' ((c.tc : Thread Cert.ReferenceFwdIdeal.nD Cert.ReferenceFwdIdeal.τ).loc Cert.ReferenceFwdIdeal.main_arg7)) := fun c => by
      obtain ⟨e0, e1, e2, e3, e4, e5, e6, e7⟩ := hagree c
      rw [e0, e1, e2, e3, e4, e5, e6, e7]
      exact rep_at m c hpre
    have K := fun c t => opsAt m c (rep_at m c hpre) t
    refine (θ_run _ _ _).mono (fun r h c => ⟨(h c).1.trans ?_, (h c).2.1.trans ?_, (h c).2.2.1.trans ?_, (h c).2.2.2.1.trans ?_,
      (h c).2.2.2.2.1.trans ?_, (h c).2.2.2.2.2⟩) (Cert.ReferenceFwdIdeal.Value.run m' g')
    · exact (Cert.ReferenceFwdIdeal.Read.val_main_v102_eq (F := Ideal) (StableHlo.launchContents m' c)).trans
        ((all_gu (R c)).trans (arr8 m c (K c)).symm)
    · exact (Cert.ReferenceFwdIdeal.Read.val_main_v105_eq (F := Ideal) (StableHlo.launchContents m' c)).trans
        ((all_act (R c)).trans (arr9 m c (K c)).symm)
    · exact (Cert.ReferenceFwdIdeal.Read.val_main_v100_eq (F := Ideal) (StableHlo.launchContents m' c)).trans
        ((all_dx3 (R c)).trans (arr10 m c (K c)).symm)
    · exact (Cert.ReferenceFwdIdeal.Read.val_main_v71_eq (F := Ideal) (StableHlo.launchContents m' c)).trans
        ((all_loss (R c)).trans (arr11 m c (K c)).symm)
    · exact (Cert.ReferenceFwdIdeal.Read.val_main_v84_eq (F := Ideal) (StableHlo.launchContents m' c)).trans
        ((all_dgf (R c)).trans (arr12 m c (K c)).symm)

end Cert.Fwd
-- ==== Proof.Lead.Proj.lean ====
/- The input projection's forward call: what it computes, and that the reference computes it too, whatever the arguments hold. -/
module
public import proofs.«01_k».proof.Proof.Kv.Call
public import proofs.«01_k».proof.Proof.Gen.KernelProjIdeal.Value
public import proofs.«01_k».proof.Proof.Gen.ReferenceProjIdeal.Read
public import proofs.«01_k».proof.Proof.Gen.ReferenceProjIdeal.Run
@[expose] public section
set_option maxRecDepth 16384
noncomputable section
open Idealize.ShloMosaic Idealize.ShloMosaic.TcCoe Idealize.SL.Sem
open Cert.Ffn (canon_hit canon_miss)
open Cert.Kv (eta2 eta3 ld_all zero2)

namespace Cert.Lead

/-! ### Tiles of 1024 rows in two halves -/

/-- Half of a tile, loaded. -/
theorem ld_half {e : EltTy} {W : ℕ} (x : Vec Ideal ⟨2, ![1024, W]⟩ e) (o : ℕ)
    (inb : ∀ a, (![o, 0] : Fin 2 → ℕ) a + (![512, W] : Fin 2 → ℕ) a ≤ (⟨2, ![1024, W]⟩ : Shape).size a)
    (r : Fin 512) (h : o + r < 1024) (k : Fin W) :
    View.ld x (Rect.unit ![o, 0] ![512, W] inb) (ix2 r k) = x (ix2 (⟨o + r, h⟩ : Fin 1024) k) := by
  refine congrArg x (funext fun a => Fin.ext ?_)
  exact match a with
  | ⟨0, _⟩ => by show o + 1 * (r : ℕ) = o + r; omega
  | ⟨1, _⟩ => by show 0 + 1 * (k : ℕ) = k; omega

/-- A block of a weight, loaded. -/
theorem ld_block {e : EltTy} {n a b : ℕ} (x : Vec Ideal ⟨3, ![n, a, b]⟩ e) (j : ℕ) (hj : j < n)
    (inb : ∀ d, (![j, 0, 0] : Fin 3 → ℕ) d + (![1, a, b] : Fin 3 → ℕ) d ≤ (⟨3, ![n, a, b]⟩ : Shape).size d) (k : Fin a) (l : Fin b) :
    View.ld x (Rect.unit ![j, 0, 0] ![1, a, b] inb) (ix3 (0 : Fin 1) k l) = x (ix3 (⟨j, hj⟩ : Fin n) k l) := by
  refine congrArg x (funext fun d => Fin.ext ?_)
  exact match d with
  | ⟨0, _⟩ => by show j + 1 * 0 = j; omega
  | ⟨1, _⟩ => by show 0 + 1 * (k : ℕ) = k; omega
  | ⟨2, _⟩ => by show 0 + 1 * (l : ℕ) = l; omega

/-- Two stores, each of one half of a tile. -/
theorem two {e : EltTy} (g : Fin 1024 → Fin 1024 → Elt Ideal e) (w1 w0 : Vec Ideal ⟨2, ![512, 1024]⟩ e) (L : List (View.Piece (Elt Ideal) ⟨2, ![1024, 1024]⟩ e)) (i1 i0)
    (h1 : ∀ (r : Fin 512) (h : 512 + (r : ℕ) < 1024) (k : Fin 1024), w1 (ix2 r k) = g ⟨512 + r, h⟩ k)
    (h0 : ∀ (r : Fin 512) (h : 0 + (r : ℕ) < 1024) (k : Fin 1024), w0 (ix2 r k) = g ⟨0 + r, h⟩ k) (r k : Fin 1024) :
    View.canon (⟨Rect.unit ![512, 0] ![512, 1024] i1, w1⟩ :: ⟨Rect.unit ![0, 0] ![512, 1024] i0, w0⟩ :: L) (ix2 r k) = g r k := by
  by_cases h : (r : ℕ) < 512
  · refine (canon_miss _ _ _ 0 (Or.inl h)).trans ((canon_hit _ _ _ (ix2 (⟨r, h⟩ : Fin 512) k) fun a => ?_).trans ((h0 _ (by simpa using r.isLt) k).trans ?_))
    · exact match a with | ⟨0, _⟩ => (Nat.zero_add _).symm | ⟨1, _⟩ => (Nat.zero_add _).symm
    · exact congrArg (g · k) (Fin.ext (Nat.zero_add _))
  · have e : 512 + ((r : ℕ) - 512) = r := by omega
    refine (canon_hit _ _ _ (ix2 (⟨(r : ℕ) - 512, by omega⟩ : Fin 512) k) fun a => ?_).trans ((h1 _ (by show 512 + ((r : ℕ) - 512) < 1024; omega) k).trans ?_)
    · exact match a with | ⟨0, _⟩ => e.symm | ⟨1, _⟩ => (Nat.zero_add _).symm
    · exact congrArg (g · k) (Fin.ext e)

/-- One store of half of one column block, among others. -/
theorem part {e : EltTy} (g : Fin 4 → Fin 1024 → Fin 512 → Elt Ideal e) (j' o : ℕ) (hj : j' < 4) (w : Vec Ideal ⟨3, ![1, 512, 512]⟩ e)
    (L : List (View.Piece (Elt Ideal) ⟨3, ![4, 1024, 512]⟩ e)) (inb) (hw : ∀ (r : Fin 512) (h : o + (r : ℕ) < 1024) (n : Fin 512), w (ix3 0 r n) = g ⟨j', hj⟩ ⟨o + r, h⟩ n)
    (j : Fin 4) (r : Fin 1024) (n : Fin 512) (hL : ¬((j : ℕ) = j' ∧ o ≤ r ∧ (r : ℕ) < o + 512) → View.canon L (ix3 j r n) = g j r n) :
    View.canon (⟨Rect.unit ![j', o, 0] ![1, 512, 512] inb, w⟩ :: L) (ix3 j r n) = g j r n := by
  by_cases h : (j : ℕ) = j' ∧ o ≤ r ∧ (r : ℕ) < o + 512
  · obtain ⟨a, b, d⟩ := h
    have e : o + ((r : ℕ) - o) = r := by omega
    refine (canon_hit _ _ _ (ix3 0 (⟨(r : ℕ) - o, by omega⟩ : Fin 512) n) fun x => ?_).trans
      ((hw _ (by show o + ((r : ℕ) - o) < 1024; omega) n).trans ?_)
    · exact match x with | ⟨0, _⟩ => a | ⟨1, _⟩ => e.symm | ⟨2, _⟩ => (Nat.zero_add _).symm
    · exact congrArg₂ (fun a b => g a b n) (Fin.ext a.symm) (Fin.ext e)
  · refine Eq.trans ?_ (hL h)
    by_cases a : (j : ℕ) = j'
    · exact canon_miss _ _ _ 1 (by show (r : ℕ) < o ∨ o + 512 ≤ (r : ℕ); omega)
    · exact canon_miss _ _ _ 0 (by show (j : ℕ) < j' ∨ j' + 1 ≤ (j : ℕ); omega)

end Cert.Lead

namespace Cert.Lead.Proj
open Cert.KernelProjIdeal Cert.KernelProjIdeal.Gen

/-! ### The values at an index -/

/-- The scaled normed rows, as the reference has them. -/
abbrev nrm (X : Vec Ideal S8192x1024 .f32) (G : Vec Ideal S1x1024 .f32) (R : Fin 8192) (k : Fin 1024) : EReal :=
  Cert.ReferenceProjIdeal.Read.val_main_v11 (F := Ideal) X G (ix2 R k)

theorem nrm_at (x : Vec Ideal S512x1024 .f32) (g : Vec Ideal S1x1024 .f32) (X : Vec Ideal S8192x1024 .f32) (G : Vec Ideal S1x1024 .f32) (r : Fin 512) (R : Fin 8192)
    (hx : ∀ k, x (ix2 r k) = X (ix2 R k)) (hg : g = G) (k : Fin 1024) : k0_pay5 (F := Ideal) x g (ix2 r k) = nrm X G R k := by
  subst hg
  unfold nrm
  pointwise [k0_pay5, Cert.ReferenceProjIdeal.Read.val_main_v11, Cert.ReferenceProjIdeal.Read.val_main_v10, Cert.ReferenceProjIdeal.Read.val_main_v9,
    Cert.ReferenceProjIdeal.Read.val_main_v8, Cert.ReferenceProjIdeal.Read.val_main_v7,
    Cert.ReferenceProjIdeal.Read.val_main_v6, Cert.ReferenceProjIdeal.Read.val_main_v5, Cert.ReferenceProjIdeal.Read.val_main_v4,
    Cert.ReferenceProjIdeal.Read.val_main_v3, Cert.ReferenceProjIdeal.Read.val_main_v2, Cert.ReferenceProjIdeal.Read.val_main_v1,
    Cert.ReferenceProjIdeal.Read.val_main_v0, Cert.ReferenceProjIdeal.Read.val_main_cst, Cert.ReferenceProjIdeal.Read.val_main_cst_0,
    Cert.ReferenceProjIdeal.Read.val_main_cst_1]
  simp only [hx]

/-- One column block of the product. -/
theorem z_at (h : FVec Ideal S512x1024 .bf16) (w : Vec Ideal S1x1024x512 .bf16) (r n : Fin 512) :
    k0_pay2 (F := Ideal) h w (ix3 0 r n) = ∑ k : Fin 1024, h (ix2 r k) * w (ix3 0 k n) := by
  pointwise [k0_pay2]

theorem pay3_eq : k0_pay3 (F := Ideal) = k0_pay2 := rfl
theorem pay4_eq : k0_pay4 (F := Ideal) = k0_pay2 := rfl
theorem pay9_eq : k0_pay9 (F := Ideal) = k0_pay2 := rfl
theorem pay10_eq : k0_pay10 (F := Ideal) = k0_pay2 := rfl
theorem pay11_eq : k0_pay11 (F := Ideal) = k0_pay2 := rfl
theorem pay6_eq : k0_pay6 (F := Ideal) = k0_pay5 := rfl
theorem pay8_eq (x g w) : k0_pay8 (F := Ideal) (k0_pay7 x g w) = k0_pay2 (k0_pay5 x g) w := rfl
theorem pay1_eq (h w) : k0_pay1 (F := Ideal) (k0_pay12 h w) = k0_pay2 h w := rfl

/-! ### The blocks of the arguments -/

variable (m : (ℓ : Loc nD τ sig) → Buf (Elt Ideal) ℓ) (c : Dev nD)

abbrev X : Vec Ideal S8192x1024 .f32 := m ((c : Thread nD τ).loc main_arg0)
abbrev G : Vec Ideal S1x1024 .f32 := m ((c : Thread nD τ).loc main_arg1)
abbrev W (k : Fin 1024) (n : Fin 2048) : EReal := m ((c : Thread nD τ).loc main_arg2) (ix2 k n)

theorem t_lt (t : Fin cfg0.N) : t.val < 8 := t.isLt
theorem idx_in : ∀ t : Fin cfg0.N, win0_0.index t = ![t.val, 0] ∧ win0_1.index t = ![0, 0] ∧ win0_2.index t = ![0, 0, 0] :=
  (by decide +kernel : ∀ t : Fin grid0.N, _)
theorem idx_out : ∀ t : Fin cfg0.N, win0_3.index t = ![0, t.val, 0] ∧ win0_4.index t = ![t.val, 0] :=
  (by decide +kernel : ∀ t : Fin grid0.N, _)

/-- Row `r` of tile `t`. -/
abbrev row (t : Fin cfg0.N) (r : Fin 1024) : Fin 8192 := ⟨1024 * t.val + r, by have := t_lt t; omega⟩

theorem blk0 (t : Fin cfg0.N) (r k : Fin 1024) : (iblk m c 0 t : Vec Ideal S1024x1024 .f32) (ix2 r k) = X m c (ix2 (row t r) k) := by
  have i0 := (idx_in t).1
  have e : (win0_0.blk t).view.emb (ix2 r k) = ix2 (row t r) k := by blk_ext [i0]
  blk_simp [iblk]
  rw [e]
  exact congrFun (V_main_arg0 m c) _

theorem blk1_at (t : Fin cfg0.N) (k : Fin 1024) : (iblk m c 1 t : Vec Ideal S1x1024 .f32) (ix2 0 k) = G m c (ix2 0 k) := by
  have i1 := (idx_in t).2.1
  have e : (win0_1.blk t).view.emb (ix2 0 k) = ix2 (0 : Fin 1) k := by blk_ext [i1]
  blk_simp [iblk]
  rw [e]
  exact congrFun (V_main_arg1 m c) _

theorem blk1 (t : Fin cfg0.N) : (iblk m c 1 t : Vec Ideal S1x1024 .f32) = G m c :=
  funext fun y => (congrArg _ (Cert.Kv.eta1 y)).trans ((blk1_at m c t (y 1)).trans (congrArg _ (Cert.Kv.eta1 y).symm))

theorem host_w (j : Fin 4) (k : Fin 1024) (n : Fin 512) :
    (V m c main_v2 : Vec Ideal S4x1024x512 .bf16) (ix3 j k n) = W m c k ⟨512 * j + n, by omega⟩ := by
  entry_read
  pointwise []
  refine congrArg _ (congrArg _ (Fin.ext ?_))
  show _ = 512 * (j : ℕ) + (n : ℕ)
  simp only []
  omega

theorem blk2 (t : Fin cfg0.N) (j : Fin 4) (k : Fin 1024) (n : Fin 512) :
    (iblk m c 2 t : Vec Ideal S4x1024x512 .bf16) (ix3 j k n) = W m c k ⟨512 * j + n, by omega⟩ := by
  have i2 := (idx_in t).2.2
  have e : (win0_2.blk t).view.emb (ix3 j k n) = ix3 j k n := by blk_ext [i2]
  blk_simp [iblk]
  rw [e]
  exact host_w m c j k n

/-! ### The two outputs -/

/-- The product. -/
def z (j : Fin 4) (R : Fin 8192) (n : Fin 512) : EReal := ∑ k : Fin 1024, nrm (X m c) (G m c) R k * W m c k ⟨512 * j + n, by omega⟩

theorem nrm_half (t : Fin cfg0.N) (o : ℕ) (i i') (r : Fin 512) (h : o + (r : ℕ) < 1024) (k : Fin 1024) :
    k0_pay5 (F := Ideal) (View.ld (iblk m c 0 t : Vec Ideal S1024x1024 .f32) (Rect.unit ![o, 0] ![512, 1024] i))
      (View.ld (iblk m c 1 t : Vec Ideal S1x1024 .f32) (Rect.unit ![0, 0] ![1, 1024] i')) (ix2 r k) = nrm (X m c) (G m c) (row t ⟨o + r, h⟩) k :=
  nrm_at _ _ _ _ r _ (fun k => (ld_half _ o i r h k).trans (blk0 m c t _ k)) ((ld_all (s := S1x1024) _ _ _ zero2).trans (blk1 m c t)) k

theorem z_half (t : Fin cfg0.N) (o j : ℕ) (hj : j < 4) (i i' i'') (r : Fin 512) (h : o + (r : ℕ) < 1024) (n : Fin 512) :
    k0_pay2 (F := Ideal) (k0_pay5 (View.ld (iblk m c 0 t : Vec Ideal S1024x1024 .f32) (Rect.unit ![o, 0] ![512, 1024] i))
        (View.ld (iblk m c 1 t : Vec Ideal S1x1024 .f32) (Rect.unit ![0, 0] ![1, 1024] i')))
      (View.ld (iblk m c 2 t : Vec Ideal S4x1024x512 .bf16) (Rect.unit ![j, 0, 0] ![1, 1024, 512] i'')) (ix3 0 r n) = z m c ⟨j, hj⟩ (row t ⟨o + r, h⟩) n := by
  refine (z_at _ _ r n).trans (Finset.sum_congr rfl fun k _ => congr (congrArg _ (nrm_half m c t o i i' r h k)) ?_)
  exact (ld_block _ j hj i'' k n).trans (blk2 m c t _ k n)

theorem out3_at (t : Fin cfg0.N) (j : Fin 4) (r : Fin 1024) (n : Fin 512) :
    out0_3 (F := Ideal) (iblk m c 0 t) (iblk m c 1 t) (iblk m c 2 t) (ix3 j r n) = z m c j (row t r) n := by
  unfold_out out0_3
  rw [pay8_eq, pay1_eq, pay3_eq, pay4_eq, pay9_eq, pay10_eq, pay11_eq, pay6_eq]
  let g : Fin 4 → Fin 1024 → Fin 512 → EReal := fun j r n => z m c j (row t r) n
  refine part (e := .f32) g 3 512 (by omega) _ _ _ (z_half m c t 512 3 _ _ _ _) j r n fun n1 => ?_
  refine part (e := .f32) g 2 512 (by omega) _ _ _ (z_half m c t 512 2 _ _ _ _) j r n fun n2 => ?_
  refine part (e := .f32) g 1 512 (by omega) _ _ _ (z_half m c t 512 1 _ _ _ _) j r n fun n3 => ?_
  refine part (e := .f32) g 0 512 (by omega) _ _ _ (z_half m c t 512 0 _ _ _ _) j r n fun n4 => ?_
  refine part (e := .f32) g 3 0 (by omega) _ _ _ (z_half m c t 0 3 _ _ _ _) j r n fun n5 => ?_
  refine part (e := .f32) g 2 0 (by omega) _ _ _ (z_half m c t 0 2 _ _ _ _) j r n fun n6 => ?_
  refine part (e := .f32) g 1 0 (by omega) _ _ _ (z_half m c t 0 1 _ _ _ _) j r n fun n7 => ?_
  refine part (e := .f32) g 0 0 (by omega) _ _ _ (z_half m c t 0 0 _ _ _ _) j r n fun n8 => ?_
  have := j.isLt
  have := r.isLt
  omega

theorem out4_at (t : Fin cfg0.N) (r k : Fin 1024) :
    out0_4 (F := Ideal) (iblk m c 0 t) (iblk m c 1 t) (iblk m c 2 t) (ix2 r k) = nrm (X m c) (G m c) (row t r) k := by
  unfold_out out0_4
  rw [pay6_eq]
  exact two (e := .bf16) (fun r k => nrm (X m c) (G m c) (row t r) k) _ _ _ _ _ (nrm_half m c t 512 _ _) (nrm_half m c t 0 _ _) r k

/-! ### The arrays, and the reference's -/

/-- The two results, whole. -/
def zA : Vec Ideal S4x8192x512 .f32 := fun i => z m c (i 0) (i 1) (i 2)
def hA : Vec Ideal S8192x1024 .bf16 := fun i => nrm (X m c) (G m c) (i 0) (i 1)

theorem arr3 : (dats m 0 c).arrAt 3 cfg0.N = zA m c := by
  refine (dats m 0 c).arrAt_eq_of_covers 3 _ (by decide +kernel) fun t hf y => ?_
  have i3 := (idx_out t).1
  have e : ∀ (j : Fin 4) (r : Fin 1024) (n : Fin 512), (win0_3.blk t).view.emb (ix3 j r n) = ix3 j (row t r) n := fun j r n => by blk_ext [i3]
  blk_simp
  rw [after0_3]
  exact (congrArg _ (eta3 y)).trans ((out3_at m c t (y 0) (y 1) (y 2)).trans
    (congrArg (zA m c) ((congrArg (win0_3.blk t).view.emb (eta3 y)).trans (e (y 0) (y 1) (y 2)))).symm)

theorem arr4 : (dats m 0 c).arrAt 4 cfg0.N = hA m c := by
  refine (dats m 0 c).arrAt_eq_of_covers 4 _ (by decide +kernel) fun t hf y => ?_
  have i4 := (idx_out t).2
  have e : ∀ (r k : Fin 1024), (win0_4.blk t).view.emb (ix2 r k) = ix2 (row t r) k := fun r k => by blk_ext [i4]
  blk_simp
  rw [after0_4]
  exact (congrArg _ (eta2 y)).trans ((out4_at m c t (y 0) (y 1)).trans
    (congrArg (hA m c) ((congrArg (win0_4.blk t).view.emb (eta2 y)).trans (e (y 0) (y 1)))).symm)

section
open Cert.ReferenceProjIdeal.Read

theorem ref_z (j : Fin 4) (R : Fin 8192) (n : Fin 512) :
    val_main_v14 (F := Ideal) (m ((c : Thread nD τ).loc main_arg0)) (m ((c : Thread nD τ).loc main_arg1)) (m ((c : Thread nD τ).loc main_arg2)) (ix3 j R n)
      = z m c j R n := by
  pointwise [val_main_v14, val_main_v13, val_main_v12]
  refine Finset.sum_congr rfl fun k _ => congr (congrArg _ (congrArg _ (congrArg (ix2 · k) (Fin.ext ?_)))) (congrArg _ (congrArg _ (Fin.ext ?_)))
  · show _ = (R : ℕ)
    simp only []
  · show _ = 512 * (j : ℕ) + (n : ℕ)
    simp only []
    omega

theorem ref_h (R : Fin 8192) (k : Fin 1024) :
    val_main_v15 (F := Ideal) (m ((c : Thread nD τ).loc main_arg0)) (m ((c : Thread nD τ).loc main_arg1)) (ix2 R k) = nrm (X m c) (G m c) R k := by
  pointwise [val_main_v15]
end

theorem frame_ref : Cert.quiescent_ReferenceProjIdeal := fun m g _ =>
  (θ_run _ _ _).mono (fun r h => ⟨fun c => (h c).2.2, sem_eq_zero_of_no_sems (by decide) r.2⟩) (Cert.ReferenceProjIdeal.Value.run m g)

set_option maxHeartbeats 1600000 in
theorem agree : Cert.algebraic_KernelProjIdeal_ReferenceProjIdeal := by
  pair_intro
  · exact Cert.KernelProjIdeal.Value.run_blocks m g
  · refine (θ_run _ _ _).mono (fun r h c => ⟨(h c).1.trans ?_, (h c).2.1.trans ?_, (h c).2.2⟩) (Cert.ReferenceProjIdeal.Value.run m' g')
    · obtain ⟨e0, e1, e2⟩ := hagree c
      refine (Cert.ReferenceProjIdeal.Read.val_main_v14_eq (F := Ideal) _ _ _).trans (Eq.trans ?_ (arr3 m c).symm)
      rw [e0, e1, e2]
      exact funext fun i => (congrArg _ (eta3 i)).trans (ref_z m c (i 0) (i 1) (i 2))
    · obtain ⟨e0, e1, e2⟩ := hagree c
      refine (Cert.ReferenceProjIdeal.Read.val_main_v15_eq (F := Ideal) _ _).trans (Eq.trans ?_ (arr4 m c).symm)
      rw [e0, e1]
      exact funext fun i => (congrArg _ (eta2 i)).trans (ref_h m c (i 0) (i 1))

end Cert.Lead.Proj
-- ==== Proof.Lead.Join.lean ====
/- The call that joins the two mixers to the residual, norms the sum and projects the queries: what it computes, and that the reference computes it too,
   whatever the arguments hold. -/
module
public import proofs.«01_k».proof.Proof.Lead.Proj
public import proofs.«01_k».proof.Proof.Gen.KernelJoinIdeal.Value
public import proofs.«01_k».proof.Proof.Gen.ReferenceJoinIdeal.Read
public import proofs.«01_k».proof.Proof.Gen.ReferenceJoinIdeal.Run
@[expose] public section
set_option maxRecDepth 16384
noncomputable section
open Idealize.ShloMosaic Idealize.ShloMosaic.TcCoe Idealize.SL.Sem
open Cert.Kv (eta1 eta2 ld_all zero2)

namespace Cert.Lead.Join
open Cert.KernelJoinIdeal Cert.KernelJoinIdeal.Gen
open Cert.ReferenceJoinIdeal.Read

/-! ### The values at an index -/

/-- The two mixers' projection, added to the residual. -/
theorem x1_at (y : Vec Ideal S512x512 .bf16) (w0 : Vec Ideal S1x512x1024 .bf16) (d : Vec Ideal S512x512 .bf16) (w1 : Vec Ideal S1x512x1024 .bf16)
    (x : Vec Ideal S512x1024 .f32) (r : Fin 512) (k : Fin 1024) :
    k0_pay3 (F := Ideal) y w0 d w1 x (ix2 r k)
      = x (ix2 r k) + (∑ l : Fin 512, y (ix2 r l) * w0 (ix3 0 l k) + ∑ l : Fin 512, d (ix2 r l) * w1 (ix3 0 l k)) := by
  pointwise [k0_pay3]

theorem pay7_eq (y w0 d w1 x) : k0_pay7 (F := Ideal) (k0_pay2 y w0 d w1) x = k0_pay3 y w0 d w1 x := rfl
theorem pay8_eq (y w0 d w1 x g) : k0_pay8 (F := Ideal) (k0_pay2 y w0 d w1) x g
    = k0_pay5 (k0_pay3 y w0 d w1 x) (k0_pay4 y w0 d w1 x) (Scalar.ofBits .f32 0x44800000#32) g := rfl
theorem pay6_eq (v s e g w) : k0_pay6 (F := Ideal) v s e g w = k0_pay1 (k0_pay5 v s e g) w := rfl

/-- The reference's sum and its scaled normed rows. -/
abbrev sum1 (X : Vec Ideal S8192x1024 .f32) (Y D : FVec Ideal S8192x512 .f32) (O : Vec Ideal S1024x1024 .f32) (R : Fin 8192) (k : Fin 1024) : EReal :=
  val_main_v2 (F := Ideal) X Y D O (ix2 R k)
abbrev nrm (X : Vec Ideal S8192x1024 .f32) (Y D : FVec Ideal S8192x512 .f32) (O : Vec Ideal S1024x1024 .f32) (G : Vec Ideal S1x1024 .f32)
    (R : Fin 8192) (k : Fin 1024) : EReal :=
  val_main_v14 (F := Ideal) X Y D O G (ix2 R k)

theorem nrm_at (y w0 d w1 x) (g : Vec Ideal S1x1024 .f32) (X : Vec Ideal S8192x1024 .f32) (Y D : FVec Ideal S8192x512 .f32) (O : Vec Ideal S1024x1024 .f32)
    (G : Vec Ideal S1x1024 .f32) (r : Fin 512) (R : Fin 8192)
    (hx : ∀ k, k0_pay3 (F := Ideal) y w0 d w1 x (ix2 r k) = sum1 X Y D O R k) (hg : g = G) (k : Fin 1024) :
    k0_pay5 (F := Ideal) (k0_pay3 y w0 d w1 x) (k0_pay4 y w0 d w1 x) (Scalar.ofBits .f32 0x44800000#32) g (ix2 r k) = nrm X Y D O G R k := by
  subst hg
  unfold nrm
  unfold sum1 at hx
  pointwise [k0_pay5, k0_pay4, val_main_v14, val_main_v13, val_main_v12, val_main_v11, val_main_v10, val_main_v9, val_main_v8, val_main_v7,
    val_main_v6, val_main_v5, val_main_v4, val_main_v3, val_main_cst, val_main_cst_0, val_main_cst_1]
  simp only [hx]

/-- The query projection. -/
theorem q_at (h : FVec Ideal S512x1024 .bf16) (w : Vec Ideal S1024x1024 .bf16) (r : Fin 512) (k : Fin 1024) :
    k0_pay1 (F := Ideal) h w (ix2 r k) = ∑ l : Fin 1024, h (ix2 r l) * w (ix2 l k) := by
  pointwise [k0_pay1]

/-- The reference's sum, its rows' two parts apart. -/
theorem sum1_eq (X : Vec Ideal S8192x1024 .f32) (Y D : FVec Ideal S8192x512 .f32) (O : Vec Ideal S1024x1024 .f32) (R : Fin 8192) (k : Fin 1024) :
    sum1 X Y D O R k = X (ix2 R k) + (∑ l : Fin 512, Y (ix2 R l) * O (ix2 (⟨512 * 0 + l, by omega⟩ : Fin 1024) k)
      + ∑ l : Fin 512, D (ix2 R l) * O (ix2 (⟨512 * 1 + l, by omega⟩ : Fin 1024) k)) := by
  unfold sum1
  pointwise [val_main_v2, val_main_v1]
  refine congrArg _ ?_
  have hY : ∀ l : Fin 512, val_main_v0 (F := Ideal) Y D (ix2 R (⟨512 * 0 + l, by omega⟩ : Fin 1024)) = Y (ix2 R l) := fun l => by
    pointwise [val_main_v0]
  have hD : ∀ l : Fin 512, val_main_v0 (F := Ideal) Y D (ix2 R (⟨512 * 1 + l, by omega⟩ : Fin 1024)) = D (ix2 R l) := fun l => by
    pointwise [val_main_v0]
  simp only [← hY, ← hD]
  let f : Fin 1024 → EReal := fun l => val_main_v0 (F := Ideal) Y D (ix2 R l) * O (ix2 l k)
  refine Eq.symm ((Fin.sum_univ_two fun s : Fin 2 => ∑ l : Fin 512, f ⟨512 * (s : ℕ) + l, by omega⟩).symm.trans ?_)
  refine (Fin.sum_mul_add_congr (n := 512) fun s l hl => congrArg f (Fin.ext ?_))
  show 512 * (s : ℕ) + (l : ℕ) = s * 512 + l
  omega

/-! ### The blocks of the arguments -/

variable (m : (ℓ : Loc nD τ sig) → Buf (Elt Ideal) ℓ) (c : Dev nD)

abbrev X : Vec Ideal S8192x1024 .f32 := m ((c : Thread nD τ).loc main_arg0)
abbrev Y : FVec Ideal S8192x512 .f32 := m ((c : Thread nD τ).loc main_arg1)
abbrev D : FVec Ideal S8192x512 .f32 := m ((c : Thread nD τ).loc main_arg2)
abbrev O : Vec Ideal S1024x1024 .f32 := m ((c : Thread nD τ).loc main_arg3)
abbrev G : Vec Ideal S1x1024 .f32 := m ((c : Thread nD τ).loc main_arg4)
abbrev Q : Vec Ideal S1024x1024 .f32 := m ((c : Thread nD τ).loc main_arg5)

theorem t_lt (t : Fin cfg0.N) : t.val < 8 := t.isLt
theorem idx_in : ∀ t : Fin cfg0.N, win0_0.index t = ![t.val, 0] ∧ win0_1.index t = ![t.val, 0] ∧ win0_2.index t = ![t.val, 0]
    ∧ win0_3.index t = ![0, 0, 0] ∧ win0_4.index t = ![0, 0] ∧ win0_5.index t = ![0, 0] :=
  (by decide +kernel : ∀ t : Fin grid0.N, _)
theorem idx_out : ∀ t : Fin cfg0.N, win0_6.index t = ![t.val, 0] ∧ win0_7.index t = ![t.val, 0] ∧ win0_8.index t = ![t.val, 0] :=
  (by decide +kernel : ∀ t : Fin grid0.N, _)

/-- Row `r` of tile `t`. -/
abbrev row (t : Fin cfg0.N) (r : Fin 1024) : Fin 8192 := ⟨1024 * t.val + r, by have := t_lt t; omega⟩

theorem blk0 (t : Fin cfg0.N) (r k : Fin 1024) : (iblk m c 0 t : Vec Ideal S1024x1024 .f32) (ix2 r k) = X m c (ix2 (row t r) k) := by
  have i0 := (idx_in t).1
  have e : (win0_0.blk t).view.emb (ix2 r k) = ix2 (row t r) k := by blk_ext [i0]
  blk_simp [iblk]
  rw [e]
  exact congrFun (V_main_arg0 m c) _

theorem host_y (R : Fin 8192) (l : Fin 512) : (V m c main_v0 : Vec Ideal S8192x512 .bf16) (ix2 R l) = Y m c (ix2 R l) := by
  entry_read
  pointwise []
theorem host_d (R : Fin 8192) (l : Fin 512) : (V m c main_v1 : Vec Ideal S8192x512 .bf16) (ix2 R l) = D m c (ix2 R l) := by
  entry_read
  pointwise []
theorem host_q (l k : Fin 1024) : (V m c main_v4 : Vec Ideal S1024x1024 .bf16) (ix2 l k) = Q m c (ix2 l k) := by
  entry_read
  pointwise []
theorem host_o (s : Fin 2) (l : Fin 512) (k : Fin 1024) :
    (V m c main_v3 : Vec Ideal S2x512x1024 .bf16) (ix3 s l k) = O m c (ix2 (⟨512 * s + l, by omega⟩ : Fin 1024) k) := by
  entry_read
  pointwise []
  refine congrArg _ (congrArg₂ (fun a b => ix2 a b) (Fin.ext ?_) (Fin.ext ?_))
  · show _ = 512 * (s : ℕ) + (l : ℕ)
    simp only []
    omega
  · show _ = (k : ℕ)
    simp only []

theorem blk1 (t : Fin cfg0.N) (r : Fin 1024) (l : Fin 512) : (iblk m c 1 t : Vec Ideal S1024x512 .bf16) (ix2 r l) = Y m c (ix2 (row t r) l) := by
  have i1 := (idx_in t).2.1
  have e : (win0_1.blk t).view.emb (ix2 r l) = ix2 (row t r) l := by blk_ext [i1]
  blk_simp [iblk]
  rw [e]
  exact host_y m c _ l

theorem blk2 (t : Fin cfg0.N) (r : Fin 1024) (l : Fin 512) : (iblk m c 2 t : Vec Ideal S1024x512 .bf16) (ix2 r l) = D m c (ix2 (row t r) l) := by
  have i2 := (idx_in t).2.2.1
  have e : (win0_2.blk t).view.emb (ix2 r l) = ix2 (row t r) l := by blk_ext [i2]
  blk_simp [iblk]
  rw [e]
  exact host_d m c _ l

theorem blk3 (t : Fin cfg0.N) (s : Fin 2) (l : Fin 512) (k : Fin 1024) :
    (iblk m c 3 t : Vec Ideal S2x512x1024 .bf16) (ix3 s l k) = O m c (ix2 (⟨512 * s + l, by omega⟩ : Fin 1024) k) := by
  have i3 := (idx_in t).2.2.2.1
  have e : (win0_3.blk t).view.emb (ix3 s l k) = ix3 s l k := by blk_ext [i3]
  blk_simp [iblk]
  rw [e]
  exact host_o m c s l k

theorem blk4_at (t : Fin cfg0.N) (k : Fin 1024) : (iblk m c 4 t : Vec Ideal S1x1024 .f32) (ix2 0 k) = G m c (ix2 0 k) := by
  have i4 := (idx_in t).2.2.2.2.1
  have e : (win0_4.blk t).view.emb (ix2 0 k) = ix2 (0 : Fin 1) k := by blk_ext [i4]
  blk_simp [iblk]
  rw [e]
  exact congrFun (V_main_arg4 m c) _

theorem blk4 (t : Fin cfg0.N) : (iblk m c 4 t : Vec Ideal S1x1024 .f32) = G m c :=
  funext fun y => (congrArg _ (eta1 y)).trans ((blk4_at m c t (y 1)).trans (congrArg _ (eta1 y).symm))

theorem blk5 (t : Fin cfg0.N) (l k : Fin 1024) : (iblk m c 5 t : Vec Ideal S1024x1024 .bf16) (ix2 l k) = Q m c (ix2 l k) := by
  have i5 := (idx_in t).2.2.2.2.2
  have e : (win0_5.blk t).view.emb (ix2 l k) = ix2 l k := by blk_ext [i5]
  blk_simp [iblk]
  rw [e]
  exact host_q m c l k

/-! ### The three outputs -/

abbrev sumAt (R : Fin 8192) (k : Fin 1024) : EReal := sum1 (X m c) (Y m c) (D m c) (O m c) R k
abbrev nrmAt (R : Fin 8192) (k : Fin 1024) : EReal := nrm (X m c) (Y m c) (D m c) (O m c) (G m c) R k
/-- The queries. -/
def qAt (R : Fin 8192) (k : Fin 1024) : EReal := ∑ l : Fin 1024, nrmAt m c R l * Q m c (ix2 l k)

theorem sum_half (t : Fin cfg0.N) (o : ℕ) (i i1 j0 i2 j1) (r : Fin 512) (h : o + (r : ℕ) < 1024) (k : Fin 1024) :
    k0_pay3 (F := Ideal) (View.ld (iblk m c 1 t : Vec Ideal S1024x512 .bf16) (Rect.unit ![o, 0] ![512, 512] i1))
      (View.ld (iblk m c 3 t : Vec Ideal S2x512x1024 .bf16) (Rect.unit ![0, 0, 0] ![1, 512, 1024] j0))
      (View.ld (iblk m c 2 t : Vec Ideal S1024x512 .bf16) (Rect.unit ![o, 0] ![512, 512] i2))
      (View.ld (iblk m c 3 t : Vec Ideal S2x512x1024 .bf16) (Rect.unit ![1, 0, 0] ![1, 512, 1024] j1))
      (View.ld (iblk m c 0 t : Vec Ideal S1024x1024 .f32) (Rect.unit ![o, 0] ![512, 1024] i)) (ix2 r k) = sumAt m c (row t ⟨o + r, h⟩) k := by
  refine (x1_at _ _ _ _ _ r k).trans (Eq.trans ?_ (sum1_eq _ _ _ _ _ _).symm)
  refine congr (congrArg _ ((ld_half _ o i r h k).trans (blk0 m c t _ k))) (congr (congrArg _ ?_) ?_)
  · exact Finset.sum_congr rfl fun l _ => congr (congrArg _ ((ld_half _ o i1 r h l).trans (blk1 m c t _ l)))
      ((ld_block _ 0 (by omega) j0 l k).trans (blk3 m c t _ l k))
  · exact Finset.sum_congr rfl fun l _ => congr (congrArg _ ((ld_half _ o i2 r h l).trans (blk2 m c t _ l)))
      ((ld_block _ 1 (by omega) j1 l k).trans (blk3 m c t _ l k))

theorem nrm_half (t : Fin cfg0.N) (o : ℕ) (i i1 j0 i2 j1 i4) (r : Fin 512) (h : o + (r : ℕ) < 1024) (k : Fin 1024) :
    k0_pay5 (F := Ideal) (k0_pay3 (View.ld (iblk m c 1 t : Vec Ideal S1024x512 .bf16) (Rect.unit ![o, 0] ![512, 512] i1))
        (View.ld (iblk m c 3 t : Vec Ideal S2x512x1024 .bf16) (Rect.unit ![0, 0, 0] ![1, 512, 1024] j0))
        (View.ld (iblk m c 2 t : Vec Ideal S1024x512 .bf16) (Rect.unit ![o, 0] ![512, 512] i2))
        (View.ld (iblk m c 3 t : Vec Ideal S2x512x1024 .bf16) (Rect.unit ![1, 0, 0] ![1, 512, 1024] j1))
        (View.ld (iblk m c 0 t : Vec Ideal S1024x1024 .f32) (Rect.unit ![o, 0] ![512, 1024] i)))
      (k0_pay4 (View.ld (iblk m c 1 t : Vec Ideal S1024x512 .bf16) (Rect.unit ![o, 0] ![512, 512] i1))
        (View.ld (iblk m c 3 t : Vec Ideal S2x512x1024 .bf16) (Rect.unit ![0, 0, 0] ![1, 512, 1024] j0))
        (View.ld (iblk m c 2 t : Vec Ideal S1024x512 .bf16) (Rect.unit ![o, 0] ![512, 512] i2))
        (View.ld (iblk m c 3 t : Vec Ideal S2x512x1024 .bf16) (Rect.unit ![1, 0, 0] ![1, 512, 1024] j1))
        (View.ld (iblk m c 0 t : Vec Ideal S1024x1024 .f32) (Rect.unit ![o, 0] ![512, 1024] i)))
      (Scalar.ofBits .f32 0x44800000#32) (View.ld (iblk m c 4 t : Vec Ideal S1x1024 .f32) (Rect.unit ![0, 0] ![1, 1024] i4)) (ix2 r k)
      = nrmAt m c (row t ⟨o + r, h⟩) k :=
  nrm_at _ _ _ _ _ _ _ _ _ _ _ r _ (sum_half m c t o i i1 j0 i2 j1 r h) ((ld_all (s := S1x1024) _ _ _ zero2).trans (blk4 m c t)) k

theorem q_half (t : Fin cfg0.N) (o : ℕ) (i5) (n : FVec Ideal S512x1024 .bf16)
    (hn : ∀ (r : Fin 512) (h : o + (r : ℕ) < 1024) (k : Fin 1024), n (ix2 r k) = nrmAt m c (row t ⟨o + r, h⟩) k)
    (r : Fin 512) (h : o + (r : ℕ) < 1024) (k : Fin 1024) :
    k0_pay1 (F := Ideal) n (View.ld (iblk m c 5 t : Vec Ideal S1024x1024 .bf16) (Rect.unit ![0, 0] ![1024, 1024] i5)) (ix2 r k)
      = qAt m c (row t ⟨o + r, h⟩) k := by
  refine (q_at _ _ r k).trans (Finset.sum_congr rfl fun l _ => congr (congrArg _ (hn r h l)) ?_)
  exact (congrFun (ld_all (s := S1024x1024) _ _ _ zero2) _).trans (blk5 m c t l k)

theorem out6_at (t : Fin cfg0.N) (r k : Fin 1024) :
    out0_6 (F := Ideal) (iblk m c 0 t) (iblk m c 1 t) (iblk m c 2 t) (iblk m c 3 t) (iblk m c 4 t) (iblk m c 5 t) (ix2 r k) = sumAt m c (row t r) k := by
  unfold_out out0_6
  rw [pay7_eq]
  exact two (e := .f32) (fun r k => sumAt m c (row t r) k) _ _ _ _ _ (sum_half m c t 512 _ _ _ _ _) (sum_half m c t 0 _ _ _ _ _) r k

theorem out7_at (t : Fin cfg0.N) (r k : Fin 1024) :
    out0_7 (F := Ideal) (iblk m c 0 t) (iblk m c 1 t) (iblk m c 2 t) (iblk m c 3 t) (iblk m c 4 t) (iblk m c 5 t) (ix2 r k) = nrmAt m c (row t r) k := by
  unfold_out out0_7
  rw [pay8_eq]
  exact two (e := .bf16) (fun r k => nrmAt m c (row t r) k) _ _ _ _ _ (nrm_half m c t 512 _ _ _ _ _ _) (nrm_half m c t 0 _ _ _ _ _ _) r k

theorem out8_at (t : Fin cfg0.N) (r k : Fin 1024) :
    out0_8 (F := Ideal) (iblk m c 0 t) (iblk m c 1 t) (iblk m c 2 t) (iblk m c 3 t) (iblk m c 4 t) (iblk m c 5 t) (ix2 r k) = qAt m c (row t r) k := by
  unfold_out out0_8
  rw [pay8_eq, pay6_eq]
  exact two (e := .bf16) (fun r k => qAt m c (row t r) k) _ _ _ _ _ (q_half m c t 512 _ _ (nrm_half m c t 512 _ _ _ _ _ _))
    (q_half m c t 0 _ _ (nrm_half m c t 0 _ _ _ _ _ _)) r k

/-! ### The arrays, and the reference's -/

/-- The three results, whole. -/
def sA : Vec Ideal S8192x1024 .f32 := fun i => sumAt m c (i 0) (i 1)
def hA : Vec Ideal S8192x1024 .bf16 := fun i => nrmAt m c (i 0) (i 1)
def qA : Vec Ideal S8192x1024 .bf16 := fun i => qAt m c (i 0) (i 1)

theorem arr6 : (dats m 0 c).arrAt 6 cfg0.N = sA m c := by
  refine (dats m 0 c).arrAt_eq_of_covers 6 _ (by decide +kernel) fun t hf y => ?_
  have i6 := (idx_out t).1
  have e : ∀ (r k : Fin 1024), (win0_6.blk t).view.emb (ix2 r k) = ix2 (row t r) k := fun r k => by blk_ext [i6]
  blk_simp
  rw [after0_6]
  exact (congrArg _ (eta2 y)).trans ((out6_at m c t (y 0) (y 1)).trans
    (congrArg (sA m c) ((congrArg (win0_6.blk t).view.emb (eta2 y)).trans (e (y 0) (y 1)))).symm)

theorem arr7 : (dats m 0 c).arrAt 7 cfg0.N = hA m c := by
  refine (dats m 0 c).arrAt_eq_of_covers 7 _ (by decide +kernel) fun t hf y => ?_
  have i7 := (idx_out t).2.1
  have e : ∀ (r k : Fin 1024), (win0_7.blk t).view.emb (ix2 r k) = ix2 (row t r) k := fun r k => by blk_ext [i7]
  blk_simp
  rw [after0_7]
  exact (congrArg _ (eta2 y)).trans ((out7_at m c t (y 0) (y 1)).trans
    (congrArg (hA m c) ((congrArg (win0_7.blk t).view.emb (eta2 y)).trans (e (y 0) (y 1)))).symm)

theorem arr8 : (dats m 0 c).arrAt 8 cfg0.N = qA m c := by
  refine (dats m 0 c).arrAt_eq_of_covers 8 _ (by decide +kernel) fun t hf y => ?_
  have i8 := (idx_out t).2.2
  have e : ∀ (r k : Fin 1024), (win0_8.blk t).view.emb (ix2 r k) = ix2 (row t r) k := fun r k => by blk_ext [i8]
  blk_simp
  rw [after0_8]
  exact (congrArg _ (eta2 y)).trans ((out8_at m c t (y 0) (y 1)).trans
    (congrArg (qA m c) ((congrArg (win0_8.blk t).view.emb (eta2 y)).trans (e (y 0) (y 1)))).symm)

theorem ref_h (R : Fin 8192) (k : Fin 1024) : val_main_v15 (F := Ideal) (X m c) (Y m c) (D m c) (O m c) (G m c) (ix2 R k) = nrmAt m c R k := by
  pointwise [val_main_v15]

theorem ref_q (R : Fin 8192) (k : Fin 1024) : val_main_v17 (F := Ideal) (X m c) (Y m c) (D m c) (O m c) (G m c) (Q m c) (ix2 R k) = qAt m c R k := by
  pointwise [val_main_v17, val_main_v16]
  exact rfl

theorem frame_ref : Cert.quiescent_ReferenceJoinIdeal := fun m g _ =>
  (θ_run _ _ _).mono (fun r h => ⟨fun c => (h c).2.2.2, sem_eq_zero_of_no_sems (by decide) r.2⟩) (Cert.ReferenceJoinIdeal.Value.run m g)

set_option maxHeartbeats 1600000 in
theorem agree : Cert.algebraic_KernelJoinIdeal_ReferenceJoinIdeal := by
  pair_intro
  · exact Cert.KernelJoinIdeal.Value.run_blocks m g
  · refine (θ_run _ _ _).mono (fun r h c => ⟨(h c).1.trans ?_, (h c).2.1.trans ?_, (h c).2.2.1.trans ?_, (h c).2.2.2⟩) (Cert.ReferenceJoinIdeal.Value.run m' g')
    · obtain ⟨e0, e1, e2, e3, e4, e5⟩ := hagree c
      refine (Cert.ReferenceJoinIdeal.Read.val_main_v2_eq (F := Ideal) _ _ _ _).trans (Eq.trans ?_ (arr6 m c).symm)
      rw [e0, e1, e2, e3]
      exact funext fun i => congrArg _ (eta2 i)
    · obtain ⟨e0, e1, e2, e3, e4, e5⟩ := hagree c
      refine (Cert.ReferenceJoinIdeal.Read.val_main_v15_eq (F := Ideal) _ _ _ _ _).trans (Eq.trans ?_ (arr7 m c).symm)
      rw [e0, e1, e2, e3, e4]
      exact funext fun i => (congrArg _ (eta2 i)).trans (ref_h m c (i 0) (i 1))
    · obtain ⟨e0, e1, e2, e3, e4, e5⟩ := hagree c
      refine (Cert.ReferenceJoinIdeal.Read.val_main_v17_eq (F := Ideal) _ _ _ _ _ _).trans (Eq.trans ?_ (arr8 m c).symm)
      rw [e0, e1, e2, e3, e4, e5]
      exact funext fun i => (congrArg _ (eta2 i)).trans (ref_q m c (i 0) (i 1))

end Cert.Lead.Join
-- ==== Proof.Wgrad.Sum.lean ====
/- A product of 8192 rows, taken 2048 rows at a time. -/
module
public import Idealize.ShloMosaic.Lib.Pointwise
@[expose] public section
noncomputable section
open Idealize.ShloMosaic

namespace Cert.Wgrad

theorem row_lt (s : Fin 4) (r : Fin 2048) : 2048 * (s : ℕ) + r < 8192 := by omega

/-- The sum over four blocks of 2048 rows is the sum over all rows. -/
theorem sum_blocks (g : Fin 8192 → EReal) : ∑ s : Fin 4, ∑ r : Fin 2048, g ⟨2048 * s + r, row_lt s r⟩ = ∑ k, g k := by
  rw [← Fintype.sum_prod_type' (f := fun (s : Fin 4) (r : Fin 2048) => g ⟨2048 * s + r, row_lt s r⟩)]
  refine Fintype.sum_equiv (finProdFinEquiv (m := 4) (n := 2048)) _ _ fun x => congrArg g (Fin.ext ?_)
  show 2048 * (x.1 : ℕ) + x.2 = x.2 + 2048 * x.1
  omega

/-- An accumulator that is started anew at every fourth point, and takes one block of rows at each, holds after the fourth
    the sum over all rows. -/
theorem acc_last {N : ℕ} (s : (n : ℕ) → n < N → EReal) (g : Fin 8192 → EReal) (q : ℕ) (hq : 4 * q + 3 < N)
    (hA : ∀ n hn, n / 4 = q → n % 4 = 0 → s n hn = 0 + ∑ r : Fin 2048, g ⟨2048 * (n % 4) + r, by omega⟩)
    (hB : ∀ n hn, n / 4 = q → n % 4 ≠ 0 → s n hn = s (n - 1) (by omega) + ∑ r : Fin 2048, g ⟨2048 * (n % 4) + r, by omega⟩) :
    s (4 * q + 3) hq = ∑ k, g k := by
  have e : ∀ (n : ℕ) (b : Fin 4), n % 4 = b → ∑ r : Fin 2048, g ⟨2048 * (n % 4) + r, by omega⟩ = ∑ r : Fin 2048, g ⟨2048 * b + r, row_lt b r⟩ :=
    fun n b h => Finset.sum_congr rfl fun r _ => congrArg g (Fin.ext (by show 2048 * (n % 4) + (r : ℕ) = 2048 * (b : ℕ) + r; rw [h]))
  have h3 := hB (4 * q + 3) hq (by omega) (by omega)
  have h2 := hB (4 * q + 2) (by omega) (by omega) (by omega)
  have h1 := hB (4 * q + 1) (by omega) (by omega) (by omega)
  have h0 := hA (4 * q) (by omega) (by omega) (by omega)
  rw [e _ 3 (show _ = 3 by omega)] at h3
  rw [e _ 2 (show _ = 2 by omega)] at h2
  rw [e _ 1 (show _ = 1 by omega)] at h1
  rw [e _ 0 (show _ = 0 by omega), zero_add] at h0
  rw [← sum_blocks, Fin.sum_univ_four, h3]
  show s (4 * q + 2) _ + _ = _
  rw [h2]
  show s (4 * q + 1) _ + _ + _ = _
  rw [h1]
  show s (4 * q) _ + _ + _ + _ = _
  rw [h0]

/-- An index of three axes is its three coordinates. -/
theorem eta3 {a b c : ℕ} (y : (⟨3, ![a, b, c]⟩ : Shape).Idx) : y = ix3 (y 0) (y 1) (y 2) :=
  funext fun a => match a with | ⟨0, _⟩ => rfl | ⟨1, _⟩ => rfl | ⟨2, _⟩ => rfl

end Cert.Wgrad
-- ==== Proof.Wgrad.Up.lean ====
/- The gradient of the up projection's weight: what the call computes, and that the reference computes it too. -/
module
public import proofs.«01_k».proof.Proof.Wgrad.Sum
public import proofs.«01_k».proof.Proof.Gen.KernelUpIdeal.Value
public import proofs.«01_k».proof.Proof.Gen.ReferenceUpIdeal.Read
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Cert.KernelUpIdeal Cert.KernelUpIdeal.Gen

namespace Cert.Wgrad.Up

variable (m : (ℓ : Loc nD τ sig) → Buf (Elt Ideal) ℓ) (c : Dev nD)

/-- The two arguments, as functions of row and column. -/
abbrev A (R : Fin 8192) (k : Fin 1024) : EReal := m ((c : Thread nD τ).loc main_arg0) (ix2 R k)
abbrev B (R : Fin 8192) (n : Fin 6144) : EReal := m ((c : Thread nD τ).loc main_arg1) (ix2 R n)

theorem idx_in : ∀ t : Fin cfg0.N, win0_0.index t = ![0, t.val % 4, 0] ∧ win0_1.index t = ![t.val / 4, t.val % 4, 0] :=
  (by decide +kernel : ∀ t : Fin grid0.N, _)

theorem t_lt (t : Fin cfg0.N) : t.val < 16 := t.isLt

theorem blk0 (t : Fin cfg0.N) (r : Fin 2048) (k : Fin 1024) :
    (iblk m c 0 t : Vec Ideal S1x2048x1024 .bf16) (ix3 0 r k) = A m c ⟨2048 * (t.val % 4) + r, by omega⟩ k := by
  have i0 := (idx_in t).1
  have e : (win0_0.blk t).view.emb (ix3 0 r k) = ix3 (0 : Fin 1) (⟨2048 * (t.val % 4) + r, by omega⟩ : Fin 8192) k := by blk_ext [i0]
  blk_simp [iblk]
  rw [e]
  entry_read
  pointwise []

theorem blk1 (t : Fin cfg0.N) (r : Fin 2048) (n : Fin 1536) :
    (iblk m c 1 t : Vec Ideal S1x2048x1536 .bf16) (ix3 0 r n)
      = B m c ⟨2048 * (t.val % 4) + r, by omega⟩ ⟨1536 * (t.val / 4) + n, by have := t_lt t; omega⟩ := by
  have ht := t_lt t
  have i1 := (idx_in t).2
  have e : (win0_1.blk t).view.emb (ix3 0 r n) = ix3 (⟨t.val / 4, by omega⟩ : Fin 4) (⟨2048 * (t.val % 4) + r, by omega⟩ : Fin 8192) n := by blk_ext [i1]
  blk_simp [iblk]
  rw [e]
  entry_read
  pointwise []
  refine congrArg _ (congrArg _ (Fin.ext ?_))
  show _ = 1536 * (t.val / 4) + (n : ℕ)
  simp only []
  omega

/-- One step of the accumulator. -/
theorem pay_at (s : Vec Ideal S1x1024x1536 .f32) (x : Vec Ideal S1x2048x1024 .bf16) (y : Vec Ideal S1x2048x1536 .bf16)
    (k : Fin 1024) (n : Fin 1536) :
    k0_pay2 (F := Ideal) s x y (ix3 0 k n) = s (ix3 0 k n) + ∑ r : Fin 2048, x (ix3 0 r k) * y (ix3 0 r n) := by
  pointwise [k0_pay2]

/-- One row's term of one entry of the gradient. -/
def term (j : ℕ) (hj : j < 4) (k : Fin 1024) (n : Fin 1536) (R : Fin 8192) : EReal := A m c R k * B m c R ⟨1536 * j + n, by omega⟩

theorem div_lt (t : Fin cfg0.N) : t.val / 4 < 4 := by have := t_lt t; omega

theorem block_sum (t : Fin cfg0.N) (k : Fin 1024) (n : Fin 1536) (s : Vec Ideal S1x1024x1536 .f32) :
    k0_pay2 (F := Ideal) s (iblk m c 0 t) (iblk m c 1 t) (ix3 0 k n)
      = s (ix3 0 k n) + ∑ r : Fin 2048, term m c (t.val / 4) (div_lt t) k n ⟨2048 * (t.val % 4) + r, by omega⟩ := by
  refine (pay_at _ _ _ k n).trans (congrArg _ (Finset.sum_congr rfl fun r _ => ?_))
  rw [blk0, blk1]
  rfl

theorem acc_A (t : Fin cfg0.N) (h0 : t.val % 4 = 0) (k : Fin 1024) (n : Fin 1536) :
    (outsAt0 m c t.val t.isLt).2 (ix3 0 k n)
      = 0 + ∑ r : Fin 2048, term m c (t.val / 4) (div_lt t) k n ⟨2048 * (t.val % 4) + r, by omega⟩ := by
  rw [outsAt0_A m c t h0 (by omega)]; dsimp only; frame_out
  refine (block_sum m c t k n _).trans (congrArg (· + _) ?_)
  pointwise [k0_pay1]

theorem acc_B (t : Fin cfg0.N) (h0 : ¬t.val % 4 = 0) (k : Fin 1024) (n : Fin 1536) :
    (outsAt0 m c t.val t.isLt).2 (ix3 0 k n) = (outsAt0 m c (t.val - 1) (Nat.lt_of_le_of_lt (Nat.sub_le _ _) t.isLt)).2 (ix3 0 k n)
      + ∑ r : Fin 2048, term m c (t.val / 4) (div_lt t) k n ⟨2048 * (t.val % 4) + r, by omega⟩ := by
  by_cases h1 : t.val % 4 = 3
  · rw [outsAt0_C m c t h0 h1]; dsimp only; frame_out
    exact (block_sum m c t k n _).trans (congrArg (fun s : Vec Ideal S1x1024x1536 .f32 => s (ix3 0 k n) + _) (Memref.IsWhole.read_unread _ _))
  · rw [outsAt0_B m c t h0 h1]; dsimp only; frame_out
    exact (block_sum m c t k n _).trans (congrArg (fun s : Vec Ideal S1x1024x1536 .f32 => s (ix3 0 k n) + _) (Memref.IsWhole.read_unread _ _))

theorem out_C (t : Fin cfg0.N) (h1 : t.val % 4 = 3) (k : Fin 1024) (n : Fin 1536) :
    (outsAt0 m c t.val t.isLt).1 (ix3 0 k n) = (outsAt0 m c t.val t.isLt).2 (ix3 0 k n) := by
  rw [outsAt0_C m c t (by omega) h1]; dsimp only; frame_out
  pointwise [k0_pay3]

theorem term_congr {j j' : ℕ} (h : j = j') (hj : j < 4) (hj' : j' < 4) (k : Fin 1024) (n : Fin 1536) (R : Fin 8192) :
    term m c j hj k n R = term m c j' hj' k n R := by subst h; rfl

/-- What the last point of block `j` writes back. -/
theorem out_at (j : Fin 4) (k : Fin 1024) (n : Fin 1536) (h : 4 * (j : ℕ) + 3 < cfg0.N) :
    (outsAt0 m c (4 * j + 3) h).1 (ix3 0 k n) = ∑ R, term m c j j.isLt k n R := by
  refine (out_C m c ⟨_, h⟩ (show (4 * (j : ℕ) + 3) % 4 = 3 by omega) k n).trans ?_
  refine acc_last (fun n' h' => (outsAt0 m c n' h').2 (ix3 0 k n)) _ j h ?_ ?_
  · intro n' hn' hq h0
    refine (acc_A m c ⟨n', hn'⟩ h0 k n).trans (congrArg _ (Finset.sum_congr rfl fun r _ => ?_))
    exact term_congr m c hq _ _ k n _
  · intro n' hn' hq h0
    refine (acc_B m c ⟨n', hn'⟩ h0 k n).trans (congrArg _ (Finset.sum_congr rfl fun r _ => ?_))
    exact term_congr m c hq _ _ k n _

theorem fold_out (i : S4x1024x1536.Idx) (n : ℕ) (hn : n < cfg0.N) (h : Value.pt2Of i = n) :
    Value.G2 m c i = (outsAt0 m c n hn).1 (Value.loc2Of i) := by
  subst h
  unfold Value.G2
  rw [dif_pos hn, Value.outsAt0_sweep]

/-- The array after the run. -/
theorem out_eq (j : Fin 4) (k : Fin 1024) (n : Fin 1536) : Value.G2 m c (ix3 j k n) = ∑ R, term m c j j.isLt k n R := by
  have h : 4 * (j : ℕ) + 3 < cfg0.N := show 4 * (j : ℕ) + 3 < 16 by omega
  refine (fold_out m c _ _ h ?_).trans (Eq.trans (congrArg _ ?_) (out_at m c j k n h))
  · show 4 * (1 * ((j : ℕ) / 1 - 0) + 1 * ((k : ℕ) / 1024 - 0) + 1 * ((n : ℕ) / 1536 - 0)) + 3 = 4 * (j : ℕ) + 3
    omega
  · refine funext fun a => Fin.ext ?_
    exact match a with
    | ⟨0, _⟩ => by show (j : ℕ) % 1 = 0; omega
    | ⟨1, _⟩ => by show (k : ℕ) % 1024 = k; omega
    | ⟨2, _⟩ => by show (n : ℕ) % 1536 = n; omega

/-- An entry of the reference. -/
theorem ref_at (x : Vec Ideal S8192x1024 .f32) (y : Vec Ideal S8192x6144 .f32) (j : Fin 4) (k : Fin 1024) (n : Fin 1536) :
    Cert.ReferenceUpIdeal.Read.val_main_v6 (F := Ideal) x y (ix3 j k n)
      = ∑ R : Fin 8192, y (ix2 R ⟨1536 * j + n, by omega⟩) * x (ix2 R k) := by
  pointwise [Cert.ReferenceUpIdeal.Read.val_main_v6, Cert.ReferenceUpIdeal.Read.val_main_v5, Cert.ReferenceUpIdeal.Read.val_main_v4,
    Cert.ReferenceUpIdeal.Read.val_main_v3, Cert.ReferenceUpIdeal.Read.val_main_v2]
  refine Finset.sum_congr rfl fun R _ => congrArg (· * _) (congrArg y (congrArg (ix2 R) (Fin.ext ?_)))
  show (j : ℕ) * 1536 + (n : ℕ) = 1536 * (j : ℕ) + n
  omega

/-- The reference's array is the call's. -/
theorem same : Cert.ReferenceUpIdeal.Read.val_main_v6 (F := Ideal) (m ((c : Thread nD τ).loc main_arg0)) (m ((c : Thread nD τ).loc main_arg1))
    = (Value.G2 m c : Vec Ideal S4x1024x1536 .bf16) := by
  funext i
  rw [eta3 i]
  refine (ref_at _ _ _ _ _).trans (Eq.trans (Finset.sum_congr rfl fun R _ => ?_) (out_eq m c _ _ _).symm)
  exact mul_comm _ _

theorem frame_ref : Cert.quiescent_ReferenceUpIdeal := fun m g _ =>
  (θ_run _ _ _).mono (fun r h => ⟨fun c => (h c).2, sem_eq_zero_of_no_sems (by decide) r.2⟩) (Cert.ReferenceUpIdeal.Value.run m g)

theorem agree : Cert.algebraic_KernelUpIdeal_ReferenceUpIdeal := by
  pair_intro
  · run_from Value.run m g
  · run_from Cert.ReferenceUpIdeal.Value.run m' g'
    exact (Cert.ReferenceUpIdeal.Read.val_main_v6_eq (F := Ideal) _ _).trans (same m c)

end Cert.Wgrad.Up
-- ==== Proof.Wgrad.Down.lean ====
/- The gradient of the down projection's weight: what the call computes, and that the reference computes it too. -/
module
public import proofs.«01_k».proof.Proof.Wgrad.Sum
public import proofs.«01_k».proof.Proof.Gen.KernelDownIdeal.Value
public import proofs.«01_k».proof.Proof.Gen.ReferenceDownIdeal.Read
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Cert.KernelDownIdeal Cert.KernelDownIdeal.Gen

namespace Cert.Wgrad.Down

variable (m : (ℓ : Loc nD τ sig) → Buf (Elt Ideal) ℓ) (c : Dev nD)

/-- The two arguments, as functions of row and column. -/
abbrev A (R : Fin 8192) (k : Fin 3072) : EReal := m ((c : Thread nD τ).loc main_arg0) (ix2 R k)
abbrev B (R : Fin 8192) (n : Fin 1024) : EReal := m ((c : Thread nD τ).loc main_arg1) (ix2 R n)

theorem idx_in : ∀ t : Fin cfg0.N, win0_0.index t = ![t.val / 4, t.val % 4, 0] ∧ win0_1.index t = ![0, t.val % 4, 0] :=
  (by decide +kernel : ∀ t : Fin grid0.N, _)

theorem t_lt (t : Fin cfg0.N) : t.val < 8 := t.isLt

theorem blk0 (t : Fin cfg0.N) (r : Fin 2048) (k : Fin 1536) :
    (iblk m c 0 t : Vec Ideal S1x2048x1536 .bf16) (ix3 0 r k)
      = A m c ⟨2048 * (t.val % 4) + r, by omega⟩ ⟨1536 * (t.val / 4) + k, by have := t_lt t; omega⟩ := by
  have ht := t_lt t
  have i0 := (idx_in t).1
  have e : (win0_0.blk t).view.emb (ix3 0 r k) = ix3 (⟨t.val / 4, by omega⟩ : Fin 2) (⟨2048 * (t.val % 4) + r, by omega⟩ : Fin 8192) k := by blk_ext [i0]
  blk_simp [iblk]
  rw [e]
  entry_read
  pointwise []
  refine congrArg _ (congrArg _ (Fin.ext ?_))
  show _ = 1536 * (t.val / 4) + (k : ℕ)
  simp only []
  omega

theorem blk1 (t : Fin cfg0.N) (r : Fin 2048) (n : Fin 1024) :
    (iblk m c 1 t : Vec Ideal S1x2048x1024 .f32) (ix3 0 r n) = B m c ⟨2048 * (t.val % 4) + r, by omega⟩ n := by
  have i1 := (idx_in t).2
  have e : (win0_1.blk t).view.emb (ix3 0 r n) = ix3 (0 : Fin 1) (⟨2048 * (t.val % 4) + r, by omega⟩ : Fin 8192) n := by blk_ext [i1]
  blk_simp [iblk]
  rw [e]
  entry_read
  pointwise []

/-- One step of the accumulator. -/
theorem pay_at (s : Vec Ideal S1x1536x1024 .f32) (x : Vec Ideal S1x2048x1536 .bf16) (y : Vec Ideal S1x2048x1024 .f32)
    (k : Fin 1536) (n : Fin 1024) :
    k0_pay2 (F := Ideal) s x y (ix3 0 k n) = s (ix3 0 k n) + ∑ r : Fin 2048, x (ix3 0 r k) * y (ix3 0 r n) := by
  pointwise [k0_pay2]

/-- One row's term of one entry of the gradient. -/
def term (j : ℕ) (hj : j < 2) (k : Fin 1536) (n : Fin 1024) (R : Fin 8192) : EReal := A m c R ⟨1536 * j + k, by omega⟩ * B m c R n

theorem div_lt (t : Fin cfg0.N) : t.val / 4 < 2 := by have := t_lt t; omega

theorem block_sum (t : Fin cfg0.N) (k : Fin 1536) (n : Fin 1024) (s : Vec Ideal S1x1536x1024 .f32) :
    k0_pay2 (F := Ideal) s (iblk m c 0 t) (iblk m c 1 t) (ix3 0 k n)
      = s (ix3 0 k n) + ∑ r : Fin 2048, term m c (t.val / 4) (div_lt t) k n ⟨2048 * (t.val % 4) + r, by omega⟩ := by
  refine (pay_at _ _ _ k n).trans (congrArg _ (Finset.sum_congr rfl fun r _ => ?_))
  rw [blk0, blk1]
  rfl

theorem acc_A (t : Fin cfg0.N) (h0 : t.val % 4 = 0) (k : Fin 1536) (n : Fin 1024) :
    (outsAt0 m c t.val t.isLt).2 (ix3 0 k n)
      = 0 + ∑ r : Fin 2048, term m c (t.val / 4) (div_lt t) k n ⟨2048 * (t.val % 4) + r, by omega⟩ := by
  rw [outsAt0_A m c t h0 (by omega)]; dsimp only; frame_out
  refine (block_sum m c t k n _).trans (congrArg (· + _) ?_)
  pointwise [k0_pay1]

theorem acc_B (t : Fin cfg0.N) (h0 : ¬t.val % 4 = 0) (k : Fin 1536) (n : Fin 1024) :
    (outsAt0 m c t.val t.isLt).2 (ix3 0 k n) = (outsAt0 m c (t.val - 1) (Nat.lt_of_le_of_lt (Nat.sub_le _ _) t.isLt)).2 (ix3 0 k n)
      + ∑ r : Fin 2048, term m c (t.val / 4) (div_lt t) k n ⟨2048 * (t.val % 4) + r, by omega⟩ := by
  by_cases h1 : t.val % 4 = 3
  · rw [outsAt0_C m c t h0 h1]; dsimp only; frame_out
    exact (block_sum m c t k n _).trans (congrArg (fun s : Vec Ideal S1x1536x1024 .f32 => s (ix3 0 k n) + _) (Memref.IsWhole.read_unread _ _))
  · rw [outsAt0_B m c t h0 h1]; dsimp only; frame_out
    exact (block_sum m c t k n _).trans (congrArg (fun s : Vec Ideal S1x1536x1024 .f32 => s (ix3 0 k n) + _) (Memref.IsWhole.read_unread _ _))

theorem out_C (t : Fin cfg0.N) (h1 : t.val % 4 = 3) (k : Fin 1536) (n : Fin 1024) :
    (outsAt0 m c t.val t.isLt).1 (ix3 0 k n) = (outsAt0 m c t.val t.isLt).2 (ix3 0 k n) := by
  rw [outsAt0_C m c t (by omega) h1]; dsimp only; frame_out
  pointwise [k0_pay3]

theorem term_congr {j j' : ℕ} (h : j = j') (hj : j < 2) (hj' : j' < 2) (k : Fin 1536) (n : Fin 1024) (R : Fin 8192) :
    term m c j hj k n R = term m c j' hj' k n R := by subst h; rfl

/-- What the last point of block `j` writes back. -/
theorem out_at (j : Fin 2) (k : Fin 1536) (n : Fin 1024) (h : 4 * (j : ℕ) + 3 < cfg0.N) :
    (outsAt0 m c (4 * j + 3) h).1 (ix3 0 k n) = ∑ R, term m c j j.isLt k n R := by
  refine (out_C m c ⟨_, h⟩ (show (4 * (j : ℕ) + 3) % 4 = 3 by omega) k n).trans ?_
  refine acc_last (fun n' h' => (outsAt0 m c n' h').2 (ix3 0 k n)) _ j h ?_ ?_
  · intro n' hn' hq h0
    refine (acc_A m c ⟨n', hn'⟩ h0 k n).trans (congrArg _ (Finset.sum_congr rfl fun r _ => ?_))
    exact term_congr m c hq _ _ k n _
  · intro n' hn' hq h0
    refine (acc_B m c ⟨n', hn'⟩ h0 k n).trans (congrArg _ (Finset.sum_congr rfl fun r _ => ?_))
    exact term_congr m c hq _ _ k n _

theorem fold_out (i : S2x1536x1024.Idx) (n : ℕ) (hn : n < cfg0.N) (h : Value.pt2Of i = n) :
    Value.G2 m c i = (outsAt0 m c n hn).1 (Value.loc2Of i) := by
  subst h
  unfold Value.G2
  rw [dif_pos hn, Value.outsAt0_sweep]

/-- The array after the run. -/
theorem out_eq (j : Fin 2) (k : Fin 1536) (n : Fin 1024) : Value.G2 m c (ix3 j k n) = ∑ R, term m c j j.isLt k n R := by
  have h : 4 * (j : ℕ) + 3 < cfg0.N := show 4 * (j : ℕ) + 3 < 8 by omega
  refine (fold_out m c _ _ h ?_).trans (Eq.trans (congrArg _ ?_) (out_at m c j k n h))
  · show 4 * (1 * ((j : ℕ) / 1 - 0) + 1 * ((k : ℕ) / 1536 - 0) + 1 * ((n : ℕ) / 1024 - 0)) + 3 = 4 * (j : ℕ) + 3
    omega
  · refine funext fun a => Fin.ext ?_
    exact match a with
    | ⟨0, _⟩ => by show (j : ℕ) % 1 = 0; omega
    | ⟨1, _⟩ => by show (k : ℕ) % 1536 = k; omega
    | ⟨2, _⟩ => by show (n : ℕ) % 1024 = n; omega

/-- An entry of the reference. -/
theorem ref_at (x : Vec Ideal S8192x3072 .f32) (y : Vec Ideal S8192x1024 .f32) (j : Fin 2) (k : Fin 1536) (n : Fin 1024) :
    Cert.ReferenceDownIdeal.Read.val_main_v5 (F := Ideal) x y (ix3 j k n)
      = ∑ R : Fin 8192, y (ix2 R n) * x (ix2 R ⟨1536 * j + k, by omega⟩) := by
  pointwise [Cert.ReferenceDownIdeal.Read.val_main_v5, Cert.ReferenceDownIdeal.Read.val_main_v4,
    Cert.ReferenceDownIdeal.Read.val_main_v3, Cert.ReferenceDownIdeal.Read.val_main_v2]
  refine Finset.sum_congr rfl fun R _ => congrArg (_ * ·) (congrArg x (congrArg (ix2 R) (Fin.ext ?_)))
  show (j : ℕ) * 1536 + (k : ℕ) = 1536 * (j : ℕ) + k
  omega

/-- The reference's array is the call's. -/
theorem same : Cert.ReferenceDownIdeal.Read.val_main_v5 (F := Ideal) (m ((c : Thread nD τ).loc main_arg0)) (m ((c : Thread nD τ).loc main_arg1))
    = (Value.G2 m c : Vec Ideal S2x1536x1024 .bf16) := by
  funext i
  rw [eta3 i]
  refine (ref_at _ _ _ _ _).trans (Eq.trans (Finset.sum_congr rfl fun R _ => ?_) (out_eq m c _ _ _).symm)
  exact mul_comm _ _

theorem frame_ref : Cert.quiescent_ReferenceDownIdeal := fun m g _ =>
  (θ_run _ _ _).mono (fun r h => ⟨fun c => (h c).2, sem_eq_zero_of_no_sems (by decide) r.2⟩) (Cert.ReferenceDownIdeal.Value.run m g)

theorem agree : Cert.algebraic_KernelDownIdeal_ReferenceDownIdeal := by
  pair_intro
  · run_from Value.run m g
  · run_from Cert.ReferenceDownIdeal.Value.run m' g'
    exact (Cert.ReferenceDownIdeal.Read.val_main_v5_eq (F := Ideal) _ _).trans (same m c)

end Cert.Wgrad.Down
-- ==== Proof.Wgrad.In.lean ====
/- The gradient of the input projection's weight: what the call computes, and that the reference computes it too. -/
module
public import proofs.«01_k».proof.Proof.Wgrad.Sum
public import proofs.«01_k».proof.Proof.Ffn.Point
public import proofs.«01_k».proof.Proof.Gen.KernelInIdeal.Value
public import proofs.«01_k».proof.Proof.Gen.ReferenceInIdeal.Read
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Cert.Ffn (canon_hit canon_miss)
open Cert.KernelInIdeal Cert.KernelInIdeal.Gen

namespace Cert.Wgrad.In

variable (m : (ℓ : Loc nD τ sig) → Buf (Elt Ideal) ℓ) (c : Dev nD)

/-- The two arguments, as functions of row and column. -/
abbrev A (R : Fin 8192) (k : Fin 1024) : EReal := m ((c : Thread nD τ).loc main_arg0) (ix2 R k)
abbrev B (R : Fin 8192) (n : Fin 2048) : EReal := m ((c : Thread nD τ).loc main_arg1) (ix2 R n)

theorem idx_in : ∀ t : Fin cfg0.N, win0_0.index t = ![0, t.val, 0] ∧ win0_1.index t = ![0, t.val, 0] :=
  (by decide +kernel : ∀ t : Fin grid0.N, _)

theorem t_lt (t : Fin cfg0.N) : t.val < 4 := t.isLt

theorem blk0 (t : Fin cfg0.N) (r : Fin 2048) (k : Fin 1024) :
    (iblk m c 0 t : Vec Ideal S1x2048x1024 .bf16) (ix3 0 r k) = A m c ⟨2048 * (t.val % 4) + r, by omega⟩ k := by
  have ht := t_lt t
  have i0 := (idx_in t).1
  have e : (win0_0.blk t).view.emb (ix3 0 r k) = ix3 (0 : Fin 1) (⟨2048 * (t.val % 4) + r, by omega⟩ : Fin 8192) k := by blk_ext [i0]
  blk_simp [iblk]
  rw [e]
  entry_read
  pointwise []

theorem blk1 (t : Fin cfg0.N) (j : Fin 4) (r : Fin 2048) (n : Fin 512) :
    (iblk m c 1 t : Vec Ideal S4x2048x512 .bf16) (ix3 j r n) = B m c ⟨2048 * (t.val % 4) + r, by omega⟩ ⟨512 * j + n, by omega⟩ := by
  have ht := t_lt t
  have i1 := (idx_in t).2
  have e : (win0_1.blk t).view.emb (ix3 j r n) = ix3 j (⟨2048 * (t.val % 4) + r, by omega⟩ : Fin 8192) n := by blk_ext [i1]
  blk_simp [iblk]
  rw [e]
  entry_read
  pointwise []
  refine congrArg _ (congrArg _ (Fin.ext ?_))
  show _ = 512 * (j : ℕ) + (n : ℕ)
  simp only []
  omega

/-- One row's term of one entry of the gradient. -/
def term (j : Fin 4) (k : Fin 1024) (n : Fin 512) (R : Fin 8192) : EReal := A m c R k * B m c R ⟨512 * j + n, by omega⟩

/-- One step of one of the four accumulators. -/
theorem pay_at (s : Vec Ideal S1x1024x512 .f32) (x : Vec Ideal S1x2048x1024 .bf16) (y : Vec Ideal S1x2048x512 .bf16)
    (k : Fin 1024) (n : Fin 512) :
    k0_pay2 (F := Ideal) s x y (ix3 0 k n) = s (ix3 0 k n) + ∑ r : Fin 2048, x (ix3 0 r k) * y (ix3 0 r n) := by
  pointwise [k0_pay2]

theorem block_sum (t : Fin cfg0.N) (j : Fin 4) (k : Fin 1024) (n : Fin 512) (s : Vec Ideal S1x1024x512 .f32) (y : Vec Ideal S1x2048x512 .bf16)
    (hy : ∀ r : Fin 2048, y (ix3 0 r n) = (iblk m c 1 t : Vec Ideal S4x2048x512 .bf16) (ix3 j r n)) :
    k0_pay2 (F := Ideal) s (iblk m c 0 t) y (ix3 0 k n)
      = s (ix3 0 k n) + ∑ r : Fin 2048, term m c j k n ⟨2048 * (t.val % 4) + r, by omega⟩ := by
  refine (pay_at _ _ _ k n).trans (congrArg _ (Finset.sum_congr rfl fun r _ => ?_))
  rw [hy, blk0, blk1]
  rfl

/-- Four stores, each of one of the four blocks. -/
theorem four (w3 w2 w1 w0 : Vec Ideal S1x1024x512 .f32) (L : List (View.Piece (Elt Ideal) S4x1024x512 .f32)) (g : Fin 4 → EReal)
    (k : Fin 1024) (n : Fin 512) (h3 : w3 (ix3 0 k n) = g 3) (h2 : w2 (ix3 0 k n) = g 2) (h1 : w1 (ix3 0 k n) = g 1)
    (h0 : w0 (ix3 0 k n) = g 0) (j : Fin 4) :
    View.canon (⟨Rect.unit ![3, 0, 0] ![1, 1024, 512] inb_S4x1024x512_S1x1024x512_3_0_0, w3⟩
      :: ⟨Rect.unit ![2, 0, 0] ![1, 1024, 512] inb_S4x1024x512_S1x1024x512_2_0_0, w2⟩
      :: ⟨Rect.unit ![1, 0, 0] ![1, 1024, 512] inb_S4x1024x512_S1x1024x512_1_0_0, w1⟩
      :: ⟨Rect.unit ![0, 0, 0] ![1, 1024, 512] inb_S4x1024x512_S1x1024x512_0_0_0, w0⟩ :: L) (ix3 j k n) = g j := by
  have e : ∀ (o : ℕ) (j : Fin 4), (j : ℕ) = o → ∀ a : Fin 3, ((ix3 j k n : S4x1024x512.Idx) a : ℕ) = ![o, 0, 0] a + ((ix3 0 k n : S1x1024x512.Idx) a : ℕ) :=
    fun o j h a => match a with
    | ⟨0, _⟩ => h | ⟨1, _⟩ => (Nat.zero_add _).symm | ⟨2, _⟩ => (Nat.zero_add _).symm
  match j with
  | ⟨3, _⟩ => exact (canon_hit _ _ _ (ix3 0 k n) (e 3 3 rfl)).trans h3
  | ⟨2, _⟩ =>
    refine (canon_miss _ _ _ 0 (Or.inl (by show 2 < 3; omega))).trans ?_
    exact (canon_hit _ _ _ (ix3 0 k n) (e 2 2 rfl)).trans h2
  | ⟨1, _⟩ =>
    refine (canon_miss _ _ _ 0 (Or.inl (by show 1 < 3; omega))).trans ((canon_miss _ _ _ 0 (Or.inl (by show 1 < 2; omega))).trans ?_)
    exact (canon_hit _ _ _ (ix3 0 k n) (e 1 1 rfl)).trans h1
  | ⟨0, _⟩ =>
    refine (canon_miss _ _ _ 0 (Or.inl (by show 0 < 3; omega))).trans ((canon_miss _ _ _ 0 (Or.inl (by show 0 < 2; omega))).trans
      ((canon_miss _ _ _ 0 (Or.inl (by show 0 < 1; omega))).trans ?_))
    exact (canon_hit _ _ _ (ix3 0 k n) (e 0 0 rfl)).trans h0

theorem zero3 : ∀ a : Fin 3, (![0, 0, 0] : Fin 3 → ℕ) a = 0 := by decide

/-- The four steps are one. -/
theorem pay1_eq : k0_pay1 (F := Ideal) = k0_pay2 := rfl
theorem pay5_eq : k0_pay5 (F := Ideal) = k0_pay2 := rfl
theorem pay6_eq : k0_pay6 (F := Ideal) = k0_pay2 := rfl

/-- Block `j`'s step, at a point. -/
theorem step (t : Fin cfg0.N) (o : ℕ) (j : Fin 4) (hj : (j : ℕ) = o) (k : Fin 1024) (n : Fin 512)
    (inb : ∀ a, (![o, 0, 0] : Fin 3 → ℕ) a + (![1, 2048, 512] : Fin 3 → ℕ) a ≤ S4x2048x512.size a) (s : Vec Ideal S1x1024x512 .f32)
    (v : EReal) (hs : s (ix3 0 k n) = v) :
    k0_pay2 (F := Ideal) s (iblk m c 0 t) (View.ld (iblk m c 1 t : Vec Ideal S4x2048x512 .bf16) (Rect.unit ![o, 0, 0] ![1, 2048, 512] inb)) (ix3 0 k n)
      = v + ∑ r : Fin 2048, term m c j k n ⟨2048 * (t.val % 4) + r, by omega⟩ := by
  subst hs hj
  refine block_sum m c t j k n _ _ fun r => congrArg (iblk m c 1 t) (funext fun a => Fin.ext ?_)
  exact match a with
  | ⟨0, _⟩ => rfl
  | ⟨1, _⟩ => by show 0 + 1 * (r : ℕ) = r; omega
  | ⟨2, _⟩ => by show 0 + 1 * (n : ℕ) = n; omega

theorem acc_A (t : Fin cfg0.N) (h0 : t.val % 4 = 0) (j : Fin 4) (k : Fin 1024) (n : Fin 512) :
    (outsAt0 m c t.val t.isLt).2 (ix3 j k n) = 0 + ∑ r : Fin 2048, term m c j k n ⟨2048 * (t.val % 4) + r, by omega⟩ := by
  rw [outsAt0_A m c t h0 (by omega)]; dsimp only; frame_out
  rw [pay1_eq, pay5_eq, pay6_eq]
  refine four _ _ _ _ _ (fun j => 0 + ∑ r : Fin 2048, term m c j k n ⟨2048 * (t.val % 4) + r, by omega⟩) k n ?_ ?_ ?_ ?_ j
  · refine step m c t 3 3 rfl k n _ _ 0 ?_
    rw [View.readCov_skip _ _ _ _ _ (by decide +kernel), View.readCov_skip _ _ _ _ _ (by decide +kernel), View.readCov_skip _ _ _ _ _ (by decide +kernel),
      View.readCov_fill _ _ _ _ _ zero3]
    pointwise [k0_pay4]
  · refine step m c t 2 2 rfl k n _ _ 0 ?_
    rw [View.readCov_skip _ _ _ _ _ (by decide +kernel), View.readCov_skip _ _ _ _ _ (by decide +kernel), View.readCov_fill _ _ _ _ _ zero3]
    pointwise [k0_pay4]
  · refine step m c t 1 1 rfl k n _ _ 0 ?_
    rw [View.readCov_skip _ _ _ _ _ (by decide +kernel), View.readCov_fill _ _ _ _ _ zero3]
    pointwise [k0_pay4]
  · refine step m c t 0 0 rfl k n _ _ 0 ?_
    rw [View.readCov_fill _ _ _ _ _ zero3]
    pointwise [k0_pay4]

/-- One block of an accumulator the point before left. -/
theorem prev (o : ℕ) (j : Fin 4) (hj : (j : ℕ) = o) (inb : ∀ a, (![o, 0, 0] : Fin 3 → ℕ) a + (![1, 1024, 512] : Fin 3 → ℕ) a ≤ S4x1024x512.size a)
    (s p : Vec Ideal S4x1024x512 .f32) (hs : s = p) (k : Fin 1024) (n : Fin 512) :
    View.ld s (Rect.unit ![o, 0, 0] ![1, 1024, 512] inb) (ix3 (0 : Fin 1) k n) = p (ix3 j k n) := by
  subst hs hj
  refine congrArg s (funext fun a => Fin.ext ?_)
  exact match a with
  | ⟨0, _⟩ => rfl
  | ⟨1, _⟩ => by show 0 + 1 * (k : ℕ) = k; omega
  | ⟨2, _⟩ => by show 0 + 1 * (n : ℕ) = n; omega

theorem acc_B (t : Fin cfg0.N) (h0 : ¬t.val % 4 = 0) (j : Fin 4) (k : Fin 1024) (n : Fin 512) :
    (outsAt0 m c t.val t.isLt).2 (ix3 j k n) = (outsAt0 m c (t.val - 1) (Nat.lt_of_le_of_lt (Nat.sub_le _ _) t.isLt)).2 (ix3 j k n)
      + ∑ r : Fin 2048, term m c j k n ⟨2048 * (t.val % 4) + r, by omega⟩ := by
  by_cases h1 : t.val % 4 = 3
  · rw [outsAt0_C m c t h0 h1]; dsimp only; frame_out
    rw [pay1_eq, pay5_eq, pay6_eq]
    refine four _ _ _ _ _ (fun j => (outsAt0 m c (t.val - 1) (Nat.lt_of_le_of_lt (Nat.sub_le _ _) t.isLt)).2 (ix3 j k n) + ∑ r : Fin 2048, term m c j k n ⟨2048 * (t.val % 4) + r, by omega⟩) k n ?_ ?_ ?_ ?_ j
    · exact step m c t 3 3 rfl k n _ _ _ (prev 3 3 rfl _ _ _ (Memref.IsWhole.read_unread _ _) k n)
    · exact step m c t 2 2 rfl k n _ _ _ (prev 2 2 rfl _ _ _ (Memref.IsWhole.read_unread _ _) k n)
    · exact step m c t 1 1 rfl k n _ _ _ (prev 1 1 rfl _ _ _ (Memref.IsWhole.read_unread _ _) k n)
    · exact step m c t 0 0 rfl k n _ _ _ (prev 0 0 rfl _ _ _ (Memref.IsWhole.read_unread _ _) k n)
  · rw [outsAt0_B m c t h0 h1]; dsimp only; frame_out
    rw [pay1_eq, pay5_eq, pay6_eq]
    refine four _ _ _ _ _ (fun j => (outsAt0 m c (t.val - 1) (Nat.lt_of_le_of_lt (Nat.sub_le _ _) t.isLt)).2 (ix3 j k n) + ∑ r : Fin 2048, term m c j k n ⟨2048 * (t.val % 4) + r, by omega⟩) k n ?_ ?_ ?_ ?_ j
    · exact step m c t 3 3 rfl k n _ _ _ (prev 3 3 rfl _ _ _ (Memref.IsWhole.read_unread _ _) k n)
    · exact step m c t 2 2 rfl k n _ _ _ (prev 2 2 rfl _ _ _ (Memref.IsWhole.read_unread _ _) k n)
    · exact step m c t 1 1 rfl k n _ _ _ (prev 1 1 rfl _ _ _ (Memref.IsWhole.read_unread _ _) k n)
    · exact step m c t 0 0 rfl k n _ _ _ (prev 0 0 rfl _ _ _ (Memref.IsWhole.read_unread _ _) k n)

theorem out_C (t : Fin cfg0.N) (h1 : t.val % 4 = 3) (j : Fin 4) (k : Fin 1024) (n : Fin 512) :
    (outsAt0 m c t.val t.isLt).1 (ix3 j k n) = (outsAt0 m c t.val t.isLt).2 (ix3 j k n) := by
  rw [outsAt0_C m c t (by omega) h1]; dsimp only; frame_out
  rw [View.readCov_eq_canon']
  pointwise [k0_pay3]

/-- What the last point writes back. -/
theorem out_at (j : Fin 4) (k : Fin 1024) (n : Fin 512) (h : 3 < cfg0.N) : (outsAt0 m c 3 h).1 (ix3 j k n) = ∑ R, term m c j k n R :=
  (out_C m c ⟨3, h⟩ rfl j k n).trans (acc_last (fun n' h' => (outsAt0 m c n' h').2 (ix3 j k n)) _ 0 h
    (fun n' hn' _ h0 => acc_A m c ⟨n', hn'⟩ h0 j k n) (fun n' hn' _ h0 => acc_B m c ⟨n', hn'⟩ h0 j k n))

theorem fold_out (i : S4x1024x512.Idx) (n : ℕ) (hn : n < cfg0.N) (h : Value.pt2Of i = n) :
    Value.G2 m c i = (outsAt0 m c n hn).1 (Value.loc2Of i) := by
  subst h
  unfold Value.G2
  rw [dif_pos hn, Value.outsAt0_sweep]

/-- The array after the run. -/
theorem out_eq (j : Fin 4) (k : Fin 1024) (n : Fin 512) : Value.G2 m c (ix3 j k n) = ∑ R, term m c j k n R := by
  have h : 3 < cfg0.N := show 3 < 4 by omega
  refine (fold_out m c _ _ h ?_).trans (Eq.trans (congrArg _ ?_) (out_at m c j k n h))
  · show 4 * (1 * ((j : ℕ) / 4 - 0) + 1 * ((k : ℕ) / 1024 - 0) + 1 * ((n : ℕ) / 512 - 0)) + 3 = 3
    omega
  · refine funext fun a => Fin.ext ?_
    exact match a with
    | ⟨0, _⟩ => by show (j : ℕ) % 4 = j; omega
    | ⟨1, _⟩ => by show (k : ℕ) % 1024 = k; omega
    | ⟨2, _⟩ => by show (n : ℕ) % 512 = n; omega

/-- An entry of the reference. -/
theorem ref_at (x : Vec Ideal S8192x1024 .f32) (y : Vec Ideal S8192x2048 .f32) (j : Fin 4) (k : Fin 1024) (n : Fin 512) :
    Cert.ReferenceInIdeal.Read.val_main_v6 (F := Ideal) x y (ix3 j k n) = ∑ R : Fin 8192, y (ix2 R ⟨512 * j + n, by omega⟩) * x (ix2 R k) := by
  pointwise [Cert.ReferenceInIdeal.Read.val_main_v6, Cert.ReferenceInIdeal.Read.val_main_v5, Cert.ReferenceInIdeal.Read.val_main_v4,
    Cert.ReferenceInIdeal.Read.val_main_v3, Cert.ReferenceInIdeal.Read.val_main_v2]
  refine Finset.sum_congr rfl fun R _ => congrArg (· * _) (congrArg y (congrArg (ix2 R) (Fin.ext ?_)))
  show (j : ℕ) * 512 + (n : ℕ) = 512 * (j : ℕ) + n
  omega

/-- The reference's array is the call's. -/
theorem same : Cert.ReferenceInIdeal.Read.val_main_v6 (F := Ideal) (m ((c : Thread nD τ).loc main_arg0)) (m ((c : Thread nD τ).loc main_arg1))
    = (Value.G2 m c : Vec Ideal S4x1024x512 .bf16) := by
  funext i
  rw [eta3 i]
  refine (ref_at _ _ _ _ _).trans (Eq.trans (Finset.sum_congr rfl fun R _ => ?_) (out_eq m c _ _ _).symm)
  exact mul_comm _ _

theorem frame_ref : Cert.quiescent_ReferenceInIdeal := fun m g _ =>
  (θ_run _ _ _).mono (fun r h => ⟨fun c => (h c).2, sem_eq_zero_of_no_sems (by decide) r.2⟩) (Cert.ReferenceInIdeal.Value.run m g)

theorem agree : Cert.algebraic_KernelInIdeal_ReferenceInIdeal := by
  pair_intro
  · run_from Value.run m g
  · run_from Cert.ReferenceInIdeal.Value.run m' g'
    exact (Cert.ReferenceInIdeal.Read.val_main_v6_eq (F := Ideal) _ _).trans (same m c)

end Cert.Wgrad.In
-- ==== Proof.Wgrad.O.lean ====
/- The gradient of the attention output projection's weight: what the call computes, and that the reference computes it too. -/
module
public import proofs.«01_k».proof.Proof.Wgrad.Sum
public import proofs.«01_k».proof.Proof.Gen.KernelOIdeal.Value
public import proofs.«01_k».proof.Proof.Gen.ReferenceOIdeal.Read
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Cert.KernelOIdeal Cert.KernelOIdeal.Gen

namespace Cert.Wgrad.O

variable (m : (ℓ : Loc nD τ sig) → Buf (Elt Ideal) ℓ) (c : Dev nD)

/-- The two arguments, as functions of row and column. -/
abbrev A (R : Fin 8192) (k : Fin 1024) : EReal := m ((c : Thread nD τ).loc main_arg0) (ix2 R k)
abbrev B (R : Fin 8192) (n : Fin 1024) : EReal := m ((c : Thread nD τ).loc main_arg1) (ix2 R n)

theorem idx_in : ∀ t : Fin cfg0.N, win0_0.index t = ![0, t.val, 0] ∧ win0_1.index t = ![0, t.val, 0] :=
  (by decide +kernel : ∀ t : Fin grid0.N, _)

theorem t_lt (t : Fin cfg0.N) : t.val < 4 := t.isLt

theorem blk0 (t : Fin cfg0.N) (r : Fin 2048) (k : Fin 1024) :
    (iblk m c 0 t : Vec Ideal S1x2048x1024 .bf16) (ix3 0 r k) = A m c ⟨2048 * (t.val % 4) + r, by omega⟩ k := by
  have ht := t_lt t
  have i0 := (idx_in t).1
  have e : (win0_0.blk t).view.emb (ix3 0 r k) = ix3 (0 : Fin 1) (⟨2048 * (t.val % 4) + r, by omega⟩ : Fin 8192) k := by blk_ext [i0]
  blk_simp [iblk]
  rw [e]
  entry_read
  pointwise []

theorem blk1 (t : Fin cfg0.N) (r : Fin 2048) (n : Fin 1024) :
    (iblk m c 1 t : Vec Ideal S1x2048x1024 .f32) (ix3 0 r n) = B m c ⟨2048 * (t.val % 4) + r, by omega⟩ n := by
  have ht := t_lt t
  have i1 := (idx_in t).2
  have e : (win0_1.blk t).view.emb (ix3 0 r n) = ix3 (0 : Fin 1) (⟨2048 * (t.val % 4) + r, by omega⟩ : Fin 8192) n := by blk_ext [i1]
  blk_simp [iblk]
  rw [e]
  entry_read
  pointwise []

/-- One row's term of one entry of the gradient. -/
def term (k : Fin 1024) (n : Fin 1024) (R : Fin 8192) : EReal := A m c R k * B m c R n

/-- One step of the accumulator. -/
theorem pay_at (s : Vec Ideal S1x1024x1024 .f32) (x : Vec Ideal S1x2048x1024 .bf16) (y : Vec Ideal S1x2048x1024 .f32)
    (k : Fin 1024) (n : Fin 1024) :
    k0_pay2 (F := Ideal) s x y (ix3 0 k n) = s (ix3 0 k n) + ∑ r : Fin 2048, x (ix3 0 r k) * y (ix3 0 r n) := by
  pointwise [k0_pay2]

theorem block_sum (t : Fin cfg0.N) (k : Fin 1024) (n : Fin 1024) (s : Vec Ideal S1x1024x1024 .f32) :
    k0_pay2 (F := Ideal) s (iblk m c 0 t) (iblk m c 1 t) (ix3 0 k n)
      = s (ix3 0 k n) + ∑ r : Fin 2048, term m c k n ⟨2048 * (t.val % 4) + r, by omega⟩ := by
  refine (pay_at _ _ _ k n).trans (congrArg _ (Finset.sum_congr rfl fun r _ => ?_))
  rw [blk0, blk1]
  rfl

theorem acc_A (t : Fin cfg0.N) (h0 : t.val % 4 = 0) (k : Fin 1024) (n : Fin 1024) :
    (outsAt0 m c t.val t.isLt).2 (ix3 0 k n) = 0 + ∑ r : Fin 2048, term m c k n ⟨2048 * (t.val % 4) + r, by omega⟩ := by
  rw [outsAt0_A m c t h0 (by omega)]; dsimp only; frame_out
  refine (block_sum m c t k n _).trans (congrArg (· + _) ?_)
  pointwise [k0_pay1]

theorem acc_B (t : Fin cfg0.N) (h0 : ¬t.val % 4 = 0) (k : Fin 1024) (n : Fin 1024) :
    (outsAt0 m c t.val t.isLt).2 (ix3 0 k n) = (outsAt0 m c (t.val - 1) (Nat.lt_of_le_of_lt (Nat.sub_le _ _) t.isLt)).2 (ix3 0 k n)
      + ∑ r : Fin 2048, term m c k n ⟨2048 * (t.val % 4) + r, by omega⟩ := by
  by_cases h1 : t.val % 4 = 3
  · rw [outsAt0_C m c t h0 h1]; dsimp only; frame_out
    exact (block_sum m c t k n _).trans (congrArg (fun s : Vec Ideal S1x1024x1024 .f32 => s (ix3 0 k n) + _) (Memref.IsWhole.read_unread _ _))
  · rw [outsAt0_B m c t h0 h1]; dsimp only; frame_out
    exact (block_sum m c t k n _).trans (congrArg (fun s : Vec Ideal S1x1024x1024 .f32 => s (ix3 0 k n) + _) (Memref.IsWhole.read_unread _ _))

theorem out_C (t : Fin cfg0.N) (h1 : t.val % 4 = 3) (k : Fin 1024) (n : Fin 1024) :
    (outsAt0 m c t.val t.isLt).1 (ix3 0 k n) = (outsAt0 m c t.val t.isLt).2 (ix3 0 k n) := by
  rw [outsAt0_C m c t (by omega) h1]; dsimp only; frame_out
  pointwise [k0_pay3]

/-- What the last point writes back. -/
theorem out_at (k : Fin 1024) (n : Fin 1024) (h : 3 < cfg0.N) : (outsAt0 m c 3 h).1 (ix3 0 k n) = ∑ R, term m c k n R :=
  (out_C m c ⟨3, h⟩ rfl k n).trans (acc_last (fun n' h' => (outsAt0 m c n' h').2 (ix3 0 k n)) _ 0 h
    (fun n' hn' _ h0 => acc_A m c ⟨n', hn'⟩ h0 k n) (fun n' hn' _ h0 => acc_B m c ⟨n', hn'⟩ h0 k n))

theorem fold_out (i : S1x1024x1024.Idx) (n : ℕ) (hn : n < cfg0.N) (h : Value.pt2Of i = n) :
    Value.G2 m c i = (outsAt0 m c n hn).1 (Value.loc2Of i) := by
  subst h
  unfold Value.G2
  rw [dif_pos hn, Value.outsAt0_sweep]

/-- The array after the run. -/
theorem out_eq (j : Fin 1) (k : Fin 1024) (n : Fin 1024) : Value.G2 m c (ix3 j k n) = ∑ R, term m c k n R := by
  have h : 3 < cfg0.N := show 3 < 4 by omega
  refine (fold_out m c _ _ h ?_).trans (Eq.trans (congrArg _ ?_) (out_at m c k n h))
  · show 4 * (1 * ((j : ℕ) / 1 - 0) + 1 * ((k : ℕ) / 1024 - 0) + 1 * ((n : ℕ) / 1024 - 0)) + 3 = 3
    omega
  · refine funext fun a => Fin.ext ?_
    exact match a with
    | ⟨0, _⟩ => by show (j : ℕ) % 1 = 0; omega
    | ⟨1, _⟩ => by show (k : ℕ) % 1024 = k; omega
    | ⟨2, _⟩ => by show (n : ℕ) % 1024 = n; omega

/-- An entry of the reference. -/
theorem ref_at (x : Vec Ideal S8192x1024 .f32) (y : Vec Ideal S8192x1024 .f32) (j : Fin 1) (k : Fin 1024) (n : Fin 1024) :
    Cert.ReferenceOIdeal.Read.val_main_v5 (F := Ideal) x y (ix3 j k n) = ∑ R : Fin 8192, y (ix2 R n) * x (ix2 R k) := by
  pointwise [Cert.ReferenceOIdeal.Read.val_main_v5, Cert.ReferenceOIdeal.Read.val_main_v4,
    Cert.ReferenceOIdeal.Read.val_main_v3, Cert.ReferenceOIdeal.Read.val_main_v2]

/-- The reference's array is the call's. -/
theorem same : Cert.ReferenceOIdeal.Read.val_main_v5 (F := Ideal) (m ((c : Thread nD τ).loc main_arg0)) (m ((c : Thread nD τ).loc main_arg1))
    = (Value.G2 m c : Vec Ideal S1x1024x1024 .bf16) := by
  funext i
  rw [eta3 i]
  refine (ref_at _ _ _ _ _).trans (Eq.trans (Finset.sum_congr rfl fun R _ => ?_) (out_eq m c _ _ _).symm)
  exact mul_comm _ _

theorem frame_ref : Cert.quiescent_ReferenceOIdeal := fun m g _ =>
  (θ_run _ _ _).mono (fun r h => ⟨fun c => (h c).2, sem_eq_zero_of_no_sems (by decide) r.2⟩) (Cert.ReferenceOIdeal.Value.run m g)

theorem agree : Cert.algebraic_KernelOIdeal_ReferenceOIdeal := by
  pair_intro
  · run_from Value.run m g
  · run_from Cert.ReferenceOIdeal.Value.run m' g'
    exact (Cert.ReferenceOIdeal.Read.val_main_v5_eq (F := Ideal) _ _).trans (same m c)

end Cert.Wgrad.O
-- ==== Proof.Wgrad.Q.lean ====
/- The gradient of the query projection's weight: what the call computes, and that the reference computes it too. -/
module
public import proofs.«01_k».proof.Proof.Wgrad.Sum
public import proofs.«01_k».proof.Proof.Gen.KernelQIdeal.Value
public import proofs.«01_k».proof.Proof.Gen.ReferenceQIdeal.Read
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Cert.KernelQIdeal Cert.KernelQIdeal.Gen

namespace Cert.Wgrad.Q

variable (m : (ℓ : Loc nD τ sig) → Buf (Elt Ideal) ℓ) (c : Dev nD)

/-- The two arguments, as functions of row and column. -/
abbrev A (R : Fin 8192) (k : Fin 1024) : EReal := m ((c : Thread nD τ).loc main_arg0) (ix2 R k)
abbrev B (R : Fin 8192) (n : Fin 1024) : EReal := m ((c : Thread nD τ).loc main_arg1) (ix2 R n)

theorem idx_in : ∀ t : Fin cfg0.N, win0_0.index t = ![0, t.val, 0] ∧ win0_1.index t = ![0, t.val, 0] :=
  (by decide +kernel : ∀ t : Fin grid0.N, _)

theorem t_lt (t : Fin cfg0.N) : t.val < 4 := t.isLt

theorem blk0 (t : Fin cfg0.N) (r : Fin 2048) (k : Fin 1024) :
    (iblk m c 0 t : Vec Ideal S1x2048x1024 .bf16) (ix3 0 r k) = A m c ⟨2048 * (t.val % 4) + r, by omega⟩ k := by
  have ht := t_lt t
  have i0 := (idx_in t).1
  have e : (win0_0.blk t).view.emb (ix3 0 r k) = ix3 (0 : Fin 1) (⟨2048 * (t.val % 4) + r, by omega⟩ : Fin 8192) k := by blk_ext [i0]
  blk_simp [iblk]
  rw [e]
  entry_read
  pointwise []

theorem blk1 (t : Fin cfg0.N) (r : Fin 2048) (n : Fin 1024) :
    (iblk m c 1 t : Vec Ideal S1x2048x1024 .bf16) (ix3 0 r n) = B m c ⟨2048 * (t.val % 4) + r, by omega⟩ n := by
  have ht := t_lt t
  have i1 := (idx_in t).2
  have e : (win0_1.blk t).view.emb (ix3 0 r n) = ix3 (0 : Fin 1) (⟨2048 * (t.val % 4) + r, by omega⟩ : Fin 8192) n := by blk_ext [i1]
  blk_simp [iblk]
  rw [e]
  entry_read
  pointwise []

/-- One row's term of one entry of the gradient. -/
def term (k : Fin 1024) (n : Fin 1024) (R : Fin 8192) : EReal := A m c R k * B m c R n

/-- One step of the accumulator. -/
theorem pay_at (s : Vec Ideal S1x1024x1024 .f32) (x : Vec Ideal S1x2048x1024 .bf16) (y : Vec Ideal S1x2048x1024 .bf16)
    (k : Fin 1024) (n : Fin 1024) :
    k0_pay2 (F := Ideal) s x y (ix3 0 k n) = s (ix3 0 k n) + ∑ r : Fin 2048, x (ix3 0 r k) * y (ix3 0 r n) := by
  pointwise [k0_pay2]

theorem block_sum (t : Fin cfg0.N) (k : Fin 1024) (n : Fin 1024) (s : Vec Ideal S1x1024x1024 .f32) :
    k0_pay2 (F := Ideal) s (iblk m c 0 t) (iblk m c 1 t) (ix3 0 k n)
      = s (ix3 0 k n) + ∑ r : Fin 2048, term m c k n ⟨2048 * (t.val % 4) + r, by omega⟩ := by
  refine (pay_at _ _ _ k n).trans (congrArg _ (Finset.sum_congr rfl fun r _ => ?_))
  rw [blk0, blk1]
  rfl

theorem acc_A (t : Fin cfg0.N) (h0 : t.val % 4 = 0) (k : Fin 1024) (n : Fin 1024) :
    (outsAt0 m c t.val t.isLt).2 (ix3 0 k n) = 0 + ∑ r : Fin 2048, term m c k n ⟨2048 * (t.val % 4) + r, by omega⟩ := by
  rw [outsAt0_A m c t h0 (by omega)]; dsimp only; frame_out
  refine (block_sum m c t k n _).trans (congrArg (· + _) ?_)
  pointwise [k0_pay1]

theorem acc_B (t : Fin cfg0.N) (h0 : ¬t.val % 4 = 0) (k : Fin 1024) (n : Fin 1024) :
    (outsAt0 m c t.val t.isLt).2 (ix3 0 k n) = (outsAt0 m c (t.val - 1) (Nat.lt_of_le_of_lt (Nat.sub_le _ _) t.isLt)).2 (ix3 0 k n)
      + ∑ r : Fin 2048, term m c k n ⟨2048 * (t.val % 4) + r, by omega⟩ := by
  by_cases h1 : t.val % 4 = 3
  · rw [outsAt0_C m c t h0 h1]; dsimp only; frame_out
    exact (block_sum m c t k n _).trans (congrArg (fun s : Vec Ideal S1x1024x1024 .f32 => s (ix3 0 k n) + _) (Memref.IsWhole.read_unread _ _))
  · rw [outsAt0_B m c t h0 h1]; dsimp only; frame_out
    exact (block_sum m c t k n _).trans (congrArg (fun s : Vec Ideal S1x1024x1024 .f32 => s (ix3 0 k n) + _) (Memref.IsWhole.read_unread _ _))

theorem out_C (t : Fin cfg0.N) (h1 : t.val % 4 = 3) (k : Fin 1024) (n : Fin 1024) :
    (outsAt0 m c t.val t.isLt).1 (ix3 0 k n) = (outsAt0 m c t.val t.isLt).2 (ix3 0 k n) := by
  rw [outsAt0_C m c t (by omega) h1]; dsimp only; frame_out
  pointwise [k0_pay3]

/-- What the last point writes back. -/
theorem out_at (k : Fin 1024) (n : Fin 1024) (h : 3 < cfg0.N) : (outsAt0 m c 3 h).1 (ix3 0 k n) = ∑ R, term m c k n R :=
  (out_C m c ⟨3, h⟩ rfl k n).trans (acc_last (fun n' h' => (outsAt0 m c n' h').2 (ix3 0 k n)) _ 0 h
    (fun n' hn' _ h0 => acc_A m c ⟨n', hn'⟩ h0 k n) (fun n' hn' _ h0 => acc_B m c ⟨n', hn'⟩ h0 k n))

theorem fold_out (i : S1x1024x1024.Idx) (n : ℕ) (hn : n < cfg0.N) (h : Value.pt2Of i = n) :
    Value.G2 m c i = (outsAt0 m c n hn).1 (Value.loc2Of i) := by
  subst h
  unfold Value.G2
  rw [dif_pos hn, Value.outsAt0_sweep]

/-- The array after the run. -/
theorem out_eq (j : Fin 1) (k : Fin 1024) (n : Fin 1024) : Value.G2 m c (ix3 j k n) = ∑ R, term m c k n R := by
  have h : 3 < cfg0.N := show 3 < 4 by omega
  refine (fold_out m c _ _ h ?_).trans (Eq.trans (congrArg _ ?_) (out_at m c k n h))
  · show 4 * (1 * ((j : ℕ) / 1 - 0) + 1 * ((k : ℕ) / 1024 - 0) + 1 * ((n : ℕ) / 1024 - 0)) + 3 = 3
    omega
  · refine funext fun a => Fin.ext ?_
    exact match a with
    | ⟨0, _⟩ => by show (j : ℕ) % 1 = 0; omega
    | ⟨1, _⟩ => by show (k : ℕ) % 1024 = k; omega
    | ⟨2, _⟩ => by show (n : ℕ) % 1024 = n; omega

/-- An entry of the reference. -/
theorem ref_at (x : Vec Ideal S8192x1024 .f32) (y : Vec Ideal S8192x1024 .f32) (j : Fin 1) (k : Fin 1024) (n : Fin 1024) :
    Cert.ReferenceQIdeal.Read.val_main_v5 (F := Ideal) x y (ix3 j k n) = ∑ R : Fin 8192, y (ix2 R n) * x (ix2 R k) := by
  pointwise [Cert.ReferenceQIdeal.Read.val_main_v5, Cert.ReferenceQIdeal.Read.val_main_v4,
    Cert.ReferenceQIdeal.Read.val_main_v3, Cert.ReferenceQIdeal.Read.val_main_v2]

/-- The reference's array is the call's. -/
theorem same : Cert.ReferenceQIdeal.Read.val_main_v5 (F := Ideal) (m ((c : Thread nD τ).loc main_arg0)) (m ((c : Thread nD τ).loc main_arg1))
    = (Value.G2 m c : Vec Ideal S1x1024x1024 .bf16) := by
  funext i
  rw [eta3 i]
  refine (ref_at _ _ _ _ _).trans (Eq.trans (Finset.sum_congr rfl fun R _ => ?_) (out_eq m c _ _ _).symm)
  exact mul_comm _ _

theorem frame_ref : Cert.quiescent_ReferenceQIdeal := fun m g _ =>
  (θ_run _ _ _).mono (fun r h => ⟨fun c => (h c).2, sem_eq_zero_of_no_sems (by decide) r.2⟩) (Cert.ReferenceQIdeal.Value.run m g)

theorem agree : Cert.algebraic_KernelQIdeal_ReferenceQIdeal := by
  pair_intro
  · run_from Value.run m g
  · run_from Cert.ReferenceQIdeal.Value.run m' g'
    exact (Cert.ReferenceQIdeal.Read.val_main_v5_eq (F := Ideal) _ _).trans (same m c)

end Cert.Wgrad.Q
-- ==== Proof.Wgrad.Out.lean ====
/- The gradient of the recurrence output projection's weight: what the call computes, and that the reference computes it too. -/
module
public import proofs.«01_k».proof.Proof.Wgrad.Sum
public import proofs.«01_k».proof.Proof.Gen.KernelOutIdeal.Value
public import proofs.«01_k».proof.Proof.Gen.ReferenceOutIdeal.Read
public import proofs.«01_k».proof.Defs
public import Idealize.ShloMosaic.Lib.Claim
public import Idealize.ShloMosaic.Lib.Pointwise
public import Idealize.ShloMosaic.Lib.Pipeline.ValueKit
public import Idealize.ShloMosaic.Lib.Pipeline.ReadBack
@[expose] public section
set_option maxRecDepth 16384
noncomputable section
open Idealize.ShloMosaic Idealize.ShloMosaic.TcCoe Idealize.SL.Sem
open Cert.KernelOutIdeal Cert.KernelOutIdeal.Gen

namespace Cert.Wgrad.Out

variable (m : (ℓ : Loc nD τ sig) → Buf (Elt Ideal) ℓ) (c : Dev nD)

/-- The two arguments, as functions of row and column. -/
abbrev A (R : Fin 8192) (k : Fin 512) : EReal := m ((c : Thread nD τ).loc main_arg0) (ix2 R k)
abbrev B (R : Fin 8192) (n : Fin 1024) : EReal := m ((c : Thread nD τ).loc main_arg1) (ix2 R n)

theorem idx_in : ∀ t : Fin cfg0.N, win0_0.index t = ![0, t.val, 0] ∧ win0_1.index t = ![0, t.val, 0] :=
  (by decide +kernel : ∀ t : Fin grid0.N, _)

theorem t_lt (t : Fin cfg0.N) : t.val < 4 := t.isLt

theorem blk0 (t : Fin cfg0.N) (r : Fin 2048) (k : Fin 512) :
    (iblk m c 0 t : Vec Ideal S1x2048x512 .bf16) (ix3 0 r k) = A m c ⟨2048 * (t.val % 4) + r, by omega⟩ k := by
  have ht := t_lt t
  have i0 := (idx_in t).1
  have e : (win0_0.blk t).view.emb (ix3 0 r k) = ix3 (0 : Fin 1) (⟨2048 * (t.val % 4) + r, by omega⟩ : Fin 8192) k := by blk_ext [i0]
  blk_simp [iblk]
  rw [e]
  entry_read
  pointwise []

theorem blk1 (t : Fin cfg0.N) (r : Fin 2048) (n : Fin 1024) :
    (iblk m c 1 t : Vec Ideal S1x2048x1024 .f32) (ix3 0 r n) = B m c ⟨2048 * (t.val % 4) + r, by omega⟩ n := by
  have ht := t_lt t
  have i1 := (idx_in t).2
  have e : (win0_1.blk t).view.emb (ix3 0 r n) = ix3 (0 : Fin 1) (⟨2048 * (t.val % 4) + r, by omega⟩ : Fin 8192) n := by blk_ext [i1]
  blk_simp [iblk]
  rw [e]
  entry_read
  pointwise []

/-- One row's term of one entry of the gradient. -/
def term (k : Fin 512) (n : Fin 1024) (R : Fin 8192) : EReal := A m c R k * B m c R n

/-- One step of the accumulator. -/
theorem pay_at (s : Vec Ideal S1x512x1024 .f32) (x : Vec Ideal S1x2048x512 .bf16) (y : Vec Ideal S1x2048x1024 .f32)
    (k : Fin 512) (n : Fin 1024) :
    k0_pay2 (F := Ideal) s x y (ix3 0 k n) = s (ix3 0 k n) + ∑ r : Fin 2048, x (ix3 0 r k) * y (ix3 0 r n) := by
  pointwise [k0_pay2]

theorem block_sum (t : Fin cfg0.N) (k : Fin 512) (n : Fin 1024) (s : Vec Ideal S1x512x1024 .f32) :
    k0_pay2 (F := Ideal) s (iblk m c 0 t) (iblk m c 1 t) (ix3 0 k n)
      = s (ix3 0 k n) + ∑ r : Fin 2048, term m c k n ⟨2048 * (t.val % 4) + r, by omega⟩ := by
  refine (pay_at _ _ _ k n).trans (congrArg _ (Finset.sum_congr rfl fun r _ => ?_))
  rw [blk0, blk1]
  rfl

theorem acc_A (t : Fin cfg0.N) (h0 : t.val % 4 = 0) (k : Fin 512) (n : Fin 1024) :
    (outsAt0 m c t.val t.isLt).2 (ix3 0 k n) = 0 + ∑ r : Fin 2048, term m c k n ⟨2048 * (t.val % 4) + r, by omega⟩ := by
  rw [outsAt0_A m c t h0 (by omega)]; dsimp only; frame_out
  refine (block_sum m c t k n _).trans (congrArg (· + _) ?_)
  pointwise [k0_pay1]

theorem acc_B (t : Fin cfg0.N) (h0 : ¬t.val % 4 = 0) (k : Fin 512) (n : Fin 1024) :
    (outsAt0 m c t.val t.isLt).2 (ix3 0 k n) = (outsAt0 m c (t.val - 1) (Nat.lt_of_le_of_lt (Nat.sub_le _ _) t.isLt)).2 (ix3 0 k n)
      + ∑ r : Fin 2048, term m c k n ⟨2048 * (t.val % 4) + r, by omega⟩ := by
  by_cases h1 : t.val % 4 = 3
  · rw [outsAt0_C m c t h0 h1]; dsimp only; frame_out
    exact (block_sum m c t k n _).trans (congrArg (fun s : Vec Ideal S1x512x1024 .f32 => s (ix3 0 k n) + _) (Memref.IsWhole.read_unread _ _))
  · rw [outsAt0_B m c t h0 h1]; dsimp only; frame_out
    exact (block_sum m c t k n _).trans (congrArg (fun s : Vec Ideal S1x512x1024 .f32 => s (ix3 0 k n) + _) (Memref.IsWhole.read_unread _ _))

theorem out_C (t : Fin cfg0.N) (h1 : t.val % 4 = 3) (k : Fin 512) (n : Fin 1024) :
    (outsAt0 m c t.val t.isLt).1 (ix3 0 k n) = (outsAt0 m c t.val t.isLt).2 (ix3 0 k n) := by
  rw [outsAt0_C m c t (by omega) h1]; dsimp only; frame_out
  pointwise [k0_pay3]

/-- What the last point writes back. -/
theorem out_at (k : Fin 512) (n : Fin 1024) (h : 3 < cfg0.N) : (outsAt0 m c 3 h).1 (ix3 0 k n) = ∑ R, term m c k n R :=
  (out_C m c ⟨3, h⟩ rfl k n).trans (acc_last (fun n' h' => (outsAt0 m c n' h').2 (ix3 0 k n)) _ 0 h
    (fun n' hn' _ h0 => acc_A m c ⟨n', hn'⟩ h0 k n) (fun n' hn' _ h0 => acc_B m c ⟨n', hn'⟩ h0 k n))

theorem fold_out (i : S1x512x1024.Idx) (n : ℕ) (hn : n < cfg0.N) (h : Value.pt2Of i = n) :
    Value.G2 m c i = (outsAt0 m c n hn).1 (Value.loc2Of i) := by
  subst h
  unfold Value.G2
  rw [dif_pos hn, Value.outsAt0_sweep]

/-- The array after the run. -/
theorem out_eq (j : Fin 1) (k : Fin 512) (n : Fin 1024) : Value.G2 m c (ix3 j k n) = ∑ R, term m c k n R := by
  have h : 3 < cfg0.N := show 3 < 4 by omega
  refine (fold_out m c _ _ h ?_).trans (Eq.trans (congrArg _ ?_) (out_at m c k n h))
  · show 4 * (1 * ((j : ℕ) / 1 - 0) + 1 * ((k : ℕ) / 512 - 0) + 1 * ((n : ℕ) / 1024 - 0)) + 3 = 3
    omega
  · refine funext fun a => Fin.ext ?_
    exact match a with
    | ⟨0, _⟩ => by show (j : ℕ) % 1 = 0; omega
    | ⟨1, _⟩ => by show (k : ℕ) % 512 = k; omega
    | ⟨2, _⟩ => by show (n : ℕ) % 1024 = n; omega

/-- An entry of the reference. -/
theorem ref_at (x : Vec Ideal S8192x512 .f32) (y : Vec Ideal S8192x1024 .f32) (j : Fin 1) (k : Fin 512) (n : Fin 1024) :
    Cert.ReferenceOutIdeal.Read.val_main_v5 (F := Ideal) x y (ix3 j k n) = ∑ R : Fin 8192, y (ix2 R n) * x (ix2 R k) := by
  pointwise [Cert.ReferenceOutIdeal.Read.val_main_v5, Cert.ReferenceOutIdeal.Read.val_main_v4,
    Cert.ReferenceOutIdeal.Read.val_main_v3, Cert.ReferenceOutIdeal.Read.val_main_v2]

/-- The reference's array is the call's. -/
theorem same : Cert.ReferenceOutIdeal.Read.val_main_v5 (F := Ideal) (m ((c : Thread nD τ).loc main_arg0)) (m ((c : Thread nD τ).loc main_arg1))
    = (Value.G2 m c : Vec Ideal S1x512x1024 .bf16) := by
  funext i
  rw [eta3 i]
  refine (ref_at _ _ _ _ _).trans (Eq.trans (Finset.sum_congr rfl fun R _ => ?_) (out_eq m c _ _ _).symm)
  exact mul_comm _ _

theorem frame_ref : Cert.quiescent_ReferenceOutIdeal := fun m g _ =>
  (θ_run _ _ _).mono (fun r h => ⟨fun c => (h c).2, sem_eq_zero_of_no_sems (by decide) r.2⟩) (Cert.ReferenceOutIdeal.Value.run m g)

theorem agree : Cert.algebraic_KernelOutIdeal_ReferenceOutIdeal := by
  pair_intro
  · run_from Value.run m g
  · run_from Cert.ReferenceOutIdeal.Value.run m' g'
    exact (Cert.ReferenceOutIdeal.Read.val_main_v5_eq (F := Ideal) _ _).trans (same m c)

end Cert.Wgrad.Out
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Ffn.FrameK
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Ffn.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Ffn.Claim
public import proofs.«01_k».proof.Proof.Gen.KernelAttn
public import proofs.«01_k».proof.Proof.Gen.KernelAttn.Skeleton
public import proofs.«01_k».proof.Proof.Gen.KernelAttn.Launch
public import proofs.«01_k».proof.Proof.Gen.KernelAttn.Points
public import proofs.«01_k».proof.Proof.Gen.KernelAttn.Frame
public import proofs.«01_k».proof.Proof.Gen.KernelAttnIdeal
public import proofs.«01_k».proof.Proof.Gen.KernelAttnIdeal.Skeleton
public import proofs.«01_k».proof.Proof.Gen.KernelAttnIdeal.Launch
public import proofs.«01_k».proof.Proof.Gen.KernelAttnIdeal.Points
public import proofs.«01_k».proof.Proof.Gen.KernelAttnIdeal.Frame
public import proofs.«01_k».proof.Proof.Gen.KernelAttnIdeal.Value
public import proofs.«01_k».proof.Proof.Gen.ReferenceAttnIdeal
public import proofs.«01_k».proof.Proof.Gen.ReferenceAttnIdeal.Run
public import proofs.«01_k».proof.Proof.Gen.ReferenceAttnIdeal.Read
public import proofs.«01_k».proof.Proof.Gen.Pre_finite_attn
public import proofs.«01_k».proof.Proof.Attn.Claim
public import proofs.«01_k».proof.Proof.Mix.Claim
public import proofs.«01_k».proof.Proof.Kv.Call
public import proofs.«01_k».proof.Proof.Fwd.Claim
public import proofs.«01_k».proof.Proof.Lead.Proj
public import proofs.«01_k».proof.Proof.Lead.Join
public import proofs.«01_k».proof.Proof.Wgrad.Up
public import proofs.«01_k».proof.Proof.Wgrad.Down
public import proofs.«01_k».proof.Proof.Wgrad.In
public import proofs.«01_k».proof.Proof.Wgrad.O
public import proofs.«01_k».proof.Proof.Wgrad.Q
public import proofs.«01_k».proof.Proof.Wgrad.Out
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.KernelUpIdeal.Value
public import proofs.«01_k».proof.Proof.Gen.ReferenceUpIdeal
public import proofs.«01_k».proof.Proof.Gen.ReferenceUpIdeal.Run
public import proofs.«01_k».proof.Proof.Gen.ReferenceUpIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelO
public import proofs.«01_k».proof.Proof.Gen.KernelO.Skeleton
public import proofs.«01_k».proof.Proof.Gen.KernelO.Launch
public import proofs.«01_k».proof.Proof.Gen.KernelO.Points
public import proofs.«01_k».proof.Proof.Gen.KernelO.Frame
public import proofs.«01_k».proof.Proof.Gen.KernelOIdeal
public import proofs.«01_k».proof.Proof.Gen.KernelOIdeal.Skeleton
public import proofs.«01_k».proof.Proof.Gen.KernelOIdeal.Launch
public import proofs.«01_k».proof.Proof.Gen.KernelOIdeal.Points
public import proofs.«01_k».proof.Proof.Gen.KernelOIdeal.Frame
public import proofs.«01_k».proof.Proof.Gen.KernelOIdeal.Value
public import proofs.«01_k».proof.Proof.Gen.ReferenceOIdeal
public import proofs.«01_k».proof.Proof.Gen.ReferenceOIdeal.Run
public import proofs.«01_k».proof.Proof.Gen.ReferenceOIdeal.Read
public import proofs.«01_k».proof.Proof.Gen.KernelQ
public import proofs.«01_k».proof.Proof.Gen.KernelQ.Skeleton
public import proofs.«01_k».proof.Proof.Gen.KernelQ.Launch
public import proofs.«01_k».proof.Proof.Gen.KernelQ.Points
public import proofs.«01_k».proof.Proof.Gen.KernelQ.Frame
public import proofs.«01_k».proof.Proof.Gen.KernelQIdeal
public import proofs.«01_k».proof.Proof.Gen.KernelQIdeal.Skeleton
public import proofs.«01_k».proof.Proof.Gen.KernelQIdeal.Launch
public import proofs.«01_k».proof.Proof.Gen.KernelQIdeal.Points
public import proofs.«01_k».proof.Proof.Gen.KernelQIdeal.Frame
public import proofs.«01_k».proof.Proof.Gen.KernelQIdeal.Value
public import proofs.«01_k».proof.Proof.Gen.ReferenceQIdeal
public import proofs.«01_k».proof.Proof.Gen.ReferenceQIdeal.Run
public import proofs.«01_k».proof.Proof.Gen.ReferenceQIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.Pre_finite
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.KernelMixIdeal.Value
public import proofs.«01_k».proof.Proof.Gen.ReferenceMixIdeal
public import proofs.«01_k».proof.Proof.Gen.ReferenceMixIdeal.Run
public import proofs.«01_k».proof.Proof.Gen.ReferenceMixIdeal.Read
public import proofs.«01_k».proof.Proof.Gen.KernelKv
public import proofs.«01_k».proof.Proof.Gen.KernelKv.Skeleton
public import proofs.«01_k».proof.Proof.Gen.KernelKv.Launch
public import proofs.«01_k».proof.Proof.Gen.KernelKv.Points
public import proofs.«01_k».proof.Proof.Gen.KernelKv.Frame
public import proofs.«01_k».proof.Proof.Gen.KernelKvIdeal
public import proofs.«01_k».proof.Proof.Gen.KernelKvIdeal.Skeleton
public import proofs.«01_k».proof.Proof.Gen.KernelKvIdeal.Launch
public import proofs.«01_k».proof.Proof.Gen.KernelKvIdeal.Points
public import proofs.«01_k».proof.Proof.Gen.KernelKvIdeal.Frame
public import proofs.«01_k».proof.Proof.Gen.KernelKvIdeal.Value
public import proofs.«01_k».proof.Proof.Gen.ReferenceKvIdeal
public import proofs.«01_k».proof.Proof.Gen.ReferenceKvIdeal.Run
public import proofs.«01_k».proof.Proof.Gen.ReferenceKvIdeal.Read
public import proofs.«01_k».proof.Proof.Gen.Pre_finite_mix
public import proofs.«01_k».proof.Proof.Gen.Pre_finite_fwd
public import proofs.«01_k».proof.Proof.Gen.KernelFwd
public import proofs.«01_k».proof.Proof.Gen.KernelFwd.Skeleton
public import proofs.«01_k».proof.Proof.Gen.KernelFwd.Launch
public import proofs.«01_k».proof.Proof.Gen.KernelFwd.Points
public import proofs.«01_k».proof.Proof.Gen.KernelFwd.Frame
public import proofs.«01_k».proof.Proof.Gen.KernelFwdIdeal
public import proofs.«01_k».proof.Proof.Gen.KernelFwdIdeal.Skeleton
public import proofs.«01_k».proof.Proof.Gen.KernelFwdIdeal.Launch
public import proofs.«01_k».proof.Proof.Gen.KernelFwdIdeal.Points
public import proofs.«01_k».proof.Proof.Gen.KernelFwdIdeal.Frame
public import proofs.«01_k».proof.Proof.Gen.KernelFwdIdeal.Value
public import proofs.«01_k».proof.Proof.Gen.ReferenceFwdIdeal
public import proofs.«01_k».proof.Proof.Gen.ReferenceFwdIdeal.Run
public import proofs.«01_k».proof.Proof.Gen.ReferenceFwdIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelJoin
public import proofs.«01_k».proof.Proof.Gen.KernelJoin.Skeleton
public import proofs.«01_k».proof.Proof.Gen.KernelJoin.Launch
public import proofs.«01_k».proof.Proof.Gen.KernelJoin.Points
public import proofs.«01_k».proof.Proof.Gen.KernelJoin.Frame
public import proofs.«01_k».proof.Proof.Gen.KernelJoinIdeal
public import proofs.«01_k».proof.Proof.Gen.KernelJoinIdeal.Skeleton
public import proofs.«01_k».proof.Proof.Gen.KernelJoinIdeal.Launch
public import proofs.«01_k».proof.Proof.Gen.KernelJoinIdeal.Points
public import proofs.«01_k».proof.Proof.Gen.KernelJoinIdeal.Frame
public import proofs.«01_k».proof.Proof.Gen.KernelJoinIdeal.Value
public import proofs.«01_k».proof.Proof.Gen.ReferenceJoinIdeal
public import proofs.«01_k».proof.Proof.Gen.ReferenceJoinIdeal.Run
public import proofs.«01_k».proof.Proof.Gen.ReferenceJoinIdeal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelAttn.Gen.facts, Cert.KernelAttnIdeal.Gen.facts, Cert.ReferenceAttnIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelIn.Gen.facts, Cert.KernelInIdeal.Gen.facts, Cert.ReferenceInIdeal.Gen.facts,
  Cert.KernelO.Gen.facts, Cert.KernelOIdeal.Gen.facts, Cert.ReferenceOIdeal.Gen.facts,
  Cert.KernelQ.Gen.facts, Cert.KernelQIdeal.Gen.facts, Cert.ReferenceQIdeal.Gen.facts,
  Cert.KernelOut.Gen.facts, Cert.KernelOutIdeal.Gen.facts, Cert.ReferenceOutIdeal.Gen.facts,
  Cert.KernelMix.Gen.facts, Cert.KernelMixIdeal.Gen.facts, Cert.ReferenceMixIdeal.Gen.facts,
  Cert.KernelKv.Gen.facts, Cert.KernelKvIdeal.Gen.facts, Cert.ReferenceKvIdeal.Gen.facts,
  Cert.KernelFwd.Gen.facts, Cert.KernelFwdIdeal.Gen.facts, Cert.ReferenceFwdIdeal.Gen.facts,
  Cert.KernelProj.Gen.facts, Cert.KernelProjIdeal.Gen.facts, Cert.ReferenceProjIdeal.Gen.facts,
  Cert.KernelJoin.Gen.facts, Cert.KernelJoinIdeal.Gen.facts, Cert.ReferenceJoinIdeal.Gen.facts,
  Cert.Pre_finite.Gen.facts, Cert.Pre_finite_attn.Gen.facts, Cert.Pre_finite_mix.Gen.facts, Cert.Pre_finite_fwd.Gen.facts,
  fun m g _ => Cert.Kernel.Gen.frame m g, fun m g _ => Cert.KernelIdeal.Gen.frame m g, fun m g _ => Cert.KernelIdeal.Gen.frame m g,
  Cert.Ffn.frame_ref, Cert.Ffn.frame_ref_pre,
  fun m g _ => Cert.KernelAttn.Gen.frame m g, fun m g _ => Cert.KernelAttnIdeal.Gen.frame m g, fun m g _ => Cert.KernelAttnIdeal.Gen.frame m g,
  Cert.Attn.frame_ref, Cert.Attn.frame_ref_pre,
  fun m g _ => Cert.KernelUp.Gen.frame m g, fun m g _ => Cert.KernelUpIdeal.Gen.frame m g, Cert.Wgrad.Up.frame_ref,
  fun m g _ => Cert.KernelDown.Gen.frame m g, fun m g _ => Cert.KernelDownIdeal.Gen.frame m g, Cert.Wgrad.Down.frame_ref,
  fun m g _ => Cert.KernelIn.Gen.frame m g, fun m g _ => Cert.KernelInIdeal.Gen.frame m g, Cert.Wgrad.In.frame_ref,
  fun m g _ => Cert.KernelO.Gen.frame m g, fun m g _ => Cert.KernelOIdeal.Gen.frame m g, Cert.Wgrad.O.frame_ref,
  fun m g _ => Cert.KernelQ.Gen.frame m g, fun m g _ => Cert.KernelQIdeal.Gen.frame m g, Cert.Wgrad.Q.frame_ref,
  fun m g _ => Cert.KernelOut.Gen.frame m g, fun m g _ => Cert.KernelOutIdeal.Gen.frame m g, Cert.Wgrad.Out.frame_ref,
  fun m g _ => Cert.KernelMix.Gen.frame m g, fun m g _ => Cert.KernelMixIdeal.Gen.frame m g, fun m g _ => Cert.KernelMixIdeal.Gen.frame m g,
  Cert.Mix.frame_ref, Cert.Mix.frame_ref_pre,
  fun m g _ => Cert.KernelKv.Gen.frame m g, fun m g _ => Cert.KernelKvIdeal.Gen.frame m g, Cert.Kv.frame_ref,
  fun m g _ => Cert.KernelFwd.Gen.frame m g, fun m g _ => Cert.KernelFwdIdeal.Gen.frame m g, fun m g _ => Cert.KernelFwdIdeal.Gen.frame m g,
  Cert.Fwd.frame_ref, Cert.Fwd.frame_ref_pre,
  fun m g _ => Cert.KernelProj.Gen.frame m g, fun m g _ => Cert.KernelProjIdeal.Gen.frame m g, Cert.Lead.Proj.frame_ref,
  fun m g _ => Cert.KernelJoin.Gen.frame m g, fun m g _ => Cert.KernelJoinIdeal.Gen.frame m g, Cert.Lead.Join.frame_ref,
  ⟨IdealRules.named_const.statement Cert.KernelIdeal.κ "gelu_ck" .f32 0x3D122279#32 _ rfl,
    IdealRules.named_const.statement Cert.KernelIdeal.κ "gelu_3ck" .f32 0x3DDB33B6#32 _ rfl⟩,
  Cert.Ffn.agree,
  trivial, Cert.Attn.agree,
  trivial, Cert.Wgrad.Up.agree, trivial, Cert.Wgrad.Down.agree, trivial, Cert.Wgrad.In.agree, trivial, Cert.Wgrad.O.agree, trivial, Cert.Wgrad.Q.agree, trivial, Cert.Wgrad.Out.agree,
  trivial, Cert.Mix.agree, trivial, Cert.Kv.agree,
  IdealRules.named_const.statement Cert.KernelFwdIdeal.κ "gelu_ck" .f32 0x3D122279#32 _ rfl, Cert.Fwd.agree,
  trivial, Cert.Lead.Proj.agree, trivial, Cert.Lead.Join.agree⟩

end Cert.Proof

end
